-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v82) = v2 c
          ∧ r.2.mem ((c.tc : Thread Cert.Reference5Ideal.nD Cert.Reference5Ideal.τ).loc Cert.Reference5Ideal.main_v85) = v3 c
          ∧ r.2.mem ((c.tc : Thread Cert.Reference5Ideal.nD Cert.Reference5Ideal.τ).loc Cert.Reference5Ideal.main_v88) = v4 c
          ∧ r.2.mem ((c.tc : Thread Cert.Reference5Ideal.nD Cert.Reference5Ideal.τ).loc Cert.Reference5Ideal.main_v91) = v5 c
          ∧ r.2.mem ((c.tc : Thread Cert.Reference5Ideal.nD Cert.Reference5Ideal.τ).loc Cert.Reference5Ideal.main_v94) = v6 c
          ∧ r.2.mem ((c.tc : Thread Cert.Reference5Ideal.nD Cert.Reference5Ideal.τ).loc Cert.Reference5Ideal.main_v97) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v11_1)) (v1 : (c : Dev Cert.Kernel6Ideal.nD) → Buf (Elt Ideal) ((c.tc : Thread Cert.Kernel6Ideal.nD Cert.Kernel6Ideal.τ).loc Cert.Kernel6Ideal.main_v11_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_1) = v0 c
          ∧ r.2.mem ((c.tc : Thread Cert.Kernel6Ideal.nD Cert.Kernel6Ideal.τ).loc Cert.Kernel6Ideal.main_v11_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v13_1)) (v1 : (c : Dev Cert.Kernel7Ideal.nD) → Buf (Elt Ideal) ((c.tc : Thread Cert.Kernel7Ideal.nD Cert.Kernel7Ideal.τ).loc Cert.Kernel7Ideal.main_v13_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_1) = v0 c
          ∧ r.2.mem ((c.tc : Thread Cert.Kernel7Ideal.nD Cert.Kernel7Ideal.τ).loc Cert.Kernel7Ideal.main_v13_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x4096x16x128 : Shape := ⟨4, ![8, 4096, 16, 128]⟩
abbrev S8x4096x16 : Shape := ⟨3, ![8, 4096, 16]⟩
abbrev S_ : Shape := ⟨0, ![]⟩

class Facts : Prop where
  bcast_S_S8x4096x16x128 : S_.BroadcastsInDim S8x4096x16x128 (![] : Fin 0 → Fin S8x4096x16x128.rank)
  bcast_S_S8x4096x16 : S_.BroadcastsInDim S8x4096x16 (![] : Fin 0 → Fin S8x4096x16.rank)

variable [Facts]

def fn {F : FTy → Type} [FloatOps F] (main_arg0 : FVec F S8x4096x16x128 .f32) (main_arg1 : FVec F S8x4096x16x128 .f32) (main_arg2 : FVec F S8x4096x16x128 .f32) (main_arg3 : FVec F S8x4096x16 .f32) : IVec S8x4096x16x128 1 × IVec S8x4096x16x128 1 × IVec S8x4096x16 1 :=
  let main_v0 : FVec F S8x4096x16x128 .f32 := Host.absf main_arg0
  let main_cst : FVec F S_ .f32 := constant S_ .f32 0x7F800000#32
  let main_v1 : FVec F S8x4096x16x128 .f32 := broadcastInDim S8x4096x16x128 ![] bcast_S_S8x4096x16x128 main_cst
  let main_v2 : IVec S8x4096x16x128 1 := cmpf .olt main_v0 main_v1
  let main_v3 : FVec F S8x4096x16x128 .f32 := Host.absf main_arg1
  let main_cst_0 : FVec F S_ .f32 := constant S_ .f32 0x7F800000#32
  let main_v4 : FVec F S8x4096x16x128 .f32 := broadcastInDim S8x4096x16x128 ![] bcast_S_S8x4096x16x128 main_cst_0
  let main_v5 : IVec S8x4096x16x128 1 := cmpf .olt main_v3 main_v4
  let main_v6 : FVec F S8x4096x16 .f32 := Host.absf main_arg3
  let main_cst_1 : FVec F S_ .f32 := constant S_ .f32 0x7F800000#32
  let main_v7 : FVec F S8x4096x16 .f32 := broadcastInDim S8x4096x16 ![] bcast_S_S8x4096x16 main_cst_1
  let main_v8 : IVec S8x4096x16 1 := cmpf .olt main_v6 main_v7
  (main_v2, main_v5, main_v8)
-- ==== Kernel.lean ====
abbrev S8x4096x16x128 : Shape := ⟨4, ![8, 4096, 16, 128]⟩
abbrev S8x4096x16 : Shape := ⟨3, ![8, 4096, 16]⟩
abbrev S32768x2048 : Shape := ⟨2, ![32768, 2048]⟩
abbrev S_ : Shape := ⟨0, ![]⟩
abbrev S8x16x4096 : Shape := ⟨3, ![8, 16, 4096]⟩
abbrev S8x16x32x128 : Shape := ⟨4, ![8, 16, 32, 128]⟩
abbrev S4096x256 : Shape := ⟨2, ![4096, 256]⟩
abbrev S1x2x32x128 : Shape := ⟨4, ![1, 2, 32, 128]⟩
abbrev S2x128x4096 : Shape := ⟨3, ![2, 128, 4096]⟩
abbrev S2x32x128 : Shape := ⟨3, ![2, 32, 128]⟩
abbrev S2x4096x128 : Shape := ⟨3, ![2, 4096, 128]⟩
abbrev S128x128 : Shape := ⟨2, ![128, 128]⟩
abbrev S32x32 : Shape := ⟨2, ![32, 32]⟩
abbrev S512x128 : Shape := ⟨2, ![512, 128]⟩
abbrev S128x512 : Shape := ⟨2, ![128, 512]⟩
abbrev S1x128x512 : Shape := ⟨3, ![1, 128, 512]⟩
abbrev S1x1x32x128 : Shape := ⟨4, ![1, 1, 32, 128]⟩
abbrev S32x128 : Shape := ⟨2, ![32, 128]⟩
abbrev S32x1 : Shape := ⟨2, ![32, 1]⟩
abbrev S1x32x128 : Shape := ⟨3, ![1, 32, 128]⟩
abbrev S1x128 : Shape := ⟨2, ![1, 128]⟩
abbrev S1x128x128 : Shape := ⟨3, ![1, 128, 128]⟩
abbrev S512x512 : Shape := ⟨2, ![512, 512]⟩
abbrev S1x1x128 : Shape := ⟨3, ![1, 1, 128]⟩
abbrev S1x512 : Shape := ⟨2, ![1, 512]⟩
abbrev S1x512x128 : Shape := ⟨3, ![1, 512, 128]⟩
abbrev S512 : Shape := ⟨1, ![512]⟩

abbrev nBuf : Space → Nat
  | .hbm => 20
  | .vmem => 13
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x16x128, .f32⟩
  | .hbm, ⟨2, _⟩ => ⟨S8x4096x16x128, .f32⟩
  | .hbm, ⟨3, _⟩ => ⟨S8x4096x16, .f32⟩
  | .hbm, ⟨4, _⟩ => ⟨S32768x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .bf16⟩
  | .hbm, ⟨13, _⟩ => ⟨S32768x2048, .f32⟩
  | .hbm, ⟨14, _⟩ => ⟨S32768x2048, .bf16⟩
  | .hbm, ⟨15, _⟩ => ⟨S32768x2048, .f32⟩
  | .hbm, ⟨16, _⟩ => ⟨S32768x2048, .bf16⟩
  | .hbm, ⟨17, _⟩ => ⟨S8x16x4096, .f32⟩
  | .hbm, ⟨18, _⟩ => ⟨S8x16x32x128, .f32⟩
  | .hbm, ⟨19, _⟩ => ⟨S32768x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x2x32x128, .f32⟩
  | .local _ .vmem, ⟨7, _⟩ => ⟨S1x2x32x128, .f32⟩
  | .local _ .vmem, ⟨8, _⟩ => ⟨S4096x256, .bf16⟩
  | .local _ .vmem, ⟨9, _⟩ => ⟨S4096x256, .bf16⟩
  | .local _ .vmem, ⟨10, _⟩ => ⟨S2x128x4096, .bf16⟩
  | .local _ .vmem, ⟨11, _⟩ => ⟨S2x32x128, .f32⟩
  | .local _ .vmem, ⟨12, _⟩ => ⟨S2x4096x128, .f32⟩
  | _, _ => ⟨S8x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c8_i32 : BitVec 32 := 8#32
  let v615 : BitVec 32 := Scalar.addi c0_i32 c8_i32
  let c1_i32 : BitVec 32 := 1#32
  ⟨c0_i32, v615, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v616 : BitVec 32 := Scalar.muli arg10 c512_i32
  v616
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v616 : BitVec 32 := Scalar.muli arg10 c512_i32
  let v617 : BitVec 32 := v616
  let v618 : Index := Scalar.indexCast v617
  let c0_259 : Index := 0#32
  ![v618.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v616 : BitVec 32 := Scalar.muli arg10 c512_i32
  let v617 : BitVec 32 := v616
  let v621 : Index := Scalar.indexCast v617
  let c128_260 : Index := 128#32
  ![v621.toNat, 128]
def k0_off3 (k0_t1 : Fin k0_t1_loop.trips) (c0_i32_261 : BitVec 32) : Fin 3 → Nat :=
  let c0_262 : Index := 0#32
  let c0_i32 : BitVec 32 := 0#32
  let c1_i32 : BitVec 32 := 1#32
  let arg10 : BitVec 32 := Scf.iv c0_i32 c1_i32 k0_t1
  let c4_i32 : BitVec 32 := 4#32
  let v624 : BitVec 32 := Scalar.muli arg10 c4_i32
  let v625 : BitVec 32 := Scalar.addi v624 c0_i32_261
  let v626 : Index := Scalar.indexCast v625
  let c0_263 : Index := 0#32
  ![0, v626.toNat, 0]
def k0_off4 (k0_t1 : Fin k0_t1_loop.trips) (c0_i32_271 : BitVec 32) : Fin 3 → Nat :=
  let c1_272 : Index := 1#32
  let c0_i32 : BitVec 32 := 0#32
  let c1_i32 : BitVec 32 := 1#32
  let arg10 : BitVec 32 := Scf.iv c0_i32 c1_i32 k0_t1
  let c4_i32 : BitVec 32 := 4#32
  let v624 : BitVec 32 := Scalar.muli arg10 c4_i32
  let v642 : BitVec 32 := Scalar.addi v624 c0_i32_271
  let v643 : Index := Scalar.indexCast v642
  let c0_273 : Index := 0#32
  ![1, v643.toNat, 0]
@[reducible] def k0_t2_loop (k0_t1 : Fin k0_t1_loop.trips) : Scf.Loop 32 :=
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_291 : BitVec 32 := 1#32
  ⟨c0_i32_289, v669, c1_i32_291⟩
def k0_mult2 (k0_t1 : Fin k0_t1_loop.trips) (k0_t2 : Fin (k0_t2_loop k0_t1).trips) : BitVec 32 :=
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  v752
def k0_off5 (k0_t1 : Fin k0_t1_loop.trips) (k0_t2 : Fin (k0_t2_loop k0_t1).trips) : Fin 2 → Nat :=
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v754 : Index := Scalar.indexCast v753
  let c0_317 : Index := 0#32
  ![v754.toNat, 0]
def k0_off6 (k0_t1 : Fin k0_t1_loop.trips) (k0_t2 : Fin (k0_t2_loop k0_t1).trips) : Fin 3 → Nat :=
  let c0_318 : Index := 0#32
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v757 : Index := Scalar.indexCast v753
  let c0_319 : Index := 0#32
  ![0, v757.toNat, 0]
def k0_off7 (k0_t1 : Fin k0_t1_loop.trips) (k0_t2 : Fin (k0_t2_loop k0_t1).trips) : Fin 3 → Nat :=
  let c0_323 : Index := 0#32
  let c0_324 : Index := 0#32
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v777 : Index := Scalar.indexCast v753
  ![0, 0, v777.toNat]
def k0_off8 (k0_t1 : Fin k0_t1_loop.trips) (k0_t2 : Fin (k0_t2_loop k0_t1).trips) : Fin 2 → Nat :=
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v785 : Index := Scalar.indexCast v753
  let c128_326 : Index := 128#32
  ![v785.toNat, 128]
def k0_off9 (k0_t1 : Fin k0_t1_loop.trips) (k0_t2 : Fin (k0_t2_loop k0_t1).trips) : Fin 3 → Nat :=
  let c1_327 : Index := 1#32
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v788 : Index := Scalar.indexCast v753
  let c0_328 : Index := 0#32
  ![1, v788.toNat, 0]
def k0_off10 (k0_t1 : Fin k0_t1_loop.trips) (k0_t2 : Fin (k0_t2_loop k0_t1).trips) : Fin 3 → Nat :=
  let c1_332 : Index := 1#32
  let c0_333 : Index := 0#32
  let c0_i32_289 : BitVec 32 := 0#32
  let c1_i32_291 : BitVec 32 := 1#32
  let arg11 : BitVec 32 := Scf.iv c0_i32_289 c1_i32_291 k0_t2
  let c512_i32_316 : BitVec 32 := 512#32
  let v752 : BitVec 32 := Scalar.muli arg11 c512_i32_316
  let v753 : BitVec 32 := v752
  let v808 : Index := Scalar.indexCast v753
  ![1, 0, v808.toNat]
@[reducible] def k0_t3_loop (k0_t1 : Fin k0_t1_loop.trips) : Scf.Loop 32 :=
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let v666 : BitVec 32 := Scalar.addi c0_i32_289 v665
  let c1_i32_292 : BitVec 32 := 1#32
  ⟨v669, v666, c1_i32_292⟩
def k0_mult3 (k0_t1 : Fin k0_t1_loop.trips) (k0_t3 : Fin (k0_t3_loop k0_t1).trips) : BitVec 32 :=
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  v752
def k0_off11 (k0_t1 : Fin k0_t1_loop.trips) (k0_t3 : Fin (k0_t3_loop k0_t1).trips) : Fin 2 → Nat :=
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v754 : Index := Scalar.indexCast v753
  let c0_317 : Index := 0#32
  ![v754.toNat, 0]
def k0_off12 (k0_t1 : Fin k0_t1_loop.trips) (k0_t3 : Fin (k0_t3_loop k0_t1).trips) : Fin 3 → Nat :=
  let c0_318 : Index := 0#32
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v757 : Index := Scalar.indexCast v753
  let c0_319 : Index := 0#32
  ![0, v757.toNat, 0]
def k0_off13 (k0_t1 : Fin k0_t1_loop.trips) (k0_t3 : Fin (k0_t3_loop k0_t1).trips) : Fin 3 → Nat :=
  let c0_323 : Index := 0#32
  let c0_324 : Index := 0#32
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v777 : Index := Scalar.indexCast v753
  ![0, 0, v777.toNat]
def k0_off14 (k0_t1 : Fin k0_t1_loop.trips) (k0_t3 : Fin (k0_t3_loop k0_t1).trips) : Fin 2 → Nat :=
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v785 : Index := Scalar.indexCast v753
  let c128_326 : Index := 128#32
  ![v785.toNat, 128]
def k0_off15 (k0_t1 : Fin k0_t1_loop.trips) (k0_t3 : Fin (k0_t3_loop k0_t1).trips) : Fin 3 → Nat :=
  let c1_327 : Index := 1#32
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v788 : Index := Scalar.indexCast v753
  let c0_328 : Index := 0#32
  ![1, v788.toNat, 0]
def k0_off16 (k0_t1 : Fin k0_t1_loop.trips) (k0_t3 : Fin (k0_t3_loop k0_t1).trips) : Fin 3 → Nat :=
  let c1_332 : Index := 1#32
  let c0_333 : Index := 0#32
  let c0_i32_289 : BitVec 32 := 0#32
  let c0_i32 : BitVec 32 := 0#32
  let c1_i32 : BitVec 32 := 1#32
  let arg10 : BitVec 32 := Scf.iv c0_i32 c1_i32 k0_t1
  let v665 : BitVec 32 := Scalar.subi arg10 c0_i32_289
  let c1_i32_290 : BitVec 32 := 1#32
  let v667 : BitVec 32 := Scalar.divsi v665 c1_i32_290
  let v668 : BitVec 32 := Scalar.muli v667 c1_i32_290
  let v669 : BitVec 32 := Scalar.addi c0_i32_289 v668
  let c1_i32_292 : BitVec 32 := 1#32
  let arg11 : BitVec 32 := Scf.iv v669 c1_i32_292 k0_t3
  let c512_i32_316 : BitVec 32 := 512#32
  let v752 : BitVec 32 := Scalar.muli arg11 c512_i32_316
  let v753 : BitVec 32 := v752
  let v808 : Index := Scalar.indexCast v753
  ![1, 0, v808.toNat]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_293 : BitVec 32 := 512#32
  let v672 : BitVec 32 := Scalar.muli arg10 c512_i32_293
  v672
def k0_off17 (k0_t1 : Fin k0_t1_loop.trips) : Fin 3 → Nat :=
  let c0_295 : Index := 0#32
  let c0_i32 : BitVec 32 := 0#32
  let c1_i32 : BitVec 32 := 1#32
  let arg10 : BitVec 32 := Scf.iv c0_i32 c1_i32 k0_t1
  let c512_i32_293 : BitVec 32 := 512#32
  let v672 : BitVec 32 := Scalar.muli arg10 c512_i32_293
  let v673 : BitVec 32 := v672
  let v677 : Index := Scalar.indexCast v673
  let c0_296 : Index := 0#32
  ![0, v677.toNat, 0]
def k0_off18 (k0_t1 : Fin k0_t1_loop.trips) : Fin 3 → Nat :=
  let c0_301 : Index := 0#32
  let c0_302 : Index := 0#32
  let c0_i32 : BitVec 32 := 0#32
  let c1_i32 : BitVec 32 := 1#32
  let arg10 : BitVec 32 := Scf.iv c0_i32 c1_i32 k0_t1
  let c512_i32_293 : BitVec 32 := 512#32
  let v672 : BitVec 32 := Scalar.muli arg10 c512_i32_293
  let v673 : BitVec 32 := v672
  let v699 : Index := Scalar.indexCast v673
  ![0, 0, v699.toNat]
def k0_off19 (k0_t1 : Fin k0_t1_loop.trips) : Fin 3 → Nat :=
  let c1_305 : Index := 1#32
  let c0_i32 : BitVec 32 := 0#32
  let c1_i32 : BitVec 32 := 1#32
  let arg10 : BitVec 32 := Scf.iv c0_i32 c1_i32 k0_t1
  let c512_i32_293 : BitVec 32 := 512#32
  let v672 : BitVec 32 := Scalar.muli arg10 c512_i32_293
  let v673 : BitVec 32 := v672
  let v710 : Index := Scalar.indexCast v673
  let c0_306 : Index := 0#32
  ![1, v710.toNat, 0]
def k0_off20 (k0_t1 : Fin k0_t1_loop.trips) : Fin 3 → Nat :=
  let c1_311 : Index := 1#32
  let c0_312 : Index := 0#32
  let c0_i32 : BitVec 32 := 0#32
  let c1_i32 : BitVec 32 := 1#32
  let arg10 : BitVec 32 := Scf.iv c0_i32 c1_i32 k0_t1
  let c512_i32_293 : BitVec 32 := 512#32
  let v672 : BitVec 32 := Scalar.muli arg10 c512_i32_293
  let v673 : BitVec 32 := v672
  let v732 : Index := Scalar.indexCast v673
  ![1, 0, v732.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x16x128 : Shape := ⟨4, ![8, 4096, 16, 128]⟩
abbrev S8x4096x16 : Shape := ⟨3, ![8, 4096, 16]⟩
abbrev S_ : Shape := ⟨0, ![]⟩
abbrev S8x16x4096 : Shape := ⟨3, ![8, 16, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x16x4096x4096 : Shape := ⟨4, ![8, 16, 4096, 4096]⟩
abbrev S8x16x4096x1 : Shape := ⟨4, ![8, 16, 4096, 1]⟩
abbrev S8x16x1x4096 : Shape := ⟨4, ![8, 16, 1, 4096]⟩
abbrev S8x16x128x4096 : Shape := ⟨4, ![8, 16, 128, 4096]⟩
abbrev S32768x2048 : Shape := ⟨2, ![32768, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x16x128, .f32⟩
  | .hbm, ⟨2, _⟩ => ⟨S8x4096x16x128, .f32⟩
  | .hbm, ⟨3, _⟩ => ⟨S8x4096x16, .f32⟩
  | .hbm, ⟨4, _⟩ => ⟨S_, .f32⟩
  | .hbm, ⟨5, _⟩ => ⟨S_, .f32⟩
  | .hbm, ⟨6, _⟩ => ⟨S8x4096x16, .f32⟩
  | .hbm, ⟨7, _⟩ => ⟨S8x16x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S8x16x4096x4096, .f32⟩
  | .hbm, ⟨15, _⟩ => ⟨S_, .f32⟩
  | .hbm, ⟨16, _⟩ => ⟨S_, .f32⟩
  | .hbm, ⟨17, _⟩ => ⟨S8x16x4096x4096, .f32⟩
  | .hbm, ⟨18, _⟩ => ⟨S8x16x4096x4096, .f32⟩
  | .hbm, ⟨19, _⟩ => ⟨S8x16x4096x1, .f32⟩
  | .hbm, ⟨20, _⟩ => ⟨S8x16x4096x4096, .f32⟩
  | .hbm, ⟨21, _⟩ => ⟨S8x16x4096x4096, .f32⟩
  | .hbm, ⟨22, _⟩ => ⟨S8x16x1x4096, .f32⟩
  | .hbm, ⟨23, _⟩ => ⟨S8x16x4096x4096, .f32⟩
  | .hbm, ⟨24, _⟩ => ⟨S8x16x4096x4096, .f32⟩
  | .hbm, ⟨25, _⟩ => ⟨S_, .f32⟩
  | .hbm, ⟨26, _⟩ => ⟨S_, .f32⟩
  | .hbm, ⟨27, _⟩ => ⟨S8x16x4096x4096, .i1⟩
  | .hbm, ⟨28, _⟩ => ⟨S8x16x4096x4096, .f32⟩
  | .hbm, ⟨29, _⟩ => ⟨S8x16x4096x4096, .f32⟩
  | .hbm, ⟨30, _⟩ => ⟨S_, .f32⟩
  | .hbm, ⟨31, _⟩ => ⟨S8x16x4096, .f32⟩
  | .hbm, ⟨32, _⟩ => ⟨S_, .f32⟩
  | .hbm, ⟨33, _⟩ => ⟨S8x16x4096, .f32⟩
  | .hbm, ⟨34, _⟩ => ⟨S8x16x4096, .f32⟩
  | .hbm, ⟨35, _⟩ => ⟨S8x16x4096x1, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S_, .f32⟩
  | .hbm, ⟨40, _⟩ => ⟨S8x16x4096, .f32⟩
  | .hbm, ⟨41, _⟩ => ⟨S8x16x4096x1, .f32⟩
  | .hbm, ⟨42, _⟩ => ⟨S8x16x4096x4096, .f32⟩
  | .hbm, ⟨43, _⟩ => ⟨S8x16x4096x4096, .f32⟩
  | .hbm, ⟨44, _⟩ => ⟨S8x16x128x4096, .f32⟩
  | .hbm, ⟨45, _⟩ => ⟨S8x4096x16x128, .f32⟩
  | .hbm, ⟨46, _⟩ => ⟨S32768x2048, .f32⟩
  | .hbm, ⟨47, _⟩ => ⟨S32768x2048, .bf16⟩
  | _, _ => ⟨S8x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel2.lean ====
abbrev S8x4096x2048 : Shape := ⟨3, ![8, 4096, 2048]⟩
abbrev S32x16x2048 : Shape := ⟨3, ![32, 16, 2048]⟩
abbrev S2048x2048 : Shape := ⟨2, ![2048, 2048]⟩
abbrev S32768x2048 : Shape := ⟨2, ![32768, 2048]⟩
abbrev S512x2048 : Shape := ⟨2, ![512, 2048]⟩
abbrev S33280x2048 : Shape := ⟨2, ![33280, 2048]⟩
abbrev S512x512 : Shape := ⟨2, ![512, 512]⟩
abbrev S2048x512 : Shape := ⟨2, ![2048, 512]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048x2048, .f32⟩
  | .hbm, ⟨3, _⟩ => ⟨S8x4096x2048, .f32⟩
  | .hbm, ⟨4, _⟩ => ⟨S32x16x2048, .f32⟩
  | .hbm, ⟨5, _⟩ => ⟨S32768x2048, .f32⟩
  | .hbm, ⟨6, _⟩ => ⟨S32768x2048, .bf16⟩
  | .hbm, ⟨7, _⟩ => ⟨S512x2048, .f32⟩
  | .hbm, ⟨8, _⟩ => ⟨S512x2048, .bf16⟩
  | .hbm, ⟨9, _⟩ => ⟨S2048x2048, .bf16⟩
  | .hbm, ⟨10, _⟩ => ⟨S32768x2048, .f32⟩
  | .hbm, ⟨11, _⟩ => ⟨S512x2048, .f32⟩
  | .hbm, ⟨12, _⟩ => ⟨S33280x2048, .f32⟩
  | .hbm, ⟨13, _⟩ => ⟨S33280x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x4096x2048 : Shape := ⟨3, ![8, 4096, 2048]⟩
abbrev S32x16x2048 : Shape := ⟨3, ![32, 16, 2048]⟩
abbrev S2048x2048 : Shape := ⟨2, ![2048, 2048]⟩
abbrev S32768x2048 : Shape := ⟨2, ![32768, 2048]⟩
abbrev S512x2048 : Shape := ⟨2, ![512, 2048]⟩
abbrev S33280x2048 : Shape := ⟨2, ![33280, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048x2048, .f32⟩
  | .hbm, ⟨3, _⟩ => ⟨S8x4096x2048, .f32⟩
  | .hbm, ⟨4, _⟩ => ⟨S32x16x2048, .f32⟩
  | .hbm, ⟨5, _⟩ => ⟨S8x4096x2048, .f32⟩
  | .hbm, ⟨6, _⟩ => ⟨S8x4096x2048, .f32⟩
  | .hbm, ⟨7, _⟩ => ⟨S32x16x2048, .f32⟩
  | .hbm, ⟨8, _⟩ => ⟨S32x16x2048, .f32⟩
  | .hbm, ⟨9, _⟩ => ⟨S32768x2048, .f32⟩
  | .hbm, ⟨10, _⟩ => ⟨S512x2048, .f32⟩
  | .hbm, ⟨11, _⟩ => ⟨S33280x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8x4096x2048 : Shape := ⟨3, ![8, 4096, 2048]⟩
abbrev S32x16x2048 : Shape := ⟨3, ![32, 16, 2048]⟩
abbrev S2048 : Shape := ⟨1, ![2048]⟩
abbrev S2048x3072 : Shape := ⟨2, ![2048, 3072]⟩
abbrev S32768x2048 : Shape := ⟨2, ![32768, 2048]⟩
abbrev S512x2048 : Shape := ⟨2, ![512, 2048]⟩
abbrev S33280x2048 : Shape := ⟨2, ![33280, 2048]⟩
abbrev S1x2048 : Shape := ⟨2, ![1, 2048]⟩
abbrev S33280x3072 : Shape := ⟨2, ![33280, 3072]⟩
abbrev S512x3072 : Shape := ⟨2, ![512, 3072]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048, .f32⟩
  | .hbm, ⟨3, _⟩ => ⟨S2048x3072, .f32⟩
  | .hbm, ⟨4, _⟩ => ⟨S32768x2048, .f32⟩
  | .hbm, ⟨5, _⟩ => ⟨S512x2048, .f32⟩
  | .hbm, ⟨6, _⟩ => ⟨S33280x2048, .f32⟩
  | .hbm, ⟨7, _⟩ => ⟨S2048x3072, .bf16⟩
  | .hbm, ⟨8, _⟩ => ⟨S1x2048, .f32⟩
  | .hbm, ⟨9, _⟩ => ⟨S33280x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S512x3072, .bf16⟩
  | .local _ .vmem, ⟨5, _⟩ => ⟨S512x3072, .bf16⟩
  | .local _ .vmem, ⟨6, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x4096x2048 : Shape := ⟨3, ![8, 4096, 2048]⟩
abbrev S32x16x2048 : Shape := ⟨3, ![32, 16, 2048]⟩
abbrev S2048 : Shape := ⟨1, ![2048]⟩
abbrev S2048x3072 : Shape := ⟨2, ![2048, 3072]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x3072 : Shape := ⟨3, ![8, 4096, 3072]⟩
abbrev S32x16 : Shape := ⟨2, ![32, 16]⟩
abbrev S32x16x1 : Shape := ⟨3, ![32, 16, 1]⟩
abbrev S32x16x3072 : Shape := ⟨3, ![32, 16, 3072]⟩
abbrev S32768x3072 : Shape := ⟨2, ![32768, 3072]⟩
abbrev S512x3072 : Shape := ⟨2, ![512, 3072]⟩
abbrev S33280x3072 : Shape := ⟨2, ![33280, 3072]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048, .f32⟩
  | .hbm, ⟨3, _⟩ => ⟨S2048x3072, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x3072, .f32⟩
  | .hbm, ⟨21, _⟩ => ⟨S32x16x2048, .f32⟩
  | .hbm, ⟨22, _⟩ => ⟨S_, .f32⟩
  | .hbm, ⟨23, _⟩ => ⟨S32x16, .f32⟩
  | .hbm, ⟨24, _⟩ => ⟨S32x16x1, .f32⟩
  | .hbm, ⟨25, _⟩ => ⟨S_, .f32⟩
  | .hbm, ⟨26, _⟩ => ⟨S32x16x1, .f32⟩
  | .hbm, ⟨27, _⟩ => ⟨S32x16x1, .f32⟩
  | .hbm, ⟨28, _⟩ => ⟨S_, .f32⟩
  | .hbm, ⟨29, _⟩ => ⟨S32x16x1, .f32⟩
  | .hbm, ⟨30, _⟩ => ⟨S32x16x1, .f32⟩
  | .hbm, ⟨31, _⟩ => ⟨S32x16x1, .f32⟩
  | .hbm, ⟨32, _⟩ => ⟨S32x16x2048, .f32⟩
  | .hbm, ⟨33, _⟩ => ⟨S32x16x2048, .f32⟩
  | .hbm, ⟨34, _⟩ => ⟨S1x1x2048, .f32⟩
  | .hbm, ⟨35, _⟩ => ⟨S32x16x2048, .f32⟩
  | .hbm, ⟨36, _⟩ => ⟨S32x16x2048, .f32⟩
  | .hbm, ⟨37, _⟩ => ⟨S32x16x3072, .f32⟩
  | .hbm, ⟨38, _⟩ => ⟨S32768x3072, .f32⟩
  | .hbm, ⟨39, _⟩ => ⟨S512x3072, .f32⟩
  | .hbm, ⟨40, _⟩ => ⟨S33280x3072, .f32⟩
  | .hbm, ⟨41, _⟩ => ⟨S33280x3072, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel4.lean ====
abbrev S8x4096x2048 : Shape := ⟨3, ![8, 4096, 2048]⟩
abbrev S32x16x2048 : Shape := ⟨3, ![32, 16, 2048]⟩
abbrev S2048 : Shape := ⟨1, ![2048]⟩
abbrev S2048x6160 : Shape := ⟨2, ![2048, 6160]⟩
abbrev S128 : Shape := ⟨1, ![128]⟩
abbrev S32768x2048 : Shape := ⟨2, ![32768, 2048]⟩
abbrev S512x2048 : Shape := ⟨2, ![512, 2048]⟩
abbrev S33280x2048 : Shape := ⟨2, ![33280, 2048]⟩
abbrev S2048x2048 : Shape := ⟨2, ![2048, 2048]⟩
abbrev S1x2048 : Shape := ⟨2, ![1, 2048]⟩
abbrev S1x128 : Shape := ⟨2, ![1, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048, .f32⟩
  | .hbm, ⟨3, _⟩ => ⟨S2048x6160, .f32⟩
  | .hbm, ⟨4, _⟩ => ⟨S128, .f32⟩
  | .hbm, ⟨5, _⟩ => ⟨S32768x2048, .f32⟩
  | .hbm, ⟨6, _⟩ => ⟨S512x2048, .f32⟩
  | .hbm, ⟨7, _⟩ => ⟨S33280x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x128, .f32⟩
  | .hbm, ⟨12, _⟩ => ⟨S33280x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x128, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x4096x2048 : Shape := ⟨3, ![8, 4096, 2048]⟩
abbrev S32x16x2048 : Shape := ⟨3, ![32, 16, 2048]⟩
abbrev S2048 : Shape := ⟨1, ![2048]⟩
abbrev S2048x6160 : Shape := ⟨2, ![2048, 6160]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6160 : Shape := ⟨3, ![8, 4096, 6160]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S32x16 : Shape := ⟨2, ![32, 16]⟩
abbrev S32x16x1 : Shape := ⟨3, ![32, 16, 1]⟩
abbrev S32x16x6160 : Shape := ⟨3, ![32, 16, 6160]⟩
abbrev S32x16x16x128 : Shape := ⟨4, ![32, 16, 16, 128]⟩
abbrev S32x16x16 : Shape := ⟨3, ![32, 16, 16]⟩
abbrev S32x16x16x1 : Shape := ⟨4, ![32, 16, 16, 1]⟩
abbrev S32768x2048 : Shape := ⟨2, ![32768, 2048]⟩
abbrev S512x2048 : Shape := ⟨2, ![512, 2048]⟩
abbrev S33280x2048 : Shape := ⟨2, ![33280, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048, .f32⟩
  | .hbm, ⟨3, _⟩ => ⟨S2048x6160, .f32⟩
  | .hbm, ⟨4, _⟩ => ⟨S128, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x6160, .f32⟩
  | .hbm, ⟨22, _⟩ => ⟨S8x4096x2048, .f32⟩
  | .hbm, ⟨23, _⟩ => ⟨S8x4096x16x128, .f32⟩
  | .hbm, ⟨24, _⟩ => ⟨S8x4096x16x128, .f32⟩
  | .hbm, ⟨25, _⟩ => ⟨S_, .f32⟩
  | .hbm, ⟨26, _⟩ => ⟨S8x4096x16, .f32⟩
  | .hbm, ⟨27, _⟩ => ⟨S8x4096x16x1, .f32⟩
  | .hbm, ⟨28, _⟩ => ⟨S_, .f32⟩
  | .hbm, ⟨29, _⟩ => ⟨S8x4096x16x1, .f32⟩
  | .hbm, ⟨30, _⟩ => ⟨S8x4096x16x1, .f32⟩
  | .hbm, ⟨31, _⟩ => ⟨S_, .f32⟩
  | .hbm, ⟨32, _⟩ => ⟨S8x4096x16x1, .f32⟩
  | .hbm, ⟨33, _⟩ => ⟨S8x4096x16x1, .f32⟩
  | .hbm, ⟨34, _⟩ => ⟨S8x4096x16x1, .f32⟩
  | .hbm, ⟨35, _⟩ => ⟨S8x4096x16x128, .f32⟩
  | .hbm, ⟨36, _⟩ => ⟨S8x4096x16x128, .f32⟩
  | .hbm, ⟨37, _⟩ => ⟨S1x1x1x128, .f32⟩
  | .hbm, ⟨38, _⟩ => ⟨S8x4096x16x128, .f32⟩
  | .hbm, ⟨39, _⟩ => ⟨S8x4096x16x128, .f32⟩
  | .hbm, ⟨40, _⟩ => ⟨S32x16x2048, .f32⟩
  | .hbm, ⟨41, _⟩ => ⟨S_, .f32⟩
  | .hbm, ⟨42, _⟩ => ⟨S32x16, .f32⟩
  | .hbm, ⟨43, _⟩ => ⟨S32x16x1, .f32⟩
  | .hbm, ⟨44, _⟩ => ⟨S_, .f32⟩
  | .hbm, ⟨45, _⟩ => ⟨S32x16x1, .f32⟩
  | .hbm, ⟨46, _⟩ => ⟨S32x16x1, .f32⟩
  | .hbm, ⟨47, _⟩ => ⟨S_, .f32⟩
  | .hbm, ⟨48, _⟩ => ⟨S32x16x1, .f32⟩
  | .hbm, ⟨49, _⟩ => ⟨S32x16x1, .f32⟩
  | .hbm, ⟨50, _⟩ => ⟨S32x16x1, .f32⟩
  | .hbm, ⟨51, _⟩ => ⟨S32x16x2048, .f32⟩
  | .hbm, ⟨52, _⟩ => ⟨S32x16x2048, .f32⟩
  | .hbm, ⟨53, _⟩ => ⟨S1x1x2048, .f32⟩
  | .hbm, ⟨54, _⟩ => ⟨S32x16x2048, .f32⟩
  | .hbm, ⟨55, _⟩ => ⟨S32x16x2048, .f32⟩
  | .hbm, ⟨56, _⟩ => ⟨S32x16x6160, .f32⟩
  | .hbm, ⟨57, _⟩ => ⟨S32x16x2048, .f32⟩
  | .hbm, ⟨58, _⟩ => ⟨S32x16x16x128, .f32⟩
  | .hbm, ⟨59, _⟩ => ⟨S32x16x16x128, .f32⟩
  | .hbm, ⟨60, _⟩ => ⟨S_, .f32⟩
  | .hbm, ⟨61, _⟩ => ⟨S32x16x16, .f32⟩
  | .hbm, ⟨62, _⟩ => ⟨S32x16x16x1, .f32⟩
  | .hbm, ⟨63, _⟩ => ⟨S_, .f32⟩
  | .hbm, ⟨64, _⟩ => ⟨S32x16x16x1, .f32⟩
  | .hbm, ⟨65, _⟩ => ⟨S32x16x16x1, .f32⟩
  | .hbm, ⟨66, _⟩ => ⟨S_, .f32⟩
  | .hbm, ⟨67, _⟩ => ⟨S32x16x16x1, .f32⟩
  | .hbm, ⟨68, _⟩ => ⟨S32x16x16x1, .f32⟩
  | .hbm, ⟨69, _⟩ => ⟨S32x16x16x1, .f32⟩
  | .hbm, ⟨70, _⟩ => ⟨S32x16x16x128, .f32⟩
  | .hbm, ⟨71, _⟩ => ⟨S32x16x16x128, .f32⟩
  | .hbm, ⟨72, _⟩ => ⟨S1x1x1x128, .f32⟩
  | .hbm, ⟨73, _⟩ => ⟨S32x16x16x128, .f32⟩
  | .hbm, ⟨74, _⟩ => ⟨S32x16x16x128, .f32⟩
  | .hbm, ⟨75, _⟩ => ⟨S32768x2048, .f32⟩
  | .hbm, ⟨76, _⟩ => ⟨S512x2048, .f32⟩
  | .hbm, ⟨77, _⟩ => ⟨S33280x2048, .f32⟩
  | .hbm, ⟨78, _⟩ => ⟨S_, .f32⟩
  | .hbm, ⟨79, _⟩ => ⟨S33280x2048, .f32⟩
  | .hbm, ⟨80, _⟩ => ⟨S33280x2048, .f32⟩
  | .hbm, ⟨81, _⟩ => ⟨S33280x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Kernel5.lean ====
abbrev S8x4096x2048 : Shape := ⟨3, ![8, 4096, 2048]⟩
abbrev S32x16x2048 : Shape := ⟨3, ![32, 16, 2048]⟩
abbrev S2048 : Shape := ⟨1, ![2048]⟩
abbrev S2048x6160 : Shape := ⟨2, ![2048, 6160]⟩
abbrev S128 : Shape := ⟨1, ![128]⟩
abbrev S16 : Shape := ⟨1, ![16]⟩
abbrev S2x32768x16x128 : Shape := ⟨4, ![2, 32768, 16, 128]⟩
abbrev S2x32768x16 : Shape := ⟨3, ![2, 32768, 16]⟩
abbrev S2x512x16x128 : Shape := ⟨4, ![2, 512, 16, 128]⟩
abbrev S2x512x16 : Shape := ⟨3, ![2, 512, 16]⟩
abbrev S2048x4112 : Shape := ⟨2, ![2048, 4112]⟩
abbrev S_ : Shape := ⟨0, ![]⟩
abbrev S2048x4224 : Shape := ⟨2, ![2048, 4224]⟩
abbrev S32768x2048 : Shape := ⟨2, ![32768, 2048]⟩
abbrev S512x2048 : Shape := ⟨2, ![512, 2048]⟩
abbrev S33280x2048 : Shape := ⟨2, ![33280, 2048]⟩
abbrev S1x2048 : Shape := ⟨2, ![1, 2048]⟩
abbrev S1x128 : Shape := ⟨2, ![1, 128]⟩
abbrev S256x2048 : Shape := ⟨2, ![256, 2048]⟩
abbrev S1x256x16x128 : Shape := ⟨4, ![1, 256, 16, 128]⟩
abbrev S1x256x16 : Shape := ⟨3, ![1, 256, 16]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S256x128 : Shape := ⟨2, ![256, 128]⟩
abbrev S1x256x1x128 : Shape := ⟨4, ![1, 256, 1, 128]⟩
abbrev S2048x128 : Shape := ⟨2, ![2048, 128]⟩
abbrev S256x16 : Shape := ⟨2, ![256, 16]⟩

abbrev nBuf : Space → Nat
  | .hbm => 34
  | .vmem => 23
  | .smem => 0
  | _ => 0

abbrev bufTy : (tb : Table) → Fin (tcTables nBuf tb) → BufTy
  | .hbm, ⟨0, _⟩ => ⟨S8x4096x2048, .f32⟩
  | .hbm, ⟨1, _⟩ => ⟨S32x16x2048, .f32⟩
  | .hbm, ⟨2, _⟩ => ⟨S2048, .f32⟩
  | .hbm, ⟨3, _⟩ => ⟨S2048x6160, .f32⟩
  | .hbm, ⟨4, _⟩ => ⟨S128, .f32⟩
  | .hbm, ⟨5, _⟩ => ⟨S16, .f32⟩
  | .hbm, ⟨6, _⟩ => ⟨S2x32768x16x128, .f32⟩
  | .hbm, ⟨7, _⟩ => ⟨S2x32768x16x128, .f32⟩
  | .hbm, ⟨8, _⟩ => ⟨S2x32768x16, .f32⟩
  | .hbm, ⟨9, _⟩ => ⟨S2x512x16x128, .f32⟩
  | .hbm, ⟨10, _⟩ => ⟨S2x512x16x128, .f32⟩
  | .hbm, ⟨11, _⟩ => ⟨S2x512x16, .f32⟩
  | .hbm, ⟨12, _⟩ => ⟨S2048x4112, .f32⟩
  | .hbm, ⟨13, _⟩ => ⟨S_, .i32⟩
  | .hbm, ⟨14, _⟩ => ⟨S_, .f32⟩
  | .hbm, ⟨15, _⟩ => ⟨S2048x4224, .f32⟩
  | .hbm, ⟨16, _⟩ => ⟨S2048x4224, .bf16⟩
  | .hbm, ⟨17, _⟩ => ⟨S32768x2048, .f32⟩
  | .hbm, ⟨18, _⟩ => ⟨S512x2048, .f32⟩
  | .hbm, ⟨19, _⟩ => ⟨S33280x2048, .f32⟩
  | .hbm, ⟨20, _⟩ => ⟨S1x2048, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S33280x2048, .bf16⟩
  | .hbm, ⟨27, _⟩ => ⟨S33280x2048, .bf16⟩
  | .hbm, ⟨28, _⟩ => ⟨S2x32768x16x128, .f32⟩
  | .hbm, ⟨29, _⟩ => ⟨S2x32768x16x128, .f32⟩
  | .hbm, ⟨30, _⟩ => ⟨S2x32768x16, .f32⟩
  | .hbm, ⟨31, _⟩ => ⟨S2x512x16x128, .f32⟩
  | .hbm, ⟨32, _⟩ => ⟨S2x512x16x128, .f32⟩
  | .hbm, ⟨33, _⟩ => ⟨S2x512x16, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4224, .bf16⟩
  | .local _ .vmem, ⟨4, _⟩ => ⟨S1x128, .f32⟩
  | .local _ .vmem, ⟨5, _⟩ => ⟨S1x128, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x256x16x128, .f32⟩
  | .local _ .vmem, ⟨11, _⟩ => ⟨S1x256x16x128, .f32⟩
  | .local _ .vmem, ⟨12, _⟩ => ⟨S1x256x16x128, .f32⟩
  | .local _ .vmem, ⟨13, _⟩ => ⟨S1x256x16x128, .f32⟩
  | .local _ .vmem, ⟨14, _⟩ => ⟨S1x256x16, .f32⟩
  | .local _ .vmem, ⟨15, _⟩ => ⟨S1x256x16, .f32⟩
  | .local _ .vmem, ⟨16, _⟩ => ⟨S1x256x16x128, .f32⟩
  | .local _ .vmem, ⟨17, _⟩ => ⟨S1x256x16x128, .f32⟩
  | .local _ .vmem, ⟨18, _⟩ => ⟨S1x256x16x128, .f32⟩
  | .local _ .vmem, ⟨19, _⟩ => ⟨S1x256x16x128, .f32⟩
  | .local _ .vmem, ⟨20, _⟩ => ⟨S1x256x16, .f32⟩
  | .local _ .vmem, ⟨21, _⟩ => ⟨S1x256x16, .f32⟩
  | .local _ .vmem, ⟨22, _⟩ => ⟨S256x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev main_v10_4 : Ref sig .tc := ⟨.hbm, 30, rfl⟩
abbrev main_v10_5 : Ref sig .tc := ⟨.hbm, 31, rfl⟩
abbrev main_v10_6 : Ref sig .tc := ⟨.hbm, 32, rfl⟩
abbrev main_v10_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c128_i32 : BitVec 32 := 128#32
  let v20 : BitVec 1 := Scalar.cmpi .slt arg0 c128_i32
  let v21 : BitVec 32 := Scalar.extui v20
  let c0_i32 : BitVec 32 := 0#32
  let v22 : BitVec 1 := Scalar.cmpi .ne v21 c0_i32
  v22

def k0_cond2 (i : grid0.Coords) : BitVec 1 :=
  let arg0 : BitVec 32 := BitVec.ofNat 32 (i 0).val
  let c128_i32_7 : BitVec 32 := 128#32
  let v23 : BitVec 1 := Scalar.cmpi .sge arg0 c128_i32_7
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c127_i32 : BitVec 32 := 127#32
  let v0 : BitVec 32 := Scalar.minsi arg0 c127_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_14 (i : grid0.Coords) : Fin 4 → Nat :=
  let arg0 : BitVec 32 := BitVec.ofNat 32 (i 0).val
  let c127_i32 : BitVec 32 := 127#32
  let v0 : BitVec 32 := Scalar.minsi arg0 c127_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_15 (i : grid0.Coords) : Fin 3 → Nat :=
  let arg0 : BitVec 32 := BitVec.ofNat 32 (i 0).val
  let c127_i32 : BitVec 32 := 127#32
  let v0 : BitVec 32 := Scalar.minsi arg0 c127_i32
  let c1_i32 : BitVec 32 := 1#32
  let c0_i32 : BitVec 32 := 0#32
  let c0_i32_0 : BitVec 32 := 0#32
  ![c1_i32.toNat, v0.toNat, c0_i32.toNat]

def cc0_transform_16 (i : grid0.Coords) : Fin 4 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  let c0_i32_2 : BitVec 32 := 0#32
  ![c1_i32.toNat, v1.toNat, c0_i32_0.toNat, c0_i32_1.toNat]

def cc0_transform_17 (i : grid0.Coords) : Fin 4 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  let c0_i32_2 : BitVec 32 := 0#32
  ![c1_i32.toNat, v1.toNat, c0_i32_0.toNat, c0_i32_1.toNat]

def cc0_transform_18 (i : grid0.Coords) : Fin 3 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8x4096x2048 : Shape := ⟨3, ![8, 4096, 2048]⟩
abbrev S32x16x2048 : Shape := ⟨3, ![32, 16, 2048]⟩
abbrev S2048 : Shape := ⟨1, ![2048]⟩
abbrev S2048x6160 : Shape := ⟨2, ![2048, 6160]⟩
abbrev S128 : Shape := ⟨1, ![128]⟩
abbrev S16 : Shape := ⟨1, ![16]⟩
abbrev S2x32768x16x128 : Shape := ⟨4, ![2, 32768, 16, 128]⟩
abbrev S2x32768x16 : Shape := ⟨3, ![2, 32768, 16]⟩
abbrev S2x512x16x128 : Shape := ⟨4, ![2, 512, 16, 128]⟩
abbrev S2x512x16 : Shape := ⟨3, ![2, 512, 16]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6160 : Shape := ⟨3, ![8, 4096, 6160]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S1x1x16 : Shape := ⟨3, ![1, 1, 16]⟩
abbrev S32x16 : Shape := ⟨2, ![32, 16]⟩
abbrev S32x16x1 : Shape := ⟨3, ![32, 16, 1]⟩
abbrev S32x16x6160 : Shape := ⟨3, ![32, 16, 6160]⟩
abbrev S32x16x16x128 : Shape := ⟨4, ![32, 16, 16, 128]⟩
abbrev S32x16x16 : Shape := ⟨3, ![32, 16, 16]⟩
abbrev S32x16x16x1 : Shape := ⟨4, ![32, 16, 16, 1]⟩
abbrev S32768x2048 : Shape := ⟨2, ![32768, 2048]⟩
abbrev S512x2048 : Shape := ⟨2, ![512, 2048]⟩
abbrev S33280x2048 : Shape := ⟨2, ![33280, 2048]⟩
abbrev S1x32768x16x128 : Shape := ⟨4, ![1, 32768, 16, 128]⟩
abbrev S1x32768x16 : Shape := ⟨3, ![1, 32768, 16]⟩
abbrev S1x512x16x128 : Shape := ⟨4, ![1, 512, 16, 128]⟩
abbrev S1x512x16 : Shape := ⟨3, ![1, 512, 16]⟩

abbrev nBuf : Space → Nat
  | .hbm => 152
  | .vmem => 0
  | .smem => 0
  | _ => 0

abbrev hbmTy0_0 (i : Nat) : BufTy := match i % 128 with
  | 0 => ⟨S8x4096x2048, .f32⟩
  | 1 => ⟨S32x16x2048, .f32⟩
  | 2 => ⟨S2048, .f32⟩
  | 3 => ⟨S2048x6160, .f32⟩
  | 4 => ⟨S128, .f32⟩
  | 5 => ⟨S16, .f32⟩
  | 6 => ⟨S2x32768x16x128, .f32⟩
  | 7 => ⟨S2x32768x16x128, .f32⟩
  | 8 => ⟨S2x32768x16, .f32⟩
  | 9 => ⟨S2x512x16x128, .f32⟩
  | 10 => ⟨S2x512x16x128, .f32⟩
  | 11 => ⟨S2x512x16, .f32⟩
  | 12 => ⟨S8x4096x2048, .f32⟩
  | 13 => ⟨S_, .f32⟩
  | 14 => ⟨S8x4096, .f32⟩
  | 15 => ⟨S8x4096x1, .f32⟩
  | 16 => ⟨S_, .f32⟩
  | 17 => ⟨S8x4096x1, .f32⟩
  | 18 => ⟨S8x4096x1, .f32⟩
  | 19 => ⟨S_, .f32⟩
  | 20 => ⟨S8x4096x1, .f32⟩
  | 21 => ⟨S8x4096x1, .f32⟩
  | 22 => ⟨S8x4096x1, .f32⟩
  | 23 => ⟨S8x4096x2048, .f32⟩
  | 24 => ⟨S8x4096x2048, .f32⟩
  | 25 => ⟨S1x1x2048, .f32⟩
  | 26 => ⟨S8x4096x2048, .f32⟩
  | 27 => ⟨S8x4096x2048, .f32⟩
  | 28 => ⟨S8x4096x6160, .f32⟩
  | 29 => ⟨S8x4096x2048, .f32⟩
  | 30 => ⟨S8x4096x16x128, .f32⟩
  | 31 => ⟨S8x4096x16x128, .f32⟩
  | 32 => ⟨S_, .f32⟩
  | 33 => ⟨S8x4096x16, .f32⟩
  | 34 => ⟨S8x4096x16x1, .f32⟩
  | 35 => ⟨S_, .f32⟩
  | 36 => ⟨S8x4096x16x1, .f32⟩
  | 37 => ⟨S8x4096x16x1, .f32⟩
  | 38 => ⟨S_, .f32⟩
  | 39 => ⟨S8x4096x16x1, .f32⟩
  | 40 => ⟨S8x4096x16x1, .f32⟩
  | 41 => ⟨S8x4096x16x1, .f32⟩
  | 42 => ⟨S8x4096x16x128, .f32⟩
  | 43 => ⟨S8x4096x16x128, .f32⟩
  | 44 => ⟨S1x1x1x128, .f32⟩
  | 45 => ⟨S8x4096x16x128, .f32⟩
  | 46 => ⟨S8x4096x16x128, .f32⟩
  | 47 => ⟨S8x4096x2048, .f32⟩
  | 48 => ⟨S8x4096x16x128, .f32⟩
  | 49 => ⟨S8x4096x16, .f32⟩
  | 50 => ⟨S1x1x16, .f32⟩
  | 51 => ⟨S8x4096x16, .f32⟩
  | 52 => ⟨S8x4096x16, .f32⟩
  | 53 => ⟨S8x4096x16, .f32⟩
  | 54 => ⟨S_, .f32⟩
  | 55 => ⟨S8x4096x16, .f32⟩
  | 56 => ⟨S8x4096x16, .f32⟩
  | 57 => ⟨S8x4096x16, .f32⟩
  | 58 => ⟨S8x4096x16, .f32⟩
  | 59 => ⟨S8x4096x16, .i1⟩
  | 60 => ⟨S8x4096x16, .f32⟩
  | 61 => ⟨S8x4096x16, .f32⟩
  | 62 => ⟨S8x4096x16, .f32⟩
  | 63 => ⟨S8x4096x16, .f32⟩
  | 64 => ⟨S8x4096x16, .f32⟩
  | 65 => ⟨S8x4096x16, .f32⟩
  | 66 => ⟨S8x4096x16, .f32⟩
  | 67 => ⟨S8x4096x16, .f32⟩
  | 68 => ⟨S8x4096x16, .f32⟩
  | 69 => ⟨S32x16x2048, .f32⟩
  | 70 => ⟨S_, .f32⟩
  | 71 => ⟨S32x16, .f32⟩
  | 72 => ⟨S32x16x1, .f32⟩
  | 73 => ⟨S_, .f32⟩
  | 74 => ⟨S32x16x1, .f32⟩
  | 75 => ⟨S32x16x1, .f32⟩
  | 76 => ⟨S_, .f32⟩
  | 77 => ⟨S32x16x1, .f32⟩
  | 78 => ⟨S32x16x1, .f32⟩
  | 79 => ⟨S32x16x1, .f32⟩
  | 80 => ⟨S32x16x2048, .f32⟩
  | 81 => ⟨S32x16x2048, .f32⟩
  | 82 => ⟨S1x1x2048, .f32⟩
  | 83 => ⟨S32x16x2048, .f32⟩
  | 84 => ⟨S32x16x2048, .f32⟩
  | 85 => ⟨S32x16x6160, .f32⟩
  | 86 => ⟨S32x16x2048, .f32⟩
  | 87 => ⟨S32x16x16x128, .f32⟩
  | 88 => ⟨S32x16x16x128, .f32⟩
  | 89 => ⟨S_, .f32⟩
  | 90 => ⟨S32x16x16, .f32⟩
  | 91 => ⟨S32x16x16x1, .f32⟩
  | 92 => ⟨S_, .f32⟩
  | 93 => ⟨S32x16x16x1, .f32⟩
  | 94 => ⟨S32x16x16x1, .f32⟩
  | 95 => ⟨S_, .f32⟩
  | 96 => ⟨S32x16x16x1, .f32⟩
  | 97 => ⟨S32x16x16x1, .f32⟩
  | 98 => ⟨S32x16x16x1, .f32⟩
  | 99 => ⟨S32x16x16x128, .f32⟩
  | 100 => ⟨S32x16x16x128, .f32⟩
  | 101 => ⟨S1x1x1x128, .f32⟩
  | 102 => ⟨S32x16x16x128, .f32⟩
  | 103 => ⟨S32x16x16x128, .f32⟩
  | 104 => ⟨S32x16x2048, .f32⟩
  | 105 => ⟨S32x16x16x128, .f32⟩
  | 106 => ⟨S32x16x16, .f32⟩
  | 107 => ⟨S1x1x16, .f32⟩
  | 108 => ⟨S32x16x16, .f32⟩
  | 109 => ⟨S32x16x16, .f32⟩
  | 110 => ⟨S32x16x16, .f32⟩
  | 111 => ⟨S_, .f32⟩
  | 112 => ⟨S32x16x16, .f32⟩
  | 113 => ⟨S32x16x16, .f32⟩
  | 114 => ⟨S32x16x16, .f32⟩
  | 115 => ⟨S32x16x16, .f32⟩
  | 116 => ⟨S32x16x16, .i1⟩
  | 117 => ⟨S32x16x16, .f32⟩
  | 118 => ⟨S32x16x16, .f32⟩
  | 119 => ⟨S32x16x16, .f32⟩
  | 120 => ⟨S32x16x16, .f32⟩
  | 121 => ⟨S32x16x16, .f32⟩
  | 122 => ⟨S32x16x16, .f32⟩
  | 123 => ⟨S32x16x16, .f32⟩
  | 124 => ⟨S32x16x16, .f32⟩
  | 125 => ⟨S32x16x16, .f32⟩
  | 126 => ⟨S32768x2048, .f32⟩
  | 127 => ⟨S512x2048, .f32⟩
  | _ => ⟨S8x4096x2048, .f32⟩

abbrev hbmTy0_1 (i : Nat) : BufTy := match i % 128 with
  | 0 => ⟨S33280x2048, .f32⟩
  | 1 => ⟨S33280x2048, .bf16⟩
  | 2 => ⟨S32768x2048, .f32⟩
  | 3 => ⟨S512x2048, .f32⟩
  | 4 => ⟨S33280x2048, .f32⟩
  | 5 => ⟨S33280x2048, .bf16⟩
  | 6 => ⟨S1x32768x16x128, .f32⟩
  | 7 => ⟨S1x32768x16x128, .f32⟩
  | 8 => ⟨S2x32768x16x128, .f32⟩
  | 9 => ⟨S1x32768x16x128, .f32⟩
  | 10 => ⟨S1x32768x16x128, .f32⟩
  | 11 => ⟨S2x32768x16x128, .f32⟩
  | 12 => ⟨S1x32768x16, .f32⟩
  | 13 => ⟨S1x32768x16, .f32⟩
  | 14 => ⟨S2x32768x16, .f32⟩
  | 15 => ⟨S1x512x16x128, .f32⟩
  | 16 => ⟨S1x512x16x128, .f32⟩
  | 17 => ⟨S2x512x16x128, .f32⟩
  | 18 => ⟨S1x512x16x128, .f32⟩
  | 19 => ⟨S1x512x16x128, .f32⟩
  | 20 => ⟨S2x512x16x128, .f32⟩
  | 21 => ⟨S1x512x16, .f32⟩
  | 22 => ⟨S1x512x16, .f32⟩
  | 23 => ⟨S2x512x16, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v35 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_8 : Ref sig .tc := ⟨.hbm, 89, rfl⟩
abbrev main_v53 : Ref sig .tc := ⟨.hbm, 90, rfl⟩
abbrev main_v54 : Ref sig .tc := ⟨.hbm, 91, rfl⟩
abbrev main_cst_9 : Ref sig .tc := ⟨.hbm, 92, rfl⟩
abbrev main_v55 : Ref sig .tc := ⟨.hbm, 93, rfl⟩
abbrev main_v56 : Ref sig .tc := ⟨.hbm, 94, rfl⟩
abbrev main_cst_10 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call1_v0 : Ref sig .tc := ⟨.hbm, 110, rfl⟩
abbrev main_call1_call0_cst : Ref sig .tc := ⟨.hbm, 111, rfl⟩
abbrev main_call1_call0_v0 : Ref sig .tc := ⟨.hbm, 112, rfl⟩
abbrev main_call1_call0_v1 : Ref sig .tc := ⟨.hbm, 113, rfl⟩
abbrev main_call1_call0_v2 : Ref sig .tc := ⟨.hbm, 114, rfl⟩
abbrev main_call1_call0_v3 : Ref sig .tc := ⟨.hbm, 115, rfl⟩
abbrev main_call1_call0_v4 : Ref sig .tc := ⟨.hbm, 116, rfl⟩
abbrev main_call1_call0_v5 : Ref sig .tc := ⟨.hbm, 117, rfl⟩
abbrev main_call1_call0_v6 : Ref sig .tc := ⟨.hbm, 118, rfl⟩
abbrev main_call1_call0_v7 : Ref sig .tc := ⟨.hbm, 119, rfl⟩
abbrev main_call1_call0_v8 : Ref sig .tc := ⟨.hbm, 120, rfl⟩
abbrev main_call1_call0_v9 : Ref sig .tc := ⟨.hbm, 121, rfl⟩
abbrev main_call1_call0_v10 : Ref sig .tc := ⟨.hbm, 122, rfl⟩
abbrev main_call1_call0_v11 : Ref sig .tc := ⟨.hbm, 123, rfl⟩
abbrev main_call1_v1 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩

abbrev nD : Nat := 1
abbrev τ : Topo := Topo.v7x

variable {F : FTy → Type} [FloatOps F]
-- ==== Kernel6.lean ====
abbrev S8x4096x3072 : Shape := ⟨3, ![8, 4096, 3072]⟩
abbrev S32x16x3072 : Shape := ⟨3, ![32, 16, 3072]⟩
abbrev S32x15x1024 : Shape := ⟨3, ![32, 15, 1024]⟩
abbrev S32x30x1024 : Shape := ⟨3, ![32, 30, 1024]⟩
abbrev S4x256x256 : Shape := ⟨3, ![4, 256, 256]⟩
abbrev S1024 : Shape := ⟨1, ![1024]⟩
abbrev S31x1024 : Shape := ⟨2, ![31, 1024]⟩
abbrev S32768x3072 : Shape := ⟨2, ![32768, 3072]⟩
abbrev S512x3072 : Shape := ⟨2, ![512, 3072]⟩
abbrev S33280x3072 : Shape := ⟨2, ![33280, 3072]⟩
abbrev S_ : Shape := ⟨0, ![]⟩
abbrev S32x16x1024 : Shape := ⟨3, ![32, 16, 1024]⟩
abbrev S32x32x1024 : Shape := ⟨3, ![32, 32, 1024]⟩
abbrev S1x1024 : Shape := ⟨2, ![1, 1024]⟩
abbrev S512x2048 : Shape := ⟨2, ![512, 2048]⟩
abbrev S16x3072 : Shape := ⟨2, ![16, 3072]⟩
abbrev S1x16x1024 : Shape := ⟨3, ![1, 16, 1024]⟩
abbrev S1x32x1024 : Shape := ⟨3, ![1, 32, 1024]⟩
abbrev S16x2048 : Shape := ⟨2, ![16, 2048]⟩
abbrev S1x15x1024 : Shape := ⟨3, ![1, 15, 1024]⟩
abbrev S1x30x1024 : Shape := ⟨3, ![1, 30, 1024]⟩
abbrev S32x1024 : Shape := ⟨2, ![32, 1024]⟩
abbrev S48x1024 : Shape := ⟨2, ![48, 1024]⟩
abbrev S16x1024 : Shape := ⟨2, ![16, 1024]⟩
abbrev S7x40x1024 : Shape := ⟨3, ![7, 40, 1024]⟩
abbrev S16x1 : Shape := ⟨2, ![16, 1]⟩
abbrev S16x256 : Shape := ⟨2, ![16, 256]⟩
abbrev S1x256x256 : Shape := ⟨3, ![1, 256, 256]⟩
abbrev S256x256 : Shape := ⟨2, ![256, 256]⟩
abbrev S1x256 : Shape := ⟨2, ![1, 256]⟩
abbrev S40x1024 : Shape := ⟨2, ![40, 1024]⟩
abbrev S1x40x1024 : Shape := ⟨3, ![1, 40, 1024]⟩
abbrev S1x16x256 : Shape := ⟨3, ![1, 16, 256]⟩
abbrev S16 : Shape := ⟨1, ![16]⟩
abbrev S15x1024 : Shape := ⟨2, ![15, 1024]⟩
abbrev S30x1024 : Shape := ⟨2, ![30, 1024]⟩

abbrev nBuf : Space → Nat
  | .hbm => 28
  | .vmem => 22
  | .smem => 0
  | _ => 0

abbrev bufTy : (tb : Table) → Fin (tcTables nBuf tb) → BufTy
  | .hbm, ⟨0, _⟩ => ⟨S8x4096x3072, .f32⟩
  | .hbm, ⟨1, _⟩ => ⟨S32x16x3072, .f32⟩
  | .hbm, ⟨2, _⟩ => ⟨S32x15x1024, .f32⟩
  | .hbm, ⟨3, _⟩ => ⟨S32x30x1024, .f32⟩
  | .hbm, ⟨4, _⟩ => ⟨S4x256x256, .f32⟩
  | .hbm, ⟨5, _⟩ => ⟨S1024, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32768x3072, .f32⟩
  | .hbm, ⟨11, _⟩ => ⟨S512x3072, .f32⟩
  | .hbm, ⟨12, _⟩ => ⟨S33280x3072, .f32⟩
  | .hbm, ⟨13, _⟩ => ⟨S33280x3072, .bf16⟩
  | .hbm, ⟨14, _⟩ => ⟨S_, .i32⟩
  | .hbm, ⟨15, _⟩ => ⟨S_, .f32⟩
  | .hbm, ⟨16, _⟩ => ⟨S32x16x1024, .f32⟩
  | .hbm, ⟨17, _⟩ => ⟨S_, .i32⟩
  | .hbm, ⟨18, _⟩ => ⟨S_, .f32⟩
  | .hbm, ⟨19, _⟩ => ⟨S32x32x1024, .f32⟩
  | .hbm, ⟨20, _⟩ => ⟨S4x256x256, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S512x2048, .bf16⟩
  | .hbm, ⟨26, _⟩ => ⟨S32x15x1024, .f32⟩
  | .hbm, ⟨27, _⟩ => ⟨S32x30x1024, .f32⟩
  | .local _ .vmem, ⟨0, _⟩ => ⟨S16x3072, .bf16⟩
  | .local _ .vmem, ⟨1, _⟩ => ⟨S16x3072, .bf16⟩
  | .local _ .vmem, ⟨2, _⟩ => ⟨S1x16x1024, .f32⟩
  | .local _ .vmem, ⟨3, _⟩ => ⟨S1x16x1024, .f32⟩
  | .local _ .vmem, ⟨4, _⟩ => ⟨S1x32x1024, .f32⟩
  | .local _ .vmem, ⟨5, _⟩ => ⟨S1x32x1024, .f32⟩
  | .local _ .vmem, ⟨6, _⟩ => ⟨S4x256x256, .bf16⟩
  | .local _ .vmem, ⟨7, _⟩ => ⟨S1x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S16x2048, .bf16⟩
  | .local _ .vmem, ⟨13, _⟩ => ⟨S16x2048, .bf16⟩
  | .local _ .vmem, ⟨14, _⟩ => ⟨S1x15x1024, .f32⟩
  | .local _ .vmem, ⟨15, _⟩ => ⟨S1x15x1024, .f32⟩
  | .local _ .vmem, ⟨16, _⟩ => ⟨S1x30x1024, .f32⟩
  | .local _ .vmem, ⟨17, _⟩ => ⟨S1x30x1024, .f32⟩
  | .local _ .vmem, ⟨18, _⟩ => ⟨S32x1024, .f32⟩
  | .local _ .vmem, ⟨19, _⟩ => ⟨S48x1024, .f32⟩
  | .local _ .vmem, ⟨20, _⟩ => ⟨S16x1024, .f32⟩
  | .local _ .vmem, ⟨21, _⟩ => ⟨S7x40x1024, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_739 : BitVec 32 := 0#32
  let v958 : BitVec 1 := Scalar.cmpi .eq arg1 c0_i32_739
  let v959 : BitVec 32 := Scalar.extui v958
  let c0_i32_740 : BitVec 32 := 0#32
  let v960 : BitVec 1 := Scalar.cmpi .ne v959 c0_i32_740
  v960

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x15x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x30x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference6Ideal.lean ====
abbrev S8x4096x3072 : Shape := ⟨3, ![8, 4096, 3072]⟩
abbrev S32x16x3072 : Shape := ⟨3, ![32, 16, 3072]⟩
abbrev S32x15x1024 : Shape := ⟨3, ![32, 15, 1024]⟩
abbrev S32x30x1024 : Shape := ⟨3, ![32, 30, 1024]⟩
abbrev S4x256x256 : Shape := ⟨3, ![4, 256, 256]⟩
abbrev S1024 : Shape := ⟨1, ![1024]⟩
abbrev S31x1024 : Shape := ⟨2, ![31, 1024]⟩
abbrev S32x16x1024 : Shape := ⟨3, ![32, 16, 1024]⟩
abbrev S_ : Shape := ⟨0, ![]⟩
abbrev S32x31x1024 : Shape := ⟨3, ![32, 31, 1024]⟩
abbrev S32x46x1024 : Shape := ⟨3, ![32, 46, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x3072, .f32⟩
  | .hbm, ⟨1, _⟩ => ⟨S32x16x3072, .f32⟩
  | .hbm, ⟨2, _⟩ => ⟨S32x15x1024, .f32⟩
  | .hbm, ⟨3, _⟩ => ⟨S32x30x1024, .f32⟩
  | .hbm, ⟨4, _⟩ => ⟨S4x256x256, .f32⟩
  | .hbm, ⟨5, _⟩ => ⟨S1024, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S32x16x1024, .f32⟩
  | .hbm, ⟨11, _⟩ => ⟨S32x16x1024, .f32⟩
  | .hbm, ⟨12, _⟩ => ⟨S32x16x1024, .f32⟩
  | .hbm, ⟨13, _⟩ => ⟨S32x16x1024, .f32⟩
  | .hbm, ⟨14, _⟩ => ⟨S_, .f32⟩
  | .hbm, ⟨15, _⟩ => ⟨S32x16x1024, .f32⟩
  | .hbm, ⟨16, _⟩ => ⟨S32x16x1024, .f32⟩
  | .hbm, ⟨17, _⟩ => ⟨S_, .f32⟩
  | .hbm, ⟨18, _⟩ => ⟨S32x16x1024, .f32⟩
  | .hbm, ⟨19, _⟩ => ⟨S32x16x1024, .f32⟩
  | .hbm, ⟨20, _⟩ => ⟨S32x16x1024, .f32⟩
  | .hbm, ⟨21, _⟩ => ⟨S32x16x1024, .f32⟩
  | .hbm, ⟨22, _⟩ => ⟨S32x31x1024, .f32⟩
  | .hbm, ⟨23, _⟩ => ⟨S32x46x1024, .f32⟩
  | .hbm, ⟨24, _⟩ => ⟨S32x15x1024, .f32⟩
  | .hbm, ⟨25, _⟩ => ⟨S32x30x1024, .f32⟩
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Kernel7.lean ====
abbrev S8x4096x3072 : Shape := ⟨3, ![8, 4096, 3072]⟩
abbrev S32x16x3072 : Shape := ⟨3, ![32, 16, 3072]⟩
abbrev S4x256x256 : Shape := ⟨3, ![4, 256, 256]⟩
abbrev S1024 : Shape := ⟨1, ![1024]⟩
abbrev S31x1024 : Shape := ⟨2, ![31, 1024]⟩
abbrev S32768x3072 : Shape := ⟨2, ![32768, 3072]⟩
abbrev S512x3072 : Shape := ⟨2, ![512, 3072]⟩
abbrev S33280x3072 : Shape := ⟨2, ![33280, 3072]⟩
abbrev S_ : Shape := ⟨0, ![]⟩
abbrev S8x15x1024 : Shape := ⟨3, ![8, 15, 1024]⟩
abbrev S8x30x1024 : Shape := ⟨3, ![8, 30, 1024]⟩
abbrev S8x16x1024 : Shape := ⟨3, ![8, 16, 1024]⟩
abbrev S8x32x1024 : Shape := ⟨3, ![8, 32, 1024]⟩
abbrev S1x1024 : Shape := ⟨2, ![1, 1024]⟩
abbrev S32768x2048 : Shape := ⟨2, ![32768, 2048]⟩
abbrev S256x3072 : Shape := ⟨2, ![256, 3072]⟩
abbrev S1x16x1024 : Shape := ⟨3, ![1, 16, 1024]⟩
abbrev S1x32x1024 : Shape := ⟨3, ![1, 32, 1024]⟩
abbrev S256x2048 : Shape := ⟨2, ![256, 2048]⟩
abbrev S1x15x1024 : Shape := ⟨3, ![1, 15, 1024]⟩
abbrev S1x30x1024 : Shape := ⟨3, ![1, 30, 1024]⟩
abbrev S272x1024 : Shape := ⟨2, ![272, 1024]⟩
abbrev S288x1024 : Shape := ⟨2, ![288, 1024]⟩
abbrev S256x1024 : Shape := ⟨2, ![256, 1024]⟩
abbrev S7x280x1024 : Shape := ⟨3, ![7, 280, 1024]⟩
abbrev S16x1024 : Shape := ⟨2, ![16, 1024]⟩
abbrev S32x1024 : Shape := ⟨2, ![32, 1024]⟩
abbrev S64x1 : Shape := ⟨2, ![64, 1]⟩
abbrev S64x256 : Shape := ⟨2, ![64, 256]⟩
abbrev S1x256x256 : Shape := ⟨3, ![1, 256, 256]⟩
abbrev S256x256 : Shape := ⟨2, ![256, 256]⟩
abbrev S1x256 : Shape := ⟨2, ![1, 256]⟩
abbrev S280x1024 : Shape := ⟨2, ![280, 1024]⟩
abbrev S1x280x1024 : Shape := ⟨3, ![1, 280, 1024]⟩
abbrev S1x64x256 : Shape := ⟨3, ![1, 64, 256]⟩
abbrev S64x1024 : Shape := ⟨2, ![64, 1024]⟩
abbrev S64 : Shape := ⟨1, ![64]⟩
abbrev S15x1024 : Shape := ⟨2, ![15, 1024]⟩
abbrev S30x1024 : Shape := ⟨2, ![30, 1024]⟩

abbrev nBuf : Space → Nat
  | .hbm => 30
  | .vmem => 22
  | .smem => 0
  | _ => 0

abbrev bufTy : (tb : Table) → Fin (tcTables nBuf tb) → BufTy
  | .hbm, ⟨0, _⟩ => ⟨S8x4096x3072, .f32⟩
  | .hbm, ⟨1, _⟩ => ⟨S32x16x3072, .f32⟩
  | .hbm, ⟨2, _⟩ => ⟨S4x256x256, .f32⟩
  | .hbm, ⟨3, _⟩ => ⟨S1024, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S32768x3072, .f32⟩
  | .hbm, ⟨9, _⟩ => ⟨S512x3072, .f32⟩
  | .hbm, ⟨10, _⟩ => ⟨S33280x3072, .f32⟩
  | .hbm, ⟨11, _⟩ => ⟨S33280x3072, .bf16⟩
  | .hbm, ⟨12, _⟩ => ⟨S_, .f32⟩
  | .hbm, ⟨13, _⟩ => ⟨S8x15x1024, .f32⟩
  | .hbm, ⟨14, _⟩ => ⟨S_, .f32⟩
  | .hbm, ⟨15, _⟩ => ⟨S8x30x1024, .f32⟩
  | .hbm, ⟨16, _⟩ => ⟨S_, .i32⟩
  | .hbm, ⟨17, _⟩ => ⟨S_, .f32⟩
  | .hbm, ⟨18, _⟩ => ⟨S8x16x1024, .f32⟩
  | .hbm, ⟨19, _⟩ => ⟨S_, .i32⟩
  | .hbm, ⟨20, _⟩ => ⟨S_, .f32⟩
  | .hbm, ⟨21, _⟩ => ⟨S8x32x1024, .f32⟩
  | .hbm, ⟨22, _⟩ => ⟨S4x256x256, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S32768x2048, .bf16⟩
  | .hbm, ⟨28, _⟩ => ⟨S8x15x1024, .f32⟩
  | .hbm, ⟨29, _⟩ => ⟨S8x30x1024, .f32⟩
  | .local _ .vmem, ⟨0, _⟩ => ⟨S256x3072, .bf16⟩
  | .local _ .vmem, ⟨1, _⟩ => ⟨S256x3072, .bf16⟩
  | .local _ .vmem, ⟨2, _⟩ => ⟨S1x16x1024, .f32⟩
  | .local _ .vmem, ⟨3, _⟩ => ⟨S1x16x1024, .f32⟩
  | .local _ .vmem, ⟨4, _⟩ => ⟨S1x32x1024, .f32⟩
  | .local _ .vmem, ⟨5, _⟩ => ⟨S1x32x1024, .f32⟩
  | .local _ .vmem, ⟨6, _⟩ => ⟨S4x256x256, .bf16⟩
  | .local _ .vmem, ⟨7, _⟩ => ⟨S1x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x2048, .bf16⟩
  | .local _ .vmem, ⟨13, _⟩ => ⟨S256x2048, .bf16⟩
  | .local _ .vmem, ⟨14, _⟩ => ⟨S1x15x1024, .f32⟩
  | .local _ .vmem, ⟨15, _⟩ => ⟨S1x15x1024, .f32⟩
  | .local _ .vmem, ⟨16, _⟩ => ⟨S1x30x1024, .f32⟩
  | .local _ .vmem, ⟨17, _⟩ => ⟨S1x30x1024, .f32⟩
  | .local _ .vmem, ⟨18, _⟩ => ⟨S272x1024, .f32⟩
  | .local _ .vmem, ⟨19, _⟩ => ⟨S288x1024, .f32⟩
  | .local _ .vmem, ⟨20, _⟩ => ⟨S256x1024, .f32⟩
  | .local _ .vmem, ⟨21, _⟩ => ⟨S7x280x1024, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_c_1 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v3679 : BitVec 1 := Scalar.cmpi .eq arg1 c15_i32
  let v3680 : BitVec 32 := Scalar.extui v3679
  let c0_i32_2872 : BitVec 32 := 0#32
  let v3681 : BitVec 1 := Scalar.cmpi .ne v3680 c0_i32_2872
  v3681

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x15x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x30x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference7Ideal.lean ====
abbrev S8x4096x3072 : Shape := ⟨3, ![8, 4096, 3072]⟩
abbrev S32x16x3072 : Shape := ⟨3, ![32, 16, 3072]⟩
abbrev S4x256x256 : Shape := ⟨3, ![4, 256, 256]⟩
abbrev S1024 : Shape := ⟨1, ![1024]⟩
abbrev S31x1024 : Shape := ⟨2, ![31, 1024]⟩
abbrev S_ : Shape := ⟨0, ![]⟩
abbrev S8x15x1024 : Shape := ⟨3, ![8, 15, 1024]⟩
abbrev S8x30x1024 : Shape := ⟨3, ![8, 30, 1024]⟩
abbrev S8x4096x1024 : Shape := ⟨3, ![8, 4096, 1024]⟩
abbrev S8x4111x1024 : Shape := ⟨3, ![8, 4111, 1024]⟩
abbrev S8x4126x1024 : Shape := ⟨3, ![8, 4126, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x3072, .f32⟩
  | .hbm, ⟨1, _⟩ => ⟨S32x16x3072, .f32⟩
  | .hbm, ⟨2, _⟩ => ⟨S4x256x256, .f32⟩
  | .hbm, ⟨3, _⟩ => ⟨S1024, .f32⟩
  | .hbm, ⟨4, _⟩ => ⟨S31x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S8x15x1024, .f32⟩
  | .hbm, ⟨10, _⟩ => ⟨S_, .f32⟩
  | .hbm, ⟨11, _⟩ => ⟨S8x30x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4111x1024, .f32⟩
  | .hbm, ⟨25, _⟩ => ⟨S8x4126x1024, .f32⟩
  | .hbm, ⟨26, _⟩ => ⟨S8x15x1024, .f32⟩
  | .hbm, ⟨27, _⟩ => ⟨S8x30x1024, .f32⟩
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.KLoop.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one block of queries needs: the buffers it reads at their contents, the result's at any. -/
abbrev Trip (c : Dev nD) (arg2 arg3 : Memref sig .tc .vmem S4096x256 .bf16) (arg6 : Memref sig .tc .vmem S4096x256 .bf16) (arg7 : Memref sig .tc .vmem S2x128x4096 .bf16) (arg8 : Memref sig .tc .vmem S2x32x128 .f32) (arg9 : Memref sig .tc .vmem S2x4096x128 .f32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg6.view.loc (c : Thread nD τ) ↦[arg6.view.set]{fullShare} f)))

/-- One block of queries, whatever its number, stores into the result's buffer only. -/
theorem trip (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) (E : Set ℕ) :
      Trip (F := F) c arg2 arg3 arg6 arg7 arg8 arg9 X2 X3 X7 X8 X9
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k PUnit.unit)
          (fun _ => Trip (F := F) c arg2 arg3 arg6 arg7 arg8 arg9 X2 X3 X7 X8 X9) := by
  have hk : k.val < 8 := Nat.lt_of_lt_of_le k.isLt k0_t1_abs.2.1
  unfold k0_t1_body
  iintro ⟨H2, H3, H7, H8, H9, ⟨%f6, H6⟩⟩
  sl_exec_parts
  sl_step
  isplitl [H2]; · iexact H2
  isplitl [H3]; · iexact H3
  isplitl [H7]; · iexact H7
  isplitl [H8]; · iexact H8
  isplitl [H9]; · iexact H9
  iexists _; iexact H6

set_option warn.classDefReducibility false in
/-- The loop over the blocks of queries. -/
@[sl_loop] def loopInv (𝒱 : Variants) (c : Dev nD) (bd : Option 𝒱.V) (E : Set ℕ) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 where
  inv _ _ := Trip (F := F) c arg2 arg3 arg6 arg7 arg8 arg9 X2 X3 X7 X8 X9
  step k acc := trip (F := F) 𝒱 c bd i arg2 harg2 arg3 harg3 arg4 harg4 arg5 harg5 arg6 harg6 arg7 harg7 arg8 harg8 arg9 harg9 X2 X3 X7 X8 X9 k E

end Cert.Kernel.Hand

end
-- ==== Proof.KRun.lean ====
module

public import proofs.«01_k».proof.Proof.KLoop

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body on any whole buffers: the inputs' are left as they were, the result's gets some contents. -/
theorem kernelRun (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (x0 x1 x2 : Vec F S4096x256 .bf16) (x3 : Vec F S1x2x32x128 .f32) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_flash_prompt i arg2 harg2 arg3 harg3 arg4 harg4 arg5 harg5 arg6 harg6 arg7 harg7 arg8 harg8 arg9 harg9) K := by
  intro E K
  · skip
    simp only [cc0_flash_prompt_eq_skeleton]; unfold cc0_flash_prompt_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0
    obtain rfl := harg3.eq_unread hf1
    obtain rfl := harg4.eq_unread hf2
    obtain rfl := harg5.eq_unread hf3
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KFrame.lean ====
module

public import proofs.«01_k».proof.Proof.KRun

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers of a point -/

abbrev ms0 (t : Fin cfg0.N) : Memref sig .tc .vmem S4096x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x256 .bf16 := win0_4.stage (cfg0.slots t 4)
abbrev hs4 (t : Fin cfg0.N) : (ms4 t).IsWhole := hstage0_4 ((cfg0.slots t 4).cast nbuf0_4)
abbrev sc0 : Memref sig .tc .vmem S2x128x4096 .bf16 := Memref.whole cc0_scratch0
abbrev sc1 : Memref sig .tc .vmem S2x32x128 .f32 := Memref.whole cc0_scratch1
abbrev sc2 : Memref sig .tc .vmem S2x4096x128 .f32 := Memref.whole cc0_scratch2

/-- What the body is handed besides its windows: the three scratch buffers and the generator's register. -/
theorem phi_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The result's window, of which the claim says nothing. -/
def forgets : Fin 5 → Bool := fun w => w.val == 4

variable (m : (ℓ : Loc nD τ sig) → Buf (Elt F) ℓ) (ρ : Dev nD → PrngReg)

/-! ## The pipeline's proof data -/

/-- The arrays as the launch finds them; each input's buffer at its block after a point; nothing of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, phi_eq]
  iintro ⟨⟨⟨HS0, HS1, HS2⟩, Hg⟩, Ho, ⟨%d0, H0⟩, ⟨%d1, H1⟩, ⟨%d2, H2⟩, ⟨%d3, H3⟩, ⟨%d4, H4⟩⟩
  iapply (kernelRun c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs_row]
  exact triple_restated (sound_body m c t) rfl .rfl fun _ => .rfl

/-! ## The run and the frame -/

set_option backward.isDefEq.respectTransparency.types false in
theorem run_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, in a state that the proof data describe. -/
theorem run_main : θ_run defs (onTc (τ := τ) (main (F := F))) (s₀ m ρ) (Pipeline.RDat.FramePost (cfgs 0) (fun c => (dats m 0 c).toRForget forgets) (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.Kernel.Hand

end
-- ==== Proof.ILoop.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one block of queries needs: the buffers it reads at their contents, the result's at any. -/
abbrev Trip (c : Dev nD) (arg2 arg3 : Memref sig .tc .vmem S4096x256 .bf16) (arg6 : Memref sig .tc .vmem S4096x256 .bf16) (arg7 : Memref sig .tc .vmem S2x128x4096 .bf16) (arg8 : Memref sig .tc .vmem S2x32x128 .f32) (arg9 : Memref sig .tc .vmem S2x4096x128 .f32)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (f6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} f6))

/-- One block of queries, whatever its number: the two pieces of the result it stores are found by the run. -/
@[irreducible] def trip (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) :
    { L : List (View.Piece (Elt F) S4096x256 .bf16) // ∀ (E : Set ℕ) (f6 : BufTy.Contents (Elt F) arg6.view.ty),
      Trip (F := F) c arg2 arg3 arg6 arg7 arg8 arg9 X2 X3 X7 X8 X9 f6
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k PUnit.unit)
          (fun _ => Trip (F := F) c arg2 arg3 arg6 arg7 arg8 arg9 X2 X3 X7 X8 X9 (arg6.view.writes (Elt F) f6 L)) } := by
  have hk : k.val < 8 := Nat.lt_of_lt_of_le k.isLt k0_t1_abs.2.1
  refine ⟨?_, fun E f6 => ?run⟩
  case run =>
    unfold k0_t1_body
    iintro ⟨H2, H3, H7, H8, H9, H6⟩
    sl_exec_parts
    sl_step
    sl_close

/-- The pieces of block `k`. -/
abbrev tripL (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) : List (View.Piece (Elt F) S4096x256 .bf16) :=
  (trip (F := F) 𝒱 c bd i arg2 harg2 arg3 harg3 arg4 harg4 arg5 harg5 arg6 harg6 arg7 harg7 arg8 harg8 arg9 harg9 X2 X3 X7 X8 X9 k).1

/-- The pieces of the blocks before `k`, the last first. -/
@[irreducible] def pbStep (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : ℕ) (prev : List (View.Piece (Elt F) S4096x256 .bf16)) : List (View.Piece (Elt F) S4096x256 .bf16) :=
  if h : k < k0_t1_loop.trips then tripL (F := F) 𝒱 c bd i arg2 harg2 arg3 harg3 arg4 harg4 arg5 harg5 arg6 harg6 arg7 harg7 arg8 harg8 arg9 harg9 X2 X3 X7 X8 X9 ⟨k, h⟩ ++ prev else prev

@[inherit_doc pbStep]
def pb (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) : ℕ → List (View.Piece (Elt F) S4096x256 .bf16)
  | 0 => []
  | k + 1 => pbStep 𝒱 c bd i arg2 harg2 arg3 harg3 arg4 harg4 arg5 harg5 arg6 harg6 arg7 harg7 arg8 harg8 arg9 harg9 X2 X3 X7 X8 X9 k (pb 𝒱 c bd i arg2 harg2 arg3 harg3 arg4 harg4 arg5 harg5 arg6 harg6 arg7 harg7 arg8 harg8 arg9 harg9 X2 X3 X7 X8 X9 k)

theorem pb_succ (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) :
    pb (F := F) 𝒱 c bd i arg2 harg2 arg3 harg3 arg4 harg4 arg5 harg5 arg6 harg6 arg7 harg7 arg8 harg8 arg9 harg9 X2 X3 X7 X8 X9 (k.val + 1)
      = tripL (F := F) 𝒱 c bd i arg2 harg2 arg3 harg3 arg4 harg4 arg5 harg5 arg6 harg6 arg7 harg7 arg8 harg8 arg9 harg9 X2 X3 X7 X8 X9 k ++ pb (F := F) 𝒱 c bd i arg2 harg2 arg3 harg3 arg4 harg4 arg5 harg5 arg6 harg6 arg7 harg7 arg8 harg8 arg9 harg9 X2 X3 X7 X8 X9 k.val := by
  rw [pb.eq_2]; unfold pbStep; exact dif_pos k.isLt

/-- Before block `k` the result's buffer holds what the blocks before it stored. -/
abbrev inv (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (G6 : BufTy.Contents (Elt F) arg6.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
    ∗ (∃ f, (arg6.view.loc (c : Thread nD τ) ↦[arg6.view.set]{fullShare} f) ∗ ⌜f = arg6.view.writes (Elt F) G6 (pb (F := F) 𝒱 c bd i arg2 harg2 arg3 harg3 arg4 harg4 arg5 harg5 arg6 harg6 arg7 harg7 arg8 harg8 arg9 harg9 X2 X3 X7 X8 X9 k)⌝))

set_option warn.classDefReducibility false in
/-- The loop over the blocks of queries. -/
@[sl_loop] def loopInv (𝒱 : Variants) (c : Dev nD) (bd : Option 𝒱.V) (E : Set ℕ) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (G6 : BufTy.Contents (Elt F) arg6.view.ty) :
    LoopInvTy_k0_t1 (F := F) Unit ℕ (UR sig nD τ) ℕ 𝒱 c bd E i arg2 harg2 arg3 harg3 arg4 harg4 arg5 harg5 arg6 harg6 arg7 harg7 arg8 harg8 arg9 harg9 where
  inv := inv (F := F) 𝒱 c bd i arg2 harg2 arg3 harg3 arg4 harg4 arg5 harg5 arg6 harg6 arg7 harg7 arg8 harg8 arg9 harg9 X2 X3 X7 X8 X9 G6
  step k acc := by
    iintro ⟨H2, H3, H7, H8, H9, ⟨%f6, H6, %h6⟩⟩
    iapply (wp_wand_r Idealize.ShloMosaic.frame (wpE (defs₀ (F := F)) 𝒱 (c : Thread nD τ) bd) E)
    isplitl [H2 H3 H7 H8 H9 H6]
    · iapply ((trip (F := F) 𝒱 c bd i arg2 harg2 arg3 harg3 arg4 harg4 arg5 harg5 arg6 harg6 arg7 harg7 arg8 harg8 arg9 harg9 X2 X3 X7 X8 X9 k).2 E f6)
      isplitl [H2]; · iexact H2
      isplitl [H3]; · iexact H3
      isplitl [H7]; · iexact H7
      isplitl [H8]; · iexact H8
      isplitl [H9]; · iexact H9
      iexact H6
    · iintro %_ ⟨H2, H3, H7, H8, H9, H6⟩
      isplitl [H2]; · iexact H2
      isplitl [H3]; · iexact H3
      isplitl [H7]; · iexact H7
      isplitl [H8]; · iexact H8
      isplitl [H9]; · iexact H9
      rw [pb_succ]
      iexists _; isplitl [H6]; · iexact H6
      ipureintro; rw [h6, ← View.writes_append]

end Cert.KernelIdeal.Hand

end
-- ==== Proof.IRun.lean ====
module

public import proofs.«01_k».proof.Proof.ILoop

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body on any whole buffers: the inputs' are left as they were, the result's gets the pieces the run finds. -/
def kernelRun (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (x0 x1 x2 : Vec F S4096x256 .bf16) (x3 : Vec F S1x2x32x128 .f32) :
    { L1 : List (View.Piece (Elt F) S4096x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L1) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_flash_prompt i arg2 harg2 arg3 harg3 arg4 harg4 arg5 harg5 arg6 harg6 arg7 harg7 arg8 harg8 arg9 harg9) K } := by
  refine ⟨?_, fun E K => ?run⟩
  case run =>
    simp only [cc0_flash_prompt_eq_skeleton]; unfold cc0_flash_prompt_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg2.eq_unread hf0
    obtain rfl := harg3.eq_unread hf1
    obtain rfl := harg4.eq_unread hf2
    obtain rfl := harg5.eq_unread hf3
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Hand

end
-- ==== Proof.IOffs.lean ====
module

public import proofs.«01_k».proof.Proof.ILoop

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The blocks of queries are eight. -/
theorem trips1 : k0_t1_loop.trips = 8 := by decide +kernel

/-- Block `k` of queries meets the `k` blocks of keys before it. -/
theorem trips2 : ∀ k : Fin k0_t1_loop.trips, (k0_t2_loop k).trips = k.val := by decide +kernel

/-- Nothing is left over after them. -/
theorem trips3 : ∀ k : Fin k0_t1_loop.trips, (k0_t3_loop k).trips = 0 := by decide +kernel

theorem off1_eq : ∀ k : Fin k0_t1_loop.trips, k0_off1 k = ![512 * k.val, 0] := by decide +kernel
theorem off2_eq : ∀ k : Fin k0_t1_loop.trips, k0_off2 k = ![512 * k.val, 128] := by decide +kernel
theorem off3_eq : ∀ (k : Fin k0_t1_loop.trips) (r : Fin 4), k0_off3 k (BitVec.ofNat 32 r.val) = ![0, 4 * k.val + r.val, 0] := by decide +kernel
theorem off4_eq : ∀ (k : Fin k0_t1_loop.trips) (r : Fin 4), k0_off4 k (BitVec.ofNat 32 r.val) = ![1, 4 * k.val + r.val, 0] := by decide +kernel
theorem off5_eq : ∀ (k : Fin k0_t1_loop.trips) (j : Fin (k0_t2_loop k).trips), k0_off5 k j = ![512 * j.val, 0] := by decide +kernel
theorem off6_eq : ∀ (k : Fin k0_t1_loop.trips) (j : Fin (k0_t2_loop k).trips), k0_off6 k j = ![0, 512 * j.val, 0] := by decide +kernel
theorem off7_eq : ∀ (k : Fin k0_t1_loop.trips) (j : Fin (k0_t2_loop k).trips), k0_off7 k j = ![0, 0, 512 * j.val] := by decide +kernel
theorem off8_eq : ∀ (k : Fin k0_t1_loop.trips) (j : Fin (k0_t2_loop k).trips), k0_off8 k j = ![512 * j.val, 128] := by decide +kernel
theorem off9_eq : ∀ (k : Fin k0_t1_loop.trips) (j : Fin (k0_t2_loop k).trips), k0_off9 k j = ![1, 512 * j.val, 0] := by decide +kernel
theorem off10_eq : ∀ (k : Fin k0_t1_loop.trips) (j : Fin (k0_t2_loop k).trips), k0_off10 k j = ![1, 0, 512 * j.val] := by decide +kernel
theorem off17_eq : ∀ k : Fin k0_t1_loop.trips, k0_off17 k = ![0, 512 * k.val, 0] := by decide +kernel
theorem off18_eq : ∀ k : Fin k0_t1_loop.trips, k0_off18 k = ![0, 0, 512 * k.val] := by decide +kernel
theorem off19_eq : ∀ k : Fin k0_t1_loop.trips, k0_off19 k = ![1, 512 * k.val, 0] := by decide +kernel
theorem off20_eq : ∀ k : Fin k0_t1_loop.trips, k0_off20 k = ![1, 0, 512 * k.val] := by decide +kernel

end Cert.KernelIdeal.Hand

end
-- ==== Proof.IFrame.lean ====
module

public import proofs.«01_k».proof.Proof.IRun
public import proofs.«01_k».proof.Proof.IOffs

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The buffers of a point -/

abbrev ms0 (t : Fin cfg0.N) : Memref sig .tc .vmem S4096x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2x32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x256 .bf16 := win0_4.stage (cfg0.slots t 4)
abbrev hs4 (t : Fin cfg0.N) : (ms4 t).IsWhole := hstage0_4 ((cfg0.slots t 4).cast nbuf0_4)
abbrev sc0 : Memref sig .tc .vmem S2x128x4096 .bf16 := Memref.whole cc0_scratch0
abbrev sc1 : Memref sig .tc .vmem S2x32x128 .f32 := Memref.whole cc0_scratch1
abbrev sc2 : Memref sig .tc .vmem S2x4096x128 .f32 := Memref.whole cc0_scratch2

/-- What the body is handed besides its windows: the three scratch buffers and the generator's register. -/
theorem phi_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem trip_two (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) : ∃ u w, tripL (F := F) 𝒱 c bd i arg2 harg2 arg3 harg3 arg4 harg4 arg5 harg5 arg6 harg6 arg7 harg7 arg8 harg8 arg9 harg9 X2 X3 X7 X8 X9 k
      = [⟨Rect.unit (s := S4096x256) (k0_off2 k) S512x128.size (k0_off2_inb k), u⟩, ⟨Rect.unit (s := S4096x256) (k0_off1 k) S512x128.size (k0_off1_inb k), w⟩] := by
  unfold tripL trip
  exact ⟨_, _, rfl⟩

theorem pb_mem (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (k : Fin k0_t1_loop.trips) (p : View.Piece (Elt F) S4096x256 .bf16) (hp : p ∈ tripL (F := F) 𝒱 c bd i arg2 harg2 arg3 harg3 arg4 harg4 arg5 harg5 arg6 harg6 arg7 harg7 arg8 harg8 arg9 harg9 X2 X3 X7 X8 X9 k) :
    ∀ n, k.val < n → n ≤ k0_t1_loop.trips → p ∈ pb (F := F) 𝒱 c bd i arg2 harg2 arg3 harg3 arg4 harg4 arg5 harg5 arg6 harg6 arg7 harg7 arg8 harg8 arg9 harg9 X2 X3 X7 X8 X9 n
  | 0, h, _ => absurd h (Nat.not_lt_zero _)
  | n + 1, h, hn => by
    rw [pb_succ 𝒱 c bd i arg2 harg2 arg3 harg3 arg4 harg4 arg5 harg5 arg6 harg6 arg7 harg7 arg8 harg8 arg9 harg9 X2 X3 X7 X8 X9 ⟨n, hn⟩]
    rcases Nat.lt_or_ge k.val n with h' | h'
    · exact List.mem_append_right _ (pb_mem 𝒱 c bd i arg2 harg2 arg3 harg3 arg4 harg4 arg5 harg5 arg6 harg6 arg7 harg7 arg8 harg8 arg9 harg9 X2 X3 X7 X8 X9 k p hp n h' (Nat.le_of_succ_le hn))
    · have : k = ⟨n, hn⟩ := Fin.ext (show k.val = n by omega)
      subst this
      exact List.mem_append_left _ hp

/-- The sixteen pieces, two to a block of queries, cover the result's block. -/
theorem pb_cover (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt F) arg2.view.ty) (X3 : BufTy.Contents (Elt F) arg3.view.ty) (X7 : BufTy.Contents (Elt F) arg7.view.ty) (X8 : BufTy.Contents (Elt F) arg8.view.ty) (X9 : BufTy.Contents (Elt F) arg9.view.ty) (y : S4096x256.Idx) : ∃ pc ∈ pb (F := F) 𝒱 c bd i arg2 harg2 arg3 harg3 arg4 harg4 arg5 harg5 arg6 harg6 arg7 harg7 arg8 harg8 arg9 harg9 X2 X3 X7 X8 X9 k0_t1_loop.trips, y ∈ pc.1.set := by
  have h0 : (y 0).val < 4096 := (y 0).isLt
  have h1 : (y 1).val < 256 := (y 1).isLt
  let k : Fin k0_t1_loop.trips := ⟨(y 0).val / 512, by rw [trips1]; omega⟩
  have hk : k.val = (y 0).val / 512 := rfl
  obtain ⟨u, w, e⟩ := trip_two (F := F) 𝒱 c bd i arg2 harg2 arg3 harg3 arg4 harg4 arg5 harg5 arg6 harg6 arg7 harg7 arg8 harg8 arg9 harg9 X2 X3 X7 X8 X9 k
  rcases Nat.lt_or_ge (y 1).val 128 with h | h
  · refine ⟨⟨Rect.unit (s := S4096x256) (k0_off1 k) S512x128.size (k0_off1_inb k), w⟩, pb_mem 𝒱 c bd i arg2 harg2 arg3 harg3 arg4 harg4 arg5 harg5 arg6 harg6 arg7 harg7 arg8 harg8 arg9 harg9 X2 X3 X7 X8 X9 k _ (by rw [e]; simp) _ k.isLt le_rfl, ?_⟩
    have key : ∀ a, k0_off1 k a ≤ (y a).val ∧ (y a).val < k0_off1 k a + S512x128.size a := ?_
    · exact (Rect.mem_set_unit (inb := k0_off1_inb k)).mpr key
    rw [off1_eq k]
    intro a
    match a with
    | ⟨0, _⟩ => exact ⟨show 512 * k.val ≤ (y 0).val by omega, show (y 0).val < 512 * k.val + 512 by omega⟩
    | ⟨1, _⟩ => exact ⟨show 0 ≤ (y 1).val by omega, show (y 1).val < 0 + 128 by omega⟩
  · refine ⟨⟨Rect.unit (s := S4096x256) (k0_off2 k) S512x128.size (k0_off2_inb k), u⟩, pb_mem 𝒱 c bd i arg2 harg2 arg3 harg3 arg4 harg4 arg5 harg5 arg6 harg6 arg7 harg7 arg8 harg8 arg9 harg9 X2 X3 X7 X8 X9 k _ (by rw [e]; simp) _ k.isLt le_rfl, ?_⟩
    have key : ∀ a, k0_off2 k a ≤ (y a).val ∧ (y a).val < k0_off2 k a + S512x128.size a := ?_
    · exact (Rect.mem_set_unit (inb := k0_off2_inb k)).mpr key
    rw [off2_eq k]
    intro a
    match a with
    | ⟨0, _⟩ => exact ⟨show 512 * k.val ≤ (y 0).val by omega, show (y 0).val < 512 * k.val + 512 by omega⟩
    | ⟨1, _⟩ => exact ⟨show 128 ≤ (y 1).val by omega, show (y 1).val < 128 + 128 by omega⟩

/-- The pieces a point's body stores. -/
def outL (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole) (x0 x1 x2 : Vec F S4096x256 .bf16) (x3 : Vec F S1x2x32x128 .f32) : List (View.Piece (Elt F) S4096x256 .bf16) :=
  (kernelRun (F := F) c i arg2 harg2 arg3 harg3 arg4 harg4 arg5 harg5 arg6 harg6 arg7 harg7 arg8 harg8 arg9 harg9 x0 x1 x2 x3).1

theorem outL_cover (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole) (x0 x1 x2 : Vec F S4096x256 .bf16) (x3 : Vec F S1x2x32x128 .f32) (y : S4096x256.Idx) :
    ∃ pc ∈ outL (F := F) c i arg2 harg2 arg3 harg3 arg4 harg4 arg5 harg5 arg6 harg6 arg7 harg7 arg8 harg8 arg9 harg9 x0 x1 x2 x3, y ∈ pc.1.set := by
  unfold outL kernelRun
  exact pb_cover Variants.none c none i arg2 harg2 arg3 harg3 arg4 harg4 arg5 harg5 arg6 harg6 arg7 harg7 arg8 harg8 arg9 harg9 _ _ _ _ _ y

/-- The result's staging buffer, as the read of the pieces is spelt. -/
abbrev VO : View sig .tc .vmem S4096x256 .bf16 := (Memref.whole cc0_stg4_0 : Memref sig .tc .vmem S4096x256 .bf16).view

variable (m : (ℓ : Loc nD τ sig) → Buf (Elt F) ℓ) (ρ : Dev nD → PrngReg)

/-- What the result's block holds after point `t`. -/
def outsAt (c : Dev nD) (t : Fin cfg0.N) : Vec F S4096x256 .bf16 :=
  VO.read (Elt F) (VO.writes (Elt F) VO.junk (outL (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) (iblk m c 0 t) (iblk m c 1 t) (iblk m c 2 t) (iblk m c 3 t)))

/-! ## The pipeline's proof data -/

/-- The arrays as the launch finds them; each input's buffer at its block after a point, the result's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, phi_eq]
  unfold outsAt
  iintro ⟨⟨⟨HS0, HS1, HS2⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%e4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (outL_cover c _ _ _ _ _ _ _ _ _ _ _ _ _ _ _ _ _ _ _ _ _)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, in a state that the proof data describe. -/
theorem run_main : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiescent m ρ))

end Cert.KernelIdeal.Hand

end
-- ==== Proof.Consts.lean ====
module

public import Idealize.ShloMosaic.PureOps.Ideal

@[expose] public section

/-! Float words of the two programs, as the extended reals they denote. -/

noncomputable section

namespace Cert.Consts

open Idealize.ShloMosaic

theorem f32_zero : Ideal.ofBits .f32 0x00000000#32 = 0 := by simp [Ideal.ofBits, Ideal.ieee]

theorem f32_negInf : Ideal.ofBits .f32 0xFF800000#32 = ⊥ := by simp [Ideal.ofBits, Ideal.ieee]

theorem f32_128 : Ideal.ofBits .f32 0x43000000#32 = ((128 : ℝ) : EReal) := by
  simp [Ideal.ofBits, Ideal.ieee, -EReal.coe_mul]; norm_num

theorem f32_two : Ideal.ofBits .f32 0x40000000#32 = ((2 : ℝ) : EReal) := by
  simp [Ideal.ofBits, Ideal.ieee, -EReal.coe_mul]; norm_num

end Cert.Consts

end
-- ==== Proof.IPays.lean ====
module

public import proofs.«01_k».proof.Proof.IOffs
public import proofs.«01_k».proof.Proof.Consts
public import Idealize.ShloMosaic.Lib.Pointwise

@[expose] public section

set_option maxRecDepth 16384
set_option maxHeartbeats 4000000

/-! The flash kernel's vector expressions, read at an index over the extended reals. -/

noncomputable section

namespace Cert.KernelIdeal.Hand

open Cert.KernelIdeal.Gen
open Idealize.ShloMosaic Idealize.ShloMosaic.TcCoe Idealize.ShloMosaic.Tactic

theorem mask_eq : Named.named (F := Ideal) κ "mask" (φ := .f32) 0xF149F2CA#32 = (⊥ : EReal) :=
  IdealRules.named_const.ideal_named_scalar _ _ _ _ rfl

/-- The running maximum. -/
theorem pay33_apply (m : FVec Ideal S1x512 .f32) (S : FVec Ideal S512x512 .f32) (p : Fin 512) :
    k0_pay33 m S (ix2 0 p) = max (m (ix2 0 p) : EReal) (Finset.univ.fold max ⊥ fun j : Fin 512 => (S (ix2 j p) : EReal)) := by
  pointwise [k0_pay33, Consts.f32_negInf]

theorem pay34_apply (m : FVec Ideal S1x512 .f32) (S : FVec Ideal S512x512 .f32) (p : Fin 512) :
    k0_pay34 m S (ix2 0 p) = Ideal.exp2 ((m (ix2 0 p) : EReal) - k0_pay33 m S (ix2 0 p)) := by
  pointwise [k0_pay34]; rfl

theorem pay35_apply (m : FVec Ideal S1x512 .f32) (S : FVec Ideal S512x512 .f32) (j p : Fin 512) :
    k0_pay35 m S (ix2 j p) = Ideal.exp2 ((S (ix2 j p) : EReal) - k0_pay33 m S (ix2 0 p)) := by
  pointwise [k0_pay35]; rfl

theorem pay36_apply (m l : FVec Ideal S1x512 .f32) (S : FVec Ideal S512x512 .f32) (p : Fin 512) :
    k0_pay36 m l S (ix2 0 p) = (k0_pay34 m S (ix2 0 p) : EReal) * l (ix2 0 p) + ∑ j : Fin 512, (k0_pay35 m S (ix2 j p) : EReal) := by
  pointwise [k0_pay36, Consts.f32_zero]

theorem pay37_apply (m : FVec Ideal S1x512 .f32) (acc : FVec Ideal S128x512 .f32) (S : FVec Ideal S512x512 .f32)
    (V : Vec Ideal S1x128x512 .bf16) (d : Fin 128) (p : Fin 512) :
    k0_pay37 m acc S V (ix2 d p) = (k0_pay34 m S (ix2 0 p) : EReal) * acc (ix2 d p)
      + ∑ j : Fin 512, (V (ix3 0 d j) : EReal) * k0_pay35 m S (ix2 j p) := by
  pointwise [k0_pay37, Consts.f32_zero]

/-- A block of scores: the dot product, plus the query's accumulated gate less the key's. -/
theorem pay7_apply (q : FVec Ideal S512x128 .bf16) (f : FVec Ideal S1x512 .f32) (k : Vec Ideal S512x128 .bf16)
    (fk : Vec Ideal S1x512x128 .f32) (G : Fin 512 → EReal) (hG : ∀ j l, fk (ix3 0 j l) = G j) (j p : Fin 512) :
    k0_pay7 q f k fk (ix2 j p)
      = (∑ d : Fin 128, (k (ix2 j d) : EReal) * q (ix2 p d)) + ((f (ix2 0 p) : EReal) - G j) := by
  pointwise [k0_pay7, Consts.f32_zero, hG]
  split_ifs <;> rfl

theorem pay43_eq (M : IVec S512x512 1) (q : FVec Ideal S512x128 .bf16) (f : FVec Ideal S1x512 .f32) (k : Vec Ideal S512x128 .bf16)
    (fk : Vec Ideal S1x512x128 .f32) (j p : Fin 512) :
    k0_pay43 M q f k fk (ix2 j p) = if M (ix2 j p) = 1#1 then k0_pay7 q f k fk (ix2 j p) else (⊥ : EReal) := by
  rw [← mask_eq]; rfl

theorem pay4_apply (j p : Fin 512) : (k0_pay4 (ix2 j p) = 1#1) ↔ j.val ≤ p.val := by
  pointwise [k0_pay4]
  have ej : (BitVec.ofNat 32 j.val).toInt = (j.val : Int) := by
    rw [BitVec.toInt_ofNat', Int.bmod_eq_of_le] <;> omega
  have ep : (BitVec.ofNat 32 p.val).toInt = (p.val : Int) := by
    rw [BitVec.toInt_ofNat', Int.bmod_eq_of_le] <;> omega
  simp only [IntOp.cmpi, BitVec.sle, ej, ep]
  by_cases h : j.val ≤ p.val <;> simp [h]

theorem pay5_apply (l : FVec Ideal S1x512 .f32) (acc : FVec Ideal S128x512 .f32) (p : Fin 512) (d : Fin 128) :
    k0_pay5 l acc (ix2 p d) = Ideal.div (acc (ix2 d p)) (l (ix2 0 p)) := by
  pointwise [k0_pay5]

theorem pay23_apply (a b c d : Vec Ideal S1x1x128 .f32) (G : ℕ → EReal)
    (ha : ∀ l, a (ix3 0 0 l) = G l.val) (hb : ∀ l, b (ix3 0 0 l) = G (128 + l.val))
    (hc : ∀ l, c (ix3 0 0 l) = G (256 + l.val)) (hd : ∀ l, d (ix3 0 0 l) = G (384 + l.val)) (p : Fin 512) :
    k0_pay23 a b c d (ix2 0 p) = G p.val := by
  pointwise [k0_pay23, ha, hb, hc, hd]
  split_ifs with h1 h2 h3
  · rfl
  all_goals exact congrArg G (by omega)

end Cert.KernelIdeal.Hand

end
-- ==== Proof.Softmax.lean ====
module

public import Idealize.ShloMosaic.PureOps.Ideal

@[expose] public section

/-!
  The softmax accumulated block by block, over extended reals, with no program in sight.

  A column has scores `e j`, each `⊥` (masked) or real, and values `v j`. A running triple `(m, l, acc)` after `n`
  scores is either the empty one or holds, for some real `μ`, `m = μ`, `l = Σ 2^(e j - μ)`, `acc = Σ v j · 2^(e j - μ)`
  over `j < n` (`Inv`). A block with at least one real score keeps this (`Inv.step`), and the quotient `acc / l` is the
  softmax in base `e` of scores scaled by `log 2`, whatever real number is subtracted there (`Inv.div_eq`).
-/

noncomputable section

namespace Cert.OnlineSoftmax

open Idealize.ShloMosaic Finset

/-- The weight `2^(x - μ)` of a score that is `⊥` or real. -/
def wt (μ : ℝ) (x : EReal) : ℝ := if x = ⊥ then 0 else Real.rpow 2 (x.toReal - μ)

theorem wt_nonneg (μ : ℝ) (x : EReal) : 0 ≤ wt μ x := by
  unfold wt; split
  · exact le_rfl
  · exact Real.rpow_nonneg (by norm_num) _

theorem wt_pos (μ : ℝ) {x : EReal} (h : x ≠ ⊥) : 0 < wt μ x := by
  unfold wt; rw [if_neg h]; exact Real.rpow_pos_of_pos (by norm_num) _

theorem exp2_sub (μ : ℝ) {x : EReal} (h : x ≠ ⊤) : Ideal.exp2 (x - (μ : EReal)) = (wt μ x : EReal) := by
  induction x with
  | bot => simp [wt]
  | top => exact absurd rfl h
  | coe r => rw [← EReal.coe_sub, Ideal.exp2_coe]; simp [wt]

theorem wt_shift (μ μ' : ℝ) (x : EReal) : Real.rpow 2 (μ - μ') * wt μ x = wt μ' x := by
  unfold wt; split
  · simp
  · have := (Real.rpow_add (show (0 : ℝ) < 2 by norm_num) (μ - μ') (x.toReal - μ)).symm
    refine this.trans ?_
    congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem mul_sum_coe {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert b s hb ih =>
    rw [sum_insert hb, sum_insert hb,
      EReal.left_distrib_of_nonneg_of_ne_top (EReal.coe_nonneg.mpr ha) (EReal.coe_ne_top a), ih]

/-- The running triple after the first `n` scores. -/
def Inv (e v : ℕ → EReal) (n : ℕ) (m l acc : EReal) : Prop :=
  (n = 0 ∧ m = ⊥ ∧ l = 0 ∧ acc = 0) ∨
  ∃ μ : ℝ, m = (μ : EReal) ∧ l = ((∑ j ∈ range n, wt μ (e j) : ℝ) : EReal) ∧
    acc = ∑ j ∈ range n, v j * (wt μ (e j) : EReal)

theorem Inv.zero (e v : ℕ → EReal) : Inv e v 0 ⊥ 0 0 := .inl ⟨rfl, rfl, rfl, rfl⟩

/-- The largest of a block's scores and what came before is real. -/
theorem max_fold_real {B : ℕ} (m : EReal) (s : Fin B → EReal) (hm : m ≠ ⊤) (hs : ∀ j, s j ≠ ⊤) (hex : ∃ j, s j ≠ ⊥) :
    ∃ μ : ℝ, max m (univ.fold max ⊥ s) = (μ : EReal) := by
  have h1 : univ.fold max ⊥ s ≠ ⊤ := by
    exact ne_of_lt ((Finset.fold_max_lt _).mpr ⟨bot_lt_top, fun x _ => lt_top_iff_ne_top.mpr (hs x)⟩)
  have h2 : univ.fold max ⊥ s ≠ ⊥ := by
    obtain ⟨j, hj⟩ := hex
    have : s j ≤ univ.fold max ⊥ s := Finset.le_fold_max _ |>.mpr (.inr ⟨j, mem_univ _, le_rfl⟩)
    intro h; rw [h] at this; exact hj (le_bot_iff.mp this)
  have h3 : max m (univ.fold max ⊥ s) ≠ ⊤ := by
    intro h; rcases max_choice m (univ.fold max ⊥ s) with h' | h' <;> rw [h'] at h <;> contradiction
  have h4 : max m (univ.fold max ⊥ s) ≠ ⊥ := by
    intro h
    have h5 := le_max_right m (univ.fold max ⊥ s)
    rw [h] at h5
    exact h2 (le_bot_iff.mp h5)
  exact ⟨_, (EReal.coe_toReal h3 h4).symm⟩

/-- One block of the accumulation. -/
theorem Inv.step {e v : ℕ → EReal} {n B : ℕ} {m l acc : EReal} (h : Inv e v n m l acc) (s w : Fin B → EReal)
    (hs : ∀ j, s j = e (n + j.val)) (hw : ∀ j, w j = v (n + j.val)) (htop : ∀ j, s j ≠ ⊤) (hex : ∃ j, s j ≠ ⊥) :
    Inv e v (n + B) (max m (univ.fold max ⊥ s))
      (Ideal.exp2 (m - max m (univ.fold max ⊥ s)) * l + ∑ j, Ideal.exp2 (s j - max m (univ.fold max ⊥ s)))
      (Ideal.exp2 (m - max m (univ.fold max ⊥ s)) * acc
        + ∑ j, w j * Ideal.exp2 (s j - max m (univ.fold max ⊥ s))) := by
  have hm : m ≠ ⊤ := by
    rcases h with ⟨_, rfl, _⟩ | ⟨μ, rfl, _⟩
    · exact bot_ne_top
    · exact EReal.coe_ne_top μ
  obtain ⟨μ', hμ'⟩ := max_fold_real m s hm htop hex
  rw [hμ']
  have hl : ∑ j, Ideal.exp2 (s j - (μ' : EReal)) = ((∑ j ∈ range B, wt μ' (e (n + j)) : ℝ) : EReal) := by
    rw [sum_range, coe_sum]
    exact sum_congr rfl fun j _ => by rw [exp2_sub _ (htop j), hs j]
  have ha : ∑ j, w j * Ideal.exp2 (s j - (μ' : EReal))
      = ∑ j ∈ range B, v (n + j) * (wt μ' (e (n + j)) : EReal) := by
    rw [sum_range]
    exact sum_congr rfl fun j _ => by rw [exp2_sub _ (htop j), hs j, hw j]
  rw [hl, ha]
  refine .inr ⟨μ', rfl, ?_, ?_⟩
  · rcases h with ⟨rfl, rfl, rfl, rfl⟩ | ⟨μ, rfl, rfl, rfl⟩
    · simp
    · rw [← EReal.coe_sub, Ideal.exp2_coe, ← EReal.coe_mul, ← EReal.coe_add, mul_sum, sum_range_add]
      congr 2
      exact sum_congr rfl fun j _ => wt_shift _ _ _
  · rcases h with ⟨rfl, rfl, rfl, rfl⟩ | ⟨μ, rfl, rfl, rfl⟩
    · simp
    · rw [← EReal.coe_sub, Ideal.exp2_coe,
        mul_sum_coe _ (Real.rpow 2 (μ - μ')) (Real.rpow_nonneg (by norm_num) _), sum_range_add]
      congr 1
      refine sum_congr rfl fun j _ => ?_
      rw [mul_left_comm, ← EReal.coe_mul, wt_shift]

/-- `e^(σ - M)` in base 2, off another real number. -/
theorem exp_eq (σ M μ : ℝ) : Real.exp (σ - M)
    = Real.rpow 2 ((1 / Real.log 2) * σ - μ) * Real.rpow 2 (μ - (1 / Real.log 2) * M) := by
  have h2 : (0 : ℝ) < 2 := by norm_num
  have hl : Real.log 2 ≠ 0 := (Real.log_pos (by norm_num)).ne'
  have := (Real.rpow_add h2 ((1 / Real.log 2) * σ - μ) (μ - (1 / Real.log 2) * M)).symm
  refine Eq.trans ?_ this.symm
  rw [Real.rpow_def_of_pos h2]
  congr 1
  field_simp
  ring

/-- The quotient at the end is the softmax-weighted sum in base `e`: `S j` is the score, `e j` the same score in units
    of `log 2`, and scores from `n` on are masked. -/
theorem Inv.div_eq {e v : ℕ → EReal} {n N : ℕ} {m l acc : EReal} (h : Inv e v n m l acc) (hn : n ≤ N)
    (S : ℕ → EReal) (M : ℝ)
    (hS : ∀ j < n, (e j = ⊥ ∧ S j = ⊥) ∨ ∃ σ : ℝ, S j = (σ : EReal) ∧ e j = (((1 / Real.log 2) * σ : ℝ) : EReal))
    (hS' : ∀ j, n ≤ j → S j = ⊥) (hex : ∃ j < n, e j ≠ ⊥) :
    Ideal.div acc l = ∑ j ∈ range N, v j * Ideal.div (Ideal.exp (S j - (M : EReal)))
      (∑ j ∈ range N, Ideal.exp (S j - (M : EReal))) := by
  obtain ⟨j0, hj0, hne⟩ := hex
  rcases h with ⟨rfl, _⟩ | ⟨μ, rfl, rfl, rfl⟩
  · exact absurd hj0 (Nat.not_lt_zero _)
  set c : ℝ := Real.rpow 2 (μ - (1 / Real.log 2) * M) with hc
  have hcpos : 0 < c := Real.rpow_pos_of_pos (by norm_num) _
  have hexp : ∀ j < n, Ideal.exp (S j - (M : EReal)) = ((wt μ (e j) * c : ℝ) : EReal) := by
    intro j hj
    rcases hS j hj with ⟨h1, h2⟩ | ⟨σ, h1, h2⟩
    · rw [h1, h2]; simp [wt]
    · rw [h1, h2, ← EReal.coe_sub, Ideal.exp_coe, exp_eq σ M μ]
      unfold wt
      rw [if_neg (EReal.coe_ne_bot _), EReal.toReal_coe]
  have hexp' : ∀ j, n ≤ j → Ideal.exp (S j - (M : EReal)) = 0 := fun j hj => by rw [hS' j hj]; simp
  have hsplit : ∀ f : ℕ → EReal, (∀ j, n ≤ j → f j = 0) → ∑ j ∈ range N, f j = ∑ j ∈ range n, f j := fun f hf =>
    (sum_subset (range_subset_range.mpr hn) fun j _ hj => hf j (by simpa using hj)).symm
  set lam : ℝ := ∑ j ∈ range n, wt μ (e j) with hlam
  have hlpos : 0 < lam := sum_pos' (fun j _ => wt_nonneg _ _) ⟨j0, mem_range.mpr hj0, wt_pos _ hne⟩
  have hden : ∑ j ∈ range N, Ideal.exp (S j - (M : EReal)) = ((lam * c : ℝ) : EReal) := by
    rw [hsplit _ hexp', hlam, sum_mul, coe_sum]
    exact sum_congr rfl fun j hj => hexp j (mem_range.mp hj)
  have hlc : lam * c ≠ 0 := (mul_pos hlpos hcpos).ne'
  rw [hden, hsplit _ fun j hj => by rw [hexp' j hj, Ideal.div_coe hlc]; simp]
  rw [Ideal.div_coe hlpos.ne', mul_comm, mul_sum_coe _ _ (by positivity)]
  refine sum_congr rfl fun j hj => ?_
  rw [hexp j (mem_range.mp hj), Ideal.div_coe hlc, mul_left_comm, ← EReal.coe_mul, ← EReal.coe_mul]
  congr 2
  field_simp

end Cert.OnlineSoftmax

end
-- ==== Proof.ITrip.lean ====
module

public import proofs.«01_k».proof.Proof.IPays
public import proofs.«01_k».proof.Proof.IFrame
public import proofs.«01_k».proof.Proof.Softmax

@[expose] public section

set_option maxRecDepth 16384
set_option maxHeartbeats 4000000

/-! One block of queries of the flash kernel, as a value: what its loops leave is the accumulated softmax. -/

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem
open Cert.OnlineSoftmax

/-- The six values the loop over blocks of keys carries. -/
abbrev Carry : Type := FVec Ideal S1x512 .f32 × FVec Ideal S1x512 .f32 × FVec Ideal S128x512 .f32
  × FVec Ideal S1x512 .f32 × FVec Ideal S1x512 .f32 × FVec Ideal S128x512 .f32

/-- One head's triple after a block of scores `S` and of values `V`. -/
abbrev next (m l : FVec Ideal S1x512 .f32) (a : FVec Ideal S128x512 .f32) (S : FVec Ideal S512x512 .f32)
    (V : Vec Ideal S1x128x512 .bf16) : FVec Ideal S1x512 .f32 × FVec Ideal S1x512 .f32 × FVec Ideal S128x512 .f32 :=
  (k0_pay33 m S, k0_pay36 m l S, k0_pay37 m a S V)

/-- The triple holds the softmax of the first `n` scores, in every column and every feature. -/
def Holds (e : Fin 512 → ℕ → EReal) (v : Fin 128 → ℕ → EReal) (n : ℕ) (m l : FVec Ideal S1x512 .f32)
    (a : FVec Ideal S128x512 .f32) : Prop :=
  ∀ (p : Fin 512) (d : Fin 128), Inv (e p) (v d) n (m (ix2 0 p)) (l (ix2 0 p)) (a (ix2 d p))

theorem Holds.next {e : Fin 512 → ℕ → EReal} {v : Fin 128 → ℕ → EReal} {n : ℕ} {m l : FVec Ideal S1x512 .f32}
    {a : FVec Ideal S128x512 .f32} (h : Holds e v n m l a) (S : FVec Ideal S512x512 .f32) (V : Vec Ideal S1x128x512 .bf16)
    (hS : ∀ j p : Fin 512, S (ix2 j p) = e p (n + j.val)) (hV : ∀ (j : Fin 512) (d : Fin 128), V (ix3 0 d j) = v d (n + j.val))
    (htop : ∀ p j, e p j ≠ ⊤) (hex : ∀ p, ∃ j : Fin 512, e p (n + j.val) ≠ ⊥) :
    Holds e v (n + 512) (k0_pay33 m S) (k0_pay36 m l S) (k0_pay37 m a S V) := by
  intro p d
  have := (h p d).step (fun j : Fin 512 => (S (ix2 j p) : EReal)) (fun j : Fin 512 => (V (ix3 0 d j) : EReal))
    (fun j => hS j p) (fun j => hV j d) (fun j => by rw [hS]; exact htop _ _)
    (by obtain ⟨j, hj⟩ := hex p; exact ⟨j, by rw [hS]; exact hj⟩)
  rw [pay36_apply, pay37_apply]
  simp only [pay35_apply, pay34_apply]
  rw [pay33_apply]
  exact this

/-- One trip of the loop over blocks of keys. -/
theorem trip2_eq (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (M : IVec S512x512 1) (k : Fin k0_t1_loop.trips) (w10 : BitVec 32) (q0 q1 : FVec Ideal S512x128 .bf16) (w24 : BitVec 32)
    (f0 : FVec Ideal S1x512 .f32) (g0 g1 : FVec Ideal S1x128 .f32) (w50 : BitVec 32) (g2 g3 : Vec Ideal S1x1x128 .f32)
    (X3 : BufTy.Contents (Elt Ideal) arg3.view.ty) (X7 : BufTy.Contents (Elt Ideal) arg7.view.ty) (X9 : BufTy.Contents (Elt Ideal) arg9.view.ty) (j : Fin (k0_t2_loop k).trips) (s : Carry) :
    tripR_k0_t2 (F := Ideal) 𝒱 c bd i arg2 harg2 arg3 harg3 arg4 harg4 arg5 harg5 arg6 harg6 arg7 harg7 arg8 harg8 arg9 harg9 M k w10 q0 q1 w24 f0 g0 g1 w50 g2 g3 X3 X7 X9 j s
      = (let S0 := k0_pay7 q0 f0 (View.readAt (Elt Ideal) arg3.view (Rect.unit (s := S4096x256) (k0_off5 k j) S512x128.size (k0_off5_inb k j)).toLoadRect X3) (View.readAt (Elt Ideal) arg9.view (Rect.unit (s := S2x4096x128) (k0_off6 k j) S1x512x128.size (k0_off6_inb k j)).toLoadRect X9)
         let S1 := k0_pay7 q1 (k0_pay26 g0 g1 g2 g3) (View.readAt (Elt Ideal) arg3.view (Rect.unit (s := S4096x256) (k0_off8 k j) S512x128.size (k0_off8_inb k j)).toLoadRect X3) (View.readAt (Elt Ideal) arg9.view (Rect.unit (s := S2x4096x128) (k0_off9 k j) S1x512x128.size (k0_off9_inb k j)).toLoadRect X9)
         let t0 := next s.1 s.2.1 s.2.2.1 S0 (View.readAt (Elt Ideal) arg7.view (Rect.unit (s := S2x128x4096) (k0_off7 k j) S1x128x512.size (k0_off7_inb k j)).toLoadRect X7)
         let t1 := next s.2.2.2.1 s.2.2.2.2.1 s.2.2.2.2.2 S1 (View.readAt (Elt Ideal) arg7.view (Rect.unit (s := S2x128x4096) (k0_off10 k j) S1x128x512.size (k0_off10_inb k j)).toLoadRect X7)
         (t0.1, t0.2.1, t0.2.2, t1.1, t1.2.1, t1.2.2)) := by
  unfold tripR_k0_t2 trip_k0_t2
  rfl

/-- What a block of queries stores: the quotient of each head after the masked block on the diagonal. -/
theorem tripL_eq (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (k : Fin k0_t1_loop.trips) :
    ∃ w10 w24 w50 w69 : BitVec 32,
    let q0 := (shapeCast S512x128 (View.readAt (Elt Ideal) arg2.view (Rect.unit (s := S4096x256) (k0_off1 k) S512x128.size (k0_off1_inb k)).toLoadRect X2) shapeCasts_S512x128_S512x128)
    let q1 := (shapeCast S512x128 (View.readAt (Elt Ideal) arg2.view (Rect.unit (s := S4096x256) (k0_off2 k) S512x128.size (k0_off2_inb k)).toLoadRect X2) shapeCasts_S512x128_S512x128)
    let f0 := k0_pay23 (View.readAt (Elt Ideal) arg8.view (Rect.unit (s := S2x32x128) (k0_off3 k 0#32) S1x1x128.size (k0_off3_inb k 0)).toLoadRect X8) (View.readAt (Elt Ideal) arg8.view (Rect.unit (s := S2x32x128) (k0_off3 k 1#32) S1x1x128.size (k0_off3_inb k 1)).toLoadRect X8) (View.readAt (Elt Ideal) arg8.view (Rect.unit (s := S2x32x128) (k0_off3 k 2#32) S1x1x128.size (k0_off3_inb k 2)).toLoadRect X8) (View.readAt (Elt Ideal) arg8.view (Rect.unit (s := S2x32x128) (k0_off3 k 3#32) S1x1x128.size (k0_off3_inb k 3)).toLoadRect X8)
    let g0 := k0_pay24 (View.readAt (Elt Ideal) arg8.view (Rect.unit (s := S2x32x128) (k0_off4 k 0#32) S1x1x128.size (k0_off4_inb k 0)).toLoadRect X8)
    let g1 := k0_pay25 (View.readAt (Elt Ideal) arg8.view (Rect.unit (s := S2x32x128) (k0_off4 k 1#32) S1x1x128.size (k0_off4_inb k 1)).toLoadRect X8)
    let g2 := (View.readAt (Elt Ideal) arg8.view (Rect.unit (s := S2x32x128) (k0_off4 k 2#32) S1x1x128.size (k0_off4_inb k 2)).toLoadRect X8)
    let g3 := (View.readAt (Elt Ideal) arg8.view (Rect.unit (s := S2x32x128) (k0_off4 k 3#32) S1x1x128.size (k0_off4_inb k 3)).toLoadRect X8)
    let s := st_k0_t3 (F := Ideal) 𝒱 c bd i arg2 harg2 arg3 harg3 arg4 harg4 arg5 harg5 arg6 harg6 arg7 harg7 arg8 harg8 arg9 harg9 k0_pay4 k w10 q0 q1 w24 f0 g0 g1 w50 g2 g3 w69 X3 X7 X9
      (st_k0_t2 (F := Ideal) 𝒱 c bd i arg2 harg2 arg3 harg3 arg4 harg4 arg5 harg5 arg6 harg6 arg7 harg7 arg8 harg8 arg9 harg9 k0_pay4 k w10 q0 q1 w24 f0 g0 g1 w50 g2 g3 X3 X7 X9
        (k0_pay27, k0_pay28, k0_pay29, k0_pay30, k0_pay31, k0_pay32) (k0_t2_loop k).trips) (k0_t3_loop k).trips
    let S0 := k0_pay43 k0_pay4 q0 f0 (View.readAt (Elt Ideal) arg3.view (Rect.unit (s := S4096x256) (k0_off1 k) S512x128.size (k0_off1_inb k)).toLoadRect X3) (View.readAt (Elt Ideal) arg9.view (Rect.unit (s := S2x4096x128) (k0_off17 k) S1x512x128.size (k0_off17_inb k)).toLoadRect X9)
    let S1 := k0_pay43 k0_pay4 q1 (k0_pay26 g0 g1 g2 g3) (View.readAt (Elt Ideal) arg3.view (Rect.unit (s := S4096x256) (k0_off2 k) S512x128.size (k0_off2_inb k)).toLoadRect X3) (View.readAt (Elt Ideal) arg9.view (Rect.unit (s := S2x4096x128) (k0_off19 k) S1x512x128.size (k0_off19_inb k)).toLoadRect X9)
    let t0 := next s.1 s.2.1 s.2.2.1 S0 (View.readAt (Elt Ideal) arg7.view (Rect.unit (s := S2x128x4096) (k0_off18 k) S1x128x512.size (k0_off18_inb k)).toLoadRect X7)
    let t1 := next s.2.2.2.1 s.2.2.2.2.1 s.2.2.2.2.2 S1 (View.readAt (Elt Ideal) arg7.view (Rect.unit (s := S2x128x4096) (k0_off20 k) S1x128x512.size (k0_off20_inb k)).toLoadRect X7)
    tripL (F := Ideal) 𝒱 c bd i arg2 harg2 arg3 harg3 arg4 harg4 arg5 harg5 arg6 harg6 arg7 harg7 arg8 harg8 arg9 harg9 X2 X3 X7 X8 X9 k
      = [⟨Rect.unit (s := S4096x256) (k0_off2 k) S512x128.size (k0_off2_inb k), k0_pay5 t1.2.1 t1.2.2⟩,
         ⟨Rect.unit (s := S4096x256) (k0_off1 k) S512x128.size (k0_off1_inb k), k0_pay5 t0.2.1 t0.2.2⟩] := by
  unfold tripL trip
  exact ⟨_, _, _, _, rfl⟩

end Cert.KernelIdeal.Hand

end
-- ==== Proof.ITripVal.lean ====
module

public import proofs.«01_k».proof.Proof.ITrip

@[expose] public section

set_option maxRecDepth 16384
set_option maxHeartbeats 4000000

/-! The value of a block of queries, with the staged blocks and the scratch buffers given as arrays over the naturals. -/

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem
open Cert.OnlineSoftmax

section Loads

variable (Y : ℕ → ℕ → EReal) (Z : ℕ → ℕ → ℕ → EReal)

theorem load2 (arg : Memref sig .tc .vmem S4096x256 .bf16) (X : BufTy.Contents (Elt Ideal) arg.view.ty)
    (hY : ∀ a b, (arg.view.read (Elt Ideal) X (ix2 a b) : EReal) = Y a.val b.val) (off : Fin 2 → ℕ) (a b : ℕ) (hoff : off = ![a, b])
    (inb : ∀ i, off i + S512x128.size i ≤ S4096x256.size i) (j : Fin 512) (d : Fin 128) :
    (View.readAt (Elt Ideal) arg.view (Rect.unit (s := S4096x256) off S512x128.size inb).toLoadRect X (ix2 j d) : EReal)
      = Y (a + j.val) (b + d.val) := by
  subst hoff
  rw [View.readAt_eq_ld]
  pointwise [hY]

theorem load7 (arg : Memref sig .tc .vmem S2x128x4096 .bf16) (X : BufTy.Contents (Elt Ideal) arg.view.ty)
    (hY : ∀ h a b, (arg.view.read (Elt Ideal) X (ix3 h a b) : EReal) = Z h.val a.val b.val) (off : Fin 3 → ℕ) (h a : ℕ)
    (hoff : off = ![h, 0, a])
    (inb : ∀ i, off i + S1x128x512.size i ≤ S2x128x4096.size i) (d : Fin 128) (j : Fin 512) :
    (View.readAt (Elt Ideal) arg.view (Rect.unit (s := S2x128x4096) off S1x128x512.size inb).toLoadRect X (ix3 0 d j) : EReal)
      = Z h d.val (a + j.val) := by
  subst hoff
  rw [View.readAt_eq_ld]
  pointwise [hY]

theorem load8 (arg : Memref sig .tc .vmem S2x32x128 .f32) (X : BufTy.Contents (Elt Ideal) arg.view.ty)
    (hY : ∀ h a b, (arg.view.read (Elt Ideal) X (ix3 h a b) : EReal) = Y h.val (128 * a.val + b.val)) (off : Fin 3 → ℕ) (h a : ℕ)
    (hoff : off = ![h, a, 0])
    (inb : ∀ i, off i + S1x1x128.size i ≤ S2x32x128.size i) (l : Fin 128) :
    (View.readAt (Elt Ideal) arg.view (Rect.unit (s := S2x32x128) off S1x1x128.size inb).toLoadRect X (ix3 0 0 l) : EReal)
      = Y h (128 * a + l.val) := by
  subst hoff
  rw [View.readAt_eq_ld]
  pointwise [hY]

theorem load9 (arg : Memref sig .tc .vmem S2x4096x128 .f32) (X : BufTy.Contents (Elt Ideal) arg.view.ty)
    (hY : ∀ h a b, (arg.view.read (Elt Ideal) X (ix3 h a b) : EReal) = Y h.val a.val) (off : Fin 3 → ℕ) (h a : ℕ)
    (hoff : off = ![h, a, 0])
    (inb : ∀ i, off i + S1x512x128.size i ≤ S2x4096x128.size i) (j : Fin 512) (l : Fin 128) :
    (View.readAt (Elt Ideal) arg.view (Rect.unit (s := S2x4096x128) off S1x512x128.size inb).toLoadRect X (ix3 0 j l) : EReal)
      = Y h (a + j.val) := by
  subst hoff
  rw [View.readAt_eq_ld]
  pointwise [hY]

end Loads

theorem cast_self (x : FVec Ideal S512x128 .bf16) (p : Fin 512) (d : Fin 128) :
    shapeCast S512x128 x shapeCasts_S512x128_S512x128 (ix2 p d) = x (ix2 p d) := by pointwise

/-! ## The scores -/

/-- A head's score of query row `p` with key row `j`: the dot product over the head's features and the difference of
    the accumulated gates. -/
def score (Qa Ka Fa : ℕ → ℕ → EReal) (h p j : ℕ) : EReal :=
  (∑ d : Fin 128, Ka j (128 * h + d.val) * Qa p (128 * h + d.val)) + (Fa h p - Fa h j)

/-- The score, masked where the key comes after the query. -/
def masked (Qa Ka Fa : ℕ → ℕ → EReal) (h p j : ℕ) : EReal := if j ≤ p then score Qa Ka Fa h p j else ⊥

theorem block_apply (Qa Ka Fa : ℕ → ℕ → EReal) (h p0 j0 : ℕ) (q : FVec Ideal S512x128 .bf16) (f : FVec Ideal S1x512 .f32)
    (kk : Vec Ideal S512x128 .bf16) (fk : Vec Ideal S1x512x128 .f32)
    (hq : ∀ p d, (q (ix2 p d) : EReal) = Qa (p0 + p.val) (128 * h + d.val)) (hf : ∀ p, (f (ix2 0 p) : EReal) = Fa h (p0 + p.val))
    (hk : ∀ j d, (kk (ix2 j d) : EReal) = Ka (j0 + j.val) (128 * h + d.val)) (hfk : ∀ j l, (fk (ix3 0 j l) : EReal) = Fa h (j0 + j.val))
    (j p : Fin 512) : (k0_pay7 q f kk fk (ix2 j p) : EReal) = score Qa Ka Fa h (p0 + p.val) (j0 + j.val) := by
  rw [pay7_apply q f kk fk (fun j => Fa h (j0 + j.val)) hfk]
  simp only [hq, hf, hk, score]

/-- The scratch buffers and the staged blocks, as arrays over the naturals. -/
structure Reads (arg2 arg3 : Memref sig .tc .vmem S4096x256 .bf16) (arg7 : Memref sig .tc .vmem S2x128x4096 .bf16) (arg8 : Memref sig .tc .vmem S2x32x128 .f32) (arg9 : Memref sig .tc .vmem S2x4096x128 .f32) (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (Qa Ka Va Fa : ℕ → ℕ → EReal) : Prop where
  q : ∀ a b, (arg2.view.read (Elt Ideal) X2 (ix2 a b) : EReal) = Qa a.val b.val
  k : ∀ a b, (arg3.view.read (Elt Ideal) X3 (ix2 a b) : EReal) = Ka a.val b.val
  v : ∀ h a b, (arg7.view.read (Elt Ideal) X7 (ix3 h a b) : EReal) = Va b.val (128 * h.val + a.val)
  f : ∀ h a b, (arg8.view.read (Elt Ideal) X8 (ix3 h a b) : EReal) = Fa h.val (128 * a.val + b.val)
  g : ∀ h a b, (arg9.view.read (Elt Ideal) X9 (ix3 h a b) : EReal) = Fa h.val a.val

/-- Both heads' triples hold the softmax of their first `n` scores, for the queries from row `p0` on. -/
def Holds2 (Qa Ka Va Fa : ℕ → ℕ → EReal) (p0 n : ℕ) (s : Carry) : Prop :=
  Holds (fun p => masked Qa Ka Fa 0 (p0 + p.val)) (fun d j => Va j (128 * 0 + d.val)) n s.1 s.2.1 s.2.2.1
  ∧ Holds (fun p => masked Qa Ka Fa 1 (p0 + p.val)) (fun d j => Va j (128 * 1 + d.val)) n s.2.2.2.1 s.2.2.2.2.1 s.2.2.2.2.2

theorem masked_ne_top {Qa Ka Fa : ℕ → ℕ → EReal} (hr : ∀ h p j, ∃ r : ℝ, score Qa Ka Fa h p j = (r : EReal)) (h p j : ℕ) :
    masked Qa Ka Fa h p j ≠ ⊤ := by
  unfold masked; split
  · obtain ⟨r, e⟩ := hr h p j; rw [e]; exact EReal.coe_ne_top r
  · exact bot_ne_top

theorem masked_ne_bot {Qa Ka Fa : ℕ → ℕ → EReal} (hr : ∀ h p j, ∃ r : ℝ, score Qa Ka Fa h p j = (r : EReal)) (h p j : ℕ) (hj : j ≤ p) :
    masked Qa Ka Fa h p j ≠ ⊥ := by
  unfold masked; rw [if_pos hj]
  obtain ⟨r, e⟩ := hr h p j; rw [e]; exact EReal.coe_ne_bot r

/-- The loop over the blocks of keys before the diagonal keeps both. -/
theorem loop2 (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (M : IVec S512x512 1) (k : Fin k0_t1_loop.trips) (w10 : BitVec 32) (q0 q1 : FVec Ideal S512x128 .bf16) (w24 : BitVec 32)
    (f0 : FVec Ideal S1x512 .f32) (g0 g1 : FVec Ideal S1x128 .f32) (w50 : BitVec 32) (g2 g3 : Vec Ideal S1x1x128 .f32)
    (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (Qa Ka Va Fa : ℕ → ℕ → EReal) (R : Reads arg2 arg3 arg7 arg8 arg9 X2 X3 X7 X8 X9 Qa Ka Va Fa)
    (hr : ∀ h p j, ∃ r : ℝ, score Qa Ka Fa h p j = (r : EReal))
    (hq0 : ∀ p d, (q0 (ix2 p d) : EReal) = Qa (512 * k.val + p.val) (128 * 0 + d.val))
    (hq1 : ∀ p d, (q1 (ix2 p d) : EReal) = Qa (512 * k.val + p.val) (128 * 1 + d.val))
    (hf0 : ∀ p, (f0 (ix2 0 p) : EReal) = Fa 0 (512 * k.val + p.val))
    (hf1 : ∀ p, (k0_pay26 g0 g1 g2 g3 (ix2 0 p) : EReal) = Fa 1 (512 * k.val + p.val))
    (init : Carry) (h0 : Holds2 Qa Ka Va Fa (512 * k.val) 0 init) :
    ∀ n, n ≤ (k0_t2_loop k).trips → Holds2 Qa Ka Va Fa (512 * k.val) (512 * n)
      (st_k0_t2 (F := Ideal) 𝒱 c bd i arg2 harg2 arg3 harg3 arg4 harg4 arg5 harg5 arg6 harg6 arg7 harg7 arg8 harg8 arg9 harg9 M k w10 q0 q1 w24 f0 g0 g1 w50 g2 g3 X3 X7 X9 init n)
  | 0, _ => h0
  | n + 1, hn => by
    have ih := loop2 𝒱 c bd i arg2 harg2 arg3 harg3 arg4 harg4 arg5 harg5 arg6 harg6 arg7 harg7 arg8 harg8 arg9 harg9 M k w10 q0 q1 w24 f0 g0 g1 w50 g2 g3 X2 X3 X7 X8 X9 Qa Ka Va Fa R hr hq0 hq1 hf0 hf1
      init h0 n (Nat.le_of_succ_le hn)
    have hnk : n < k.val := by have := trips2 k; omega
    rw [st_k0_t2_succ (F := Ideal) 𝒱 c bd i arg2 harg2 arg3 harg3 arg4 harg4 arg5 harg5 arg6 harg6 arg7 harg7 arg8 harg8 arg9 harg9 M k w10 q0 q1 w24 f0 g0 g1 w50 g2 g3 X3 X7 X9 init ⟨n, hn⟩, trip2_eq]
    have hm : ∀ h (p j : Fin 512), score Qa Ka Fa h (512 * k.val + p.val) (512 * n + j.val)
        = masked Qa Ka Fa h (512 * k.val + p.val) (512 * n + j.val) := fun h p j => by
      unfold masked; rw [if_pos]; omega
    refine ⟨?_, ?_⟩
    · refine ih.1.next _ _ (fun j p => ?_) (fun j d => ?_) (fun p j => masked_ne_top hr _ _ _)
        (fun p => ⟨0, masked_ne_bot hr _ _ _ ?_⟩)
      · rw [← hm]
        exact block_apply Qa Ka Fa 0 _ _ _ _ _ _ hq0 hf0
          (fun j d => (load2 Ka arg3 X3 R.k _ _ _ (off5_eq k ⟨n, hn⟩) _ j d).trans (by simp))
          (fun j l => load9 Fa arg9 X9 R.g _ _ _ (off6_eq k ⟨n, hn⟩) _ j l) j p
      · exact load7 (fun h a b => Va b (128 * h + a)) arg7 X7 R.v _ _ _ (off7_eq k ⟨n, hn⟩) _ d j
      · show 512 * n + 0 ≤ _; omega
    · refine ih.2.next _ _ (fun j p => ?_) (fun j d => ?_) (fun p j => masked_ne_top hr _ _ _)
        (fun p => ⟨0, masked_ne_bot hr _ _ _ ?_⟩)
      · rw [← hm]
        exact block_apply Qa Ka Fa 1 _ _ _ _ _ _ hq1 hf1
          (fun j d => load2 Ka arg3 X3 R.k _ _ _ (off8_eq k ⟨n, hn⟩) _ j d)
          (fun j l => load9 Fa arg9 X9 R.g _ _ _ (off9_eq k ⟨n, hn⟩) _ j l) j p
      · exact load7 (fun h a b => Va b (128 * h + a)) arg7 X7 R.v _ _ _ (off10_eq k ⟨n, hn⟩) _ d j
      · show 512 * n + 0 ≤ _; omega

theorem init_holds (Qa Ka Va Fa : ℕ → ℕ → EReal) (p0 : ℕ) :
    Holds2 Qa Ka Va Fa p0 0 (k0_pay27, k0_pay28, k0_pay29, k0_pay30, k0_pay31, k0_pay32) := by
  have z1 : ∀ i, (k0_pay28 (F := Ideal) i : EReal) = 0 := fun i => Consts.f32_zero
  have z2 : ∀ i, (k0_pay29 (F := Ideal) i : EReal) = 0 := fun i => Consts.f32_zero
  have z3 : ∀ i, (k0_pay31 (F := Ideal) i : EReal) = 0 := fun i => Consts.f32_zero
  have z4 : ∀ i, (k0_pay32 (F := Ideal) i : EReal) = 0 := fun i => Consts.f32_zero
  have b1 : ∀ i, (k0_pay27 (F := Ideal) i : EReal) = ⊥ := fun i => mask_eq
  have b2 : ∀ i, (k0_pay30 (F := Ideal) i : EReal) = ⊥ := fun i => mask_eq
  exact ⟨fun p d => .inl ⟨rfl, b1 (ix2 0 p), z1 (ix2 0 p), z2 (ix2 d p)⟩, fun p d => .inl ⟨rfl, b2 (ix2 0 p), z3 (ix2 0 p), z4 (ix2 d p)⟩⟩

/-- The masked block on the diagonal. -/
theorem diag_apply (Qa Ka Fa : ℕ → ℕ → EReal) (h p0 : ℕ) (q : FVec Ideal S512x128 .bf16) (f : FVec Ideal S1x512 .f32)
    (kk : Vec Ideal S512x128 .bf16) (fk : Vec Ideal S1x512x128 .f32)
    (hq : ∀ p d, (q (ix2 p d) : EReal) = Qa (p0 + p.val) (128 * h + d.val)) (hf : ∀ p, (f (ix2 0 p) : EReal) = Fa h (p0 + p.val))
    (hk : ∀ j d, (kk (ix2 j d) : EReal) = Ka (p0 + j.val) (128 * h + d.val)) (hfk : ∀ j l, (fk (ix3 0 j l) : EReal) = Fa h (p0 + j.val))
    (j p : Fin 512) : (k0_pay43 k0_pay4 q f kk fk (ix2 j p) : EReal) = masked Qa Ka Fa h (p0 + p.val) (p0 + j.val) := by
  rw [pay43_eq, block_apply Qa Ka Fa h p0 p0 q f kk fk hq hf hk hfk]
  unfold masked
  by_cases hjp : j.val ≤ p.val
  · rw [if_pos ((pay4_apply j p).mpr hjp), if_pos (by omega)]
  · rw [if_neg (mt (pay4_apply j p).mp hjp), if_neg (by omega)]

/-- What a block of queries stores. -/
theorem tripL_value (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (Qa Ka Va Fa : ℕ → ℕ → EReal) (R : Reads arg2 arg3 arg7 arg8 arg9 X2 X3 X7 X8 X9 Qa Ka Va Fa)
    (hr : ∀ h p j, ∃ r : ℝ, score Qa Ka Fa h p j = (r : EReal)) (k : Fin k0_t1_loop.trips) :
    ∃ t0 t1 : FVec Ideal S1x512 .f32 × FVec Ideal S1x512 .f32 × FVec Ideal S128x512 .f32,
      Holds (fun p => masked Qa Ka Fa 0 (512 * k.val + p.val)) (fun d j => Va j (128 * 0 + d.val)) (512 * k.val + 512) t0.1 t0.2.1 t0.2.2
      ∧ Holds (fun p => masked Qa Ka Fa 1 (512 * k.val + p.val)) (fun d j => Va j (128 * 1 + d.val)) (512 * k.val + 512) t1.1 t1.2.1 t1.2.2
      ∧ tripL (F := Ideal) 𝒱 c bd i arg2 harg2 arg3 harg3 arg4 harg4 arg5 harg5 arg6 harg6 arg7 harg7 arg8 harg8 arg9 harg9 X2 X3 X7 X8 X9 k
      = [⟨Rect.unit (s := S4096x256) (k0_off2 k) S512x128.size (k0_off2_inb k), k0_pay5 t1.2.1 t1.2.2⟩,
         ⟨Rect.unit (s := S4096x256) (k0_off1 k) S512x128.size (k0_off1_inb k), k0_pay5 t0.2.1 t0.2.2⟩] := by
  obtain ⟨w10, w24, w50, w69, e⟩ := tripL_eq 𝒱 c bd i arg2 harg2 arg3 harg3 arg4 harg4 arg5 harg5 arg6 harg6 arg7 harg7 arg8 harg8 arg9 harg9 X2 X3 X7 X8 X9 k
  refine ⟨_, _, ?_, ?_, e⟩
  all_goals clear e
  all_goals
    have h3 := trips3 k
    have hq0 : ∀ p d, ((shapeCast S512x128 (View.readAt (Elt Ideal) arg2.view (Rect.unit (s := S4096x256) (k0_off1 k) S512x128.size (k0_off1_inb k)).toLoadRect X2) shapeCasts_S512x128_S512x128) (ix2 p d) : EReal) = Qa (512 * k.val + p.val) (128 * 0 + d.val) := fun p d => by
      exact ((cast_self _ p d).trans (load2 Qa arg2 X2 R.q _ _ _ (off1_eq k) _ p d)).trans (by simp)
    have hq1 : ∀ p d, ((shapeCast S512x128 (View.readAt (Elt Ideal) arg2.view (Rect.unit (s := S4096x256) (k0_off2 k) S512x128.size (k0_off2_inb k)).toLoadRect X2) shapeCasts_S512x128_S512x128) (ix2 p d) : EReal) = Qa (512 * k.val + p.val) (128 * 1 + d.val) := fun p d => by
      exact (cast_self _ p d).trans <| load2 Qa arg2 X2 R.q _ _ _ (off2_eq k) _ p d
    have hf0 : ∀ p, (k0_pay23 (View.readAt (Elt Ideal) arg8.view (Rect.unit (s := S2x32x128) (k0_off3 k 0#32) S1x1x128.size (k0_off3_inb k 0)).toLoadRect X8) (View.readAt (Elt Ideal) arg8.view (Rect.unit (s := S2x32x128) (k0_off3 k 1#32) S1x1x128.size (k0_off3_inb k 1)).toLoadRect X8) (View.readAt (Elt Ideal) arg8.view (Rect.unit (s := S2x32x128) (k0_off3 k 2#32) S1x1x128.size (k0_off3_inb k 2)).toLoadRect X8) (View.readAt (Elt Ideal) arg8.view (Rect.unit (s := S2x32x128) (k0_off3 k 3#32) S1x1x128.size (k0_off3_inb k 3)).toLoadRect X8) (ix2 0 p) : EReal) = Fa 0 (512 * k.val + p.val) := fun p =>
      pay23_apply _ _ _ _ (fun n => Fa 0 (512 * k.val + n))
        (fun l => (load8 Fa arg8 X8 R.f _ _ _ (off3_eq k 0) _ l).trans (congrArg _ (by simp; omega)))
        (fun l => (load8 Fa arg8 X8 R.f _ _ _ (off3_eq k 1) _ l).trans (congrArg _ (by simp; omega)))
        (fun l => (load8 Fa arg8 X8 R.f _ _ _ (off3_eq k 2) _ l).trans (congrArg _ (by simp; omega)))
        (fun l => (load8 Fa arg8 X8 R.f _ _ _ (off3_eq k 3) _ l).trans (congrArg _ (by simp; omega))) p
    have hf1 : ∀ p, (k0_pay23 (View.readAt (Elt Ideal) arg8.view (Rect.unit (s := S2x32x128) (k0_off4 k 0#32) S1x1x128.size (k0_off4_inb k 0)).toLoadRect X8) (View.readAt (Elt Ideal) arg8.view (Rect.unit (s := S2x32x128) (k0_off4 k 1#32) S1x1x128.size (k0_off4_inb k 1)).toLoadRect X8) (View.readAt (Elt Ideal) arg8.view (Rect.unit (s := S2x32x128) (k0_off4 k 2#32) S1x1x128.size (k0_off4_inb k 2)).toLoadRect X8) (View.readAt (Elt Ideal) arg8.view (Rect.unit (s := S2x32x128) (k0_off4 k 3#32) S1x1x128.size (k0_off4_inb k 3)).toLoadRect X8) (ix2 0 p) : EReal) = Fa 1 (512 * k.val + p.val) := fun p =>
      pay23_apply _ _ _ _ (fun n => Fa 1 (512 * k.val + n))
        (fun l => (load8 Fa arg8 X8 R.f _ _ _ (off4_eq k 0) _ l).trans (congrArg _ (by simp; omega)))
        (fun l => (load8 Fa arg8 X8 R.f _ _ _ (off4_eq k 1) _ l).trans (congrArg _ (by simp; omega)))
        (fun l => (load8 Fa arg8 X8 R.f _ _ _ (off4_eq k 2) _ l).trans (congrArg _ (by simp; omega)))
        (fun l => (load8 Fa arg8 X8 R.f _ _ _ (off4_eq k 3) _ l).trans (congrArg _ (by simp; omega))) p
    have L := loop2 𝒱 c bd i arg2 harg2 arg3 harg3 arg4 harg4 arg5 harg5 arg6 harg6 arg7 harg7 arg8 harg8 arg9 harg9 k0_pay4 k w10 _ _ w24 _ (k0_pay24 (View.readAt (Elt Ideal) arg8.view (Rect.unit (s := S2x32x128) (k0_off4 k 0#32) S1x1x128.size (k0_off4_inb k 0)).toLoadRect X8)) (k0_pay25 (View.readAt (Elt Ideal) arg8.view (Rect.unit (s := S2x32x128) (k0_off4 k 1#32) S1x1x128.size (k0_off4_inb k 1)).toLoadRect X8)) w50 (View.readAt (Elt Ideal) arg8.view (Rect.unit (s := S2x32x128) (k0_off4 k 2#32) S1x1x128.size (k0_off4_inb k 2)).toLoadRect X8) (View.readAt (Elt Ideal) arg8.view (Rect.unit (s := S2x32x128) (k0_off4 k 3#32) S1x1x128.size (k0_off4_inb k 3)).toLoadRect X8) X2 X3 X7 X8 X9 Qa Ka Va Fa R hr hq0 hq1 hf0 hf1
      _ (init_holds Qa Ka Va Fa (512 * k.val)) _ le_rfl
    rw [trips2 k] at L
  · rw [h3]
    refine (Holds.next (n := 512 * k.val) (by rw [trips2 k]; exact L.1) _ _ (fun j p => ?_) (fun j d => ?_) (fun p j => masked_ne_top hr _ _ _)
        (fun p => ⟨0, masked_ne_bot hr _ _ _ ?_⟩))
    · exact diag_apply Qa Ka Fa 0 _ _ _ _ _ hq0 hf0
          (fun j d => (load2 Ka arg3 X3 R.k _ _ _ (off1_eq k) _ j d).trans (by simp))
          (fun j l => load9 Fa arg9 X9 R.g _ _ _ (off17_eq k) _ j l) j p
    · exact load7 (fun h a b => Va b (128 * h + a)) arg7 X7 R.v _ _ _ (off18_eq k) _ d j
    · show 512 * k.val + 0 ≤ _; omega
  · rw [h3]
    refine (Holds.next (n := 512 * k.val) (by rw [trips2 k]; exact L.2) _ _ (fun j p => ?_) (fun j d => ?_) (fun p j => masked_ne_top hr _ _ _)
        (fun p => ⟨0, masked_ne_bot hr _ _ _ ?_⟩))
    · exact diag_apply Qa Ka Fa 1 _ _ _ _ _ hq1 hf1
          (fun j d => load2 Ka arg3 X3 R.k _ _ _ (off2_eq k) _ j d)
          (fun j l => load9 Fa arg9 X9 R.g _ _ _ (off19_eq k) _ j l) j p
    · exact load7 (fun h a b => Va b (128 * h + a)) arg7 X7 R.v _ _ _ (off20_eq k) _ d j
    · show 512 * k.val + 0 ≤ _; omega

end Cert.KernelIdeal.Hand

end
-- ==== Proof.IScratch.lean ====
module

public import proofs.«01_k».proof.Proof.ITripVal

@[expose] public section

set_option maxRecDepth 16384
set_option maxHeartbeats 400000

/-! What the three scratch buffers hold once the body has filled them: the transposed values and the accumulated gates, by row and by column. -/

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem
open Cert.OnlineSoftmax

/-! ## The pieces -/

theorem gsl : ∀ r : Fin 32, S32x128.Slices ![r.val, 0] S1x128 := by decide +kernel
theorem ginb : ∀ (h : Fin 2) (r : Fin 32) (i : Fin 3), ![h.val, 128 * r.val, 0] i + S1x128x128.size i ≤ S2x4096x128.size i := by decide +kernel
theorem finb : ∀ (h : Fin 2) (i : Fin 3), ![h.val, 0, 0] i + S1x32x128.size i ≤ S2x32x128.size i := by decide +kernel
theorem linb : ∀ (h : Fin 2) (i : Fin 4), ![0, h.val, 0, 0] i + S1x1x32x128.size i ≤ S1x2x32x128.size i := by decide +kernel
theorem vinb : ∀ (h : Fin 2) (r : Fin 8) (i : Fin 3), ![h.val, 0, 512 * r.val] i + S1x128x512.size i ≤ S2x128x4096.size i := by decide +kernel
theorem winb : ∀ (h : Fin 2) (r : Fin 8) (i : Fin 2), ![512 * r.val, 128 * h.val] i + S512x128.size i ≤ S4096x256.size i := by decide +kernel

/-- A head's log gates, as loaded. -/
def gates (arg5 : Memref sig .tc .vmem S1x2x32x128 .f32) (harg5 : arg5.IsWhole) (x3 : Vec Ideal S1x2x32x128 .f32) (h : Fin 2) : Vec Ideal S1x1x32x128 .f32 :=
  View.readAt (Elt Ideal) arg5.view (Rect.unit (s := S1x2x32x128) ![0, h.val, 0, 0] S1x1x32x128.size (linb h)).toLoadRect (harg5.unread x3)

/-- A head's accumulated gates. -/
def accum (arg5 : Memref sig .tc .vmem S1x2x32x128 .f32) (harg5 : arg5.IsWhole) (x3 : Vec Ideal S1x2x32x128 .f32) (h : Fin 2) : FVec Ideal S32x128 .f32 :=
  k0_pay116 k0_pay56 k0_pay57 (gates arg5 harg5 x3 h)

def vpiece (arg4 : Memref sig .tc .vmem S4096x256 .bf16) (harg4 : arg4.IsWhole) (x2 : Vec Ideal S4096x256 .bf16) (a : Fin 2 × Fin 8) :
    View.Piece (Elt Ideal) S2x128x4096 .bf16 :=
  ⟨Rect.unit (s := S2x128x4096) ![a.1.val, 0, 512 * a.2.val] S1x128x512.size (vinb a.1 a.2),
    k0_pay115 (View.readAt (Elt Ideal) arg4.view (Rect.unit (s := S4096x256) ![512 * a.2.val, 128 * a.1.val] S512x128.size (winb a.1 a.2)).toLoadRect (harg4.unread x2))⟩

def fpiece (arg5 : Memref sig .tc .vmem S1x2x32x128 .f32) (harg5 : arg5.IsWhole) (x3 : Vec Ideal S1x2x32x128 .f32) (h : Fin 2) :
    View.Piece (Elt Ideal) S2x32x128 .f32 :=
  ⟨Rect.unit (s := S2x32x128) ![h.val, 0, 0] S1x32x128.size (finb h), shapeCast S1x32x128 (accum arg5 harg5 x3 h) shapeCasts_S32x128_S1x32x128⟩

def gpiece (arg5 : Memref sig .tc .vmem S1x2x32x128 .f32) (harg5 : arg5.IsWhole) (x3 : Vec Ideal S1x2x32x128 .f32) (a : Fin 2 × Fin 32) :
    View.Piece (Elt Ideal) S2x4096x128 .f32 :=
  ⟨Rect.unit (s := S2x4096x128) ![a.1.val, 128 * a.2.val, 0] S1x128x128.size (ginb a.1 a.2),
    shapeCast S1x128x128 (transpose S128x128 [1, 0] (broadcastTo S128x128 (shapeCast S1x128
      (extractStridedSlice S1x128 ![a.2.val, 0] (accum arg5 harg5 x3 a.1) (gsl a.2)) shapeCasts_S1x128_S1x128)
      broadcasts_S1x128_S128x128) transposes_S128x128_p1_0_S128x128) shapeCasts_S128x128_S1x128x128⟩

def ordV : List (Fin 2 × Fin 8) := [(1, 7), (1, 6), (1, 5), (1, 4), (1, 3), (1, 2), (1, 1), (1, 0), (0, 7), (0, 6), (0, 5), (0, 4), (0, 3), (0, 2), (0, 1), (0, 0)]
def ordG : List (Fin 2 × Fin 32) := [(1, 31), (1, 30), (1, 29), (1, 28), (1, 27), (1, 26), (1, 25), (1, 24), (1, 23), (1, 22), (1, 21), (1, 20), (1, 19), (1, 18), (1, 17), (1, 16), (1, 15), (1, 14), (1, 13), (1, 12), (1, 11), (1, 10), (1, 9), (1, 8), (1, 7), (1, 6), (1, 5), (1, 4), (1, 3), (1, 2), (1, 1), (1, 0), (0, 31), (0, 30), (0, 29), (0, 28), (0, 27), (0, 26), (0, 25), (0, 24), (0, 23), (0, 22), (0, 21), (0, 20), (0, 19), (0, 18), (0, 17), (0, 16), (0, 15), (0, 14), (0, 13), (0, 12), (0, 11), (0, 10), (0, 9), (0, 8), (0, 7), (0, 6), (0, 5), (0, 4), (0, 3), (0, 2), (0, 1), (0, 0)]

theorem mem_ordV : ∀ a, a ∈ ordV := by decide +kernel
theorem mem_ordG : ∀ a, a ∈ ordG := by decide +kernel

theorem vt_pieces (c : Dev nD) (arg4 : Memref sig .tc .vmem S4096x256 .bf16) (harg4 : arg4.IsWhole) (x2 : Vec Ideal S4096x256 .bf16) :
    kernelRun.sl.HS0_16 (F := Ideal) c arg4 harg4 x2 = ordV.map (vpiece arg4 harg4 x2) := rfl

theorem frow_pieces (c : Dev nD) (arg5 : Memref sig .tc .vmem S1x2x32x128 .f32) (harg5 : arg5.IsWhole) (x3 : Vec Ideal S1x2x32x128 .f32) :
    kernelRun.sl.HS1_2 (F := Ideal) c arg5 harg5 x3 = [(1 : Fin 2), 0].map (fpiece arg5 harg5 x3) := rfl

theorem fcol_pieces (c : Dev nD) (arg5 : Memref sig .tc .vmem S1x2x32x128 .f32) (harg5 : arg5.IsWhole) (x3 : Vec Ideal S1x2x32x128 .f32) :
    kernelRun.sl.HS2_64 (F := Ideal) c arg5 harg5 x3 = ordG.map (gpiece arg5 harg5 x3) := rfl

/-! ## What they leave -/

theorem vt_read (c : Dev nD) (arg4 : Memref sig .tc .vmem S4096x256 .bf16) (harg4 : arg4.IsWhole) (x2 : Vec Ideal S4096x256 .bf16)
    (arg7 : Memref sig .tc .vmem S2x128x4096 .bf16) (Va : ℕ → ℕ → EReal) (hV : ∀ a b, (x2 (ix2 a b) : EReal) = Va a.val b.val)
    (h : Fin 2) (d : Fin 128) (j : Fin 4096) :
    (arg7.view.read (Elt Ideal) (arg7.view.writes (Elt Ideal) arg7.view.junk (kernelRun.sl.HS0_16 (F := Ideal) c arg4 harg4 x2)) (ix3 h d j) : EReal)
      = Va j.val (128 * h.val + d.val) := by
  rw [vt_pieces]
  refine View.read_writes_apply_of_pieces (Val := Elt Ideal) (v := arg7.view) (f := arg7.view.junk)
    (fun y : S2x128x4096.Idx => Va (y 2).val (128 * (y 0).val + (y 1).val)) _ ?_ (ix3 h d j) ?_
  · intro p hp x
    obtain ⟨a, -, rfl⟩ := List.mem_map.mp hp
    simp only [vpiece] at x ⊢
    obtain ⟨u, d, j, rfl⟩ : ∃ (u : Fin 1) (d : Fin 128) (j : Fin 512), x = ix3 u d j := ⟨x 0, x 1, x 2, eq_ix3 x⟩
    have e := load2 Va arg4 (harg4.unread x2) (fun a b => by rw [harg4.read_unread]; exact hV a b) _ _ _ rfl (winb a.1 a.2) j d
    have hu : u = 0 := Subsingleton.elim _ _
    subst hu
    refine Eq.trans ?_ (e.trans ?_)
    · pointwise [k0_pay115]
    · show Va (512 * a.2.val + j.val) (128 * a.1.val + d.val) = Va (512 * a.2.val + 1 * j.val) (128 * (a.1.val + 1 * 0) + (0 + 1 * d.val))
      congr 1 <;> omega
  · refine ⟨_, List.mem_map.mpr ⟨(h, ⟨j.val / 512, by omega⟩), mem_ordV _, rfl⟩, ?_⟩
    refine (Rect.mem_set_unit (inb := vinb _ _)).mpr fun i => ?_
    fin_cases i <;> simp [ix3] <;> omega

theorem frow_read (c : Dev nD) (arg5 : Memref sig .tc .vmem S1x2x32x128 .f32) (harg5 : arg5.IsWhole) (x3 : Vec Ideal S1x2x32x128 .f32)
    (arg8 : Memref sig .tc .vmem S2x32x128 .f32) (Fa : ℕ → ℕ → EReal)
    (hA : ∀ h r l, (accum arg5 harg5 x3 h (ix2 r l) : EReal) = Fa h.val (128 * r.val + l.val)) (h : Fin 2) (r : Fin 32) (l : Fin 128) :
    (arg8.view.read (Elt Ideal) (arg8.view.writes (Elt Ideal) arg8.view.junk (kernelRun.sl.HS1_2 (F := Ideal) c arg5 harg5 x3)) (ix3 h r l) : EReal)
      = Fa h.val (128 * r.val + l.val) := by
  rw [frow_pieces]
  refine View.read_writes_apply_of_pieces (Val := Elt Ideal) (v := arg8.view) (f := arg8.view.junk)
    (fun y : S2x32x128.Idx => Fa (y 0).val (128 * (y 1).val + (y 2).val)) _ ?_ (ix3 h r l) ?_
  · intro p hp x
    obtain ⟨a, -, rfl⟩ := List.mem_map.mp hp
    simp only [fpiece] at x ⊢
    generalize accum arg5 harg5 x3 = A at hA ⊢
    obtain ⟨u, d, j, rfl⟩ : ∃ (u : Fin 1) (d : Fin 32) (j : Fin 128), x = ix3 u d j := ⟨x 0, x 1, x 2, eq_ix3 x⟩
    have hu : u = 0 := Subsingleton.elim _ _
    subst hu
    refine Eq.trans ?_ ((hA a d j).trans ?_)
    · pointwise
    · show Fa a.val (128 * d.val + j.val) = Fa (a.val + 1 * 0) (128 * (0 + 1 * d.val) + (0 + 1 * j.val))
      congr 1; omega
  · refine ⟨_, List.mem_map.mpr ⟨h, by revert h; decide, rfl⟩, ?_⟩
    refine (Rect.mem_set_unit (inb := finb _)).mpr fun i => ?_
    fin_cases i <;> simp [ix3] <;> omega

theorem fcol_read (c : Dev nD) (arg5 : Memref sig .tc .vmem S1x2x32x128 .f32) (harg5 : arg5.IsWhole) (x3 : Vec Ideal S1x2x32x128 .f32)
    (arg9 : Memref sig .tc .vmem S2x4096x128 .f32) (Fa : ℕ → ℕ → EReal)
    (hA : ∀ h r l, (accum arg5 harg5 x3 h (ix2 r l) : EReal) = Fa h.val (128 * r.val + l.val)) (h : Fin 2) (n : Fin 4096) (l : Fin 128) :
    (arg9.view.read (Elt Ideal) (arg9.view.writes (Elt Ideal) arg9.view.junk (kernelRun.sl.HS2_64 (F := Ideal) c arg5 harg5 x3)) (ix3 h n l) : EReal)
      = Fa h.val n.val := by
  rw [fcol_pieces]
  refine View.read_writes_apply_of_pieces (Val := Elt Ideal) (v := arg9.view) (f := arg9.view.junk)
    (fun y : S2x4096x128.Idx => Fa (y 0).val (y 1).val) _ ?_ (ix3 h n l) ?_
  · intro p hp x
    obtain ⟨a, -, rfl⟩ := List.mem_map.mp hp
    simp only [gpiece] at x ⊢
    generalize accum arg5 harg5 x3 = A at hA ⊢
    obtain ⟨u, d, j, rfl⟩ : ∃ (u : Fin 1) (d : Fin 128) (j : Fin 128), x = ix3 u d j := ⟨x 0, x 1, x 2, eq_ix3 x⟩
    have hu : u = 0 := Subsingleton.elim _ _
    subst hu
    refine Eq.trans ?_ ((hA a.1 a.2 d).trans ?_)
    · pointwise
    · show Fa a.1.val (128 * a.2.val + d.val) = Fa (a.1.val + 1 * 0) (128 * a.2.val + 1 * d.val)
      congr 1; omega
  · refine ⟨_, List.mem_map.mpr ⟨(h, ⟨n.val / 128, by omega⟩), mem_ordG _, rfl⟩, ?_⟩
    refine (Rect.mem_set_unit (inb := ginb _ _)).mpr fun i => ?_
    fin_cases i <;> simp [ix3] <;> omega

/-! ## The accumulated gates as sums -/

theorem log2e_eq : Named.named (F := Ideal) κ "log2e" (φ := .f32) 0x3FB8AA3B#32 = (((Real.log 2)⁻¹ : ℝ) : EReal) := by
  refine (IdealRules.named_const.ideal_named_scalar _ _ _ _ rfl).trans ?_
  norm_num

theorem toInt_small (n : ℕ) (h : n < 2 ^ 31) : (BitVec.ofNat 32 n).toInt = (n : Int) := by
  rw [BitVec.toInt_ofNat', Int.bmod_eq_of_le] <;> omega

theorem sitofp_one : (FloatOps.sitofp (F := Ideal) .f32 1#32 : EReal) = 1 := by
  show (((1#32 : BitVec 32).toInt : ℝ) : EReal) = _; norm_num

theorem sitofp_zero : (FloatOps.sitofp (F := Ideal) .f32 0#32 : EReal) = 0 := by
  show (((0#32 : BitVec 32).toInt : ℝ) : EReal) = _; norm_num

theorem pay56_apply (x l : Fin 128) : (k0_pay56 (F := Ideal) (ix2 x l) : EReal) = ((if x.val ≤ l.val then 1 else 0 : ℝ) : EReal) := by
  pointwise [k0_pay56]
  have ej := toInt_small x.val (by omega)
  have ep := toInt_small l.val (by omega)
  simp only [IntOp.cmpi, BitVec.sle, ej, ep]
  by_cases h : x.val ≤ l.val <;> simp [h]
  · exact sitofp_one
  · exact sitofp_zero

theorem pay57_apply (r r' : Fin 32) : (k0_pay57 (F := Ideal) (ix2 r r') : EReal) = ((if r'.val < r.val then 1 else 0 : ℝ) : EReal) := by
  pointwise [k0_pay57]
  have ej := toInt_small r'.val (by omega)
  have ep := toInt_small r.val (by omega)
  simp only [IntOp.cmpi, BitVec.slt, ej, ep]
  by_cases h : r'.val < r.val <;> simp [h]
  · exact sitofp_one
  · exact sitofp_zero

open Finset in
theorem sum_upto (f : ℕ → ℝ) (N : ℕ) (l : ℕ) (hl : l ≤ N) :
    ∑ x : Fin N, f x.val * (if x.val < l then 1 else 0 : ℝ) = ∑ x ∈ range l, f x := by
  rw [← Finset.sum_range fun x => f x * (if x < l then 1 else 0 : ℝ)]
  rw [← Finset.sum_subset (range_subset_range.mpr hl) fun x _ hx => by rw [if_neg (by simpa using hx), mul_zero]]
  exact sum_congr rfl fun x hx => by rw [if_pos (by simpa using hx), mul_one]

open Finset in
theorem sum_blocks (g : ℕ → ℝ) : ∀ r, ∑ i ∈ range r, ∑ x ∈ range 128, g (128 * i + x) = ∑ n ∈ range (128 * r), g n
  | 0 => by simp
  | r + 1 => by rw [sum_range_succ, sum_blocks g r, Nat.mul_succ, sum_range_add]

theorem pay116_apply (y : Vec Ideal S1x1x32x128 .f32) (g : ℕ → ℝ)
    (hg : ∀ (r : Fin 32) (l : Fin 128), (y (ix4 0 0 r l) : EReal) = (g (128 * r.val + l.val) : EReal)) (r : Fin 32) (l : Fin 128) :
    (k0_pay116 k0_pay56 k0_pay57 y (ix2 r l) : EReal)
      = (((Real.log 2)⁻¹ * ∑ n ∈ Finset.range (128 * r.val + l.val + 1), g n : ℝ) : EReal) := by
  have hw : ∀ (r : Fin 32) (l : Fin 128), (∑ x : Fin 128, (y (ix4 0 0 r x) : EReal) * k0_pay56 (F := Ideal) (ix2 x l))
      = ((∑ x ∈ Finset.range (l.val + 1), g (128 * r.val + x) : ℝ) : EReal) := fun r l => by
    rw [← sum_upto _ 128 _ (by omega), coe_sum]
    refine Finset.sum_congr rfl fun x _ => ?_
    rw [hg, pay56_apply, EReal.coe_mul]
    simp only [Nat.lt_succ_iff]
  pointwise [k0_pay116, Consts.f32_zero]
  rw [log2e_eq, hw]
  have : (∑ x : Fin 32, (k0_pay57 (F := Ideal) (ix2 r x) : EReal) * ∑ x' : Fin 128, (y (ix4 0 0 x x') : EReal) * k0_pay56 (F := Ideal) (ix2 x' 127))
      = ((∑ n ∈ Finset.range (128 * r.val), g n : ℝ) : EReal) := by
    rw [← sum_blocks, ← sum_upto _ 32 _ (by omega), coe_sum]
    refine Finset.sum_congr rfl fun x _ => ?_
    rw [hw, pay57_apply, ← EReal.coe_mul, mul_comm]
    rfl
  first | rw [this] | (refine Eq.trans (congrArg _ (congrArg _ this)) ?_)
  rw [← EReal.coe_add, ← EReal.coe_mul, mul_comm, add_assoc (128 * r.val), Finset.sum_range_add g (128 * r.val) (l.val + 1),
    add_comm (∑ n ∈ Finset.range (128 * r.val), g n)]

end Cert.KernelIdeal.Hand

end
-- ==== Proof.Spec.lean ====
module

public import proofs.«01_k».proof.Proof.Softmax
public import proofs.«01_k».proof.Proof.ITripVal

@[expose] public section

set_option maxRecDepth 16384
set_option maxHeartbeats 400000

/-!
  The attention as a function of real queries, keys and gates and extended-real values, each given by batch, position,
  head and lane as natural numbers: the causal softmax of scaled scores plus the difference of accumulated gates.
-/

noncomputable section

namespace Cert.Attention

open Idealize.ShloMosaic Finset Cert.OnlineSoftmax

variable (q k : ℕ → ℕ → ℕ → ℕ → ℝ) (v : ℕ → ℕ → ℕ → ℕ → EReal) (g : ℕ → ℕ → ℕ → ℝ)

/-- The gates of a head accumulated up to and with a position. -/
def cum (b h p : ℕ) : ℝ := ∑ i ∈ range (p + 1), g b i h

/-- The score of key `j` for query `p`. -/
def logit (b h p j : ℕ) : ℝ :=
  (∑ d : Fin 128, q b p h d.val * k b j h d.val) / Real.sqrt 128 + cum g b h p - cum g b h j

/-- The score masked to the keys at or before the query. -/
def S (b h p j : ℕ) : EReal := if j ≤ p then (logit q k g b h p j : EReal) else ⊥

/-- The largest masked score. -/
def M (b h p : ℕ) : EReal := Finset.univ.fold max ⊥ (fun j : Fin 4096 => S q k g b h p j.val)

/-- The softmax of the masked scores, applied to the values. -/
def attn (b p h d : ℕ) : EReal :=
  ∑ j : Fin 4096, v b j.val h d * Ideal.div (Ideal.exp (S q k g b h p j.val - M q k g b h p))
    (∑ j : Fin 4096, Ideal.exp (S q k g b h p j.val - M q k g b h p))

theorem M_real (b h p : ℕ) : ∃ μ : ℝ, M q k g b h p = (μ : EReal) := by
  have := max_fold_real (⊥ : EReal) (fun j : Fin 4096 => S q k g b h p j.val) (by simp)
    (fun j => by unfold S; split_ifs <;> simp) ⟨0, by simp [S]⟩
  simpa [M] using this

/-- What the accumulation of masked base-two scores leaves, divided, is the attention. -/
theorem attn_eq (b p h d n : ℕ) (hp : p < n) (hn : n ≤ 4096) (e w : ℕ → EReal) (m l a : EReal)
    (hI : Inv e w n m l a) (he : ∀ j, e j = if j ≤ p then (((1 / Real.log 2) * logit q k g b h p j : ℝ) : EReal) else ⊥)
    (hw : ∀ j, j < 4096 → w j = v b j h d) :
    Ideal.div a l = attn q k v g b p h d := by
  obtain ⟨μ, hμ⟩ := M_real q k g b h p
  rw [hI.div_eq hn (S q k g b h p) μ
    (fun j _ => by
      by_cases hj : j ≤ p
      · exact Or.inr ⟨logit q k g b h p j, by simp [S, hj], by rw [he, if_pos hj]⟩
      · exact Or.inl ⟨by rw [he, if_neg hj], by simp [S, hj]⟩)
    (fun j hj => by unfold S; rw [if_neg (by omega)])
    ⟨0, by omega, by rw [he, if_pos (Nat.zero_le _)]; exact EReal.coe_ne_bot _⟩]
  unfold attn
  rw [hμ, Finset.sum_range, Finset.sum_range]
  exact sum_congr rfl fun j _ => by rw [hw _ j.isLt]

open Cert.KernelIdeal.Hand in
/-- The body's masked score, from scaled queries and base-two gates, is the masked score over the logarithm of two. -/
theorem masked_eq (Qa Ka : ℕ → ℕ → EReal) (Fa : ℕ → ℕ → EReal) (b hp h p j : ℕ)
    (hQ : ∀ d, d < 128 → Qa p (128 * h + d) = ((q b p (2 * hp + h) d * (1 / (Real.sqrt 128 * Real.log 2)) : ℝ) : EReal))
    (hK : ∀ d, d < 128 → Ka j (128 * h + d) = (k b j (2 * hp + h) d : EReal))
    (hF : ∀ n, Fa h n = (((Real.log 2)⁻¹ * cum g b (2 * hp + h) n : ℝ) : EReal)) :
    score Qa Ka Fa h p j = (((1 / Real.log 2) * logit q k g b (2 * hp + h) p j : ℝ) : EReal) := by
  have hl : Real.log 2 ≠ 0 := ne_of_gt (Real.log_pos (by norm_num))
  have hs : Real.sqrt 128 ≠ 0 := ne_of_gt (Real.sqrt_pos.mpr (by norm_num))
  unfold score
  rw [hF, hF, ← EReal.coe_sub]
  rw [sum_congr rfl fun (d : Fin 128) _ => by rw [hQ _ d.isLt, hK _ d.isLt, ← EReal.coe_mul]]
  rw [← coe_sum, ← EReal.coe_add]
  congr 1
  unfold logit
  rw [sum_congr rfl fun (d : Fin 128) _ => show k b j (2 * hp + h) d.val * (q b p (2 * hp + h) d.val * (1 / (Real.sqrt 128 * Real.log 2)))
    = q b p (2 * hp + h) d.val * k b j (2 * hp + h) d.val * (1 / (Real.sqrt 128 * Real.log 2)) by ring]
  rw [← sum_mul]
  field_simp
  ring

end Cert.Attention
-- ==== Proof.IBlock.lean ====
module

public import proofs.«01_k».proof.Proof.IScratch
public import proofs.«01_k».proof.Proof.Spec

@[expose] public section

set_option maxRecDepth 16384
set_option maxHeartbeats 400000

/-! What the body leaves in the result's block: the attention of the batch and of the two heads of the grid point. -/

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.Sem
open Cert.OnlineSoftmax Cert.Attention Finset

/-! ## The pieces a run of the body stores -/

theorem mem_pb (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole)
    (X2 : BufTy.Contents (Elt Ideal) arg2.view.ty) (X3 : BufTy.Contents (Elt Ideal) arg3.view.ty) (X7 : BufTy.Contents (Elt Ideal) arg7.view.ty) (X8 : BufTy.Contents (Elt Ideal) arg8.view.ty) (X9 : BufTy.Contents (Elt Ideal) arg9.view.ty) (p : View.Piece (Elt Ideal) S4096x256 .bf16) :
    ∀ n, n ≤ k0_t1_loop.trips → p ∈ pb (F := Ideal) 𝒱 c bd i arg2 harg2 arg3 harg3 arg4 harg4 arg5 harg5 arg6 harg6 arg7 harg7 arg8 harg8 arg9 harg9 X2 X3 X7 X8 X9 n →
      ∃ k : Fin k0_t1_loop.trips, p ∈ tripL (F := Ideal) 𝒱 c bd i arg2 harg2 arg3 harg3 arg4 harg4 arg5 harg5 arg6 harg6 arg7 harg7 arg8 harg8 arg9 harg9 X2 X3 X7 X8 X9 k
  | 0, _, h => absurd h List.not_mem_nil
  | n + 1, hn, h => by
    rw [pb_succ 𝒱 c bd i arg2 harg2 arg3 harg3 arg4 harg4 arg5 harg5 arg6 harg6 arg7 harg7 arg8 harg8 arg9 harg9 X2 X3 X7 X8 X9 ⟨n, hn⟩] at h
    rcases List.mem_append.mp h with h | h
    · exact ⟨_, h⟩
    · exact mem_pb 𝒱 c bd i arg2 harg2 arg3 harg3 arg4 harg4 arg5 harg5 arg6 harg6 arg7 harg7 arg8 harg8 arg9 harg9 X2 X3 X7 X8 X9 p n (Nat.le_of_succ_le hn) h

theorem outL_eq (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole) (x0 x1 x2 : Vec Ideal S4096x256 .bf16) (x3 : Vec Ideal S1x2x32x128 .f32) :
    outL (F := Ideal) c i arg2 harg2 arg3 harg3 arg4 harg4 arg5 harg5 arg6 harg6 arg7 harg7 arg8 harg8 arg9 harg9 x0 x1 x2 x3
      = pb (F := Ideal) Variants.none c none i arg2 harg2 arg3 harg3 arg4 harg4 arg5 harg5 arg6 harg6 arg7 harg7 arg8 harg8 arg9 harg9 (harg2.unread x0) (harg3.unread x1)
          (arg7.view.writes (Elt Ideal) arg7.view.junk (kernelRun.sl.HS0_16 (F := Ideal) c arg4 harg4 x2))
          (arg8.view.writes (Elt Ideal) arg8.view.junk (kernelRun.sl.HS1_2 (F := Ideal) c arg5 harg5 x3))
          (arg9.view.writes (Elt Ideal) arg9.view.junk (kernelRun.sl.HS2_64 (F := Ideal) c arg5 harg5 x3)) k0_t1_loop.trips := by
  unfold outL kernelRun
  rfl

/-! ## The staged blocks over the naturals -/

section Value

variable (q k : ℕ → ℕ → ℕ → ℕ → ℝ) (v : ℕ → ℕ → ℕ → ℕ → EReal) (g : ℕ → ℕ → ℕ → ℝ) (b hp : ℕ)

/-- The scaled queries of two heads, by row and column. -/
def qa (p e : ℕ) : EReal := ((q b p (2 * hp + e / 128) (e % 128) * (1 / (Real.sqrt 128 * Real.log 2)) : ℝ) : EReal)
/-- The keys of two heads. -/
def ka (p e : ℕ) : EReal := (k b p (2 * hp + e / 128) (e % 128) : EReal)
/-- The values of two heads. -/
def va (p e : ℕ) : EReal := v b p (2 * hp + e / 128) (e % 128)
/-- The accumulated gates of two heads, over the logarithm of two. -/
def fa (h n : ℕ) : EReal := (((Real.log 2)⁻¹ * cum g b (2 * hp + h) n : ℝ) : EReal)

theorem col (h d : ℕ) (hd : d < 128) : (128 * h + d) / 128 = h ∧ (128 * h + d) % 128 = d := by omega

theorem score_eq (h p j : ℕ) : score (qa q b hp) (ka k b hp) (fa g b hp) h p j
    = (((1 / Real.log 2) * logit q k g b (2 * hp + h) p j : ℝ) : EReal) :=
  masked_eq q k g _ _ _ b hp h p j
    (fun d hd => by unfold qa; rw [(col h d hd).1, (col h d hd).2])
    (fun d hd => by unfold ka; rw [(col h d hd).1, (col h d hd).2]) (fun n => rfl)

theorem stored (h p0 : ℕ) (hn : p0 + 512 ≤ 4096) (m l : FVec Ideal S1x512 .f32) (a : FVec Ideal S128x512 .f32)
    (H : Holds (fun p => masked (qa q b hp) (ka k b hp) (fa g b hp) h (p0 + p.val)) (fun d j => va v b hp j (128 * h + d.val)) (p0 + 512) m l a)
    (p : Fin 512) (d : Fin 128) : (k0_pay5 l a (ix2 p d) : EReal) = attn q k v g b (p0 + p.val) (2 * hp + h) d.val := by
  rw [pay5_apply]
  refine attn_eq q k v g b (p0 + p.val) (2 * hp + h) d.val (p0 + 512) (by omega) hn _ _ _ _ _ (H p d) (fun j => ?_) (fun j _ => ?_)
  · show masked _ _ _ _ _ _ = _
    unfold masked
    rw [score_eq]
  · show va _ _ _ _ _ = _
    unfold va
    rw [(col h d.val d.isLt).1, (col h d.val d.isLt).2]

theorem gates_apply (arg5 : Memref sig .tc .vmem S1x2x32x128 .f32) (harg5 : arg5.IsWhole) (x3 : Vec Ideal S1x2x32x128 .f32)
    (G : ℕ → ℕ → EReal) (h3 : ∀ (h : Fin 2) (r : Fin 32) (l : Fin 128), (x3 (ix4 0 h r l) : EReal) = G h.val (128 * r.val + l.val))
    (h : Fin 2) (r : Fin 32) (l : Fin 128) : (gates arg5 harg5 x3 h (ix4 0 0 r l) : EReal) = G h.val (128 * r.val + l.val) := by
  unfold gates
  rw [View.readAt_eq_ld, harg5.read_unread]
  pointwise [h3]

/-- The result's block after the body: the attention of batch `b` for heads `2 * hp` and `2 * hp + 1`. -/
theorem out_apply (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S1x2x32x128 .f32) (harg5 : arg5.IsWhole) (arg6 : Memref sig .tc .vmem S4096x256 .bf16) (harg6 : arg6.IsWhole)
    (arg7 : Memref sig .tc .vmem S2x128x4096 .bf16) (harg7 : arg7.IsWhole) (arg8 : Memref sig .tc .vmem S2x32x128 .f32) (harg8 : arg8.IsWhole) (arg9 : Memref sig .tc .vmem S2x4096x128 .f32) (harg9 : arg9.IsWhole) (x0 x1 x2 : Vec Ideal S4096x256 .bf16) (x3 : Vec Ideal S1x2x32x128 .f32)
    (h0 : ∀ a e, (x0 (ix2 a e) : EReal) = qa q b hp a.val e.val) (h1 : ∀ a e, (x1 (ix2 a e) : EReal) = ka k b hp a.val e.val)
    (h2 : ∀ a e, (x2 (ix2 a e) : EReal) = va v b hp a.val e.val)
    (h3 : ∀ (h : Fin 2) (r : Fin 32) (l : Fin 128), (x3 (ix4 0 h r l) : EReal) = (g b (128 * r.val + l.val) (2 * hp + h.val) : EReal))
    (y : S4096x256.Idx) :
    (VO.read (Elt Ideal) (VO.writes (Elt Ideal) VO.junk (outL (F := Ideal) c i arg2 harg2 arg3 harg3 arg4 harg4 arg5 harg5 arg6 harg6 arg7 harg7 arg8 harg8 arg9 harg9 x0 x1 x2 x3)) y : EReal)
      = attn q k v g b (y 0).val (2 * hp + (y 1).val / 128) ((y 1).val % 128) := by
  have hA : ∀ h r l, (accum arg5 harg5 x3 h (ix2 r l) : EReal) = fa g b hp h.val (128 * r.val + l.val) := fun h r l => by
    unfold accum
    exact pay116_apply _ (fun n => g b n (2 * hp + h.val)) (fun r l => gates_apply arg5 harg5 x3 (fun h n => (g b n (2 * hp + h) : EReal)) h3 h r l) r l
  have R : Reads arg2 arg3 arg7 arg8 arg9 (harg2.unread x0) (harg3.unread x1)
      (arg7.view.writes (Elt Ideal) arg7.view.junk (kernelRun.sl.HS0_16 (F := Ideal) c arg4 harg4 x2))
      (arg8.view.writes (Elt Ideal) arg8.view.junk (kernelRun.sl.HS1_2 (F := Ideal) c arg5 harg5 x3))
      (arg9.view.writes (Elt Ideal) arg9.view.junk (kernelRun.sl.HS2_64 (F := Ideal) c arg5 harg5 x3))
      (qa q b hp) (ka k b hp) (va v b hp) (fa g b hp) :=
    ⟨fun a e => by rw [harg2.read_unread]; exact h0 a e, fun a e => by rw [harg3.read_unread]; exact h1 a e,
      fun h d j => vt_read c arg4 harg4 x2 arg7 (va v b hp) h2 h d j,
      fun h r l => frow_read c arg5 harg5 x3 arg8 (fa g b hp) hA h r l,
      fun h n l => fcol_read c arg5 harg5 x3 arg9 (fa g b hp) hA h n l⟩
  refine View.read_writes_apply_of_pieces (Val := Elt Ideal) (v := VO) (f := VO.junk)
    (fun y : S4096x256.Idx => attn q k v g b (y 0).val (2 * hp + (y 1).val / 128) ((y 1).val % 128)) _ ?_ y (outL_cover c i arg2 harg2 arg3 harg3 arg4 harg4 arg5 harg5 arg6 harg6 arg7 harg7 arg8 harg8 arg9 harg9 x0 x1 x2 x3 y)
  intro p hp' x
  rw [outL_eq] at hp'
  obtain ⟨t, ht⟩ := mem_pb _ _ _ i arg2 harg2 arg3 harg3 arg4 harg4 arg5 harg5 arg6 harg6 arg7 harg7 arg8 harg8 arg9 harg9 _ _ _ _ _ p _ le_rfl hp'
  have ht8 : t.val < 8 := lt_of_lt_of_eq t.isLt trips1
  obtain ⟨t0, t1, H0, H1, e⟩ := tripL_value Variants.none c none i arg2 harg2 arg3 harg3 arg4 harg4 arg5 harg5 arg6 harg6 arg7 harg7 arg8 harg8 arg9 harg9 _ _ _ _ _ _ _ _ _ R (fun h p j => ⟨_, score_eq q k g b hp h p j⟩) t
  rw [e] at ht
  clear e hp' R hA
  rcases List.mem_cons.mp ht with rfl | ht
  · clear ht
    obtain ⟨s, d, rfl⟩ : ∃ (s : Fin 512) (d : Fin 128), x = ix2 s d := ⟨x 0, x 1, eq_ix2 x⟩
    refine (stored q k v g b hp 1 (512 * t.val) (by omega) _ _ _ H1 s d).trans ?_
    have e0 : ((Rect.unit (s := S4096x256) (k0_off2 t) S512x128.size (k0_off2_inb t)).emb (ix2 s d) 0).val = 512 * t.val + s.val := by
      show k0_off2 t 0 + 1 * s.val = _
      rw [off2_eq t]; simp
    have e1 : ((Rect.unit (s := S4096x256) (k0_off2 t) S512x128.size (k0_off2_inb t)).emb (ix2 s d) 1).val = 128 * 1 + d.val := by
      show k0_off2 t 1 + 1 * d.val = _
      rw [off2_eq t]; simp
    show _ = attn q k v g b _ _ _
    rw [e0, e1, (col 1 d.val d.isLt).1, (col 1 d.val d.isLt).2]
  · rcases List.mem_cons.mp ht with rfl | ht
    · clear ht
      obtain ⟨s, d, rfl⟩ : ∃ (s : Fin 512) (d : Fin 128), x = ix2 s d := ⟨x 0, x 1, eq_ix2 x⟩
      refine (stored q k v g b hp 0 (512 * t.val) (by omega) _ _ _ H0 s d).trans ?_
      have e0 : ((Rect.unit (s := S4096x256) (k0_off1 t) S512x128.size (k0_off1_inb t)).emb (ix2 s d) 0).val = 512 * t.val + s.val := by
        show k0_off1 t 0 + 1 * s.val = _
        rw [off1_eq t]; simp
      have e1 : ((Rect.unit (s := S4096x256) (k0_off1 t) S512x128.size (k0_off1_inb t)).emb (ix2 s d) 1).val = 128 * 0 + d.val := by
        show k0_off1 t 1 + 1 * d.val = _
        rw [off1_eq t]; simp
      show _ = attn q k v g b _ _ _
      rw [e0, e1, (col 0 d.val d.isLt).1, (col 0 d.val d.isLt).2]
    · exact absurd ht List.not_mem_nil

end Value

end Cert.KernelIdeal.Hand

end
-- ==== Proof.IIn.lean ====
module

public import proofs.«01_k».proof.Proof.IBlock
public import Idealize.ShloMosaic.Lib.Pipeline.ValueKit
public import Idealize.ShloMosaic.Lib.Claim

@[expose] public section

set_option maxRecDepth 16384
set_option maxHeartbeats 400000

/-! The blocks the grid points find, through the host operations before the call, in terms of the program's arguments. -/

noncomputable section

namespace Cert.KernelIdeal.Hand

open Cert.KernelIdeal.Gen
open Idealize.ShloMosaic Idealize.ShloMosaic.TcCoe Idealize.ShloMosaic.Tactic

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8, 0, 0]
    ∧ win0_4.index t = ![t.val / 8, t.val % 8] ∧ t.val < 64 := (by decide +kernel : ∀ t : Fin grid0.N, _)

variable (m : (ℓ : Loc nD τ sig) → Buf (Elt Ideal) ℓ) (c : Dev nD)

theorem q_entry (r : Fin 32768) (e : Fin 2048) : (V m c main_v6 (ix2 r e) : EReal)
    = Ideal.div (m ((c.tc : Thread nD τ).loc main_arg0) (ix4 (⟨r.val / 4096, by omega⟩ : Fin 8) (⟨r.val % 4096, by omega⟩ : Fin 4096) (⟨e.val / 128, by omega⟩ : Fin 16) (⟨e.val % 128, by omega⟩ : Fin 128)) : EReal)
        ((Real.sqrt 128 * Real.log 2 : ℝ) : EReal) := by
  entry_read
  pointwise [Consts.f32_128, Consts.f32_two]
  rw [Ideal.sqrt_coe, Ideal.log_coe, if_neg (by norm_num), if_neg (by norm_num), ← EReal.coe_mul]

theorem k_entry (r : Fin 32768) (e : Fin 2048) : (V m c main_v8 (ix2 r e) : EReal)
    = (m ((c.tc : Thread nD τ).loc main_arg1) (ix4 (⟨r.val / 4096, by omega⟩ : Fin 8) (⟨r.val % 4096, by omega⟩ : Fin 4096) (⟨e.val / 128, by omega⟩ : Fin 16) (⟨e.val % 128, by omega⟩ : Fin 128)) : EReal) := by
  entry_read
  pointwise

theorem v_entry (r : Fin 32768) (e : Fin 2048) : (V m c main_v10 (ix2 r e) : EReal)
    = (m ((c.tc : Thread nD τ).loc main_arg2) (ix4 (⟨r.val / 4096, by omega⟩ : Fin 8) (⟨r.val % 4096, by omega⟩ : Fin 4096) (⟨e.val / 128, by omega⟩ : Fin 16) (⟨e.val % 128, by omega⟩ : Fin 128)) : EReal) := by
  entry_read
  pointwise

theorem g_entry (b : Fin 8) (h : Fin 16) (r : Fin 32) (l : Fin 128) : (V m c main_v12 (ix4 b h r l) : EReal)
    = (m ((c.tc : Thread nD τ).loc main_arg3) (ix3 b (⟨128 * r.val + l.val, by omega⟩ : Fin 4096) h) : EReal) := by
  entry_read
  pointwise
  blk_ext!

theorem block0 (t : Fin cfg0.N) (a : Fin 4096) (e : Fin 256) : (iblk m c 0 t (ix2 a e) : EReal)
    = V m c main_v6 (ix2 (⟨4096 * (t.val / 8) + a.val, by have := (idx t).2.2.2.2.2; omega⟩ : Fin 32768) (⟨256 * (t.val % 8) + e.val, by omega⟩ : Fin 2048)) := by
  blk_ext [iblk, idx t]

theorem block1 (t : Fin cfg0.N) (a : Fin 4096) (e : Fin 256) : (iblk m c 1 t (ix2 a e) : EReal)
    = V m c main_v8 (ix2 (⟨4096 * (t.val / 8) + a.val, by have := (idx t).2.2.2.2.2; omega⟩ : Fin 32768) (⟨256 * (t.val % 8) + e.val, by omega⟩ : Fin 2048)) := by
  blk_ext [iblk, idx t]

theorem block2 (t : Fin cfg0.N) (a : Fin 4096) (e : Fin 256) : (iblk m c 2 t (ix2 a e) : EReal)
    = V m c main_v10 (ix2 (⟨4096 * (t.val / 8) + a.val, by have := (idx t).2.2.2.2.2; omega⟩ : Fin 32768) (⟨256 * (t.val % 8) + e.val, by omega⟩ : Fin 2048)) := by
  blk_ext [iblk, idx t]

theorem block3 (t : Fin cfg0.N) (h : Fin 2) (r : Fin 32) (l : Fin 128) : (iblk m c 3 t (ix4 0 h r l) : EReal)
    = V m c main_v12 (ix4 (⟨t.val / 8, by have := (idx t).2.2.2.2.2; omega⟩ : Fin 8) (⟨2 * (t.val % 8) + h.val, by omega⟩ : Fin 16) r l) := by
  blk_ext [iblk, idx t]

/-! ## The result's array -/

variable (q k : ℕ → ℕ → ℕ → ℕ → ℝ) (v : ℕ → ℕ → ℕ → ℕ → EReal) (g : ℕ → ℕ → ℕ → ℝ)
  (hq : ∀ (b : Fin 8) (p : Fin 4096) (h : Fin 16) (d : Fin 128), (m ((c.tc : Thread nD τ).loc main_arg0) (ix4 b p h d) : EReal) = (q b.val p.val h.val d.val : EReal))
  (hk : ∀ (b : Fin 8) (p : Fin 4096) (h : Fin 16) (d : Fin 128), (m ((c.tc : Thread nD τ).loc main_arg1) (ix4 b p h d) : EReal) = (k b.val p.val h.val d.val : EReal))
  (hv : ∀ (b : Fin 8) (p : Fin 4096) (h : Fin 16) (d : Fin 128), (m ((c.tc : Thread nD τ).loc main_arg2) (ix4 b p h d) : EReal) = v b.val p.val h.val d.val)
  (hg : ∀ (b : Fin 8) (p : Fin 4096) (h : Fin 16), (m ((c.tc : Thread nD τ).loc main_arg3) (ix3 b p h) : EReal) = (g b.val p.val h.val : EReal))

include hq hk hv hg in
theorem outsAt_apply (t : Fin cfg0.N) (y : S4096x256.Idx) : (outsAt m c t y : EReal)
    = Attention.attn q k v g (t.val / 8) (y 0).val (2 * (t.val % 8) + (y 1).val / 128) ((y 1).val % 128) := by
  have ht := (idx t).2.2.2.2.2
  have hl : Real.log 2 ≠ 0 := ne_of_gt (Real.log_pos (by norm_num))
  have hs : Real.sqrt 128 ≠ 0 := ne_of_gt (Real.sqrt_pos.mpr (by norm_num))
  refine out_apply q k v g (t.val / 8) (t.val % 8) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _)
    (iblk m c 0 t) (iblk m c 1 t) (iblk m c 2 t) (iblk m c 3 t) (fun a e => ?_) (fun a e => ?_) (fun a e => ?_) (fun h r l => ?_) y
  · refine (block0 m c t a e).trans ((q_entry m c _ _).trans ?_)
    rw [hq, Ideal.div_coe (mul_ne_zero hs hl), ← EReal.coe_mul]
    unfold qa
    have := a.isLt
    have := e.isLt
    simp only [show (4096 * (t.val / 8) + a.val) / 4096 = t.val / 8 by omega, show (4096 * (t.val / 8) + a.val) % 4096 = a.val by omega,
      show (256 * (t.val % 8) + e.val) / 128 = 2 * (t.val % 8) + e.val / 128 by omega, show (256 * (t.val % 8) + e.val) % 128 = e.val % 128 by omega]
  · refine (block1 m c t a e).trans ((k_entry m c _ _).trans ?_)
    rw [hk]
    unfold ka
    have := a.isLt
    have := e.isLt
    simp only [show (4096 * (t.val / 8) + a.val) / 4096 = t.val / 8 by omega, show (4096 * (t.val / 8) + a.val) % 4096 = a.val by omega,
      show (256 * (t.val % 8) + e.val) / 128 = 2 * (t.val % 8) + e.val / 128 by omega, show (256 * (t.val % 8) + e.val) % 128 = e.val % 128 by omega]
  · refine (block2 m c t a e).trans ((v_entry m c _ _).trans ?_)
    rw [hv]
    unfold va
    have := a.isLt
    have := e.isLt
    simp only [show (4096 * (t.val / 8) + a.val) / 4096 = t.val / 8 by omega, show (4096 * (t.val / 8) + a.val) % 4096 = a.val by omega,
      show (256 * (t.val % 8) + e.val) / 128 = 2 * (t.val % 8) + e.val / 128 by omega, show (256 * (t.val % 8) + e.val) % 128 = e.val % 128 by omega]
  · refine (block3 m c t h r l).trans ((g_entry m c _ _ _ _).trans ?_)
    rw [hg]

/-- The result, by row and column. -/
def result (y : S32768x2048.Idx) : EReal :=
  Attention.attn q k v g ((y 0).val / 4096) ((y 0).val % 4096) ((y 1).val / 128) ((y 1).val % 128)

include hq hk hv hg in
theorem final : (dats m 0 c).arrAt 4 cfg0.N = result q k v g := by
  refine (dats m 0 c).arrAt_eq_of_covers 4 _ (by decide +kernel) fun t hf y => ?_
  rw [after4]
  blk_simp
  refine (outsAt_apply m c q k v g hq hk hv hg t _).trans ?_
  have e0 : ((win0_4.blk t).view.emb y 0 : ℕ) = 4096 * (t.val / 8) + (y 0).val := by blk_simp [idx t]; omega
  have e1 : ((win0_4.blk t).view.emb y 1 : ℕ) = 256 * (t.val % 8) + (y 1).val := by blk_simp [idx t]; omega
  have h0 : (y 0).val < 4096 := (y 0).isLt
  have h1 : (y 1).val < 256 := (y 1).isLt
  unfold result
  rw [e0, e1, show (4096 * (t.val / 8) + (y 0).val) / 4096 = t.val / 8 by omega, show (4096 * (t.val / 8) + (y 0).val) % 4096 = (y 0).val by omega,
    show (256 * (t.val % 8) + (y 1).val) / 128 = 2 * (t.val % 8) + (y 1).val / 128 by omega, show (256 * (t.val % 8) + (y 1).val) % 128 = (y 1).val % 128 by omega]

end Cert.KernelIdeal.Hand

end
-- ==== Proof.RefSum.lean ====
module

public import Idealize.ShloMosaic.Lib.Pointwise
public import Idealize.ShloMosaic.PureOps.Ideal

@[expose] public section

set_option maxRecDepth 16384
set_option maxHeartbeats 400000

/-!
  The running sum along the middle axis of a rank-three array of real numbers, read at an index: a window of the whole
  length of that axis, padded low by one less than it.
-/

noncomputable section

namespace Cert.RunningSum

open Idealize.ShloMosaic Finset

theorem foldl_add_coe {α : Type} (F : EReal → α → EReal) (f : α → ℝ) (hF : ∀ r n, F r n = r + (f n : EReal)) :
    ∀ (l : List α) (a : ℝ), l.foldl F (a : EReal) = ((a + (l.map f).sum : ℝ) : EReal)
  | [], a => by simp
  | n :: l, a => by
    rw [List.foldl_cons, hF, ← EReal.coe_add, foldl_add_coe F f hF l, List.map_cons, List.sum_cons, add_assoc]

theorem numel_mid (R : ℕ) : (⟨3, ![1, R, 1]⟩ : Shape).numel = R := by
  simp [Shape.numel, Fin.prod_univ_three]

theorem symm_mid {R : ℕ} (n : Fin (⟨3, ![1, R, 1]⟩ : Shape).numel) :
    (⟨3, ![1, R, 1]⟩ : Shape).rowMajor.symm n = ix3 (0 : Fin 1) (n.cast (numel_mid R)) (0 : Fin 1) := by
  rw [Equiv.symm_apply_eq]
  apply Fin.ext
  rw [Shape.rowMajor_val_three]
  simp only [show ((⟨3, ![1, R, 1]⟩ : Shape).size) = ![1, R, 1] from rfl]
  show n.val = (0 * R + n.val) * 1 + 0
  omega

/-- The sum of a window that reaches back over the start, its part before the start being zero. -/
theorem sum_window (f : ℕ → ℝ) (R j : ℕ) (hj : j < R) :
    ∑ w ∈ range R, (if R - 1 ≤ j + w then f (j + w - (R - 1)) else 0) = ∑ i ∈ range (j + 1), f i := by
  have h1 : R = (R - 1 - j) + (j + 1) := by omega
  have : ∀ w, w ∈ range R → True := fun _ _ => trivial
  obtain ⟨a, ha⟩ : ∃ a, R = a + (j + 1) := ⟨_, h1⟩
  subst ha
  rw [sum_range_add]
  rw [sum_eq_zero fun w hw => if_neg (by have := mem_range.mp hw; omega), zero_add]
  refine sum_congr rfl fun w hw => ?_
  rw [if_pos (by omega)]
  congr 1; omega

theorem reduceWindowAdd_mid {A R C : ℕ} (x : FVec Ideal (⟨3, ![A, R, C]⟩ : Shape) .f32) (g : ℕ → ℕ → ℕ → ℝ)
    (hx : ∀ a r c, x (ix3 a r c) = (g a.val r.val c.val : EReal)) (init : (⟨0, ![]⟩ : Shape).Idx → Ideal .f32)
    (hi : ∀ k, init k = ((0 : ℝ) : EReal)) (R1 : ℕ) (hR : R1 = R - 1)
    (h : (⟨3, ![A, R, C]⟩ : Shape).ReduceWindows ![1, R, 1] ![1, 1, 1] ![0, R1, 0] ![0, 0, 0] ⟨3, ![A, R, C]⟩)
    (hu : 0 < (⟨0, ![]⟩ : Shape).numel) (a : Fin A) (j : Fin R) (c : Fin C) :
    Host.reduceWindowAdd (F := Ideal) ![1, R, 1] ![1, 1, 1] ![0, R1, 0] ![0, 0, 0] x init h hu (ix3 a j c)
      = ((∑ i ∈ range (j.val + 1), g a.val i c.val : ℝ) : EReal) := by
  subst hR
  have hj := j.isLt
  have ha := a.isLt
  have hc := c.isLt
  unfold Host.reduceWindowAdd
  rw [Ideal.hostReduceWindowAdd_def]
  unfold Ideal.hostReduceWindowAdd Host.reduceWindow
  rw [hi]
  refine (foldl_add_coe _ (fun n : Fin (⟨3, ![1, R, 1]⟩ : Shape).numel => if R - 1 ≤ j.val + n.val then g a.val (j.val + n.val - (R - 1)) c.val else 0) (fun r n => ?_) _ 0).trans ?_
  · have hw0 : ((⟨3, ![1, R, 1]⟩ : Shape).rowMajor.symm n 0).val = 0 := by rw [symm_mid]; rfl
    have hw1 : ((⟨3, ![1, R, 1]⟩ : Shape).rowMajor.symm n 1).val = n.val := by rw [symm_mid]; rfl
    have hw2 : ((⟨3, ![1, R, 1]⟩ : Shape).rowMajor.symm n 2).val = 0 := by rw [symm_mid]; rfl
    have hn : n.val < R := (n.cast (numel_mid _)).isLt
    dsimp only
    congr 1
    split
    · next hin =>
      have h1 := hin 1
      change R - 1 ≤ j.val * 1 + ((⟨3, ![1, R, 1]⟩ : Shape).rowMajor.symm n 1).val
        ∧ j.val * 1 + ((⟨3, ![1, R, 1]⟩ : Shape).rowMajor.symm n 1).val - (R - 1) < R at h1
      rw [hw1] at h1
      rw [if_pos (by omega)]
      refine (congrArg x (funext fun b => Fin.ext ?_)).trans (hx a ⟨j.val + n.val - (R - 1), by omega⟩ c)
      match b with
      | ⟨0, _⟩ =>
        show a.val * 1 + ((⟨3, ![1, R, 1]⟩ : Shape).rowMajor.symm n 0).val - 0 = a.val
        rw [hw0]; omega
      | ⟨1, _⟩ =>
        show j.val * 1 + ((⟨3, ![1, R, 1]⟩ : Shape).rowMajor.symm n 1).val - (R - 1) = j.val + n.val - (R - 1)
        rw [hw1, Nat.mul_one]
      | ⟨2, _⟩ =>
        show c.val * 1 + ((⟨3, ![1, R, 1]⟩ : Shape).rowMajor.symm n 2).val - 0 = c.val
        rw [hw2]; omega
    · next hin =>
      rw [if_neg fun hle => hin fun b => by
        match b with
        | ⟨0, _⟩ =>
          show 0 ≤ a.val * 1 + ((⟨3, ![1, R, 1]⟩ : Shape).rowMajor.symm n 0).val ∧ a.val * 1 + ((⟨3, ![1, R, 1]⟩ : Shape).rowMajor.symm n 0).val - 0 < A
          rw [hw0]; omega
        | ⟨1, _⟩ =>
          show R - 1 ≤ j.val * 1 + ((⟨3, ![1, R, 1]⟩ : Shape).rowMajor.symm n 1).val
            ∧ j.val * 1 + ((⟨3, ![1, R, 1]⟩ : Shape).rowMajor.symm n 1).val - (R - 1) < R
          rw [hw1]; omega
        | ⟨2, _⟩ =>
          show 0 ≤ c.val * 1 + ((⟨3, ![1, R, 1]⟩ : Shape).rowMajor.symm n 2).val ∧ c.val * 1 + ((⟨3, ![1, R, 1]⟩ : Shape).rowMajor.symm n 2).val - 0 < C
          rw [hw2]; omega]
  · rw [zero_add, ← Fin.sum_univ_def, ← sum_window (fun i => g a.val i c.val) R j.val hj]
    congr 1
    refine (Finset.sum_range (fun w => if R - 1 ≤ j.val + w then g a.val (j.val + w - (R - 1)) c.val else 0)).symm.trans ?_
    exact congrArg (fun N => ∑ w ∈ range N, (if R - 1 ≤ j.val + w then g a.val (j.val + w - (R - 1)) c.val else 0)) (numel_mid R)

end Cert.RunningSum
-- ==== Proof.RefValue.lean ====
module

public import proofs.«01_k».proof.Proof.Gen.ReferenceIdeal.Run
public import proofs.«01_k».proof.Proof.RefSum
public import proofs.«01_k».proof.Proof.Spec
public import proofs.«01_k».proof.Proof.Consts

@[expose] public section

set_option maxRecDepth 16384
set_option maxHeartbeats 400000

/-! The reference's result at an index, as the attention of its arguments. -/

noncomputable section

namespace Cert.ReferenceIdeal.Hand

open Cert.ReferenceIdeal Cert.ReferenceIdeal.Gen
open Idealize.ShloMosaic Idealize.ShloMosaic.TcCoe Idealize.ShloMosaic.Tactic Finset
open Cert.Attention

variable (m : (ℓ : Loc nD τ sig) → Buf (Elt Ideal) ℓ) (c : Dev nD)
variable (q k : ℕ → ℕ → ℕ → ℕ → ℝ) (v : ℕ → ℕ → ℕ → ℕ → EReal) (g : ℕ → ℕ → ℕ → ℝ)
  (hq : ∀ (b : Fin 8) (p : Fin 4096) (h : Fin 16) (d : Fin 128), (m ((c.tc : Thread nD τ).loc main_arg0) (ix4 b p h d) : EReal) = (q b.val p.val h.val d.val : EReal))
  (hk : ∀ (b : Fin 8) (p : Fin 4096) (h : Fin 16) (d : Fin 128), (m ((c.tc : Thread nD τ).loc main_arg1) (ix4 b p h d) : EReal) = (k b.val p.val h.val d.val : EReal))
  (hv : ∀ (b : Fin 8) (p : Fin 4096) (h : Fin 16) (d : Fin 128), (m ((c.tc : Thread nD τ).loc main_arg2) (ix4 b p h d) : EReal) = v b.val p.val h.val d.val)
  (hg : ∀ (b : Fin 8) (p : Fin 4096) (h : Fin 16), (m ((c.tc : Thread nD τ).loc main_arg3) (ix3 b p h) : EReal) = (g b.val p.val h.val : EReal))

/-- The accumulated gates as the reference computes them. -/
def gates : FVec Ideal S8x4096x16 .f32 :=
  Host.reduceWindowAdd (F := Ideal) ![1, 4096, 1] ![1, 1, 1] ![0, 4095, 0] ![0, 0, 0] (m ((c.tc : Thread nD τ).loc main_arg3))
    (broadcastInDim S_ ![] bcast_S_S_ (constant S_ .f32 0x00000000#32)) reduceWindows_S8x4096x16_S8x4096x16_w1s1p0_0_w4096s1p4095_0_w1s1p0_0 h_S_

include hg in
theorem gates_apply (b : Fin 8) (p : Fin 4096) (h : Fin 16) : (gates m c (ix3 b p h) : EReal) = (cum g b.val h.val p.val : EReal) := by
  unfold gates
  exact RunningSum.reduceWindowAdd_mid (m ((c.tc : Thread nD τ).loc main_arg3)) g hg _ (fun k => by
    pointwise [Consts.f32_zero]; exact EReal.coe_zero.symm) 4095 (by norm_num) _ _ b p h

/-- The masked scores, from the accumulated gates. -/
def sel (Q K : FVec Ideal S8x4096x16x128 .f32) (G : FVec Ideal S8x4096x16 .f32) : FVec Ideal S8x16x4096x4096 .f32 :=
  select (broadcastInDim S8x16x4096x4096 ![2, 3] bcast_S4096x4096_S8x16x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
    (subf (addf (Host.divf (Host.dotGeneral dot_S8x4096x16x128_S8x4096x16x128_S8x16x4096x4096_3_3_1_1_02_02 none Q K) (broadcastInDim S8x16x4096x4096 ![] bcast_S_S8x16x4096x4096 (Host.sqrt (constant S_ .f32 0x43000000#32)))) (broadcastInDim S8x16x4096x4096 ![0, 1, 2, 3] bcast_S8x16x4096x1_S8x16x4096x4096_0_1_2_3 (broadcastInDim S8x16x4096x1 ![0, 1, 2] bcast_S8x16x4096_S8x16x4096x1_0_1_2 (transpose S8x16x4096 [0, 2, 1] G transposes_S8x4096x16_S8x16x4096_0_2_1)))) (broadcastInDim S8x16x4096x4096 ![0, 1, 2, 3] bcast_S8x16x1x4096_S8x16x4096x4096_0_1_2_3 (broadcastInDim S8x16x1x4096 ![0, 1, 3] bcast_S8x16x4096_S8x16x1x4096_0_1_3 (transpose S8x16x4096 [0, 2, 1] G transposes_S8x4096x16_S8x16x4096_0_2_1))))
    (broadcastInDim S8x16x4096x4096 ![] bcast_S_S8x16x4096x4096 (id (constant S_ .f32 0xFF800000#32)))

/-- The largest score of each query, -/
def rmax (s : FVec Ideal S8x16x4096x4096 .f32) : FVec Ideal S8x16x4096 .f32 :=
  Host.reduce FloatOps.maximumf s (constant S_ .f32 0xFF800000#32) reducesTo_S8x16x4096x4096_S8x16x4096_d3 h_S_

/-- and the larger of it and minus infinity. -/
def top (s : FVec Ideal S8x16x4096x4096 .f32) : FVec Ideal S8x16x4096 .f32 :=
  maximumf (broadcastInDim S8x16x4096 ![] bcast_S_S8x16x4096 (constant S_ .f32 0xFF800000#32)) (rmax s)

/-- The exponentials of the scores less the largest. -/
def ex (s : FVec Ideal S8x16x4096x4096 .f32) : FVec Ideal S8x16x4096x4096 .f32 :=
  Host.exp (subf s (broadcastInDim S8x16x4096x4096 ![0, 1, 2, 3] bcast_S8x16x4096x1_S8x16x4096x4096_0_1_2_3 (broadcastInDim S8x16x4096x1 ![0, 1, 2] bcast_S8x16x4096_S8x16x4096x1_0_1_2 (top s))))

/-- The weights: the exponentials over their sum. -/
def wts (E : FVec Ideal S8x16x4096x4096 .f32) : FVec Ideal S8x16x4096x4096 .f32 :=
  Host.divf E (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduceAdd E (constant S_ .f32 0x00000000#32) reducesTo_S8x16x4096x4096_S8x16x4096_d3 h_S_)))

/-- The weights applied to the values, by row and column. -/
def mix (X : FVec Ideal S8x4096x16x128 .f32) (P : FVec Ideal S8x16x4096x4096 .f32) : FVec Ideal S32768x2048 .bf16 :=
  truncf .bf16 (shapeCast _ (transpose S8x4096x16x128 [0, 3, 1, 2] (Host.dotGeneral dot_S8x4096x16x128_S8x16x4096x4096_S8x16x128x4096_1_3_3_2_02_01 none X P) transposes_S8x16x128x4096_S8x4096x16x128_0_3_1_2) shapeCasts_S8x4096x16x128_S32768x2048) bitsLt_bf16_f32

theorem res_eq : Value.res_main_v33 (F := Ideal) m c = mix (m ((c.tc : Thread nD τ).loc main_arg2))
    (wts (ex (sel (m ((c.tc : Thread nD τ).loc main_arg0)) (m ((c.tc : Thread nD τ).loc main_arg1)) (gates m c)))) := rfl

theorem sel_apply (Q K : FVec Ideal S8x4096x16x128 .f32) (G : FVec Ideal S8x4096x16 .f32) (b : Fin 8) (h : Fin 16) (p j : Fin 4096) :
    (sel Q K G (ix4 b h p j) : EReal) = if j.val ≤ p.val then
      Ideal.div (∑ d : Fin 128, (Q (ix4 b p h d) : EReal) * K (ix4 b j h d)) ((Real.sqrt 128 : ℝ) : EReal) + G (ix3 b p h) - G (ix3 b j h) else ⊥ := by
  pointwise [sel, Consts.f32_128, Consts.f32_negInf]
  have e : id (constant (F := Ideal) S_ .f32 0xFF800000#32) ix0 = (⊥ : EReal) := Consts.f32_negInf
  have hp := p.isLt
  have hj := j.isLt
  have e' : IntOp.cmpi .sge (BitVec.ofNat 32 p.val) (BitVec.ofNat 32 j.val) = BitVec.ofBool (decide (j.val ≤ p.val)) := by
    unfold IntOp.cmpi
    congr 1
    simp only [BitVec.sle]
    rw [BitVec.toInt_ofNat', BitVec.toInt_ofNat', Int.bmod_eq_of_le (by omega) (by omega), Int.bmod_eq_of_le (by omega) (by omega)]
    simp
  rw [e, e', Ideal.sqrt_coe, if_neg (by norm_num)]
  by_cases h' : j.val ≤ p.val <;> simp [h', Scalar.select]

theorem reduce_last {n0 n1 n2 n3 : ℕ} {t u : Shape} (f : EReal → EReal → EReal) [Std.Commutative f] [Std.Associative f]
    (x : (⟨4, ![n0, n1, n2, n3]⟩ : Shape).Idx → EReal) (init : u.Idx → EReal)
    (h : (⟨4, ![n0, n1, n2, n3]⟩ : Shape).ReducesTo [3] t) (hu : 0 < u.numel) (j : t.Idx) :
    Host.reduce f x init h hu j = (Finset.univ : Finset (Fin n3)).fold f (init (Shape.Idx.first hu))
      (fun k => x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) := by
  rw [Host.reduce_eq_fold, Shape.ReducesTo.fold_fiber_r4_a3]

instance : Std.Commutative (FloatOps.maximumf : Ideal .f32 → Ideal .f32 → Ideal .f32) := inferInstanceAs (Std.Commutative (max : EReal → EReal → EReal))
instance : Std.Associative (FloatOps.maximumf : Ideal .f32 → Ideal .f32 → Ideal .f32) := inferInstanceAs (Std.Associative (max : EReal → EReal → EReal))

theorem reduce_apply (s : FVec Ideal S8x16x4096x4096 .f32) (b : Fin 8) (h : Fin 16) (p : Fin 4096) :
    (rmax s (ix3 b h p) : EReal)
      = Finset.univ.fold max ⊥ (fun j : Fin 4096 => (s (ix4 b h p j) : EReal)) := by
  unfold rmax
  have e : (constant (F := Ideal) S_ .f32 0xFF800000#32) (Shape.Idx.first h_S_) = (⊥ : EReal) := Consts.f32_negInf
  generalize constant (F := Ideal) S_ .f32 0xFF800000#32 = z at e ⊢
  refine (reduce_last (FloatOps.maximumf : Ideal .f32 → Ideal .f32 → Ideal .f32) s z reducesTo_S8x16x4096x4096_S8x16x4096_d3 h_S_ (ix3 b h p)).trans ?_
  rw [e]
  exact congrArg (fun f => Finset.univ.fold max (⊥ : EReal) f) (funext fun k => rfl)

theorem top_eq (T : FVec Ideal S8x16x4096 .f32) (i : S8x16x4096.Idx) :
    (maximumf (broadcastInDim S8x16x4096 ![] bcast_S_S8x16x4096 (constant S_ .f32 0xFF800000#32)) T i : EReal) = T i := by
  change max (Ideal.ofBits .f32 0xFF800000#32) (T i : EReal) = T i
  rw [Consts.f32_negInf]
  exact max_eq_right bot_le

theorem top_apply (s : FVec Ideal S8x16x4096x4096 .f32) (b : Fin 8) (h : Fin 16) (p : Fin 4096) :
    (top s (ix3 b h p) : EReal) = Finset.univ.fold max ⊥ (fun j : Fin 4096 => (s (ix4 b h p j) : EReal)) :=
  (top_eq (rmax s) (ix3 b h p)).trans (reduce_apply s b h p)

theorem ex_apply (s : FVec Ideal S8x16x4096x4096 .f32) (b : Fin 8) (h : Fin 16) (p j : Fin 4096) :
    (ex s (ix4 b h p j) : EReal) = Ideal.exp (s (ix4 b h p j) - top s (ix3 b h p)) := by
  unfold ex
  generalize top s = T
  pointwise

theorem wts_apply (s : FVec Ideal S8x16x4096x4096 .f32) (b : Fin 8) (h : Fin 16) (p j : Fin 4096) :
    (wts s (ix4 b h p j) : EReal) = Ideal.div (s (ix4 b h p j)) (∑ j : Fin 4096, (s (ix4 b h p j) : EReal)) := by
  pointwise [wts, Consts.f32_zero]

theorem mix_apply (X : FVec Ideal S8x4096x16x128 .f32) (P : FVec Ideal S8x16x4096x4096 .f32) (b : Fin 8) (h : Fin 16) (p : Fin 4096) (d : Fin 128)
    (n : Fin 32768) (e : Fin 2048) (hn : n.val = 4096 * b.val + p.val) (he : e.val = 128 * h.val + d.val) :
    (mix X P (ix2 n e) : EReal) = ∑ j : Fin 4096, (X (ix4 b j h d) : EReal) * P (ix4 b h p j) := by
  obtain ⟨n, hn'⟩ := n
  obtain ⟨e, he'⟩ := e
  dsimp only at hn he
  subst hn he
  pointwise [mix]

include hq hk hv hg in
/-- The reference's result, by row and column. -/
theorem res_apply (n : Fin 32768) (e : Fin 2048) : (Value.res_main_v33 (F := Ideal) m c (ix2 n e) : EReal)
    = attn q k v g (n.val / 4096) (n.val % 4096) (e.val / 128) (e.val % 128) := by
  have hs : Real.sqrt 128 ≠ 0 := ne_of_gt (Real.sqrt_pos.mpr (by norm_num))
  have hsel : ∀ (b : Fin 8) (h : Fin 16) (p j : Fin 4096),
      (sel (m ((c.tc : Thread nD τ).loc main_arg0)) (m ((c.tc : Thread nD τ).loc main_arg1)) (gates m c) (ix4 b h p j) : EReal)
        = S q k g b.val h.val p.val j.val := fun b h p j => by
    rw [sel_apply, gates_apply m c g hg, gates_apply m c g hg]
    unfold S
    split_ifs
    · rw [sum_congr rfl fun (d : Fin 128) _ => by rw [hq, hk, ← EReal.coe_mul], ← OnlineSoftmax.coe_sum, Ideal.div_coe hs,
        ← EReal.coe_mul, ← EReal.coe_add, ← EReal.coe_sub]
      congr 1
      unfold logit
      rw [mul_one_div]
    · rfl
  rw [res_eq]
  refine (mix_apply _ _ ⟨n.val / 4096, by omega⟩ ⟨e.val / 128, by omega⟩ ⟨n.val % 4096, by omega⟩ ⟨e.val % 128, by omega⟩ n e (by simp only []; omega) (by simp only []; omega)).trans ?_
  generalize sel (m ((c.tc : Thread nD τ).loc main_arg0)) (m ((c.tc : Thread nD τ).loc main_arg1)) (gates m c) = s at hsel
  unfold attn
  refine sum_congr rfl fun j _ => ?_
  rw [hv, wts_apply]
  simp only [ex_apply, top_apply, hsel]
  unfold Attention.M
  rfl

end Cert.ReferenceIdeal.Hand

end
-- ==== Proof.Value.lean ====
module

public import proofs.«01_k».proof.Defs
public import proofs.«01_k».proof.Proof.IIn
public import proofs.«01_k».proof.Proof.RefValue
public import proofs.«01_k».proof.Proof.Gen.Pre_finite

@[expose] public section

set_option maxRecDepth 16384
set_option maxHeartbeats 400000

/-! The value certificate: under the precondition the arguments are real, and the kernel's and the reference's
    results are the attention of the same arrays. -/

noncomputable section

namespace Cert.Proof

open Idealize.ShloMosaic Idealize.ShloMosaic.TcCoe Idealize.ShloMosaic.Tactic Idealize.SL.Sem

theorem f32_posInf : Ideal.ofBits .f32 0x7F800000#32 = ⊤ := by simp [Ideal.ofBits, Ideal.ieee]

/-- An element the precondition admits is a real number. -/
theorem real_of_lt (x : EReal) (h : Ideal.cmp .olt (max x (-x)) (Ideal.ofBits .f32 0x7F800000#32) = 1#1) : x = (x.toReal : EReal) := by
  have h' : max x (-x) < ⊤ := by
    rw [f32_posInf] at h
    by_contra hc
    have e : Ideal.cmp .olt (max x (-x)) ⊤ = BitVec.ofBool (decide (max x (-x) < ⊤)) := rfl
    rw [e, decide_eq_false hc] at h
    exact absurd h (by decide)
  refine (EReal.coe_toReal ?_ ?_).symm
  · rintro rfl; simp at h'
  · rintro rfl; simp at h'

/-- An array of four axes by natural numbers, zero out of range. -/
def at4 (X : (⟨4, ![8, 4096, 16, 128]⟩ : Shape).Idx → EReal) (b p h d : ℕ) : EReal :=
  if w : b < 8 ∧ p < 4096 ∧ h < 16 ∧ d < 128 then X (ix4 ⟨b, w.1⟩ ⟨p, w.2.1⟩ ⟨h, w.2.2.1⟩ ⟨d, w.2.2.2⟩) else 0

theorem at4_val (X : (⟨4, ![8, 4096, 16, 128]⟩ : Shape).Idx → EReal) (b : Fin 8) (p : Fin 4096) (h : Fin 16) (d : Fin 128) :
    at4 X b.val p.val h.val d.val = X (ix4 b p h d) := dif_pos ⟨b.isLt, p.isLt, h.isLt, d.isLt⟩

/-- An array of three axes likewise. -/
def at3 (X : (⟨3, ![8, 4096, 16]⟩ : Shape).Idx → EReal) (b p h : ℕ) : EReal :=
  if w : b < 8 ∧ p < 4096 ∧ h < 16 then X (ix3 ⟨b, w.1⟩ ⟨p, w.2.1⟩ ⟨h, w.2.2⟩) else 0

theorem at3_val (X : (⟨3, ![8, 4096, 16]⟩ : Shape).Idx → EReal) (b : Fin 8) (p : Fin 4096) (h : Fin 16) :
    at3 X b.val p.val h.val = X (ix3 b p h) := dif_pos ⟨b.isLt, p.isLt, h.isLt⟩

section
variable (Q K W : FVec Ideal Cert.Pre_finite.S8x4096x16x128 .f32) (G : FVec Ideal Cert.Pre_finite.S8x4096x16 .f32)

theorem real_q (hp : (Cert.Pre_finite.fn Q K W G).1 = fun _ => 1#1) (b : Fin 8) (p : Fin 4096) (h : Fin 16) (d : Fin 128) :
    (Q (ix4 b p h d) : EReal) = ((at4 Q b.val p.val h.val d.val).toReal : EReal) := by
  rw [at4_val]; exact real_of_lt _ (congrFun hp (ix4 b p h d))

theorem real_k (hp : (Cert.Pre_finite.fn Q K W G).2.1 = fun _ => 1#1) (b : Fin 8) (p : Fin 4096) (h : Fin 16) (d : Fin 128) :
    (K (ix4 b p h d) : EReal) = ((at4 K b.val p.val h.val d.val).toReal : EReal) := by
  rw [at4_val]; exact real_of_lt _ (congrFun hp (ix4 b p h d))

theorem real_g (hp : (Cert.Pre_finite.fn Q K W G).2.2 = fun _ => 1#1) (b : Fin 8) (p : Fin 4096) (h : Fin 16) :
    (G (ix3 b p h) : EReal) = ((at3 G b.val p.val h.val).toReal : EReal) := by
  rw [at3_val]; exact real_of_lt _ (congrFun hp (ix3 b p h))
end

/-- The attention of the arrays, as both programs store it. -/
def out (Q K W : (⟨4, ![8, 4096, 16, 128]⟩ : Shape).Idx → EReal) (G : (⟨3, ![8, 4096, 16]⟩ : Shape).Idx → EReal) :
    (⟨2, ![32768, 2048]⟩ : Shape).Idx → EReal :=
  KernelIdeal.Hand.result (fun b p h d => (at4 Q b p h d).toReal) (fun b p h d => (at4 K b p h d).toReal) (at4 W)
    (fun b p h => (at3 G b p h).toReal)

theorem reference_eq (m' : (ℓ : Loc Cert.ReferenceIdeal.nD Cert.ReferenceIdeal.τ Cert.ReferenceIdeal.sig) → Buf (Elt Ideal) ℓ)
    (c : Dev Cert.ReferenceIdeal.nD) (Q K W : FVec Ideal Cert.Pre_finite.S8x4096x16x128 .f32) (G : FVec Ideal Cert.Pre_finite.S8x4096x16 .f32)
    (hp : (Cert.Pre_finite.fn Q K W G).1 = (fun _ => 1#1) ∧ (Cert.Pre_finite.fn Q K W G).2.1 = (fun _ => 1#1) ∧ (Cert.Pre_finite.fn Q K W G).2.2 = (fun _ => 1#1))
    (h0 : m' ((c.tc : Thread Cert.ReferenceIdeal.nD Cert.ReferenceIdeal.τ).loc Cert.ReferenceIdeal.main_arg0) = Q)
    (h1 : m' ((c.tc : Thread Cert.ReferenceIdeal.nD Cert.ReferenceIdeal.τ).loc Cert.ReferenceIdeal.main_arg1) = K)
    (h2 : m' ((c.tc : Thread Cert.ReferenceIdeal.nD Cert.ReferenceIdeal.τ).loc Cert.ReferenceIdeal.main_arg2) = W)
    (h3 : m' ((c.tc : Thread Cert.ReferenceIdeal.nD Cert.ReferenceIdeal.τ).loc Cert.ReferenceIdeal.main_arg3) = G) :
    Cert.ReferenceIdeal.Value.res_main_v33 (F := Ideal) m' c = out Q K W G := by
  funext y
  obtain ⟨n, e, rfl⟩ : ∃ (n : Fin 32768) (e : Fin 2048), y = ix2 n e := ⟨y 0, y 1, by
    funext a; fin_cases a <;> rfl⟩
  exact ReferenceIdeal.Hand.res_apply m' c _ _ _ _ (fun b p h d => by rw [h0]; exact real_q Q K W G hp.1 b p h d)
    (fun b p h d => by rw [h1]; exact real_k Q K W G hp.2.1 b p h d) (fun b p h d => by rw [h2]; exact (at4_val W b p h d).symm)
    (fun b p h => by rw [h3]; exact real_g Q K W G hp.2.2 b p h) n e

theorem kernel_eq (m : (ℓ : Loc Cert.KernelIdeal.nD Cert.KernelIdeal.τ Cert.KernelIdeal.sig) → Buf (Elt Ideal) ℓ)
    (c : Dev Cert.KernelIdeal.nD) (Q K W : FVec Ideal Cert.Pre_finite.S8x4096x16x128 .f32) (G : FVec Ideal Cert.Pre_finite.S8x4096x16 .f32)
    (hp : (Cert.Pre_finite.fn Q K W G).1 = (fun _ => 1#1) ∧ (Cert.Pre_finite.fn Q K W G).2.1 = (fun _ => 1#1) ∧ (Cert.Pre_finite.fn Q K W G).2.2 = (fun _ => 1#1))
    (h0 : m ((c.tc : Thread Cert.KernelIdeal.nD Cert.KernelIdeal.τ).loc Cert.KernelIdeal.main_arg0) = Q)
    (h1 : m ((c.tc : Thread Cert.KernelIdeal.nD Cert.KernelIdeal.τ).loc Cert.KernelIdeal.main_arg1) = K)
    (h2 : m ((c.tc : Thread Cert.KernelIdeal.nD Cert.KernelIdeal.τ).loc Cert.KernelIdeal.main_arg2) = W)
    (h3 : m ((c.tc : Thread Cert.KernelIdeal.nD Cert.KernelIdeal.τ).loc Cert.KernelIdeal.main_arg3) = G) :
    (KernelIdeal.Hand.dats m 0 c).arrAt 4 KernelIdeal.cfg0.N = out Q K W G :=
  KernelIdeal.Hand.final m c _ _ _ _ (fun b p h d => by rw [h0]; exact real_q Q K W G hp.1 b p h d)
    (fun b p h d => by rw [h1]; exact real_k Q K W G hp.2.1 b p h d) (fun b p h d => by rw [h2]; exact (at4_val W b p h d).symm)
    (fun b p h => by rw [h3]; exact real_g Q K W G hp.2.2 b p h)

theorem algebraic : Cert.algebraic_KernelIdeal_ReferenceIdeal_pre_finite := fun m g m' g' hpre hagree =>
  ⟨fun c => out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono
      (fun r h c => ⟨(h.1.out_eq c 4).trans (kernel_eq m c _ _ _ _ (hpre c) rfl rfl rfl rfl), h.2 c⟩)
      (θ_run_and (KernelIdeal.Hand.run_main m g) (KernelIdeal.Hand.unchanged m g)),
    (θ_run Cert.ReferenceIdeal.defs _ _).mono
      (fun r h c => ⟨(h c).1.trans (reference_eq m' c _ _ _ _ (hpre c) (hagree c).1 (hagree c).2.1 (hagree c).2.2.1 (hagree c).2.2.2), (h c).2⟩)
      (Cert.ReferenceIdeal.Value.run m' g')⟩

end Cert.Proof

end
-- ==== Proof.Rows.lean ====
module

public import Idealize.ShloMosaic.Lib.Pipeline.ValueKit

@[expose] public section

/-! The rows of the prompt (8 sequences of 4096) and of the sample (32 of 16), joined: row `r` below 32768 is row `r` of
    the prompt, a later one of the sample. -/

noncomputable section

namespace Cert.Rows

open Idealize.ShloMosaic

/-- Entry `(r, k)` of the joined rows. -/
def joined {n : ℕ} (a : (⟨3, ![8, 4096, n]⟩ : Shape).Idx → EReal) (b : (⟨3, ![32, 16, n]⟩ : Shape).Idx → EReal)
    (r : Fin 33280) (k : Fin n) : EReal :=
  if r.val < 32768 then a (ix3 (⟨r.val / 4096 % 8, Nat.mod_lt _ (by norm_num)⟩ : Fin 8) (⟨r.val % 4096, Nat.mod_lt _ (by norm_num)⟩ : Fin 4096) k)
  else b (ix3 (⟨(r.val - 32768) / 16 % 32, Nat.mod_lt _ (by norm_num)⟩ : Fin 32) (⟨(r.val - 32768) % 16, Nat.mod_lt _ (by norm_num)⟩ : Fin 16) k)

/-- A row of the prompt. -/
theorem joined_prompt {n : ℕ} (a : (⟨3, ![8, 4096, n]⟩ : Shape).Idx → EReal) (b : (⟨3, ![32, 16, n]⟩ : Shape).Idx → EReal)
    (r : Fin 33280) (k : Fin n) (p : Fin 8) (q : Fin 4096) (h : r.val = 4096 * p.val + q.val) : joined a b r k = a (ix3 p q k) := by
  have := p.isLt
  have := q.isLt
  unfold joined
  rw [if_pos (by omega)]
  exact congrArg a (by rw [show (⟨r.val / 4096 % 8, _⟩ : Fin 8) = p from Fin.ext (by show r.val / 4096 % 8 = p.val; omega), show (⟨r.val % 4096, _⟩ : Fin 4096) = q from Fin.ext (by show r.val % 4096 = q.val; omega)])

/-- A row of the sample. -/
theorem joined_sample {n : ℕ} (a : (⟨3, ![8, 4096, n]⟩ : Shape).Idx → EReal) (b : (⟨3, ![32, 16, n]⟩ : Shape).Idx → EReal)
    (r : Fin 33280) (k : Fin n) (p : Fin 32) (q : Fin 16) (h : r.val = 32768 + 16 * p.val + q.val) : joined a b r k = b (ix3 p q k) := by
  have := p.isLt
  have := q.isLt
  unfold joined
  rw [if_neg (by omega)]
  exact congrArg b (by rw [show (⟨(r.val - 32768) / 16 % 32, _⟩ : Fin 32) = p from Fin.ext (by show (r.val - 32768) / 16 % 32 = p.val; omega), show (⟨(r.val - 32768) % 16, _⟩ : Fin 16) = q from Fin.ext (by show (r.val - 32768) % 16 = q.val; omega)])

/-- Joining two arrays of rows, reshaped from the prompt's and the sample's, joins their rows. -/
theorem concatenate_apply {n : ℕ} (A : (⟨2, ![32768, n]⟩ : Shape).Idx → EReal) (B : (⟨2, ![512, n]⟩ : Shape).Idx → EReal)
    (h : Shape.Concatenates [⟨2, ![32768, n]⟩, ⟨2, ![512, n]⟩] ⟨2, ![33280, n]⟩ 0)
    (a : (⟨3, ![8, 4096, n]⟩ : Shape).Idx → EReal) (b : (⟨3, ![32, 16, n]⟩ : Shape).Idx → EReal)
    (ha : ∀ (r : Fin 32768) (k : Fin n), A (ix2 r k) = a (ix3 (⟨r.val / 4096, by omega⟩ : Fin 8) (⟨r.val % 4096, by omega⟩ : Fin 4096) k))
    (hb : ∀ (r : Fin 512) (k : Fin n), B (ix2 r k) = b (ix3 (⟨r.val / 16, by omega⟩ : Fin 32) (⟨r.val % 16, by omega⟩ : Fin 16) k))
    (r : Fin 33280) (k : Fin n) :
    concatenate (⟨2, ![33280, n]⟩ : Shape) 0 [⟨⟨2, ![32768, n]⟩, A⟩, ⟨⟨2, ![512, n]⟩, B⟩] h (ix2 r k) = joined a b r k := by
  have hr := r.isLt
  by_cases hlt : r.val < 32768
  · refine (concatenate_pair_apply_left 0 A B h (ix2 r k) rfl (ix2 (⟨r.val, hlt⟩ : Fin 32768) k) fun d => ?_).trans ((ha _ k).trans (joined_prompt a b r k _ _ ?_).symm)
    · fin_cases d <;> rfl
    · show r.val = 4096 * (r.val / 4096) + r.val % 4096
      omega
  · refine (concatenate_pair_apply_right 0 A B h (ix2 r k) rfl rfl (ix2 (⟨r.val - 32768, by omega⟩ : Fin 512) k) (fun d hd => ?_) ?_).trans ((hb _ k).trans (joined_sample a b r k _ _ ?_).symm)
    · fin_cases d
      · exact absurd rfl hd
      · rfl
    · show r.val - 32768 + 32768 = r.val
      omega
    · show r.val = 32768 + 16 * ((r.val - 32768) / 16) + (r.val - 32768) % 16
      omega

/-- A function of each row of the prompt and of the sample is that function of the joined rows. -/
theorem joined_rows {n l : ℕ} (a : (⟨3, ![8, 4096, n]⟩ : Shape).Idx → EReal) (b : (⟨3, ![32, 16, n]⟩ : Shape).Idx → EReal)
    (r : Fin 33280) (e : Fin l) (φ : (Fin n → EReal) → Fin l → EReal) :
    joined (fun y : (⟨3, ![8, 4096, l]⟩ : Shape).Idx => φ (fun k => a (ix3 (y 0) (y 1) k)) (y 2))
      (fun y : (⟨3, ![32, 16, l]⟩ : Shape).Idx => φ (fun k => b (ix3 (y 0) (y 1) k)) (y 2)) r e = φ (joined a b r) e := by
  by_cases h : r.val < 32768
  · refine (if_pos h).trans (congrArg (fun f => φ f e) (funext fun k => (if_pos h).symm))
  · refine (if_neg h).trans (congrArg (fun f => φ f e) (funext fun k => (if_neg h).symm))

end Cert.Rows

end
-- ==== Proof.OutProj.lean ====
module

public import proofs.«01_k».proof.Proof.Gen.Kernel2Ideal.Value
public import proofs.«01_k».proof.Proof.Consts
public import proofs.«01_k».proof.Proof.Rows
public import Idealize.ShloMosaic.Lib.Pipeline.ValueKit

@[expose] public section

set_option maxRecDepth 16384
set_option maxHeartbeats 400000

/-! The projection of the attention's heads, added to the residual rows: what the program leaves, entry by entry. -/

noncomputable section

namespace Cert.Kernel2Ideal.Hand

open Cert.Kernel2Ideal.Gen
open Idealize.ShloMosaic Idealize.ShloMosaic.TcCoe Idealize.ShloMosaic.Tactic

theorem pay1_apply (x : FVec Ideal S512x512 .f32) (a : Vec Ideal S512x2048 .bf16) (w : Vec Ideal S2048x512 .bf16) (r e : Fin 512) :
    (k0_pay1 x a w (ix2 r e) : EReal) = (x (ix2 r e) : EReal) + ∑ k : Fin 2048, (a (ix2 r k) : EReal) * w (ix2 k e) := by
  pointwise [k0_pay1, Consts.f32_zero]

theorem pay2_apply (x : FVec Ideal S512x512 .f32) (a : Vec Ideal S512x2048 .bf16) (w : Vec Ideal S2048x512 .bf16) (r e : Fin 512) :
    (k0_pay2 x a w (ix2 r e) : EReal) = (x (ix2 r e) : EReal) + ∑ k : Fin 2048, (a (ix2 r k) : EReal) * w (ix2 k e) := by
  pointwise [k0_pay2, Consts.f32_zero]

theorem pay4_apply (x : FVec Ideal S512x512 .f32) (a : Vec Ideal S512x2048 .bf16) (w : Vec Ideal S2048x512 .bf16) (r e : Fin 512) :
    (k0_pay4 x a w (ix2 r e) : EReal) = (x (ix2 r e) : EReal) + ∑ k : Fin 2048, (a (ix2 r k) : EReal) * w (ix2 k e) := by
  pointwise [k0_pay4, Consts.f32_zero]

theorem pay5_apply (x : FVec Ideal S512x512 .f32) (a : Vec Ideal S512x2048 .bf16) (w : Vec Ideal S2048x512 .bf16) (r e : Fin 512) :
    (k0_pay5 x a w (ix2 r e) : EReal) = (x (ix2 r e) : EReal) + ∑ k : Fin 2048, (a (ix2 r k) : EReal) * w (ix2 k e) := by
  pointwise [k0_pay5, Consts.f32_zero]

theorem pay6_eq (x : Vec Ideal S512x512 .f32) : k0_pay6 (F := Ideal) x = x := by
  funext j
  obtain ⟨r, e, rfl⟩ : ∃ (r e : Fin 512), j = ix2 r e := ⟨j 0, j 1, eq_ix2 j⟩
  pointwise [k0_pay6]

/-- The first 64 grid points read the prompt's rows, the last the sample's. -/
theorem pay3_apply (i : grid0.Coords) (a b : Vec Ideal S512x2048 .bf16) (r : Fin 512) (k : Fin 2048) :
    k0_pay3 (F := Ideal) i a b (ix2 r k) = if (i 0).val < 64 then (a (ix2 r k) : EReal) else b (ix2 r k) := by
  pointwise [k0_pay3]
  have h : ∀ n : Fin 65, (Scalar.cmpi .slt (BitVec.ofNat 32 n.val) 64#32 = 1#1) ↔ n.val < 64 := by decide +kernel
  have h' := h (i 0)
  unfold Scalar.select
  by_cases hi : (i 0).val < 64
  · exact (if_pos (h'.mpr hi)).trans (if_pos hi).symm
  · exact (if_neg (fun e => hi (h'.mp e))).trans (if_neg hi).symm

/-- A row of a block against the columns of the weights, plus the residual. -/
def val (a : Vec Ideal S512x2048 .bf16) (w : Vec Ideal S2048x2048 .bf16) (x : Vec Ideal S512x2048 .f32) (r : Fin 512) (e : Fin 2048) : EReal :=
  (x (ix2 r e) : EReal) + ∑ k : Fin 2048, (a (ix2 r k) : EReal) * w (ix2 k e)

theorem val_chunk (o : ℕ) (a : Vec Ideal S512x2048 .bf16) (w : Vec Ideal S2048x2048 .bf16) (x : Vec Ideal S512x2048 .f32)
    (hx : ∀ d, ![0, o] d + ![512, 512] d ≤ S512x2048.size d) (hw : ∀ d, ![0, o] d + ![2048, 512] d ≤ S2048x2048.size d)
    (r e : Fin 512) (y : S512x2048.Idx) (h0 : (y 0).val = r.val) (h1 : (y 1).val = o + e.val) :
    ((View.ld x (Rect.unit ![0, o] ![512, 512] hx) (ix2 r e) : EReal)
      + ∑ k : Fin 2048, (a (ix2 r k) : EReal) * View.ld w (Rect.unit ![0, o] ![2048, 512] hw) (ix2 k e)) = val a w x (y 0) (y 1) := by
  unfold val
  refine congrArg₂ (· + ·) (congrArg x ?_) (Finset.sum_congr rfl fun k _ => congrArg₂ (· * ·) (congrArg a ?_) (congrArg w ?_))
  all_goals funext d; apply Fin.ext; fin_cases d <;> simp [ix2, Rect.idx_unit_val, h0, h1]

theorem out_apply (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .bf16) (harg6 : arg6.IsWhole)
    (x0 : Vec Ideal S512x2048 .bf16) (x1 : Vec Ideal S512x2048 .bf16) (x2 : Vec Ideal S2048x2048 .bf16) (x3 : Vec Ideal S512x2048 .f32) (y : S512x2048.Idx) :
    (out0_A_4 c i arg1 harg1 arg2 harg2 arg3 harg3 arg4 harg4 arg5 harg5 arg6 harg6 x0 x1 x2 x3 y : EReal) = val (k0_pay3 i x0 x1) x2 x3 (y 0) (y 1) := by
  frame_out
  generalize k0_pay3 i x0 x1 = a
  canon_tiles j h
  all_goals
    obtain ⟨r, e, rfl⟩ : ∃ (r e : Fin 512), j = ix2 r e := ⟨j 0, j 1, eq_ix2 j⟩
  · exact (pay2_apply _ a _ r e).trans (val_chunk 1536 a x2 x3 _ _ r e y h0 h1)
  · rw [pay6_eq]
    exact (pay1_apply _ a _ r e).trans (val_chunk 1024 a x2 x3 _ _ r e y h0 h1)
  · exact (pay5_apply _ a _ r e).trans (val_chunk 512 a x2 x3 _ _ r e y h0 h1)
  · exact (pay4_apply _ a _ r e).trans (val_chunk 0 a x2 x3 _ _ r e y h0 (by rw [h1, Nat.zero_add]; rfl))

theorem idx : ∀ t : Fin cfg0.N, win0_0.index t = ![min t.val 63, 0] ∧ win0_1.index t = ![t.val - 64, 0]
    ∧ win0_2.index t = ![0, 0] ∧ win0_3.index t = ![t.val, 0] ∧ win0_4.index t = ![t.val, 0]
    ∧ t.val < 65 ∧ (grid0.coords t 0).val = t.val := (by decide +kernel : ∀ t : Fin grid0.N, _)

variable (m : (ℓ : Loc nD τ sig) → Buf (Elt Ideal) ℓ) (c : Dev nD)

theorem a_entry (r : Fin 32768) (k : Fin 2048) : (V m c main_v1 (ix2 r k) : EReal)
    = m ((c.tc : Thread nD τ).loc main_arg0) (ix3 (⟨r.val / 4096, by omega⟩ : Fin 8) (⟨r.val % 4096, by omega⟩ : Fin 4096) k) := by
  entry_read
  pointwise

theorem b_entry (r : Fin 512) (k : Fin 2048) : (V m c main_v3 (ix2 r k) : EReal)
    = m ((c.tc : Thread nD τ).loc main_arg1) (ix3 (⟨r.val / 16, by omega⟩ : Fin 32) (⟨r.val % 16, by omega⟩ : Fin 16) k) := by
  entry_read
  pointwise

theorem w_entry (k e : Fin 2048) : (V m c main_v4 (ix2 k e) : EReal) = m ((c.tc : Thread nD τ).loc main_arg2) (ix2 k e) := by
  entry_read
  pointwise

theorem x_entry (r : Fin 33280) (e : Fin 2048) : (V m c main_v7 (ix2 r e) : EReal)
    = Rows.joined (m ((c.tc : Thread nD τ).loc main_arg3)) (m ((c.tc : Thread nD τ).loc main_arg4)) r e := by
  entry_read
  refine Rows.concatenate_apply _ _ _ _ _ (fun r k => ?_) (fun r k => ?_) r e
  · pointwise
  · pointwise

theorem block0 (t : Fin cfg0.N) (r : Fin 512) (k : Fin 2048) : (iblk m c 0 t (ix2 r k) : EReal)
    = V m c main_v1 (ix2 (⟨512 * min t.val 63 + r.val, by omega⟩ : Fin 32768) k) := by
  blk_ext [iblk, idx t]

theorem block1 (t : Fin cfg0.N) (r : Fin 512) (k : Fin 2048) : (iblk m c 1 t (ix2 r k) : EReal)
    = V m c main_v3 (ix2 (⟨512 * (t.val - 64) + r.val, by have := (idx t).2.2.2.2.2.1; omega⟩ : Fin 512) k) := by
  blk_ext [iblk, idx t]

theorem block2 (t : Fin cfg0.N) (k e : Fin 2048) : (iblk m c 2 t (ix2 k e) : EReal) = V m c main_v4 (ix2 k e) := by
  blk_ext [iblk, idx t]

theorem block3 (t : Fin cfg0.N) (r : Fin 512) (k : Fin 2048) : (iblk m c 3 t (ix2 r k) : EReal)
    = V m c main_v7 (ix2 (⟨512 * t.val + r.val, by have := (idx t).2.2.2.2.2.1; omega⟩ : Fin 33280) k) := by
  blk_ext [iblk, idx t]

/-- The result: the residual rows plus the attention's rows against the weights. -/
def result (o0 : S8x4096x2048.Idx → EReal) (o1 : S32x16x2048.Idx → EReal) (w : S2048x2048.Idx → EReal)
    (x0 : S8x4096x2048.Idx → EReal) (x1 : S32x16x2048.Idx → EReal) (y : S33280x2048.Idx) : EReal :=
  Rows.joined x0 x1 (y 0) (y 1) + ∑ k : Fin 2048, Rows.joined o0 o1 (y 0) k * w (ix2 k (y 1))

theorem final : (dats m 0 c).arrAt 4 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 4 _ (by decide +kernel) fun t hf y => ?_
  rw [after0_4]
  blk_simp
  unfold outsAt0
  refine (out_apply c _ _ _ _ _ _ _ _ _ _ _ _ _ _ _ _ _ _).trans ?_
  have e0 : ((win0_4.blk t).view.emb y 0 : ℕ) = 512 * t.val + (y 0).val := by blk_simp [idx t]; omega
  have e1 : ((win0_4.blk t).view.emb y 1 : ℕ) = (y 1).val := by blk_simp [idx t]
  have ht := (idx t).2.2.2.2.2.1
  have hi := (idx t).2.2.2.2.2.2
  have h0 : (y 0).val < 512 := (y 0).isLt
  generalize (win0_4.blk t).view.emb y = z at e0 e1 ⊢
  unfold val result
  refine congrArg₂ (· + ·) ?_ (Finset.sum_congr rfl fun k _ => congrArg₂ (· * ·) ?_ ?_)
  · refine (block3 m c t (y 0) (y 1)).trans ((x_entry m c _ _).trans ?_)
    exact congrArg₂ (Rows.joined _ _) (Fin.ext e0.symm) (Fin.ext e1.symm)
  · refine (pay3_apply _ _ _ (y 0) k).trans ?_
    rw [hi]
    by_cases h : t.val < 64
    · rw [if_pos h]
      refine (block0 m c t (y 0) k).trans ((a_entry m c _ k).trans (Rows.joined_prompt _ _ (z 0) k _ _ ?_).symm)
      show (z 0).val = 4096 * ((512 * min t.val 63 + (y 0).val) / 4096) + (512 * min t.val 63 + (y 0).val) % 4096
      omega
    · rw [if_neg h]
      refine (block1 m c t (y 0) k).trans ((b_entry m c _ k).trans (Rows.joined_sample _ _ (z 0) k _ _ ?_).symm)
      show (z 0).val = 32768 + 16 * ((512 * (t.val - 64) + (y 0).val) / 16) + (512 * (t.val - 64) + (y 0).val) % 16
      omega
  · refine (block2 m c t k (y 1)).trans ((w_entry m c k _).trans ?_)
    exact congrArg (fun e => m ((c.tc : Thread nD τ).loc main_arg2) (ix2 k e)) (Fin.ext e1.symm)

end Cert.Kernel2Ideal.Hand

end
-- ==== Proof.OutProjValue.lean ====
module

public import proofs.«01_k».proof.Proof.OutProj
public import proofs.«01_k».proof.Proof.Gen.Reference2Ideal.Run
public import proofs.«01_k».proof.Defs
public import Idealize.ShloMosaic.Lib.Claim

@[expose] public section

set_option maxRecDepth 16384
set_option maxHeartbeats 400000

/-! The projection of the attention's heads: its plain formula, entry by entry, and the claim. -/

noncomputable section

namespace Cert.Reference2Ideal.Hand

open Cert.Reference2Ideal.Gen
open Idealize.ShloMosaic Idealize.ShloMosaic.TcCoe Idealize.ShloMosaic.Tactic

theorem prompt_apply (x : FVec Ideal S8x4096x2048 .f32) (o : FVec Ideal S8x4096x2048 .f32) (w : FVec Ideal S2048x2048 .f32)
    (r : Fin 32768) (e : Fin 2048) :
    (shapeCast S32768x2048 (addf x (Host.dotGeneral dot_S8x4096x2048_S2048x2048_S8x4096x2048_2_0_01_1_n_n none o w)) shapeCasts_S8x4096x2048_S32768x2048 (ix2 r e) : EReal)
      = (x (ix3 (⟨r.val / 4096, by omega⟩ : Fin 8) (⟨r.val % 4096, by omega⟩ : Fin 4096) e) : EReal)
        + ∑ k : Fin 2048, (o (ix3 (⟨r.val / 4096, by omega⟩ : Fin 8) (⟨r.val % 4096, by omega⟩ : Fin 4096) k) : EReal) * w (ix2 k e) := by
  pointwise

theorem sample_apply (x : FVec Ideal S32x16x2048 .f32) (o : FVec Ideal S32x16x2048 .f32) (w : FVec Ideal S2048x2048 .f32)
    (r : Fin 512) (e : Fin 2048) :
    (shapeCast S512x2048 (addf x (Host.dotGeneral dot_S32x16x2048_S2048x2048_S32x16x2048_2_0_01_1_n_n none o w)) shapeCasts_S32x16x2048_S512x2048 (ix2 r e) : EReal)
      = (x (ix3 (⟨r.val / 16, by omega⟩ : Fin 32) (⟨r.val % 16, by omega⟩ : Fin 16) e) : EReal)
        + ∑ k : Fin 2048, (o (ix3 (⟨r.val / 16, by omega⟩ : Fin 32) (⟨r.val % 16, by omega⟩ : Fin 16) k) : EReal) * w (ix2 k e) := by
  pointwise

theorem result_eq (o0 : FVec Ideal S8x4096x2048 .f32) (o1 : FVec Ideal S32x16x2048 .f32) (w : FVec Ideal S2048x2048 .f32)
    (x0 : FVec Ideal S8x4096x2048 .f32) (x1 : FVec Ideal S32x16x2048 .f32) :
    concatenate S33280x2048 0 [⟨S32768x2048, (shapeCast S32768x2048 (addf x0 (Host.dotGeneral dot_S8x4096x2048_S2048x2048_S8x4096x2048_2_0_01_1_n_n none o0 w)) shapeCasts_S8x4096x2048_S32768x2048)⟩, ⟨S512x2048, (shapeCast S512x2048 (addf x1 (Host.dotGeneral dot_S32x16x2048_S2048x2048_S32x16x2048_2_0_01_1_n_n none o1 w)) shapeCasts_S32x16x2048_S512x2048)⟩] concatenates_S32768x2048_S512x2048_S33280x2048_d0
      = Kernel2Ideal.Hand.result o0 o1 w x0 x1 := by
  funext y
  obtain ⟨r, e, rfl⟩ : ∃ (r : Fin 33280) (e : Fin 2048), y = ix2 r e := ⟨y 0, y 1, eq_ix2 y⟩
  refine (Rows.concatenate_apply _ _ _
    (fun y => (x0 y : EReal) + ∑ k : Fin 2048, (o0 (ix3 (y 0) (y 1) k) : EReal) * w (ix2 k (y 2)))
    (fun y => (x1 y : EReal) + ∑ k : Fin 2048, (o1 (ix3 (y 0) (y 1) k) : EReal) * w (ix2 k (y 2)))
    (prompt_apply x0 o0 w) (sample_apply x1 o1 w) r e).trans ?_
  unfold Kernel2Ideal.Hand.result Rows.joined
  show _ = (if r.val < 32768 then _ else _) + ∑ k : Fin 2048, (if r.val < 32768 then _ else _) * _
  by_cases h : r.val < 32768
  · rw [if_pos h, if_pos h]
    exact congrArg _ (Finset.sum_congr rfl fun k _ => congrArg (· * _) (if_pos h).symm)
  · rw [if_neg h, if_neg h]
    exact congrArg _ (Finset.sum_congr rfl fun k _ => congrArg (· * _) (if_neg h).symm)

end Cert.Reference2Ideal.Hand

namespace Cert.Proof

open Idealize.ShloMosaic Idealize.ShloMosaic.TcCoe

theorem algebraic2 : Cert.algebraic_Kernel2Ideal_Reference2Ideal := fun m g m' g' _ hagree =>
  ⟨fun c => Kernel2Ideal.Hand.result (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)),
    (θ_run Cert.Kernel2Ideal.defs _ _).mono (fun r h c => ⟨(h c).1.trans (Kernel2Ideal.Hand.final m c), (h c).2⟩)
      (Kernel2Ideal.Value.run_blocks m g),
    (θ_run Cert.Reference2Ideal.defs _ _).mono
      (fun r h c => ⟨(h c).1.trans ((Reference2Ideal.Hand.result_eq _ _ _ _ _).trans (by
        rw [(hagree c).1, (hagree c).2.1, (hagree c).2.2.1, (hagree c).2.2.2.1, (hagree c).2.2.2.2])), (h c).2⟩)
      (Cert.Reference2Ideal.Value.run m' g')⟩

end Cert.Proof

end
-- ==== Proof.Rms.lean ====
module

public import Idealize.ShloMosaic.Lib.Pipeline.ValueKit
public import Idealize.ShloMosaic.PureOps.Ideal

@[expose] public section

/-! A vector divided by the root of its mean square, times a gain; the count of entries and the small constant added
    under the root are the programs' literals. -/

noncomputable section

namespace Cert.Rms

open Idealize.ShloMosaic

/-- The constant added to the mean square. -/
def eps : EReal := Ideal.ofBits .f32 897988541#32

/-- The count of a row's entries, 2048. -/
def count2048 : EReal := Ideal.ofBits .f32 1157627904#32

/-- The count of a head's entries, 128. -/
def count128 : EReal := Ideal.ofBits .f32 1124073472#32

/-- Entry `k` of the vector `f` over its root mean square, times the gain `g`. -/
def rms {n : ℕ} (d : EReal) (f g : Fin n → EReal) (k : Fin n) : EReal :=
  f k * Ideal.rsqrt (Ideal.div (∑ j : Fin n, f j * f j) d + eps) * g k

theorem rms_congr {n : ℕ} (d : EReal) {f f' g g' : Fin n → EReal} (hf : ∀ k, f k = f' k) (hg : ∀ k, g k = g' k) (k : Fin n) :
    rms d f g k = rms d f' g' k := by
  rw [funext hf, funext hg]

end Cert.Rms

end
-- ==== Proof.CpIn.lean ====
module

public import proofs.«01_k».proof.Proof.Gen.Kernel3Ideal.Value
public import proofs.«01_k».proof.Proof.Consts
public import proofs.«01_k».proof.Proof.Rows
public import proofs.«01_k».proof.Proof.Rms
public import Idealize.ShloMosaic.Lib.Pipeline.ValueKit

@[expose] public section

set_option maxRecDepth 16384
set_option maxHeartbeats 400000

/-! The normed rows against the weights of the convolution path: what the program leaves, entry by entry. -/

noncomputable section

namespace Cert.Kernel3Ideal.Hand

open Cert.Kernel3Ideal.Gen
open Idealize.ShloMosaic Idealize.ShloMosaic.TcCoe Idealize.ShloMosaic.Tactic

theorem pay1_apply (a : Vec Ideal S512x2048 .bf16) (w : Vec Ideal S2048x512 .bf16) (r e : Fin 512) :
    (k0_pay1 a w (ix2 r e) : EReal) = ∑ k : Fin 2048, (a (ix2 r k) : EReal) * w (ix2 k e) := by
  pointwise [k0_pay1, Consts.f32_zero]

theorem pay2_apply (a : Vec Ideal S512x2048 .bf16) (w : Vec Ideal S2048x512 .bf16) (r e : Fin 512) :
    (k0_pay2 a w (ix2 r e) : EReal) = ∑ k : Fin 2048, (a (ix2 r k) : EReal) * w (ix2 k e) := by
  pointwise [k0_pay2, Consts.f32_zero]

theorem pay3_apply (a : Vec Ideal S512x2048 .bf16) (w : Vec Ideal S2048x512 .bf16) (r e : Fin 512) :
    (k0_pay3 a w (ix2 r e) : EReal) = ∑ k : Fin 2048, (a (ix2 r k) : EReal) * w (ix2 k e) := by
  pointwise [k0_pay3, Consts.f32_zero]

theorem pay4_apply (a : Vec Ideal S512x2048 .bf16) (w : Vec Ideal S2048x512 .bf16) (r e : Fin 512) :
    (k0_pay4 a w (ix2 r e) : EReal) = ∑ k : Fin 2048, (a (ix2 r k) : EReal) * w (ix2 k e) := by
  pointwise [k0_pay4, Consts.f32_zero]

theorem pay6_apply (a : Vec Ideal S512x2048 .bf16) (w : Vec Ideal S2048x512 .bf16) (r e : Fin 512) :
    (k0_pay6 a w (ix2 r e) : EReal) = ∑ k : Fin 2048, (a (ix2 r k) : EReal) * w (ix2 k e) := by
  pointwise [k0_pay6, Consts.f32_zero]

theorem pay7_apply (a : Vec Ideal S512x2048 .bf16) (w : Vec Ideal S2048x512 .bf16) (r e : Fin 512) :
    (k0_pay7 a w (ix2 r e) : EReal) = ∑ k : Fin 2048, (a (ix2 r k) : EReal) * w (ix2 k e) := by
  pointwise [k0_pay7, Consts.f32_zero]

/-- The normed rows of a block. -/
theorem pay5_apply (x : Vec Ideal S512x2048 .f32) (g : Vec Ideal S1x2048 .f32) (r : Fin 512) (e : Fin 2048) :
    (k0_pay5 x g (ix2 r e) : EReal) = Rms.rms Rms.count2048 (fun k : Fin 2048 => (x (ix2 r k) : EReal)) (fun k => g (ix2 0 k)) e := by
  pointwise [k0_pay5, Consts.f32_zero]
  rfl

/-- A row of a block against a column of the weights. -/
def val (a : Vec Ideal S512x2048 .bf16) (w : Vec Ideal S2048x3072 .bf16) (r : Fin 512) (e : Fin 3072) : EReal :=
  ∑ k : Fin 2048, (a (ix2 r k) : EReal) * w (ix2 k e)

theorem val_chunk (o : ℕ) (a : Vec Ideal S512x2048 .bf16) (w : Vec Ideal S2048x3072 .bf16)
    (hw : ∀ d, ![0, o] d + ![2048, 512] d ≤ S2048x3072.size d)
    (r e : Fin 512) (y : S512x3072.Idx) (h0 : (y 0).val = r.val) (h1 : (y 1).val = o + e.val) :
    ((∑ k : Fin 2048, (a (ix2 r k) : EReal) * View.ld w (Rect.unit ![0, o] ![2048, 512] hw) (ix2 k e)) : EReal) = val a w (y 0) (y 1) := by
  unfold val
  refine Finset.sum_congr rfl fun k _ => congrArg₂ (· * ·) (congrArg a ?_) (congrArg w ?_)
  all_goals funext d; apply Fin.ext; fin_cases d <;> simp [ix2, Rect.idx_unit_val, h0, h1]

theorem out_apply (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x3072 .bf16) (harg3 : arg3.IsWhole) (arg4 : Memref sig .tc .vmem S512x3072 .bf16) (harg4 : arg4.IsWhole) (arg5 : Memref sig .tc .vmem S512x2048 .bf16) (harg5 : arg5.IsWhole)
    (x0 : Vec Ideal S512x2048 .f32) (x1 : Vec Ideal S1x2048 .f32) (x2 : Vec Ideal S2048x3072 .bf16) (y : S512x3072.Idx) :
    (out0_A_3 c i arg1 harg1 arg2 harg2 arg3 harg3 arg4 harg4 arg5 harg5 x0 x1 x2 y : EReal) = val (k0_pay5 x0 x1) x2 (y 0) (y 1) := by
  frame_out
  generalize k0_pay5 x0 x1 = a
  canon_tiles j h
  all_goals
    obtain ⟨r, e, rfl⟩ : ∃ (r e : Fin 512), j = ix2 r e := ⟨j 0, j 1, eq_ix2 j⟩
  · exact (pay4_apply a _ r e).trans (val_chunk 2560 a x2 _ r e y h0 h1)
  · exact (pay3_apply a _ r e).trans (val_chunk 2048 a x2 _ r e y h0 h1)
  · exact (pay2_apply a _ r e).trans (val_chunk 1536 a x2 _ r e y h0 h1)
  · exact (pay1_apply a _ r e).trans (val_chunk 1024 a x2 _ r e y h0 h1)
  · exact (pay7_apply a _ r e).trans (val_chunk 512 a x2 _ r e y h0 h1)
  · exact (pay6_apply a _ r e).trans (val_chunk 0 a x2 _ r e y h0 (by rw [h1, Nat.zero_add]; rfl))

theorem idx : ∀ t : Fin cfg0.N, win0_0.index t = ![t.val, 0] ∧ win0_1.index t = ![0, 0]
    ∧ win0_2.index t = ![0, 0] ∧ win0_3.index t = ![t.val, 0] ∧ t.val < 65 := (by decide +kernel : ∀ t : Fin grid0.N, _)

variable (m : (ℓ : Loc nD τ sig) → Buf (Elt Ideal) ℓ) (c : Dev nD)

theorem x_entry (r : Fin 33280) (e : Fin 2048) : (V m c main_v2 (ix2 r e) : EReal)
    = Rows.joined (m ((c.tc : Thread nD τ).loc main_arg0)) (m ((c.tc : Thread nD τ).loc main_arg1)) r e := by
  entry_read
  refine Rows.concatenate_apply _ _ _ _ _ (fun r k => ?_) (fun r k => ?_) r e
  · pointwise
  · pointwise

theorem g_entry (k : Fin 2048) : (V m c main_v4 (ix2 0 k) : EReal) = m ((c.tc : Thread nD τ).loc main_arg2) (ix1 k) := by
  entry_read
  pointwise

theorem w_entry (k : Fin 2048) (e : Fin 3072) : (V m c main_v3 (ix2 k e) : EReal) = m ((c.tc : Thread nD τ).loc main_arg3) (ix2 k e) := by
  entry_read
  pointwise

theorem block0 (t : Fin cfg0.N) (r : Fin 512) (k : Fin 2048) : (iblk m c 0 t (ix2 r k) : EReal)
    = V m c main_v2 (ix2 (⟨512 * t.val + r.val, by have := (idx t).2.2.2.2; omega⟩ : Fin 33280) k) := by
  blk_ext [iblk, idx t]

theorem block1 (t : Fin cfg0.N) (k : Fin 2048) : (iblk m c 1 t (ix2 0 k) : EReal) = V m c main_v4 (ix2 0 k) := by
  blk_ext [iblk, idx t]

theorem block2 (t : Fin cfg0.N) (k : Fin 2048) (e : Fin 3072) : (iblk m c 2 t (ix2 k e) : EReal) = V m c main_v3 (ix2 k e) := by
  blk_ext [iblk, idx t]

/-- The result: the normed joined rows against the weights. -/
def result (x0 : S8x4096x2048.Idx → EReal) (x1 : S32x16x2048.Idx → EReal) (g : S2048.Idx → EReal) (w : S2048x3072.Idx → EReal)
    (y : S33280x3072.Idx) : EReal :=
  ∑ k : Fin 2048, Rms.rms Rms.count2048 (Rows.joined x0 x1 (y 0)) (fun k => g (ix1 k)) k * w (ix2 k (y 1))

theorem final : (dats m 0 c).arrAt 3 cfg0.N = result (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 3 _ (by decide +kernel) fun t hf y => ?_
  rw [after0_3]
  blk_simp
  unfold outsAt0
  refine (out_apply c _ _ _ _ _ _ _ _ _ _ _ _ _ _ _).trans ?_
  have e0 : ((win0_3.blk t).view.emb y 0 : ℕ) = 512 * t.val + (y 0).val := by blk_simp [idx t]; omega
  have e1 : ((win0_3.blk t).view.emb y 1 : ℕ) = (y 1).val := by blk_simp [idx t]
  have ht := (idx t).2.2.2.2
  generalize (win0_3.blk t).view.emb y = z at e0 e1 ⊢
  unfold val result
  refine Finset.sum_congr rfl fun k _ => congrArg₂ (· * ·) ?_ ?_
  · refine (pay5_apply _ _ (y 0) k).trans (Rms.rms_congr _ (fun k => ?_) (fun k => ?_) k)
    · refine (block0 m c t (y 0) k).trans ((x_entry m c _ _).trans ?_)
      exact congrArg (fun r => Rows.joined _ _ r k) (Fin.ext e0.symm)
    · exact (block1 m c t k).trans (g_entry m c k)
  · refine (block2 m c t k (y 1)).trans ((w_entry m c k _).trans ?_)
    exact congrArg (fun e => m ((c.tc : Thread nD τ).loc main_arg3) (ix2 k e)) (Fin.ext e1.symm)

end Cert.Kernel3Ideal.Hand

end
-- ==== Proof.CpInValue.lean ====
module

public import proofs.«01_k».proof.Proof.CpIn
public import proofs.«01_k».proof.Proof.Gen.Reference3Ideal.Run
public import proofs.«01_k».proof.Defs
public import Idealize.ShloMosaic.Lib.Claim

@[expose] public section

set_option maxRecDepth 16384
set_option maxHeartbeats 400000

/-! The normed rows against the weights of the convolution path: the plain formula, entry by entry, and the claim. -/

noncomputable section

namespace Cert.Reference3Ideal.Hand

open Cert.Reference3Ideal.Gen
open Idealize.ShloMosaic Idealize.ShloMosaic.TcCoe Idealize.ShloMosaic.Tactic

theorem prompt_apply (x0 : FVec Ideal S8x4096x2048 .f32) (g : FVec Ideal S2048 .f32) (w : FVec Ideal S2048x3072 .f32)
    (r : Fin 32768) (e : Fin 3072) :
    ((shapeCast S32768x3072 (Host.dotGeneral dot_S8x4096x2048_S2048x3072_S8x4096x3072_2_0_01_1_n_n none (mulf (mulf x0 (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x0 x0) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w) shapeCasts_S8x4096x3072_S32768x3072) (ix2 r e) : EReal)
      = ∑ k : Fin 2048, Rms.rms Rms.count2048 (fun k => (x0 (ix3 (⟨r.val / 4096, by omega⟩ : Fin 8) (⟨r.val % 4096, by omega⟩ : Fin 4096) k) : EReal)) (fun k => g (ix1 k)) k * w (ix2 k e) := by
  pointwise [Consts.f32_zero]
  rfl

theorem sample_apply (x1 : FVec Ideal S32x16x2048 .f32) (g : FVec Ideal S2048 .f32) (w : FVec Ideal S2048x3072 .f32)
    (r : Fin 512) (e : Fin 3072) :
    ((shapeCast S512x3072 (Host.dotGeneral dot_S32x16x2048_S2048x3072_S32x16x3072_2_0_01_1_n_n none (mulf (mulf x1 (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x1 x1) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))) (broadcastInDim S32x16x2048 ![0, 1, 2] bcast_S1x1x2048_S32x16x2048_0_1_2 (broadcastInDim S1x1x2048 ![2] bcast_S2048_S1x1x2048_2 g))) w) shapeCasts_S32x16x3072_S512x3072) (ix2 r e) : EReal)
      = ∑ k : Fin 2048, Rms.rms Rms.count2048 (fun k => (x1 (ix3 (⟨r.val / 16, by omega⟩ : Fin 32) (⟨r.val % 16, by omega⟩ : Fin 16) k) : EReal)) (fun k => g (ix1 k)) k * w (ix2 k e) := by
  pointwise [Consts.f32_zero]
  rfl

theorem result_eq (x0 : FVec Ideal S8x4096x2048 .f32) (x1 : FVec Ideal S32x16x2048 .f32) (g : FVec Ideal S2048 .f32) (w : FVec Ideal S2048x3072 .f32) :
    truncf .bf16 (concatenate S33280x3072 0 [⟨S32768x3072, (shapeCast S32768x3072 (Host.dotGeneral dot_S8x4096x2048_S2048x3072_S8x4096x3072_2_0_01_1_n_n none (mulf (mulf x0 (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x0 x0) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w) shapeCasts_S8x4096x3072_S32768x3072)⟩, ⟨S512x3072, (shapeCast S512x3072 (Host.dotGeneral dot_S32x16x2048_S2048x3072_S32x16x3072_2_0_01_1_n_n none (mulf (mulf x1 (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x1 x1) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))) (broadcastInDim S32x16x2048 ![0, 1, 2] bcast_S1x1x2048_S32x16x2048_0_1_2 (broadcastInDim S1x1x2048 ![2] bcast_S2048_S1x1x2048_2 g))) w) shapeCasts_S32x16x3072_S512x3072)⟩] concatenates_S32768x3072_S512x3072_S33280x3072_d0) bitsLt_bf16_f32
      = Kernel3Ideal.Hand.result x0 x1 g w := by
  funext y
  obtain ⟨r, e, rfl⟩ : ∃ (r : Fin 33280) (e : Fin 3072), y = ix2 r e := ⟨y 0, y 1, eq_ix2 y⟩
  show (concatenate S33280x3072 0 [⟨S32768x3072, (shapeCast S32768x3072 (Host.dotGeneral dot_S8x4096x2048_S2048x3072_S8x4096x3072_2_0_01_1_n_n none (mulf (mulf x0 (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x0 x0) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w) shapeCasts_S8x4096x3072_S32768x3072)⟩, ⟨S512x3072, (shapeCast S512x3072 (Host.dotGeneral dot_S32x16x2048_S2048x3072_S32x16x3072_2_0_01_1_n_n none (mulf (mulf x1 (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x1 x1) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))) (broadcastInDim S32x16x2048 ![0, 1, 2] bcast_S1x1x2048_S32x16x2048_0_1_2 (broadcastInDim S1x1x2048 ![2] bcast_S2048_S1x1x2048_2 g))) w) shapeCasts_S32x16x3072_S512x3072)⟩] concatenates_S32768x3072_S512x3072_S33280x3072_d0 (ix2 r e) : EReal) = _
  refine (Rows.concatenate_apply _ _ _
    (fun y : S8x4096x3072.Idx => ∑ k : Fin 2048, Rms.rms Rms.count2048 (fun k => (x0 (ix3 (y 0) (y 1) k) : EReal)) (fun k => g (ix1 k)) k * w (ix2 k (y 2)))
    (fun y : S32x16x3072.Idx => ∑ k : Fin 2048, Rms.rms Rms.count2048 (fun k => (x1 (ix3 (y 0) (y 1) k) : EReal)) (fun k => g (ix1 k)) k * w (ix2 k (y 2)))
    (prompt_apply x0 g w) (sample_apply x1 g w) r e).trans ?_
  unfold Kernel3Ideal.Hand.result
  exact (Rows.joined_rows x0 x1 r e (fun f e => ∑ k : Fin 2048, Rms.rms Rms.count2048 f (fun k => g (ix1 k)) k * w (ix2 k e)))

end Cert.Reference3Ideal.Hand

namespace Cert.Proof

open Idealize.ShloMosaic Idealize.ShloMosaic.TcCoe

theorem algebraic3 : Cert.algebraic_Kernel3Ideal_Reference3Ideal := fun m g m' g' _ hagree =>
  ⟨fun c => Kernel3Ideal.Hand.result (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)),
    (θ_run Cert.Kernel3Ideal.defs _ _).mono (fun r h c => ⟨(h c).1.trans (Kernel3Ideal.Hand.final m c), (h c).2⟩)
      (Kernel3Ideal.Value.run_blocks m g),
    (θ_run Cert.Reference3Ideal.defs _ _).mono
      (fun r h c => ⟨(h c).1.trans ((Reference3Ideal.Hand.result_eq _ _ _ _).trans (by
        rw [(hagree c).1, (hagree c).2.1, (hagree c).2.2.1, (hagree c).2.2.2])), (h c).2⟩)
      (Cert.Reference3Ideal.Value.run m' g')⟩

end Cert.Proof

end
-- ==== Proof.QProj.lean ====
module

public import proofs.«01_k».proof.Proof.Gen.Kernel4Ideal.Value
public import proofs.«01_k».proof.Proof.Consts
public import proofs.«01_k».proof.Proof.Rows
public import proofs.«01_k».proof.Proof.Rms
public import Idealize.ShloMosaic.Lib.Pipeline.ValueKit

@[expose] public section

set_option maxRecDepth 16384
set_option maxHeartbeats 400000

/-! The queries: normed rows against the query columns of the weights, each head normed and scaled; what the program
    leaves, entry by entry. -/

noncomputable section

namespace Cert.Kernel4Ideal.Hand

open Cert.Kernel4Ideal.Gen
open Idealize.ShloMosaic Idealize.ShloMosaic.TcCoe Idealize.ShloMosaic.Tactic

/-- The factor every query is multiplied by. -/
def scale : EReal := Ideal.ofBits .f32 1040356334#32

/-- Entry `(r, e)` of a head in a chunk of columns, from column `o` on: normed, times the gain, scaled. -/
def head (A : FVec Ideal S512x512 .f32) (g : Vec Ideal S1x128 .f32) (o : ℕ) (ho : o + 128 ≤ 512) (r : Fin 512) (e : Fin 128) : EReal :=
  Rms.rms Rms.count128 (fun d : Fin 128 => (A (ix2 r (⟨o + d.val, by omega⟩ : Fin 512)) : EReal)) (fun d => g (ix2 0 d)) e * scale

theorem pay4_apply (a : Vec Ideal S512x2048 .bf16) (w : Vec Ideal S2048x512 .bf16) (r e : Fin 512) :
    (k0_pay4 a w (ix2 r e) : EReal) = ∑ k : Fin 2048, (a (ix2 r k) : EReal) * w (ix2 k e) := by
  pointwise [k0_pay4, Consts.f32_zero]

theorem pay10_apply (a : Vec Ideal S512x2048 .bf16) (w : Vec Ideal S2048x512 .bf16) (r e : Fin 512) :
    (k0_pay10 a w (ix2 r e) : EReal) = ∑ k : Fin 2048, (a (ix2 r k) : EReal) * w (ix2 k e) := by
  pointwise [k0_pay10, Consts.f32_zero]

theorem pay18_apply (a : Vec Ideal S512x2048 .bf16) (w : Vec Ideal S2048x512 .bf16) (r e : Fin 512) :
    (k0_pay18 a w (ix2 r e) : EReal) = ∑ k : Fin 2048, (a (ix2 r k) : EReal) * w (ix2 k e) := by
  pointwise [k0_pay18, Consts.f32_zero]

theorem pay27_apply (a : Vec Ideal S512x2048 .bf16) (w : Vec Ideal S2048x512 .bf16) (r e : Fin 512) :
    (k0_pay27 a w (ix2 r e) : EReal) = ∑ k : Fin 2048, (a (ix2 r k) : EReal) * w (ix2 k e) := by
  pointwise [k0_pay27, Consts.f32_zero]

theorem head0 (a : Vec Ideal S512x2048 .bf16) (w : Vec Ideal S2048x512 .bf16) (g : Vec Ideal S1x128 .f32) (r : Fin 512) (e : Fin 128) :
    (k0_pay6 (k0_pay5 a w g) (ix2 r e) : EReal) = head (k0_pay4 a w) g 0 (by omega) r e := by
  unfold head Rms.rms
  simp only [Nat.zero_add, Fin.eta]
  pointwise [k0_pay6, k0_pay5, Consts.f32_zero]
  rfl

theorem head1 (A : FVec Ideal S512x512 .f32) (g : Vec Ideal S1x128 .f32) (r : Fin 512) (e : Fin 128) :
    (k0_pay7 A g (ix2 r e) : EReal) = head A g 128 (by omega) r e := by
  unfold head Rms.rms
  pointwise [k0_pay7, Consts.f32_zero]
  rfl

theorem head2 (A : FVec Ideal S512x512 .f32) (g : Vec Ideal S1x128 .f32) (r : Fin 512) (e : Fin 128) :
    (k0_pay8 A g (ix2 r e) : EReal) = head A g 256 (by omega) r e := by
  unfold head Rms.rms
  pointwise [k0_pay8, Consts.f32_zero]
  rfl

theorem head3 (A : FVec Ideal S512x512 .f32) (g : Vec Ideal S1x128 .f32) (r : Fin 512) (e : Fin 128) :
    (k0_pay9 A g (ix2 r e) : EReal) = head A g 384 (by omega) r e := by
  unfold head Rms.rms
  pointwise [k0_pay9, Consts.f32_zero]
  rfl

theorem head4 (a : Vec Ideal S512x2048 .bf16) (w : Vec Ideal S2048x512 .bf16) (g : Vec Ideal S1x128 .f32) (r : Fin 512) (e : Fin 128) :
    (k0_pay13 (k0_pay11 a w) (k0_pay12 g) (ix2 r e) : EReal) = head (k0_pay10 a w) g 0 (by omega) r e := by
  unfold head Rms.rms
  simp only [Nat.zero_add, Fin.eta]
  pointwise [k0_pay13, k0_pay12, k0_pay11, Consts.f32_zero]
  rfl

theorem head5 (A : FVec Ideal S512x512 .f32) (g : Vec Ideal S1x128 .f32) (r : Fin 512) (e : Fin 128) :
    (k0_pay14 A g (ix2 r e) : EReal) = head A g 128 (by omega) r e := by
  unfold head Rms.rms
  pointwise [k0_pay14, Consts.f32_zero]
  rfl

theorem head6 (A : FVec Ideal S512x512 .f32) (g : Vec Ideal S1x128 .f32) (r : Fin 512) (e : Fin 128) :
    (k0_pay16 (k0_pay15 A g) (ix2 r e) : EReal) = head A g 256 (by omega) r e := by
  unfold head Rms.rms
  pointwise [k0_pay16, k0_pay15, Consts.f32_zero]
  rfl

theorem head7 (A : FVec Ideal S512x512 .f32) (g : Vec Ideal S1x128 .f32) (r : Fin 512) (e : Fin 128) :
    (k0_pay17 A g (ix2 r e) : EReal) = head A g 384 (by omega) r e := by
  unfold head Rms.rms
  pointwise [k0_pay17, Consts.f32_zero]
  rfl

theorem head8 (a : Vec Ideal S512x2048 .bf16) (w : Vec Ideal S2048x512 .bf16) (g : Vec Ideal S1x128 .f32) (r : Fin 512) (e : Fin 128) :
    (k0_pay21 (k0_pay19 g) (k0_pay20 a w) (ix2 r e) : EReal) = head (k0_pay18 a w) g 0 (by omega) r e := by
  unfold head Rms.rms
  simp only [Nat.zero_add, Fin.eta]
  pointwise [k0_pay21, k0_pay20, k0_pay19, Consts.f32_zero]
  rfl

theorem head9 (A : FVec Ideal S512x512 .f32) (g : Vec Ideal S1x128 .f32) (r : Fin 512) (e : Fin 128) :
    (k0_pay22 A g (ix2 r e) : EReal) = head A g 128 (by omega) r e := by
  unfold head Rms.rms
  pointwise [k0_pay22, Consts.f32_zero]
  rfl

theorem head10 (A : FVec Ideal S512x512 .f32) (g : Vec Ideal S1x128 .f32) (r : Fin 512) (e : Fin 128) :
    (k0_pay25 (k0_pay23 A g) k0_pay24 (ix2 r e) : EReal) = head A g 256 (by omega) r e := by
  unfold head Rms.rms
  pointwise [k0_pay25, k0_pay23, k0_pay24, Consts.f32_zero]
  rfl

theorem head11 (A : FVec Ideal S512x512 .f32) (g : Vec Ideal S1x128 .f32) (r : Fin 512) (e : Fin 128) :
    (k0_pay26 A g (ix2 r e) : EReal) = head A g 384 (by omega) r e := by
  unfold head Rms.rms
  pointwise [k0_pay26, Consts.f32_zero]
  rfl

theorem head12 (a : Vec Ideal S512x2048 .bf16) (w : Vec Ideal S2048x512 .bf16) (g : Vec Ideal S1x128 .f32) (r : Fin 512) (e : Fin 128) :
    (k0_pay31 (k0_pay28 a w) (k0_pay29 g) (k0_pay30 a w) (ix2 r e) : EReal) = head (k0_pay27 a w) g 0 (by omega) r e := by
  unfold head Rms.rms
  simp only [Nat.zero_add, Fin.eta]
  pointwise [k0_pay31, k0_pay30, k0_pay29, k0_pay28, Consts.f32_zero]
  rfl

theorem head13 (A : FVec Ideal S512x512 .f32) (g : Vec Ideal S1x128 .f32) (r : Fin 512) (e : Fin 128) :
    (k0_pay32 A g (ix2 r e) : EReal) = head A g 128 (by omega) r e := by
  unfold head Rms.rms
  pointwise [k0_pay32, Consts.f32_zero]
  rfl

theorem head14 (A : FVec Ideal S512x512 .f32) (g : Vec Ideal S1x128 .f32) (r : Fin 512) (e : Fin 128) :
    (k0_pay1 (k0_pay33 A g) (Scalar.ofBits .f32 0x3E0293EE#32) (ix2 r e) : EReal) = head A g 256 (by omega) r e := by
  unfold head Rms.rms
  pointwise [k0_pay1, k0_pay33, Consts.f32_zero]
  rfl

theorem head15 (A : FVec Ideal S512x512 .f32) (g : Vec Ideal S1x128 .f32) (r : Fin 512) (e : Fin 128) :
    (k0_pay2 A g (ix2 r e) : EReal) = head A g 384 (by omega) r e := by
  unfold head Rms.rms
  pointwise [k0_pay2, Consts.f32_zero]
  rfl

/-- The normed rows of a block. -/
theorem pay3_apply (x : Vec Ideal S512x2048 .f32) (g : Vec Ideal S1x2048 .f32) (r : Fin 512) (e : Fin 2048) :
    (k0_pay3 x g (ix2 r e) : EReal) = Rms.rms Rms.count2048 (fun k : Fin 2048 => (x (ix2 r k) : EReal)) (fun k => g (ix2 0 k)) e := by
  pointwise [k0_pay3, Consts.f32_zero]
  rfl

/-- A row of a block against the columns of a head, normed and scaled. -/
def val (a : Vec Ideal S512x2048 .bf16) (w : Vec Ideal S2048x2048 .bf16) (g : Vec Ideal S1x128 .f32) (r : Fin 512) (e : Fin 2048) : EReal :=
  Rms.rms Rms.count128 (fun d : Fin 128 => ∑ k : Fin 2048, (a (ix2 r k) : EReal) * w (ix2 k (⟨128 * (e.val / 128) + d.val, by omega⟩ : Fin 2048)))
    (fun d => g (ix2 0 d)) (⟨e.val % 128, by omega⟩ : Fin 128) * scale

theorem head_chunk (O o q : ℕ) (hq : O + o = 128 * q) (ho : o + 128 ≤ 512) (A : FVec Ideal S512x512 .f32) (a : Vec Ideal S512x2048 .bf16) (w : Vec Ideal S2048x2048 .bf16) (g : Vec Ideal S1x128 .f32)
    (hw : ∀ d, ![0, O] d + ![2048, 512] d ≤ S2048x2048.size d)
    (hA : ∀ r e : Fin 512, (A (ix2 r e) : EReal) = ∑ k : Fin 2048, (a (ix2 r k) : EReal) * View.ld w (Rect.unit ![0, O] ![2048, 512] hw) (ix2 k e))
    (r : Fin 512) (e : Fin 128) (y : S512x2048.Idx) (h0 : (y 0).val = r.val) (h1 : (y 1).val = 128 * q + e.val) :
    head A g o ho r e = val a w g (y 0) (y 1) := by
  have hr : (y 0 : Fin 512) = r := Fin.ext h0
  have he : (⟨(y 1).val % 128, Nat.mod_lt _ (by norm_num)⟩ : Fin 128) = e := Fin.ext (by show (y 1).val % 128 = e.val; omega)
  unfold head val
  refine congrArg (· * scale) ?_
  refine (Rms.rms_congr _ (fun d => ?_) (fun d => rfl) e).trans (congrArg _ he.symm)
  refine (hA r _).trans (Finset.sum_congr rfl fun k _ => congrArg₂ (· * ·) (congrArg a ?_) (congrArg w ?_))
  · rw [hr]
  · funext b
    apply Fin.ext
    have hd := d.isLt
    fin_cases b
    · simp [ix2, Rect.idx_unit_val]
    · simp [ix2, Rect.idx_unit_val]
      omega

theorem out_apply (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x2048 .bf16) (harg3 : arg3.IsWhole) (arg4 : Memref sig .tc .vmem S1x128 .f32) (harg4 : arg4.IsWhole) (arg5 : Memref sig .tc .vmem S512x2048 .bf16) (harg5 : arg5.IsWhole) (arg6 : Memref sig .tc .vmem S512x2048 .bf16) (harg6 : arg6.IsWhole)
    (x0 : Vec Ideal S512x2048 .f32) (x1 : Vec Ideal S1x2048 .f32) (x2 : Vec Ideal S2048x2048 .bf16) (x3 : Vec Ideal S1x128 .f32) (y : S512x2048.Idx) :
    (out0_A_4 c i arg1 harg1 arg2 harg2 arg3 harg3 arg4 harg4 arg5 harg5 arg6 harg6 x0 x1 x2 x3 y : EReal) = val (k0_pay3 x0 x1) x2 x3 (y 0) (y 1) := by
  frame_out
  generalize k0_pay3 x0 x1 = a
  canon_tiles j h
  all_goals
    obtain ⟨r, e, rfl⟩ : ∃ (r : Fin 512) (e : Fin 128), j = ix2 r e := ⟨j 0, j 1, eq_ix2 j⟩
  · exact (head15 _ x3 r e).trans (head_chunk 1536 384 15 (by omega) (by omega) _ a x2 x3 _ (pay27_apply a _) r e y h0 h1)
  · exact (head14 _ x3 r e).trans (head_chunk 1536 256 14 (by omega) (by omega) _ a x2 x3 _ (pay27_apply a _) r e y h0 h1)
  · exact (head13 _ x3 r e).trans (head_chunk 1536 128 13 (by omega) (by omega) _ a x2 x3 _ (pay27_apply a _) r e y h0 h1)
  · exact (head12 a _ x3 r e).trans (head_chunk 1536 0 12 (by omega) (by omega) _ a x2 x3 _ (pay27_apply a _) r e y h0 h1)
  · exact (head11 _ x3 r e).trans (head_chunk 1024 384 11 (by omega) (by omega) _ a x2 x3 _ (pay18_apply a _) r e y h0 h1)
  · exact (head10 _ x3 r e).trans (head_chunk 1024 256 10 (by omega) (by omega) _ a x2 x3 _ (pay18_apply a _) r e y h0 h1)
  · exact (head9 _ x3 r e).trans (head_chunk 1024 128 9 (by omega) (by omega) _ a x2 x3 _ (pay18_apply a _) r e y h0 h1)
  · exact (head8 a _ x3 r e).trans (head_chunk 1024 0 8 (by omega) (by omega) _ a x2 x3 _ (pay18_apply a _) r e y h0 h1)
  · exact (head7 _ x3 r e).trans (head_chunk 512 384 7 (by omega) (by omega) _ a x2 x3 _ (pay10_apply a _) r e y h0 h1)
  · exact (head6 _ x3 r e).trans (head_chunk 512 256 6 (by omega) (by omega) _ a x2 x3 _ (pay10_apply a _) r e y h0 h1)
  · exact (head5 _ x3 r e).trans (head_chunk 512 128 5 (by omega) (by omega) _ a x2 x3 _ (pay10_apply a _) r e y h0 h1)
  · exact (head4 a _ x3 r e).trans (head_chunk 512 0 4 (by omega) (by omega) _ a x2 x3 _ (pay10_apply a _) r e y h0 h1)
  · exact (head3 _ x3 r e).trans (head_chunk 0 384 3 (by omega) (by omega) _ a x2 x3 _ (pay4_apply a _) r e y h0 h1)
  · exact (head2 _ x3 r e).trans (head_chunk 0 256 2 (by omega) (by omega) _ a x2 x3 _ (pay4_apply a _) r e y h0 h1)
  · exact (head1 _ x3 r e).trans (head_chunk 0 128 1 (by omega) (by omega) _ a x2 x3 _ (pay4_apply a _) r e y h0 h1)
  · exact (head0 a _ x3 r e).trans (head_chunk 0 0 0 (by omega) (by omega) _ a x2 x3 _ (pay4_apply a _) r e y h0 (by rw [h1, Nat.mul_zero, Nat.zero_add]; rfl))

theorem idx : ∀ t : Fin cfg0.N, win0_0.index t = ![t.val, 0] ∧ win0_1.index t = ![0, 0]
    ∧ win0_2.index t = ![0, 0] ∧ win0_3.index t = ![0, 0] ∧ win0_4.index t = ![t.val, 0] ∧ t.val < 65 := (by decide +kernel : ∀ t : Fin grid0.N, _)

variable (m : (ℓ : Loc nD τ sig) → Buf (Elt Ideal) ℓ) (c : Dev nD)

theorem x_entry (r : Fin 33280) (e : Fin 2048) : (V m c main_v2 (ix2 r e) : EReal)
    = Rows.joined (m ((c.tc : Thread nD τ).loc main_arg0)) (m ((c.tc : Thread nD τ).loc main_arg1)) r e := by
  entry_read
  refine Rows.concatenate_apply _ _ _ _ _ (fun r k => ?_) (fun r k => ?_) r e
  · pointwise
  · pointwise

theorem g_entry (k : Fin 2048) : (V m c main_v5 (ix2 0 k) : EReal) = m ((c.tc : Thread nD τ).loc main_arg2) (ix1 k) := by
  entry_read
  pointwise

theorem w_entry (k e : Fin 2048) : (V m c main_v4 (ix2 k e) : EReal) = m ((c.tc : Thread nD τ).loc main_arg3) (ix2 k (⟨e.val, by omega⟩ : Fin 6160)) := by
  entry_read
  pointwise

theorem h_entry (d : Fin 128) : (V m c main_v6 (ix2 0 d) : EReal) = m ((c.tc : Thread nD τ).loc main_arg4) (ix1 d) := by
  entry_read
  pointwise

theorem block0 (t : Fin cfg0.N) (r : Fin 512) (k : Fin 2048) : (iblk m c 0 t (ix2 r k) : EReal)
    = V m c main_v2 (ix2 (⟨512 * t.val + r.val, by have := (idx t).2.2.2.2.2; omega⟩ : Fin 33280) k) := by
  blk_ext [iblk, idx t]

theorem block1 (t : Fin cfg0.N) (k : Fin 2048) : (iblk m c 1 t (ix2 0 k) : EReal) = V m c main_v5 (ix2 0 k) := by
  blk_ext [iblk, idx t]

theorem block2 (t : Fin cfg0.N) (k e : Fin 2048) : (iblk m c 2 t (ix2 k e) : EReal) = V m c main_v4 (ix2 k e) := by
  blk_ext [iblk, idx t]

theorem block3 (t : Fin cfg0.N) (d : Fin 128) : (iblk m c 3 t (ix2 0 d) : EReal) = V m c main_v6 (ix2 0 d) := by
  blk_ext [iblk, idx t]

/-- A head's entry: the normed row `f` against the head's columns of the weights, normed and scaled. -/
def query (g : S2048.Idx → EReal) (w : S2048x6160.Idx → EReal) (h : S128.Idx → EReal) (f : Fin 2048 → EReal) (e : Fin 2048) : EReal :=
  Rms.rms Rms.count128 (fun d : Fin 128 => ∑ k : Fin 2048, Rms.rms Rms.count2048 f (fun k => g (ix1 k)) k * w (ix2 k (⟨128 * (e.val / 128) + d.val, by omega⟩ : Fin 6160)))
    (fun d => h (ix1 d)) (⟨e.val % 128, by omega⟩ : Fin 128) * scale

/-- The result: the queries of the joined rows. -/
def result (x0 : S8x4096x2048.Idx → EReal) (x1 : S32x16x2048.Idx → EReal) (g : S2048.Idx → EReal) (w : S2048x6160.Idx → EReal) (h : S128.Idx → EReal)
    (y : S33280x2048.Idx) : EReal :=
  query g w h (Rows.joined x0 x1 (y 0)) (y 1)

theorem final : (dats m 0 c).arrAt 4 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 4 _ (by decide +kernel) fun t hf y => ?_
  rw [after0_4]
  blk_simp
  unfold outsAt0
  refine (out_apply c _ _ _ _ _ _ _ _ _ _ _ _ _ _ _ _ _ _).trans ?_
  have e0 : ((win0_4.blk t).view.emb y 0 : ℕ) = 512 * t.val + (y 0).val := by blk_simp [idx t]; omega
  have e1 : ((win0_4.blk t).view.emb y 1 : ℕ) = (y 1).val := by blk_simp [idx t]
  have ht := (idx t).2.2.2.2.2
  generalize (win0_4.blk t).view.emb y = z at e0 e1 ⊢
  unfold val result query
  have he : (y 1 : Fin 2048) = z 1 := Fin.ext e1.symm
  rw [he]
  refine congrArg (· * scale) (Rms.rms_congr _ (fun d => Finset.sum_congr rfl fun k _ => congrArg₂ (· * ·) ?_ ?_) (fun d => ?_) _)
  · refine (pay3_apply _ _ (y 0) k).trans (Rms.rms_congr _ (fun k => ?_) (fun k => ?_) k)
    · refine (block0 m c t (y 0) k).trans ((x_entry m c _ _).trans ?_)
      exact congrArg (fun r => Rows.joined _ _ r k) (Fin.ext e0.symm)
    · exact (block1 m c t k).trans (g_entry m c k)
  · exact (block2 m c t k _).trans (w_entry m c k _)
  · exact (block3 m c t d).trans (h_entry m c d)

end Cert.Kernel4Ideal.Hand

end
-- ==== Proof.QProjValue.lean ====
module

public import proofs.«01_k».proof.Proof.QProj
public import proofs.«01_k».proof.Proof.Gen.Reference4Ideal.Run
public import proofs.«01_k».proof.Defs
public import Idealize.ShloMosaic.Lib.Claim

@[expose] public section

set_option maxRecDepth 16384
set_option maxHeartbeats 400000

/-! The queries: the plain formula, entry by entry, and the claim. -/

noncomputable section

namespace Cert.Reference4Ideal.Hand

open Cert.Reference4Ideal.Gen
open Idealize.ShloMosaic Idealize.ShloMosaic.TcCoe Idealize.ShloMosaic.Tactic

/-- The prompt's rows, normed, against the query columns. -/
def promptDot (x0 : FVec Ideal S8x4096x2048 .f32) (g : FVec Ideal S2048 .f32) (w : FVec Ideal S2048x6160 .f32) : FVec Ideal S8x4096x2048 .f32 :=
  (extractStridedSlice S8x4096x2048 ![0, 0, 0] (Host.dotGeneral dot_S8x4096x2048_S2048x6160_S8x4096x6160_2_0_01_1_n_n none (mulf (mulf x0 (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x0 x0) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w) slices_S8x4096x6160_S8x4096x2048_0_0_0)

/-- The prompt's heads, normed. -/
def promptHeads (D : FVec Ideal S8x4096x2048 .f32) (h : FVec Ideal S128 .f32) : FVec Ideal S32768x2048 .f32 :=
  (shapeCast S32768x2048 (mulf (mulf (shapeCast S8x4096x16x128 D shapeCasts_S8x4096x2048_S8x4096x16x128) (broadcastInDim S8x4096x16x128 ![0, 1, 2, 3] bcast_S8x4096x16x1_S8x4096x16x128_0_1_2_3 (Host.rsqrt (addf (Host.divf (broadcastInDim S8x4096x16x1 ![0, 1, 2] bcast_S8x4096x16_S8x4096x16x1_0_1_2 (Host.reduceAdd (mulf (shapeCast S8x4096x16x128 D shapeCasts_S8x4096x2048_S8x4096x16x128) (shapeCast S8x4096x16x128 D shapeCasts_S8x4096x2048_S8x4096x16x128)) (constant S_ .f32 0x00000000#32) reducesTo_S8x4096x16x128_S8x4096x16_d3 h_S_)) (broadcastInDim S8x4096x16x1 ![] bcast_S_S8x4096x16x1 (constant S_ .f32 0x43000000#32))) (broadcastInDim S8x4096x16x1 ![] bcast_S_S8x4096x16x1 (constant S_ .f32 0x358637BD#32)))))) (broadcastInDim S8x4096x16x128 ![0, 1, 2, 3] bcast_S1x1x1x128_S8x4096x16x128_0_1_2_3 (broadcastInDim S1x1x1x128 ![3] bcast_S128_S1x1x1x128_3 h))) shapeCasts_S8x4096x16x128_S32768x2048)

theorem promptDot_apply (x0 : FVec Ideal S8x4096x2048 .f32) (g : FVec Ideal S2048 .f32) (w : FVec Ideal S2048x6160 .f32) (p : Fin 8) (q : Fin 4096) (e : Fin 2048) :
    (promptDot x0 g w (ix3 p q e) : EReal) = ∑ k : Fin 2048, Rms.rms Rms.count2048 (fun k => (x0 (ix3 p q k) : EReal)) (fun k => g (ix1 k)) k * w (ix2 k (⟨e.val, by omega⟩ : Fin 6160)) := by
  unfold Rms.rms
  pointwise [promptDot, Consts.f32_zero]
  rfl

theorem promptHeads_apply (D : FVec Ideal S8x4096x2048 .f32) (h : FVec Ideal S128 .f32) (r : Fin 32768) (e : Fin 2048) :
    (promptHeads D h (ix2 r e) : EReal) = Rms.rms Rms.count128 (fun d : Fin 128 => (D (ix3 (⟨r.val / 4096, by omega⟩ : Fin 8) (⟨r.val % 4096, by omega⟩ : Fin 4096) (⟨128 * (e.val / 128) + d.val, by omega⟩ : Fin 2048)) : EReal))
      (fun d => h (ix1 d)) (⟨e.val % 128, by omega⟩ : Fin 128) := by
  unfold Rms.rms
  simp only [Nat.mul_comm 128 (e.val / 128), Nat.div_add_mod', Fin.eta]
  pointwise [promptHeads, Consts.f32_zero]
  rfl

/-- The sample's rows, normed, against the query columns. -/
def sampleDot (x1 : FVec Ideal S32x16x2048 .f32) (g : FVec Ideal S2048 .f32) (w : FVec Ideal S2048x6160 .f32) : FVec Ideal S32x16x2048 .f32 :=
  (extractStridedSlice S32x16x2048 ![0, 0, 0] (Host.dotGeneral dot_S32x16x2048_S2048x6160_S32x16x6160_2_0_01_1_n_n none (mulf (mulf x1 (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x1 x1) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))) (broadcastInDim S32x16x2048 ![0, 1, 2] bcast_S1x1x2048_S32x16x2048_0_1_2 (broadcastInDim S1x1x2048 ![2] bcast_S2048_S1x1x2048_2 g))) w) slices_S32x16x6160_S32x16x2048_0_0_0)

/-- The sample's heads, normed. -/
def sampleHeads (D : FVec Ideal S32x16x2048 .f32) (h : FVec Ideal S128 .f32) : FVec Ideal S512x2048 .f32 :=
  (shapeCast S512x2048 (mulf (mulf (shapeCast S32x16x16x128 D shapeCasts_S32x16x2048_S32x16x16x128) (broadcastInDim S32x16x16x128 ![0, 1, 2, 3] bcast_S32x16x16x1_S32x16x16x128_0_1_2_3 (Host.rsqrt (addf (Host.divf (broadcastInDim S32x16x16x1 ![0, 1, 2] bcast_S32x16x16_S32x16x16x1_0_1_2 (Host.reduceAdd (mulf (shapeCast S32x16x16x128 D shapeCasts_S32x16x2048_S32x16x16x128) (shapeCast S32x16x16x128 D shapeCasts_S32x16x2048_S32x16x16x128)) (constant S_ .f32 0x00000000#32) reducesTo_S32x16x16x128_S32x16x16_d3 h_S_)) (broadcastInDim S32x16x16x1 ![] bcast_S_S32x16x16x1 (constant S_ .f32 0x43000000#32))) (broadcastInDim S32x16x16x1 ![] bcast_S_S32x16x16x1 (constant S_ .f32 0x358637BD#32)))))) (broadcastInDim S32x16x16x128 ![0, 1, 2, 3] bcast_S1x1x1x128_S32x16x16x128_0_1_2_3 (broadcastInDim S1x1x1x128 ![3] bcast_S128_S1x1x1x128_3 h))) shapeCasts_S32x16x16x128_S512x2048)

theorem sampleDot_apply (x1 : FVec Ideal S32x16x2048 .f32) (g : FVec Ideal S2048 .f32) (w : FVec Ideal S2048x6160 .f32) (p : Fin 32) (q : Fin 16) (e : Fin 2048) :
    (sampleDot x1 g w (ix3 p q e) : EReal) = ∑ k : Fin 2048, Rms.rms Rms.count2048 (fun k => (x1 (ix3 p q k) : EReal)) (fun k => g (ix1 k)) k * w (ix2 k (⟨e.val, by omega⟩ : Fin 6160)) := by
  unfold Rms.rms
  pointwise [sampleDot, Consts.f32_zero]
  rfl

theorem sampleHeads_apply (D : FVec Ideal S32x16x2048 .f32) (h : FVec Ideal S128 .f32) (r : Fin 512) (e : Fin 2048) :
    (sampleHeads D h (ix2 r e) : EReal) = Rms.rms Rms.count128 (fun d : Fin 128 => (D (ix3 (⟨r.val / 16, by omega⟩ : Fin 32) (⟨r.val % 16, by omega⟩ : Fin 16) (⟨128 * (e.val / 128) + d.val, by omega⟩ : Fin 2048)) : EReal))
      (fun d => h (ix1 d)) (⟨e.val % 128, by omega⟩ : Fin 128) := by
  unfold Rms.rms
  simp only [Nat.mul_comm 128 (e.val / 128), Nat.div_add_mod', Fin.eta]
  pointwise [sampleHeads, Consts.f32_zero]
  rfl

/-- A head's entry before the scaling. -/
def unscaled (g : S2048.Idx → EReal) (w : S2048x6160.Idx → EReal) (h : S128.Idx → EReal) (f : Fin 2048 → EReal) (e : Fin 2048) : EReal :=
  Rms.rms Rms.count128 (fun d : Fin 128 => ∑ k : Fin 2048, Rms.rms Rms.count2048 f (fun k => g (ix1 k)) k * w (ix2 k (⟨128 * (e.val / 128) + d.val, by omega⟩ : Fin 6160)))
    (fun d => h (ix1 d)) (⟨e.val % 128, by omega⟩ : Fin 128)

theorem result_eq (x0 : FVec Ideal S8x4096x2048 .f32) (x1 : FVec Ideal S32x16x2048 .f32) (g : FVec Ideal S2048 .f32) (w : FVec Ideal S2048x6160 .f32) (h : FVec Ideal S128 .f32) :
    truncf .bf16 (mulf (concatenate S33280x2048 0 [⟨S32768x2048, promptHeads (promptDot x0 g w) h⟩, ⟨S512x2048, sampleHeads (sampleDot x1 g w) h⟩] concatenates_S32768x2048_S512x2048_S33280x2048_d0) (broadcastInDim S33280x2048 ![] bcast_S_S33280x2048 (constant S_ .f32 0x3E0293EE#32))) bitsLt_bf16_f32
      = Kernel4Ideal.Hand.result x0 x1 g w h := by
  funext y
  obtain ⟨r, e, rfl⟩ : ∃ (r : Fin 33280) (e : Fin 2048), y = ix2 r e := ⟨y 0, y 1, eq_ix2 y⟩
  show ((concatenate S33280x2048 0 [⟨S32768x2048, promptHeads (promptDot x0 g w) h⟩, ⟨S512x2048, sampleHeads (sampleDot x1 g w) h⟩] concatenates_S32768x2048_S512x2048_S33280x2048_d0) (ix2 r e) : EReal) * Kernel4Ideal.Hand.scale = _
  unfold Kernel4Ideal.Hand.result Kernel4Ideal.Hand.query
  refine congrArg (· * Kernel4Ideal.Hand.scale) ?_
  refine (Rows.concatenate_apply _ _ _
    (fun y : S8x4096x2048.Idx => unscaled g w h (fun k => (x0 (ix3 (y 0) (y 1) k) : EReal)) (y 2))
    (fun y : S32x16x2048.Idx => unscaled g w h (fun k => (x1 (ix3 (y 0) (y 1) k) : EReal)) (y 2))
    (fun r e => (promptHeads_apply _ _ r e).trans (Rms.rms_congr _ (fun d => promptDot_apply x0 g w _ _ _) (fun d => rfl) _))
    (fun r e => (sampleHeads_apply _ _ r e).trans (Rms.rms_congr _ (fun d => sampleDot_apply x1 g w _ _ _) (fun d => rfl) _)) r e).trans ?_
  exact Rows.joined_rows x0 x1 r e (unscaled g w h)

end Cert.Reference4Ideal.Hand

namespace Cert.Proof

open Idealize.ShloMosaic Idealize.ShloMosaic.TcCoe

theorem algebraic4 : Cert.algebraic_Kernel4Ideal_Reference4Ideal := fun m g m' g' _ hagree =>
  ⟨fun c => Kernel4Ideal.Hand.result (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)),
    (θ_run Cert.Kernel4Ideal.defs _ _).mono (fun r h c => ⟨(h c).1.trans (Kernel4Ideal.Hand.final m c), (h c).2⟩)
      (Kernel4Ideal.Value.run_blocks m g),
    (θ_run Cert.Reference4Ideal.defs _ _).mono
      (fun r h c => ⟨(h c).1.trans ((Reference4Ideal.Hand.result_eq _ _ _ _ _).trans (by
        rw [(hagree c).1, (hagree c).2.1, (hagree c).2.2.1, (hagree c).2.2.2.1, (hagree c).2.2.2.2])), (h c).2⟩)
      (Cert.Reference4Ideal.Value.run m' g')⟩

end Cert.Proof

end
-- ==== Proof.KvRun.lean ====
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point whose rows are the prompt's: the inputs' buffers are left as they were, the two joined
results' and the three prompt results' get the pieces the run finds, and the three sample results' are not touched. -/
noncomputable def runA (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole)
    (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) :
    Σ' (L5 : List (View.Piece (Elt F) S256x2048 .bf16)), Σ' (L6 : List (View.Piece (Elt F) S256x2048 .bf16)), Σ' (L7 : List (View.Piece (Elt F) S1x256x16x128 .f32)), Σ' (L8 : List (View.Piece (Elt F) S1x256x16x128 .f32)), Σ' (L9 : List (View.Piece (Elt F) S1x256x16 .f32)), { LT : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg12.view.loc (c : Thread nD τ) ↦[arg12.view.set]{fullShare} arg12.view.writes (Elt F) f L5) ∗ (∃ f, arg13.view.loc (c : Thread nD τ) ↦[arg13.view.set]{fullShare} arg13.view.writes (Elt F) f L6) ∗ (∃ f, arg14.view.loc (c : Thread nD τ) ↦[arg14.view.set]{fullShare} arg14.view.writes (Elt F) f L7) ∗ (∃ f, arg15.view.loc (c : Thread nD τ) ↦[arg15.view.set]{fullShare} arg15.view.writes (Elt F) f L8) ∗ (∃ f, arg16.view.loc (c : Thread nD τ) ↦[arg16.view.set]{fullShare} arg16.view.writes (Elt F) f L9) ∗ (∃ f, arg20.view.loc (c : Thread nD τ) ↦[arg20.view.set]{fullShare} arg20.view.writes (Elt F) f LT)) -∗ K ⟨⟩))
          ⊢ wp frame (wpE (defs₀ (F := F)) Variants.none c none) E (cc0_kv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_kv_proj_eq_skeleton]; unfold cc0_kv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d12, %g12, -, G12⟩, ⟨%d13, %g13, -, G13⟩, ⟨%d14, %g14, -, G14⟩, ⟨%d15, %g15, -, G15⟩, ⟨%d16, %g16, -, G16⟩, ⟨%d20, %g20, -, G20⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G12]; · iexists _; iexact G12
    isplitl [G13]; · iexists _; iexact G13
    isplitl [G14]; · iexists _; iexact G14
    isplitl [G15]; · iexists _; iexact G15
    isplitl [G16]; · iexists _; iexact G16
    iexists _; iexact G20

end Cert.Kernel5Ideal.Hand

end
-- ==== Proof.KvRunB.lean ====
module

public import proofs.«01_k».proof.Proof.KvRun

@[expose] public section

set_option maxRecDepth 16384
set_option maxHeartbeats 4000000

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point whose rows are the samples': as `runA`, with the three sample results in the place of the
prompt's. -/
noncomputable def runB (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole)
    (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) :
    Σ' (L5 : List (View.Piece (Elt F) S256x2048 .bf16)), Σ' (L6 : List (View.Piece (Elt F) S256x2048 .bf16)), Σ' (L10 : List (View.Piece (Elt F) S1x256x16x128 .f32)), Σ' (L11 : List (View.Piece (Elt F) S1x256x16x128 .f32)), Σ' (L12 : List (View.Piece (Elt F) S1x256x16 .f32)), { LT : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg12 fullShare d) ∗ (∃ d, owns (c : Thread nD τ) arg13 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg12.view.loc (c : Thread nD τ) ↦[arg12.view.set]{fullShare} arg12.view.writes (Elt F) f L5) ∗ (∃ f, arg13.view.loc (c : Thread nD τ) ↦[arg13.view.set]{fullShare} arg13.view.writes (Elt F) f L6) ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ (∃ f, arg20.view.loc (c : Thread nD τ) ↦[arg20.view.set]{fullShare} arg20.view.writes (Elt F) f LT)) -∗ K ⟨⟩))
          ⊢ wp frame (wpE (defs₀ (F := F)) Variants.none c none) E (cc0_kv_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_kv_proj_eq_skeleton]; unfold cc0_kv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d12, %g12, -, G12⟩, ⟨%d13, %g13, -, G13⟩, ⟨%d17, %g17, -, G17⟩, ⟨%d18, %g18, -, G18⟩, ⟨%d19, %g19, -, G19⟩, ⟨%d20, %g20, -, G20⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [G12]; · iexists _; iexact G12
    isplitl [G13]; · iexists _; iexact G13
    isplitl [G17]; · iexists _; iexact G17
    isplitl [G18]; · iexists _; iexact G18
    isplitl [G19]; · iexists _; iexact G19
    iexists _; iexact G20

end Cert.Kernel5Ideal.Hand

end
-- ==== Proof.KvFrame.lean ====
module

public import proofs.«01_k».proof.Proof.KvRunB

@[expose] public section

set_option maxRecDepth 16384
set_option maxHeartbeats 4000000

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point, and which rows a point works on -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x4224 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x2048 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x16x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x16x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x256x16x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256x16x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256x16 .f32 := win0_12.stage (cfg0.slots t 12)
abbrev hs12 (t : Fin cfg0.N) : (ms12 t).IsWhole := hstage0_12 ((cfg0.slots t 12).cast nbuf0_12)
abbrev scr : Memref sig .tc .vmem S256x2048 .bf16 := Memref.whole cc0_scratch0

/-- What the body is handed besides its windows: the scratch rows and the generator's register. -/
theorem phi_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The first 128 points work on the prompt's rows. -/
theorem cond1_iff : ∀ t : Fin cfg0.N, k0_cond1 (grid0.coords t) = 1#1 ↔ t.val < 128 := by decide +kernel
/-- The last two work on the samples'. -/
theorem cond2_iff : ∀ t : Fin cfg0.N, k0_cond2 (grid0.coords t) = 1#1 ↔ 128 ≤ t.val := by decide +kernel

/-- The points of the prompt's rows, and of the samples'. -/
abbrev PtA := { t : Fin cfg0.N // t.val < 128 }
abbrev PtB := { t : Fin cfg0.N // 128 ≤ t.val }
theorem a1 (s : PtA) : k0_cond1 (grid0.coords s.1) = 1#1 := (cond1_iff s.1).mpr s.2
theorem a2 (s : PtA) : ¬k0_cond2 (grid0.coords s.1) = 1#1 := fun h => absurd ((cond2_iff s.1).mp h) (Nat.not_le.mpr s.2)
theorem b1 (s : PtB) : ¬k0_cond1 (grid0.coords s.1) = 1#1 := fun h => absurd ((cond1_iff s.1).mp h) (Nat.not_lt.mpr s.2)
theorem b2 (s : PtB) : k0_cond2 (grid0.coords s.1) = 1#1 := (cond2_iff s.1).mpr s.2
/-- The last point of the prompt's rows not after `t`; the first of the samples' not before. -/
def lastA (t : Fin cfg0.N) : PtA := ⟨⟨min t.val 127, lt_of_le_of_lt (Nat.min_le_left _ _) t.isLt⟩, lt_of_le_of_lt (Nat.min_le_right _ _) (by decide)⟩
def firstB (t : Fin cfg0.N) : PtB := ⟨⟨max t.val 128, max_lt t.isLt (by decide)⟩, Nat.le_max_right _ _⟩
theorem lastA_eq (t : Fin cfg0.N) (h : t.val < 128) : lastA t = ⟨t, h⟩ := Subtype.ext (Fin.ext (Nat.min_eq_left (by omega)))
theorem firstB_eq (t : Fin cfg0.N) (h : 128 ≤ t.val) : firstB t = ⟨t, h⟩ := Subtype.ext (Fin.ext (Nat.max_eq_left h))

/-! ## What a point leaves in each result's buffer -/

theorem coverA5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) (y : S256x2048.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1 S256x128.size (by sl_kernel_rfl) y
def outA5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) : Vec F S256x2048 .bf16 :=
  (Memref.whole cc0_stg5_0 : Memref sig .tc .vmem S256x2048 .bf16).view.read (Elt F) ((Memref.whole cc0_stg5_0 : Memref sig .tc .vmem S256x2048 .bf16).view.writes (Elt F) (Memref.whole cc0_stg5_0 : Memref sig .tc .vmem S256x2048 .bf16).view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1)
def atA5 (c : Dev nD) (s : PtA) : Vec F S256x2048 .bf16 :=
  outA5 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (a1 s) (a2 s)

theorem coverA6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) (y : S256x2048.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1 S256x128.size (by sl_kernel_rfl) y
def outA6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) : Vec F S256x2048 .bf16 :=
  (Memref.whole cc0_stg6_0 : Memref sig .tc .vmem S256x2048 .bf16).view.read (Elt F) ((Memref.whole cc0_stg6_0 : Memref sig .tc .vmem S256x2048 .bf16).view.writes (Elt F) (Memref.whole cc0_stg6_0 : Memref sig .tc .vmem S256x2048 .bf16).view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1)
def atA6 (c : Dev nD) (s : PtA) : Vec F S256x2048 .bf16 :=
  outA6 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (a1 s) (a2 s)

theorem coverA7 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) (y : S1x256x16x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1 S1x256x1x128.size (by sl_kernel_rfl) y
def outA7 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) : Vec F S1x256x16x128 .f32 :=
  (Memref.whole cc0_stg7_0 : Memref sig .tc .vmem S1x256x16x128 .f32).view.read (Elt F) ((Memref.whole cc0_stg7_0 : Memref sig .tc .vmem S1x256x16x128 .f32).view.writes (Elt F) (Memref.whole cc0_stg7_0 : Memref sig .tc .vmem S1x256x16x128 .f32).view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1)
def atA7 (c : Dev nD) (s : PtA) : Vec F S1x256x16x128 .f32 :=
  outA7 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (a1 s) (a2 s)

theorem coverA8 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) (y : S1x256x16x128.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1 S1x256x1x128.size (by sl_kernel_rfl) y
def outA8 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) : Vec F S1x256x16x128 .f32 :=
  (Memref.whole cc0_stg8_0 : Memref sig .tc .vmem S1x256x16x128 .f32).view.read (Elt F) ((Memref.whole cc0_stg8_0 : Memref sig .tc .vmem S1x256x16x128 .f32).view.writes (Elt F) (Memref.whole cc0_stg8_0 : Memref sig .tc .vmem S1x256x16x128 .f32).view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1)
def atA8 (c : Dev nD) (s : PtA) : Vec F S1x256x16x128 .f32 :=
  outA8 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (a1 s) (a2 s)

theorem coverA9 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) (y : S1x256x16.Idx) :
    ∃ pc ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1 S1x256x16.size (by sl_kernel_rfl) y
def outA9 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : k0_cond1 i = 1#1) (hc2 : ¬k0_cond2 i = 1#1) : Vec F S1x256x16 .f32 :=
  (Memref.whole cc0_stg9_0 : Memref sig .tc .vmem S1x256x16 .f32).view.read (Elt F) ((Memref.whole cc0_stg9_0 : Memref sig .tc .vmem S1x256x16 .f32).view.writes (Elt F) (Memref.whole cc0_stg9_0 : Memref sig .tc .vmem S1x256x16 .f32).view.junk (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1)
def atA9 (c : Dev nD) (s : PtA) : Vec F S1x256x16 .f32 :=
  outA9 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (a1 s) (a2 s)

theorem coverB5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) (y : S256x2048.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1 S256x128.size (by sl_kernel_rfl) y
def outB5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) : Vec F S256x2048 .bf16 :=
  (Memref.whole cc0_stg5_0 : Memref sig .tc .vmem S256x2048 .bf16).view.read (Elt F) ((Memref.whole cc0_stg5_0 : Memref sig .tc .vmem S256x2048 .bf16).view.writes (Elt F) (Memref.whole cc0_stg5_0 : Memref sig .tc .vmem S256x2048 .bf16).view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).1)
def atB5 (c : Dev nD) (s : PtB) : Vec F S256x2048 .bf16 :=
  outB5 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (b1 s) (b2 s)

theorem coverB6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) (y : S256x2048.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1 S256x128.size (by sl_kernel_rfl) y
def outB6 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) : Vec F S256x2048 .bf16 :=
  (Memref.whole cc0_stg6_0 : Memref sig .tc .vmem S256x2048 .bf16).view.read (Elt F) ((Memref.whole cc0_stg6_0 : Memref sig .tc .vmem S256x2048 .bf16).view.writes (Elt F) (Memref.whole cc0_stg6_0 : Memref sig .tc .vmem S256x2048 .bf16).view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.1)
def atB6 (c : Dev nD) (s : PtB) : Vec F S256x2048 .bf16 :=
  outB6 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (b1 s) (b2 s)

theorem coverB10 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) (y : S1x256x16x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1 S1x256x1x128.size (by sl_kernel_rfl) y
def outB10 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) : Vec F S1x256x16x128 .f32 :=
  (Memref.whole cc0_stg10_0 : Memref sig .tc .vmem S1x256x16x128 .f32).view.read (Elt F) ((Memref.whole cc0_stg10_0 : Memref sig .tc .vmem S1x256x16x128 .f32).view.writes (Elt F) (Memref.whole cc0_stg10_0 : Memref sig .tc .vmem S1x256x16x128 .f32).view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.1)
def atB10 (c : Dev nD) (s : PtB) : Vec F S1x256x16x128 .f32 :=
  outB10 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (b1 s) (b2 s)

theorem coverB11 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) (y : S1x256x16x128.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1 S1x256x1x128.size (by sl_kernel_rfl) y
def outB11 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) : Vec F S1x256x16x128 .f32 :=
  (Memref.whole cc0_stg11_0 : Memref sig .tc .vmem S1x256x16x128 .f32).view.read (Elt F) ((Memref.whole cc0_stg11_0 : Memref sig .tc .vmem S1x256x16x128 .f32).view.writes (Elt F) (Memref.whole cc0_stg11_0 : Memref sig .tc .vmem S1x256x16x128 .f32).view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.1)
def atB11 (c : Dev nD) (s : PtB) : Vec F S1x256x16x128 .f32 :=
  outB11 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (b1 s) (b2 s)

theorem coverB12 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) (y : S1x256x16.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1 S1x256x16.size (by sl_kernel_rfl) y
def outB12 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4224 .bf16) (harg3 : arg3.IsWhole) (arg4 : Memref sig .tc .vmem S1x128 .f32) (harg4 : arg4.IsWhole) (arg5 : Memref sig .tc .vmem S1x128 .f32) (harg5 : arg5.IsWhole) (arg6 : Memref sig .tc .hbm S2x32768x16x128 .f32) (harg6 : arg6.IsWhole) (arg7 : Memref sig .tc .hbm S2x32768x16x128 .f32) (harg7 : arg7.IsWhole) (arg8 : Memref sig .tc .hbm S2x32768x16 .f32) (harg8 : arg8.IsWhole) (arg9 : Memref sig .tc .hbm S2x512x16x128 .f32) (harg9 : arg9.IsWhole) (arg10 : Memref sig .tc .hbm S2x512x16x128 .f32) (harg10 : arg10.IsWhole) (arg11 : Memref sig .tc .hbm S2x512x16 .f32) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S1x256x16x128 .f32) (harg14 : arg14.IsWhole) (arg15 : Memref sig .tc .vmem S1x256x16x128 .f32) (harg15 : arg15.IsWhole) (arg16 : Memref sig .tc .vmem S1x256x16 .f32) (harg16 : arg16.IsWhole) (arg17 : Memref sig .tc .vmem S1x256x16x128 .f32) (harg17 : arg17.IsWhole) (arg18 : Memref sig .tc .vmem S1x256x16x128 .f32) (harg18 : arg18.IsWhole) (arg19 : Memref sig .tc .vmem S1x256x16 .f32) (harg19 : arg19.IsWhole) (arg20 : Memref sig .tc .vmem S256x2048 .bf16) (harg20 : arg20.IsWhole) (x0 : Vec F S256x2048 .f32) (x1 : Vec F S1x2048 .f32) (x2 : Vec F S2048x4224 .bf16) (x3 : Vec F S1x128 .f32) (x4 : Vec F S1x128 .f32) (hc1 : ¬k0_cond1 i = 1#1) (hc2 : k0_cond2 i = 1#1) : Vec F S1x256x16 .f32 :=
  (Memref.whole cc0_stg12_0 : Memref sig .tc .vmem S1x256x16 .f32).view.read (Elt F) ((Memref.whole cc0_stg12_0 : Memref sig .tc .vmem S1x256x16 .f32).view.writes (Elt F) (Memref.whole cc0_stg12_0 : Memref sig .tc .vmem S1x256x16 .f32).view.junk (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 hc1 hc2).2.2.2.2.1)
def atB12 (c : Dev nD) (s : PtB) : Vec F S1x256x16 .f32 :=
  outB12 c (grid0.coords s.1) (ms0 s.1) (hs0 s.1) (ms1 s.1) (hs1 s.1) (ms2 s.1) (hs2 s.1) (ms3 s.1) (hs3 s.1) (ms4 s.1) (hs4 s.1) (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _) (ms5 s.1) (hs5 s.1) (ms6 s.1) (hs6 s.1) (ms7 s.1) (hs7 s.1) (ms8 s.1) (hs8 s.1) (ms9 s.1) (hs9 s.1) (ms10 s.1) (hs10 s.1) (ms11 s.1) (hs11 s.1) (ms12 s.1) (hs12 s.1) scr (Memref.isWhole_whole _) (iblk m c 0 s.1) (iblk m c 1 s.1) (iblk m c 2 s.1) (iblk m c 3 s.1) (iblk m c 4 s.1) (b1 s) (b2 s)

/-! ## The pipeline's data: a result not stored at a point keeps what the last point that stored it left -/
def o5 (c : Dev nD) (t : Fin cfg0.N) : Vec F S256x2048 .bf16 := if h : t.val < 128 then atA5 m c ⟨t, h⟩ else atB5 m c ⟨t, Nat.le_of_not_lt h⟩
def o6 (c : Dev nD) (t : Fin cfg0.N) : Vec F S256x2048 .bf16 := if h : t.val < 128 then atA6 m c ⟨t, h⟩ else atB6 m c ⟨t, Nat.le_of_not_lt h⟩
def o7 (c : Dev nD) (t : Fin cfg0.N) : Vec F S1x256x16x128 .f32 := atA7 m c (lastA t)
def o8 (c : Dev nD) (t : Fin cfg0.N) : Vec F S1x256x16x128 .f32 := atA8 m c (lastA t)
def o9 (c : Dev nD) (t : Fin cfg0.N) : Vec F S1x256x16 .f32 := atA9 m c (lastA t)
def o10 (c : Dev nD) (t : Fin cfg0.N) : Vec F S1x256x16x128 .f32 := atB10 m c (firstB t)
def o11 (c : Dev nD) (t : Fin cfg0.N) : Vec F S1x256x16x128 .f32 := atB11 m c (firstB t)
def o12 (c : Dev nD) (t : Fin cfg0.N) : Vec F S1x256x16 .f32 := atB12 m c (firstB t)
theorem o5_A (c : Dev nD) (t : Fin cfg0.N) (h : t.val < 128) : o5 m c t = atA5 m c ⟨t, h⟩ := by unfold o5; rw [dif_pos h]
theorem o5_B (c : Dev nD) (t : Fin cfg0.N) (h : 128 ≤ t.val) : o5 m c t = atB5 m c ⟨t, h⟩ := by unfold o5; rw [dif_neg (Nat.not_lt.mpr h)]
theorem o6_A (c : Dev nD) (t : Fin cfg0.N) (h : t.val < 128) : o6 m c t = atA6 m c ⟨t, h⟩ := by unfold o6; rw [dif_pos h]
theorem o6_B (c : Dev nD) (t : Fin cfg0.N) (h : 128 ≤ t.val) : o6 m c t = atB6 m c ⟨t, h⟩ := by unfold o6; rw [dif_neg (Nat.not_lt.mpr h)]
theorem o7_A (c : Dev nD) (t : Fin cfg0.N) (h : t.val < 128) : o7 m c t = atA7 m c ⟨t, h⟩ := congrArg (atA7 m c) (lastA_eq t h)
theorem o8_A (c : Dev nD) (t : Fin cfg0.N) (h : t.val < 128) : o8 m c t = atA8 m c ⟨t, h⟩ := congrArg (atA8 m c) (lastA_eq t h)
theorem o9_A (c : Dev nD) (t : Fin cfg0.N) (h : t.val < 128) : o9 m c t = atA9 m c ⟨t, h⟩ := congrArg (atA9 m c) (lastA_eq t h)
theorem o10_B (c : Dev nD) (t : Fin cfg0.N) (h : 128 ≤ t.val) : o10 m c t = atB10 m c ⟨t, h⟩ := congrArg (atB10 m c) (firstB_eq t h)
theorem o11_B (c : Dev nD) (t : Fin cfg0.N) (h : 128 ≤ t.val) : o11 m c t = atB11 m c ⟨t, h⟩ := congrArg (atB11 m c) (firstB_eq t h)
theorem o12_B (c : Dev nD) (t : Fin cfg0.N) (h : 128 ≤ t.val) : o12 m c t = atB12 m c ⟨t, h⟩ := congrArg (atB12 m c) (firstB_eq t h)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t
    | ⟨6, _⟩ => o6 m c t
    | ⟨7, _⟩ => o7 m c t
    | ⟨8, _⟩ => o8 m c t
    | ⟨9, _⟩ => o9 m c t
    | ⟨10, _⟩ => o10 m c t
    | ⟨11, _⟩ => o11 m c t
    | ⟨12, _⟩ => o12 m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = o5 m c t := by dsimp only [dats]
theorem after6 (c : Dev nD) (t : Fin cfg0.N) : (dats m 0 c).after 6 t = o6 m c t := by dsimp only [dats]
theorem after7 (c : Dev nD) (t : Fin cfg0.N) : (dats m 0 c).after 7 t = o7 m c t := by dsimp only [dats]
theorem after8 (c : Dev nD) (t : Fin cfg0.N) : (dats m 0 c).after 8 t = o8 m c t := by dsimp only [dats]
theorem after9 (c : Dev nD) (t : Fin cfg0.N) : (dats m 0 c).after 9 t = o9 m c t := by dsimp only [dats]
theorem after10 (c : Dev nD) (t : Fin cfg0.N) : (dats m 0 c).after 10 t = o10 m c t := by dsimp only [dats]
theorem after11 (c : Dev nD) (t : Fin cfg0.N) : (dats m 0 c).after 11 t = o11 m c t := by dsimp only [dats]
theorem after12 (c : Dev nD) (t : Fin cfg0.N) : (dats m 0 c).after 12 t = o12 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## Where a result's buffer is passed over, and what is written back there -/

theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, t.val < 128 → cfg0.idle 7 (grid0.coords t) = false := by decide +kernel
theorem idle7 : ∀ t : Fin cfg0.N, 128 ≤ t.val → cfg0.idle 7 (grid0.coords t) = true := by decide +kernel
theorem fetch7 : ∀ t : Fin cfg0.N, (cfg0.win 7).fetch t = false := fun _ => rfl
theorem kept7 : ∀ t : Fin cfg0.N, 127 ≤ t.val → t.val ≠ 129 → (cfg0.win 7).flush t = false := by decide +kernel
theorem back7 : ∀ t : Fin cfg0.N, t.val = 129 → (cfg0.win 7).flush t = true := by decide +kernel
theorem live8 : ∀ t : Fin cfg0.N, t.val < 128 → cfg0.idle 8 (grid0.coords t) = false := by decide +kernel
theorem idle8 : ∀ t : Fin cfg0.N, 128 ≤ t.val → cfg0.idle 8 (grid0.coords t) = true := by decide +kernel
theorem fetch8 : ∀ t : Fin cfg0.N, (cfg0.win 8).fetch t = false := fun _ => rfl
theorem kept8 : ∀ t : Fin cfg0.N, 127 ≤ t.val → t.val ≠ 129 → (cfg0.win 8).flush t = false := by decide +kernel
theorem back8 : ∀ t : Fin cfg0.N, t.val = 129 → (cfg0.win 8).flush t = true := by decide +kernel
theorem live9 : ∀ t : Fin cfg0.N, t.val < 128 → cfg0.idle 9 (grid0.coords t) = false := by decide +kernel
theorem idle9 : ∀ t : Fin cfg0.N, 128 ≤ t.val → cfg0.idle 9 (grid0.coords t) = true := by decide +kernel
theorem fetch9 : ∀ t : Fin cfg0.N, (cfg0.win 9).fetch t = false := fun _ => rfl
theorem kept9 : ∀ t : Fin cfg0.N, 127 ≤ t.val → t.val ≠ 129 → (cfg0.win 9).flush t = false := by decide +kernel
theorem back9 : ∀ t : Fin cfg0.N, t.val = 129 → (cfg0.win 9).flush t = true := by decide +kernel
theorem live10 : ∀ t : Fin cfg0.N, 128 ≤ t.val → cfg0.idle 10 (grid0.coords t) = false := by decide +kernel
theorem idle10 : ∀ t : Fin cfg0.N, t.val < 128 → cfg0.idle 10 (grid0.coords t) = true := by decide +kernel
theorem kept10 : ∀ t : Fin cfg0.N, t.val < 128 → (cfg0.win 10).flush t = false := by decide +kernel
theorem live11 : ∀ t : Fin cfg0.N, 128 ≤ t.val → cfg0.idle 11 (grid0.coords t) = false := by decide +kernel
theorem idle11 : ∀ t : Fin cfg0.N, t.val < 128 → cfg0.idle 11 (grid0.coords t) = true := by decide +kernel
theorem kept11 : ∀ t : Fin cfg0.N, t.val < 128 → (cfg0.win 11).flush t = false := by decide +kernel
theorem live12 : ∀ t : Fin cfg0.N, 128 ≤ t.val → cfg0.idle 12 (grid0.coords t) = false := by decide +kernel
theorem idle12 : ∀ t : Fin cfg0.N, t.val < 128 → cfg0.idle 12 (grid0.coords t) = true := by decide +kernel
theorem kept12 : ∀ t : Fin cfg0.N, t.val < 128 → (cfg0.win 12).flush t = false := by decide +kernel
theorem postA5 (c : Dev nD) (t : Fin cfg0.N) (h : t.val < 128) :
    (dats m 0 c).leavesExact 5 t = owns (c : Thread nD τ) (ms5 t) fullShare (atA5 m c ⟨t, h⟩) := by
  rw [← o5_A m c t h, ← after5]; unfold Dat.leavesExact; rw [live5 t]
theorem postB5 (c : Dev nD) (t : Fin cfg0.N) (h : 128 ≤ t.val) :
    (dats m 0 c).leavesExact 5 t = owns (c : Thread nD τ) (ms5 t) fullShare (atB5 m c ⟨t, h⟩) := by
  rw [← o5_B m c t h, ← after5]; unfold Dat.leavesExact; rw [live5 t]
theorem postA6 (c : Dev nD) (t : Fin cfg0.N) (h : t.val < 128) :
    (dats m 0 c).leavesExact 6 t = owns (c : Thread nD τ) (ms6 t) fullShare (atA6 m c ⟨t, h⟩) := by
  rw [← o6_A m c t h, ← after6]; unfold Dat.leavesExact; rw [live6 t]
theorem postB6 (c : Dev nD) (t : Fin cfg0.N) (h : 128 ≤ t.val) :
    (dats m 0 c).leavesExact 6 t = owns (c : Thread nD τ) (ms6 t) fullShare (atB6 m c ⟨t, h⟩) := by
  rw [← o6_B m c t h, ← after6]; unfold Dat.leavesExact; rw [live6 t]
theorem postA7 (c : Dev nD) (t : Fin cfg0.N) (h : t.val < 128) :
    (dats m 0 c).leavesExact 7 t = owns (c : Thread nD τ) (ms7 t) fullShare (atA7 m c ⟨t, h⟩) := by
  rw [← o7_A m c t h, ← after7]; unfold Dat.leavesExact; rw [live7 t h]
theorem postA8 (c : Dev nD) (t : Fin cfg0.N) (h : t.val < 128) :
    (dats m 0 c).leavesExact 8 t = owns (c : Thread nD τ) (ms8 t) fullShare (atA8 m c ⟨t, h⟩) := by
  rw [← o8_A m c t h, ← after8]; unfold Dat.leavesExact; rw [live8 t h]
theorem postA9 (c : Dev nD) (t : Fin cfg0.N) (h : t.val < 128) :
    (dats m 0 c).leavesExact 9 t = owns (c : Thread nD τ) (ms9 t) fullShare (atA9 m c ⟨t, h⟩) := by
  rw [← o9_A m c t h, ← after9]; unfold Dat.leavesExact; rw [live9 t h]
theorem postB10 (c : Dev nD) (t : Fin cfg0.N) (h : 128 ≤ t.val) :
    (dats m 0 c).leavesExact 10 t = owns (c : Thread nD τ) (ms10 t) fullShare (atB10 m c ⟨t, h⟩) := by
  rw [← o10_B m c t h, ← after10]; unfold Dat.leavesExact; rw [live10 t h]
theorem postB11 (c : Dev nD) (t : Fin cfg0.N) (h : 128 ≤ t.val) :
    (dats m 0 c).leavesExact 11 t = owns (c : Thread nD τ) (ms11 t) fullShare (atB11 m c ⟨t, h⟩) := by
  rw [← o11_B m c t h, ← after11]; unfold Dat.leavesExact; rw [live11 t h]
theorem postB12 (c : Dev nD) (t : Fin cfg0.N) (h : 128 ≤ t.val) :
    (dats m 0 c).leavesExact 12 t = owns (c : Thread nD τ) (ms12 t) fullShare (atB12 m c ⟨t, h⟩) := by
  rw [← o12_B m c t h, ← after12]; unfold Dat.leavesExact; rw [live12 t h]
theorem pass10 (c : Dev nD) (t : Fin cfg0.N) (h : t.val < 128) :
    (dats m 0 c).leavesExact 10 t = iprop(∃ d, owns (c : Thread nD τ) (ms10 t) fullShare ((dats m 0 c).before 10 t d)) :=
  Dat.leavesExact_idle (dats m 0 c) 10 t (idle10 t h) (kept10 t h)
theorem pass11 (c : Dev nD) (t : Fin cfg0.N) (h : t.val < 128) :
    (dats m 0 c).leavesExact 11 t = iprop(∃ d, owns (c : Thread nD τ) (ms11 t) fullShare ((dats m 0 c).before 11 t d)) :=
  Dat.leavesExact_idle (dats m 0 c) 11 t (idle11 t h) (kept11 t h)
theorem pass12 (c : Dev nD) (t : Fin cfg0.N) (h : t.val < 128) :
    (dats m 0 c).leavesExact 12 t = iprop(∃ d, owns (c : Thread nD τ) (ms12 t) fullShare ((dats m 0 c).before 12 t d)) :=
  Dat.leavesExact_idle (dats m 0 c) 12 t (idle12 t h) (kept12 t h)
theorem before_last7 (c : Dev nD) (t : Fin cfg0.N) (h : t.val = 129) (d) :
    (dats m 0 c).before 7 t d = (dats m 0 c).after 7 t := by
  rw [Dat.before_of_pos _ 7 t (by omega) (fetch7 t), if_neg (by rw [kept7 _ (by simp only; omega) (by simp only; omega)]; exact Bool.false_ne_true)]
  unfold Dat.left; rw [idle7 _ (by simp only; omega)]; dsimp only
  rw [Dat.before_of_pos _ 7 _ (by simp only; omega) (fetch7 _), if_neg (by rw [kept7 _ (by simp only; omega) (by simp only; omega)]; exact Bool.false_ne_true)]
  unfold Dat.left; rw [live7 _ (by simp only; omega)]; dsimp only
  refine (show _ = (dats m 0 c).after 7 ⟨t.val - 1 - 1, by have := t.isLt; omega⟩ from rfl).trans ?_
  rw [after7, after7]
  exact congrArg (atA7 m c) (Subtype.ext (Fin.ext (by unfold lastA; simp only; omega)))
theorem pass7 (c : Dev nD) (t : Fin cfg0.N) (h : 128 ≤ t.val) :
    (iprop(∃ d, owns (c : Thread nD τ) (ms7 t) fullShare ((dats m 0 c).before 7 t d)) : sProp 𝕄) ⊢ (dats m 0 c).leavesExact 7 t := by
  by_cases h9 : t.val = 129
  · rw [show (dats m 0 c).leavesExact 7 t = owns (c : Thread nD τ) (ms7 t) fullShare ((dats m 0 c).after 7 t) from by
      unfold Dat.leavesExact; rw [idle7 t h, back7 t h9]]
    iintro ⟨%d, H⟩
    rw [before_last7 m c t h9 d]
    iexact H
  · rw [Dat.leavesExact_idle (dats m 0 c) 7 t (idle7 t h) (kept7 t (by omega) h9)]
theorem before_last8 (c : Dev nD) (t : Fin cfg0.N) (h : t.val = 129) (d) :
    (dats m 0 c).before 8 t d = (dats m 0 c).after 8 t := by
  rw [Dat.before_of_pos _ 8 t (by omega) (fetch8 t), if_neg (by rw [kept8 _ (by simp only; omega) (by simp only; omega)]; exact Bool.false_ne_true)]
  unfold Dat.left; rw [idle8 _ (by simp only; omega)]; dsimp only
  rw [Dat.before_of_pos _ 8 _ (by simp only; omega) (fetch8 _), if_neg (by rw [kept8 _ (by simp only; omega) (by simp only; omega)]; exact Bool.false_ne_true)]
  unfold Dat.left; rw [live8 _ (by simp only; omega)]; dsimp only
  refine (show _ = (dats m 0 c).after 8 ⟨t.val - 1 - 1, by have := t.isLt; omega⟩ from rfl).trans ?_
  rw [after8, after8]
  exact congrArg (atA8 m c) (Subtype.ext (Fin.ext (by unfold lastA; simp only; omega)))
theorem pass8 (c : Dev nD) (t : Fin cfg0.N) (h : 128 ≤ t.val) :
    (iprop(∃ d, owns (c : Thread nD τ) (ms8 t) fullShare ((dats m 0 c).before 8 t d)) : sProp 𝕄) ⊢ (dats m 0 c).leavesExact 8 t := by
  by_cases h9 : t.val = 129
  · rw [show (dats m 0 c).leavesExact 8 t = owns (c : Thread nD τ) (ms8 t) fullShare ((dats m 0 c).after 8 t) from by
      unfold Dat.leavesExact; rw [idle8 t h, back8 t h9]]
    iintro ⟨%d, H⟩
    rw [before_last8 m c t h9 d]
    iexact H
  · rw [Dat.leavesExact_idle (dats m 0 c) 8 t (idle8 t h) (kept8 t (by omega) h9)]
theorem before_last9 (c : Dev nD) (t : Fin cfg0.N) (h : t.val = 129) (d) :
    (dats m 0 c).before 9 t d = (dats m 0 c).after 9 t := by
  rw [Dat.before_of_pos _ 9 t (by omega) (fetch9 t), if_neg (by rw [kept9 _ (by simp only; omega) (by simp only; omega)]; exact Bool.false_ne_true)]
  unfold Dat.left; rw [idle9 _ (by simp only; omega)]; dsimp only
  rw [Dat.before_of_pos _ 9 _ (by simp only; omega) (fetch9 _), if_neg (by rw [kept9 _ (by simp only; omega) (by simp only; omega)]; exact Bool.false_ne_true)]
  unfold Dat.left; rw [live9 _ (by simp only; omega)]; dsimp only
  refine (show _ = (dats m 0 c).after 9 ⟨t.val - 1 - 1, by have := t.isLt; omega⟩ from rfl).trans ?_
  rw [after9, after9]
  exact congrArg (atA9 m c) (Subtype.ext (Fin.ext (by unfold lastA; simp only; omega)))
theorem pass9 (c : Dev nD) (t : Fin cfg0.N) (h : 128 ≤ t.val) :
    (iprop(∃ d, owns (c : Thread nD τ) (ms9 t) fullShare ((dats m 0 c).before 9 t d)) : sProp 𝕄) ⊢ (dats m 0 c).leavesExact 9 t := by
  by_cases h9 : t.val = 129
  · rw [show (dats m 0 c).leavesExact 9 t = owns (c : Thread nD τ) (ms9 t) fullShare ((dats m 0 c).after 9 t) from by
      unfold Dat.leavesExact; rw [idle9 t h, back9 t h9]]
    iintro ⟨%d, H⟩
    rw [before_last9 m c t h9 d]
    iexact H
  · rw [Dat.leavesExact_idle (dats m 0 c) 9 t (idle9 t h) (kept9 t (by omega) h9)]

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)))
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

theorem soundA (c : Dev nD) (t : Fin cfg0.N) (h : t.val < 128) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, postA5 m c t h, postA6 m c t h, postA7 m c t h, postA8 m c t h, postA9 m c t h, pass10 m c t h, pass11 m c t h, pass12 m c t h]
  rw [show (dats m 0 c).Φ t.castSucc = Pipeline.ΦA spec0 c from rfl, phi_eq]
  unfold atA5 outA5; unfold atA6 outA6; unfold atA7 outA7; unfold atA8 outA8; unfold atA9 outA9
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12⟩
  iapply ((runA c (grid0.coords t) _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (a1 ⟨t, h⟩) (a2 ⟨t, h⟩)).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, ⟨%e5, H5⟩, ⟨%e6, H6⟩, ⟨%e7, H7⟩, ⟨%e8, H8⟩, ⟨%e9, H9⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA5 c _ _ _ _ _ _ _ _ _ _ _ _ _ _ _ _ _ _ _ _ _ _ _ _ _ _ _ _ _ _ _ _ _ _ _ _ _ _ _ _ _ _ _ _ _ _ _ _ )
  isplitl [H6]
  · unfold owns; iexists _; isplitr
    swap; · iexact H6
    ipureintro; exact View.read_writes_of_cover _ _ _ _ _ (coverA6 c _ _ _ _ _ _ _ _ _ _ _ _ _ _ _ _ _ _ _ _ _ _ _ _ _ _ _ _ _ _ _ _ _ _ _ _ _ _ _ _ _ _ _ _ _ _ _ _ )
  isplitl [H7]
  · unfold owns; iexists _; isplitr
    swap; · iexact H7
    ipureintro; exact View.read_writes_of_cover _ _ _ _ _ (coverA7 c _ _ _ _ _ _ _ _ _ _ _ _ _ _ _ _ _ _ _ _ _ _ _ _ _ _ _ _ _ _ _ _ _ _ _ _ _ _ _ _ _ _ _ _ _ _ _ _ )
  isplitl [H8]
  · unfold owns; iexists _; isplitr
    swap; · iexact H8
    ipureintro; exact View.read_writes_of_cover _ _ _ _ _ (coverA8 c _ _ _ _ _ _ _ _ _ _ _ _ _ _ _ _ _ _ _ _ _ _ _ _ _ _ _ _ _ _ _ _ _ _ _ _ _ _ _ _ _ _ _ _ _ _ _ _ )
  isplitl [H9]
  · unfold owns; iexists _; isplitr
    swap; · iexact H9
    ipureintro; exact View.read_writes_of_cover _ _ _ _ _ (coverA9 c _ _ _ _ _ _ _ _ _ _ _ _ _ _ _ _ _ _ _ _ _ _ _ _ _ _ _ _ _ _ _ _ _ _ _ _ _ _ _ _ _ _ _ _ _ _ _ _ )
  isplitl [H10]
  · iexact H10
  isplitl [H11]
  · iexact H11
  iexact H12

theorem soundB (c : Dev nD) (t : Fin cfg0.N) (h : 128 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, postB5 m c t h, postB6 m c t h, postB10 m c t h, postB11 m c t h, postB12 m c t h]
  rw [show (dats m 0 c).Φ t.castSucc = Pipeline.ΦA spec0 c from rfl, phi_eq]
  unfold atB5 outB5; unfold atB6 outB6; unfold atB10 outB10; unfold atB11 outB11; unfold atB12 outB12
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, H7, H8, H9, ⟨%d10, H10⟩, ⟨%d11, H11⟩, ⟨%d12, H12⟩⟩
  iapply ((runB c (grid0.coords t) _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (b1 ⟨t, h⟩) (b2 ⟨t, h⟩)).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H10]; · iexists _; iexact H10
  isplitl [H11]; · iexists _; iexact H11
  isplitl [H12]; · iexists _; iexact H12
  isplitl [HS0]; · iexact HS0
  iintro ⟨H0, H1, H2, H3, H4, ⟨%e5, H5⟩, ⟨%e6, H6⟩, ⟨%e10, H10⟩, ⟨%e11, H11⟩, ⟨%e12, H12⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB5 c _ _ _ _ _ _ _ _ _ _ _ _ _ _ _ _ _ _ _ _ _ _ _ _ _ _ _ _ _ _ _ _ _ _ _ _ _ _ _ _ _ _ _ _ _ _ _ _ )
  isplitl [H6]
  · unfold owns; iexists _; isplitr
    swap; · iexact H6
    ipureintro; exact View.read_writes_of_cover _ _ _ _ _ (coverB6 c _ _ _ _ _ _ _ _ _ _ _ _ _ _ _ _ _ _ _ _ _ _ _ _ _ _ _ _ _ _ _ _ _ _ _ _ _ _ _ _ _ _ _ _ _ _ _ _ )
  isplitl [H7]
  · iapply (pass7 m c t h); iexact H7
  isplitl [H8]
  · iapply (pass8 m c t h); iexact H8
  isplitl [H9]
  · iapply (pass9 m c t h); iexact H9
  isplitl [H10]
  · unfold owns; iexists _; isplitr
    swap; · iexact H10
    ipureintro; exact View.read_writes_of_cover _ _ _ _ _ (coverB10 c _ _ _ _ _ _ _ _ _ _ _ _ _ _ _ _ _ _ _ _ _ _ _ _ _ _ _ _ _ _ _ _ _ _ _ _ _ _ _ _ _ _ _ _ _ _ _ _ )
  isplitl [H11]
  · unfold owns; iexists _; isplitr
    swap; · iexact H11
    ipureintro; exact View.read_writes_of_cover _ _ _ _ _ (coverB11 c _ _ _ _ _ _ _ _ _ _ _ _ _ _ _ _ _ _ _ _ _ _ _ _ _ _ _ _ _ _ _ _ _ _ _ _ _ _ _ _ _ _ _ _ _ _ _ _ )
  unfold owns; iexists _; isplitr
  swap; · iexact H12
  ipureintro; exact View.read_writes_of_cover _ _ _ _ _ (coverB12 c _ _ _ _ _ _ _ _ _ _ _ _ _ _ _ _ _ _ _ _ _ _ _ _ _ _ _ _ _ _ _ _ _ _ _ _ _ _ _ _ _ _ _ _ _ _ _ _ )

theorem sound_body (c : Dev nD) (t : Fin cfg0.N) :
    bodyPre m c t ⊢ wp frame (wpE (defs₀ (F := F)) Variants.none c none) Set.univ (bodyAt0 t) (fun _ => bodyPost m c t) := by
  by_cases h : t.val < 128
  · exact soundA m c t h
  · exact soundB m c t (Nat.le_of_not_lt h)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.Kernel5Ideal.Hand

end
-- ==== Proof.KvPays.lean ====
module

public import proofs.«01_k».proof.Proof.KvFrame
public import proofs.«01_k».proof.Proof.Consts
public import proofs.«01_k».proof.Proof.Rows
public import proofs.«01_k».proof.Proof.Rms
public import Idealize.ShloMosaic.Lib.Pipeline.ValueKit

@[expose] public section

set_option maxRecDepth 16384
set_option maxHeartbeats 400000

/-! The keys, values and gates: what each stored piece of the two cases holds, entry by entry. -/

noncomputable section

namespace Cert.Kernel5Ideal.Hand

open Cert.Kernel5Ideal.Gen
open Idealize.ShloMosaic Idealize.ShloMosaic.TcCoe Idealize.ShloMosaic.Tactic

variable (m : (ℓ : Loc nD τ sig) → Buf (Elt Ideal) ℓ) (c : Dev nD)

/-- Entry `(r, e)` of a head in a chunk of columns, from column `o` on: normed, times the gain. -/
def key (A : FVec Ideal S256x512 .f32) (g : Vec Ideal S1x128 .f32) (o : ℕ) (ho : o + 128 ≤ 512) (r : Fin 256) (e : Fin 128) : EReal :=
  Rms.rms Rms.count128 (fun d : Fin 128 => (A (ix2 r (⟨o + d.val, by omega⟩ : Fin 512)) : EReal)) (fun d => g (ix2 0 d)) e

/-- Entry `(r, e)` of a head in a chunk of columns, from column `o` on. -/
def plain (A : FVec Ideal S256x512 .f32) (o : ℕ) (ho : o + 128 ≤ 512) (r : Fin 256) (e : Fin 128) : EReal :=
  A (ix2 r (⟨o + e.val, by omega⟩ : Fin 512))

theorem dot_apply (a : Vec Ideal S256x2048 .bf16) (w : Vec Ideal S2048x512 .bf16) (r : Fin 256) (e : Fin 512) :
    (k0_pay4 a w (ix2 r e) : EReal) = ∑ k : Fin 2048, (a (ix2 r k) : EReal) * w (ix2 k e) := by
  pointwise [k0_pay4, Consts.f32_zero]

/-- The normed rows of a block. -/
theorem rows_apply (x : Vec Ideal S256x2048 .f32) (g : Vec Ideal S1x2048 .f32) (r : Fin 256) (e : Fin 2048) :
    (k0_pay1 x g (ix2 r e) : EReal) = Rms.rms Rms.count2048 (fun k : Fin 2048 => (x (ix2 r k) : EReal)) (fun k => g (ix2 0 k)) e := by
  pointwise [k0_pay1, Consts.f32_zero]
  rfl

theorem key2_0 (a : Vec Ideal S256x2048 .bf16) (w : Vec Ideal S2048x512 .bf16) (g : Vec Ideal S1x128 .f32) (r : Fin 256) (e : Fin 128) :
    (k0_pay6 a w g (ix2 r e) : EReal) = key (k0_pay4 a w) g 0 (by omega) r e := by
  unfold key Rms.rms
  simp only [Nat.zero_add, Fin.eta]
  pointwise [k0_pay6, k0_pay5, Consts.f32_zero]
  rfl

theorem key4_0 (a : Vec Ideal S256x2048 .bf16) (w : Vec Ideal S2048x512 .bf16) (g : Vec Ideal S1x128 .f32) (r : Fin 256) (e : Fin 128) :
    (k0_pay7 a w g (ix4 0 r 0 e) : EReal) = key (k0_pay4 a w) g 0 (by omega) r e := by
  unfold key Rms.rms
  simp only [Nat.zero_add, Fin.eta]
  pointwise [k0_pay7, k0_pay5, Consts.f32_zero]
  rfl

theorem plain2_0 (a : Vec Ideal S256x2048 .bf16) (w : Vec Ideal S2048x512 .bf16) (r : Fin 256) (e : Fin 128) :
    (k0_pay73 a w (ix2 r e) : EReal) = plain (k0_pay71 a w) 0 (by omega) r e := by
  unfold plain
  simp only [Nat.zero_add, Fin.eta]
  pointwise [k0_pay73, k0_pay72]

theorem plain4_0 (a : Vec Ideal S256x2048 .bf16) (w : Vec Ideal S2048x512 .bf16) (r : Fin 256) (e : Fin 128) :
    (k0_pay74 a w (ix4 0 r 0 e) : EReal) = plain (k0_pay71 a w) 0 (by omega) r e := by
  unfold plain
  simp only [Nat.zero_add, Fin.eta]
  pointwise [k0_pay74, k0_pay72]

theorem key2_1 (a : Vec Ideal S256x2048 .bf16) (w : Vec Ideal S2048x512 .bf16) (g : Vec Ideal S1x128 .f32) (r : Fin 256) (e : Fin 128) :
    (k0_pay11 (k0_pay8 g) (k0_pay9 a w) (ix2 r e) : EReal) = key (k0_pay4 a w) g 128 (by omega) r e := by
  unfold key Rms.rms
  pointwise [k0_pay11, k0_pay8, k0_pay9, k0_pay10, Consts.f32_zero]
  rfl

theorem key4_1 (a : Vec Ideal S256x2048 .bf16) (w : Vec Ideal S2048x512 .bf16) (g : Vec Ideal S1x128 .f32) (r : Fin 256) (e : Fin 128) :
    (k0_pay12 (k0_pay8 g) (k0_pay9 a w) (ix4 0 r 0 e) : EReal) = key (k0_pay4 a w) g 128 (by omega) r e := by
  unfold key Rms.rms
  pointwise [k0_pay12, k0_pay8, k0_pay9, k0_pay10, Consts.f32_zero]
  rfl

theorem plain2_1 (a : Vec Ideal S256x2048 .bf16) (w : Vec Ideal S2048x512 .bf16) (r : Fin 256) (e : Fin 128) :
    (k0_pay76 a w (ix2 r e) : EReal) = plain (k0_pay71 a w) 128 (by omega) r e := by
  unfold plain
  pointwise [k0_pay76, k0_pay75]

theorem plain4_1 (a : Vec Ideal S256x2048 .bf16) (w : Vec Ideal S2048x512 .bf16) (r : Fin 256) (e : Fin 128) :
    (k0_pay77 a w (ix4 0 r 0 e) : EReal) = plain (k0_pay71 a w) 128 (by omega) r e := by
  unfold plain
  pointwise [k0_pay77, k0_pay75]

theorem key2_2 (A : FVec Ideal S256x512 .f32) (g : Vec Ideal S1x128 .f32) (r : Fin 256) (e : Fin 128) :
    (k0_pay14 A g (ix2 r e) : EReal) = key A g 256 (by omega) r e := by
  unfold key Rms.rms
  pointwise [k0_pay14, k0_pay13, Consts.f32_zero]
  rfl

theorem key4_2 (A : FVec Ideal S256x512 .f32) (g : Vec Ideal S1x128 .f32) (r : Fin 256) (e : Fin 128) :
    (k0_pay15 A g (ix4 0 r 0 e) : EReal) = key A g 256 (by omega) r e := by
  unfold key Rms.rms
  pointwise [k0_pay15, k0_pay13, Consts.f32_zero]
  rfl

theorem plain2_2 (A : FVec Ideal S256x512 .f32) (r : Fin 256) (e : Fin 128) :
    (k0_pay79 A (ix2 r e) : EReal) = plain A 256 (by omega) r e := by
  unfold plain
  pointwise [k0_pay79, k0_pay78]

theorem plain4_2 (A : FVec Ideal S256x512 .f32) (r : Fin 256) (e : Fin 128) :
    (k0_pay80 A (ix4 0 r 0 e) : EReal) = plain A 256 (by omega) r e := by
  unfold plain
  pointwise [k0_pay80, k0_pay78]

theorem key2_3 (A : FVec Ideal S256x512 .f32) (g : Vec Ideal S1x128 .f32) (r : Fin 256) (e : Fin 128) :
    (k0_pay20 (k0_pay16 A) (k0_pay17 g) (k0_pay18 A) (ix2 r e) : EReal) = key A g 384 (by omega) r e := by
  unfold key Rms.rms
  pointwise [k0_pay20, k0_pay16, k0_pay17, k0_pay18, k0_pay19, Consts.f32_zero]
  rfl

theorem key4_3 (A : FVec Ideal S256x512 .f32) (g : Vec Ideal S1x128 .f32) (r : Fin 256) (e : Fin 128) :
    (k0_pay21 (k0_pay16 A) (k0_pay17 g) (k0_pay18 A) (ix4 0 r 0 e) : EReal) = key A g 384 (by omega) r e := by
  unfold key Rms.rms
  pointwise [k0_pay21, k0_pay16, k0_pay17, k0_pay18, k0_pay19, Consts.f32_zero]
  rfl

theorem plain2_3 (A : FVec Ideal S256x512 .f32) (r : Fin 256) (e : Fin 128) :
    (k0_pay82 A (ix2 r e) : EReal) = plain A 384 (by omega) r e := by
  unfold plain
  pointwise [k0_pay82, k0_pay81]

theorem plain4_3 (A : FVec Ideal S256x512 .f32) (r : Fin 256) (e : Fin 128) :
    (k0_pay83 A (ix4 0 r 0 e) : EReal) = plain A 384 (by omega) r e := by
  unfold plain
  pointwise [k0_pay83, k0_pay81]

theorem key2_4 (a : Vec Ideal S256x2048 .bf16) (w : Vec Ideal S2048x512 .bf16) (g : Vec Ideal S1x128 .f32) (r : Fin 256) (e : Fin 128) :
    (k0_pay24 a w g (ix2 r e) : EReal) = key (k0_pay22 a w) g 0 (by omega) r e := by
  unfold key Rms.rms
  simp only [Nat.zero_add, Fin.eta]
  pointwise [k0_pay24, k0_pay23, Consts.f32_zero]
  rfl

theorem key4_4 (a : Vec Ideal S256x2048 .bf16) (w : Vec Ideal S2048x512 .bf16) (g : Vec Ideal S1x128 .f32) (r : Fin 256) (e : Fin 128) :
    (k0_pay25 (k0_pay23 a w g) (ix4 0 r 0 e) : EReal) = key (k0_pay22 a w) g 0 (by omega) r e := by
  unfold key Rms.rms
  simp only [Nat.zero_add, Fin.eta]
  pointwise [k0_pay25, k0_pay23, Consts.f32_zero]
  rfl

theorem plain2_4 (a : Vec Ideal S256x2048 .bf16) (w : Vec Ideal S2048x512 .bf16) (r : Fin 256) (e : Fin 128) :
    (k0_pay86 a w (ix2 r e) : EReal) = plain (k0_pay84 a w) 0 (by omega) r e := by
  unfold plain
  simp only [Nat.zero_add, Fin.eta]
  pointwise [k0_pay86, k0_pay85]

theorem plain4_4 (a : Vec Ideal S256x2048 .bf16) (w : Vec Ideal S2048x512 .bf16) (r : Fin 256) (e : Fin 128) :
    (k0_pay87 a w (ix4 0 r 0 e) : EReal) = plain (k0_pay84 a w) 0 (by omega) r e := by
  unfold plain
  simp only [Nat.zero_add, Fin.eta]
  pointwise [k0_pay87, k0_pay85]

theorem key2_5 (A : FVec Ideal S256x512 .f32) (g : Vec Ideal S1x128 .f32) (r : Fin 256) (e : Fin 128) :
    (k0_pay27 A g (ix2 r e) : EReal) = key A g 128 (by omega) r e := by
  unfold key Rms.rms
  pointwise [k0_pay27, k0_pay26, Consts.f32_zero]
  rfl

theorem key4_5 (A : FVec Ideal S256x512 .f32) (g : Vec Ideal S1x128 .f32) (r : Fin 256) (e : Fin 128) :
    (k0_pay28 A g (ix4 0 r 0 e) : EReal) = key A g 128 (by omega) r e := by
  unfold key Rms.rms
  pointwise [k0_pay28, k0_pay26, Consts.f32_zero]
  rfl

theorem plain2_5 (a : Vec Ideal S256x2048 .bf16) (w : Vec Ideal S2048x512 .bf16) (r : Fin 256) (e : Fin 128) :
    (k0_pay89 a w (ix2 r e) : EReal) = plain (k0_pay84 a w) 128 (by omega) r e := by
  unfold plain
  pointwise [k0_pay89, k0_pay88]

theorem plain4_5 (a : Vec Ideal S256x2048 .bf16) (w : Vec Ideal S2048x512 .bf16) (r : Fin 256) (e : Fin 128) :
    (k0_pay90 (k0_pay88 a w) (ix4 0 r 0 e) : EReal) = plain (k0_pay84 a w) 128 (by omega) r e := by
  unfold plain
  pointwise [k0_pay90, k0_pay88]

theorem key2_6 (A : FVec Ideal S256x512 .f32) (g : Vec Ideal S1x128 .f32) (r : Fin 256) (e : Fin 128) :
    (k0_pay30 A g (ix2 r e) : EReal) = key A g 256 (by omega) r e := by
  unfold key Rms.rms
  pointwise [k0_pay30, k0_pay29, Consts.f32_zero]
  rfl

theorem key4_6 (A : FVec Ideal S256x512 .f32) (g : Vec Ideal S1x128 .f32) (r : Fin 256) (e : Fin 128) :
    (k0_pay31 (k0_pay29 A g) (ix4 0 r 0 e) : EReal) = key A g 256 (by omega) r e := by
  unfold key Rms.rms
  pointwise [k0_pay31, k0_pay29, Consts.f32_zero]
  rfl

theorem plain2_6 (A : FVec Ideal S256x512 .f32) (r : Fin 256) (e : Fin 128) :
    (k0_pay92 A (ix2 r e) : EReal) = plain A 256 (by omega) r e := by
  unfold plain
  pointwise [k0_pay92, k0_pay91]

theorem plain4_6 (A : FVec Ideal S256x512 .f32) (r : Fin 256) (e : Fin 128) :
    (k0_pay93 A (ix4 0 r 0 e) : EReal) = plain A 256 (by omega) r e := by
  unfold plain
  pointwise [k0_pay93, k0_pay91]

theorem key2_7 (A : FVec Ideal S256x512 .f32) (g : Vec Ideal S1x128 .f32) (r : Fin 256) (e : Fin 128) :
    (k0_pay33 A g (ix2 r e) : EReal) = key A g 384 (by omega) r e := by
  unfold key Rms.rms
  pointwise [k0_pay33, k0_pay32, Consts.f32_zero]
  rfl

theorem key4_7 (A : FVec Ideal S256x512 .f32) (g : Vec Ideal S1x128 .f32) (r : Fin 256) (e : Fin 128) :
    (k0_pay34 A g (ix4 0 r 0 e) : EReal) = key A g 384 (by omega) r e := by
  unfold key Rms.rms
  pointwise [k0_pay34, k0_pay32, Consts.f32_zero]
  rfl

theorem plain2_7 (A : FVec Ideal S256x512 .f32) (r : Fin 256) (e : Fin 128) :
    (k0_pay95 A (ix2 r e) : EReal) = plain A 384 (by omega) r e := by
  unfold plain
  pointwise [k0_pay95, k0_pay94]

theorem plain4_7 (A : FVec Ideal S256x512 .f32) (r : Fin 256) (e : Fin 128) :
    (k0_pay96 A (ix4 0 r 0 e) : EReal) = plain A 384 (by omega) r e := by
  unfold plain
  pointwise [k0_pay96, k0_pay94]

theorem key2_8 (a : Vec Ideal S256x2048 .bf16) (w : Vec Ideal S2048x512 .bf16) (g : Vec Ideal S1x128 .f32) (r : Fin 256) (e : Fin 128) :
    (k0_pay40 (k0_pay36 a w) (k0_pay37 g) (k0_pay38 a w) (ix2 r e) : EReal) = key (k0_pay35 a w) g 0 (by omega) r e := by
  unfold key Rms.rms
  simp only [Nat.zero_add, Fin.eta]
  pointwise [k0_pay40, k0_pay36, k0_pay37, k0_pay38, k0_pay39, Consts.f32_zero]
  rfl

theorem key4_8 (a : Vec Ideal S256x2048 .bf16) (w : Vec Ideal S2048x512 .bf16) (g : Vec Ideal S1x128 .f32) (r : Fin 256) (e : Fin 128) :
    (k0_pay41 (k0_pay36 a w) (k0_pay37 g) (k0_pay38 a w) (ix4 0 r 0 e) : EReal) = key (k0_pay35 a w) g 0 (by omega) r e := by
  unfold key Rms.rms
  simp only [Nat.zero_add, Fin.eta]
  pointwise [k0_pay41, k0_pay36, k0_pay37, k0_pay38, k0_pay39, Consts.f32_zero]
  rfl

theorem plain2_8 (a : Vec Ideal S256x2048 .bf16) (w : Vec Ideal S2048x512 .bf16) (r : Fin 256) (e : Fin 128) :
    (k0_pay99 a w (ix2 r e) : EReal) = plain (k0_pay97 a w) 0 (by omega) r e := by
  unfold plain
  simp only [Nat.zero_add, Fin.eta]
  pointwise [k0_pay99, k0_pay98]

theorem plain4_8 (a : Vec Ideal S256x2048 .bf16) (w : Vec Ideal S2048x512 .bf16) (r : Fin 256) (e : Fin 128) :
    (k0_pay100 a w (ix4 0 r 0 e) : EReal) = plain (k0_pay97 a w) 0 (by omega) r e := by
  unfold plain
  simp only [Nat.zero_add, Fin.eta]
  pointwise [k0_pay100, k0_pay98]

theorem key2_9 (A : FVec Ideal S256x512 .f32) (g : Vec Ideal S1x128 .f32) (r : Fin 256) (e : Fin 128) :
    (k0_pay43 A g (ix2 r e) : EReal) = key A g 128 (by omega) r e := by
  unfold key Rms.rms
  pointwise [k0_pay43, k0_pay42, Consts.f32_zero]
  rfl

theorem key4_9 (A : FVec Ideal S256x512 .f32) (g : Vec Ideal S1x128 .f32) (r : Fin 256) (e : Fin 128) :
    (k0_pay44 A g (ix4 0 r 0 e) : EReal) = key A g 128 (by omega) r e := by
  unfold key Rms.rms
  pointwise [k0_pay44, k0_pay42, Consts.f32_zero]
  rfl

theorem plain2_9 (a : Vec Ideal S256x2048 .bf16) (w : Vec Ideal S2048x512 .bf16) (r : Fin 256) (e : Fin 128) :
    (k0_pay102 a w (ix2 r e) : EReal) = plain (k0_pay97 a w) 128 (by omega) r e := by
  unfold plain
  pointwise [k0_pay102, k0_pay101]

theorem plain4_9 (a : Vec Ideal S256x2048 .bf16) (w : Vec Ideal S2048x512 .bf16) (r : Fin 256) (e : Fin 128) :
    (k0_pay103 (k0_pay101 a w) (ix4 0 r 0 e) : EReal) = plain (k0_pay97 a w) 128 (by omega) r e := by
  unfold plain
  pointwise [k0_pay103, k0_pay101]

theorem key2_10 (A : FVec Ideal S256x512 .f32) (g : Vec Ideal S1x128 .f32) (r : Fin 256) (e : Fin 128) :
    (k0_pay47 (k0_pay45 A) g (ix2 r e) : EReal) = key A g 256 (by omega) r e := by
  unfold key Rms.rms
  pointwise [k0_pay47, k0_pay45, k0_pay46, Consts.f32_zero]
  rfl

theorem key4_10 (A : FVec Ideal S256x512 .f32) (g : Vec Ideal S1x128 .f32) (r : Fin 256) (e : Fin 128) :
    (k0_pay48 (k0_pay45 A) g (ix4 0 r 0 e) : EReal) = key A g 256 (by omega) r e := by
  unfold key Rms.rms
  pointwise [k0_pay48, k0_pay45, k0_pay46, Consts.f32_zero]
  rfl

theorem plain2_10 (A : FVec Ideal S256x512 .f32) (r : Fin 256) (e : Fin 128) :
    (k0_pay105 A (ix2 r e) : EReal) = plain A 256 (by omega) r e := by
  unfold plain
  pointwise [k0_pay105, k0_pay104]

theorem plain4_10 (A : FVec Ideal S256x512 .f32) (r : Fin 256) (e : Fin 128) :
    (k0_pay106 A (ix4 0 r 0 e) : EReal) = plain A 256 (by omega) r e := by
  unfold plain
  pointwise [k0_pay106, k0_pay104]

theorem key2_11 (A : FVec Ideal S256x512 .f32) (g : Vec Ideal S1x128 .f32) (r : Fin 256) (e : Fin 128) :
    (k0_pay50 A g (ix2 r e) : EReal) = key A g 384 (by omega) r e := by
  unfold key Rms.rms
  pointwise [k0_pay50, k0_pay49, Consts.f32_zero]
  rfl

theorem key4_11 (A : FVec Ideal S256x512 .f32) (g : Vec Ideal S1x128 .f32) (r : Fin 256) (e : Fin 128) :
    (k0_pay51 (k0_pay49 A g) (ix4 0 r 0 e) : EReal) = key A g 384 (by omega) r e := by
  unfold key Rms.rms
  pointwise [k0_pay51, k0_pay49, Consts.f32_zero]
  rfl

theorem plain2_11 (A : FVec Ideal S256x512 .f32) (r : Fin 256) (e : Fin 128) :
    (k0_pay108 A (ix2 r e) : EReal) = plain A 384 (by omega) r e := by
  unfold plain
  pointwise [k0_pay108, k0_pay107]

theorem plain4_11 (A : FVec Ideal S256x512 .f32) (r : Fin 256) (e : Fin 128) :
    (k0_pay109 A (ix4 0 r 0 e) : EReal) = plain A 384 (by omega) r e := by
  unfold plain
  pointwise [k0_pay109, k0_pay107]

theorem key2_12 (a : Vec Ideal S256x2048 .bf16) (w : Vec Ideal S2048x512 .bf16) (g : Vec Ideal S1x128 .f32) (r : Fin 256) (e : Fin 128) :
    (k0_pay54 a w g (ix2 r e) : EReal) = key (k0_pay52 a w) g 0 (by omega) r e := by
  unfold key Rms.rms
  simp only [Nat.zero_add, Fin.eta]
  pointwise [k0_pay54, k0_pay53, Consts.f32_zero]
  rfl

theorem key4_12 (a : Vec Ideal S256x2048 .bf16) (w : Vec Ideal S2048x512 .bf16) (g : Vec Ideal S1x128 .f32) (r : Fin 256) (e : Fin 128) :
    (k0_pay55 a w g (ix4 0 r 0 e) : EReal) = key (k0_pay52 a w) g 0 (by omega) r e := by
  unfold key Rms.rms
  simp only [Nat.zero_add, Fin.eta]
  pointwise [k0_pay55, k0_pay53, Consts.f32_zero]
  rfl

theorem plain2_12 (a : Vec Ideal S256x2048 .bf16) (w : Vec Ideal S2048x512 .bf16) (r : Fin 256) (e : Fin 128) :
    (k0_pay112 a w (ix2 r e) : EReal) = plain (k0_pay110 a w) 0 (by omega) r e := by
  unfold plain
  simp only [Nat.zero_add, Fin.eta]
  pointwise [k0_pay112, k0_pay111]

theorem plain4_12 (a : Vec Ideal S256x2048 .bf16) (w : Vec Ideal S2048x512 .bf16) (r : Fin 256) (e : Fin 128) :
    (k0_pay113 (k0_pay111 a w) (ix4 0 r 0 e) : EReal) = plain (k0_pay110 a w) 0 (by omega) r e := by
  unfold plain
  simp only [Nat.zero_add, Fin.eta]
  pointwise [k0_pay113, k0_pay111]

theorem key2_13 (a : Vec Ideal S256x2048 .bf16) (w : Vec Ideal S2048x512 .bf16) (g : Vec Ideal S1x128 .f32) (r : Fin 256) (e : Fin 128) :
    (k0_pay60 (k0_pay56 a w) (k0_pay57 g) (k0_pay58 a w) (ix2 r e) : EReal) = key (k0_pay52 a w) g 128 (by omega) r e := by
  unfold key Rms.rms
  pointwise [k0_pay60, k0_pay56, k0_pay57, k0_pay58, k0_pay59, Consts.f32_zero]
  rfl

theorem key4_13 (a : Vec Ideal S256x2048 .bf16) (w : Vec Ideal S2048x512 .bf16) (g : Vec Ideal S1x128 .f32) (r : Fin 256) (e : Fin 128) :
    (k0_pay61 (k0_pay56 a w) (k0_pay57 g) (k0_pay58 a w) (ix4 0 r 0 e) : EReal) = key (k0_pay52 a w) g 128 (by omega) r e := by
  unfold key Rms.rms
  pointwise [k0_pay61, k0_pay56, k0_pay57, k0_pay58, k0_pay59, Consts.f32_zero]
  rfl

theorem plain2_13 (A : FVec Ideal S256x512 .f32) (r : Fin 256) (e : Fin 128) :
    (k0_pay115 A (ix2 r e) : EReal) = plain A 128 (by omega) r e := by
  unfold plain
  pointwise [k0_pay115, k0_pay114]

theorem plain4_13 (A : FVec Ideal S256x512 .f32) (r : Fin 256) (e : Fin 128) :
    (k0_pay116 A (ix4 0 r 0 e) : EReal) = plain A 128 (by omega) r e := by
  unfold plain
  pointwise [k0_pay116, k0_pay114]

theorem key2_14 (A : FVec Ideal S256x512 .f32) (g : Vec Ideal S1x128 .f32) (r : Fin 256) (e : Fin 128) :
    (k0_pay63 A g (ix2 r e) : EReal) = key A g 256 (by omega) r e := by
  unfold key Rms.rms
  pointwise [k0_pay63, k0_pay62, Consts.f32_zero]
  rfl

theorem key4_14 (A : FVec Ideal S256x512 .f32) (g : Vec Ideal S1x128 .f32) (r : Fin 256) (e : Fin 128) :
    (k0_pay64 A g (ix4 0 r 0 e) : EReal) = key A g 256 (by omega) r e := by
  unfold key Rms.rms
  pointwise [k0_pay64, k0_pay62, Consts.f32_zero]
  rfl

theorem plain2_14 (A : FVec Ideal S256x512 .f32) (r : Fin 256) (e : Fin 128) :
    (k0_pay118 A (ix2 r e) : EReal) = plain A 256 (by omega) r e := by
  unfold plain
  pointwise [k0_pay118, k0_pay117]

theorem plain4_14 (A : FVec Ideal S256x512 .f32) (r : Fin 256) (e : Fin 128) :
    (k0_pay119 A (ix4 0 r 0 e) : EReal) = plain A 256 (by omega) r e := by
  unfold plain
  pointwise [k0_pay119, k0_pay117]

theorem key2_15 (A : FVec Ideal S256x512 .f32) (g : Vec Ideal S1x128 .f32) (r : Fin 256) (e : Fin 128) :
    (k0_pay69 (k0_pay65 A) (k0_pay66 g) (k0_pay67 A) (ix2 r e) : EReal) = key A g 384 (by omega) r e := by
  unfold key Rms.rms
  pointwise [k0_pay69, k0_pay65, k0_pay66, k0_pay67, k0_pay68, Consts.f32_zero]
  rfl

theorem key4_15 (A : FVec Ideal S256x512 .f32) (g : Vec Ideal S1x128 .f32) (r : Fin 256) (e : Fin 128) :
    (k0_pay70 (k0_pay65 A) (k0_pay66 g) (k0_pay67 A) (ix4 0 r 0 e) : EReal) = key A g 384 (by omega) r e := by
  unfold key Rms.rms
  pointwise [k0_pay70, k0_pay65, k0_pay66, k0_pay67, k0_pay68, Consts.f32_zero]
  rfl

theorem plain2_15 (A : FVec Ideal S256x512 .f32) (r : Fin 256) (e : Fin 128) :
    (k0_pay121 A (ix2 r e) : EReal) = plain A 384 (by omega) r e := by
  unfold plain
  pointwise [k0_pay121, k0_pay120]

theorem plain4_15 (A : FVec Ideal S256x512 .f32) (r : Fin 256) (e : Fin 128) :
    (k0_pay122 A (ix4 0 r 0 e) : EReal) = plain A 384 (by omega) r e := by
  unfold plain
  pointwise [k0_pay122, k0_pay120]

theorem gateDot_apply (a : Vec Ideal S256x2048 .bf16) (w : Vec Ideal S2048x128 .bf16) (b : Vec Ideal S1x128 .f32) (r : Fin 256) (e : Fin 128) :
    (k0_pay123 a w b (ix2 r e) : EReal) = (∑ k : Fin 2048, (a (ix2 r k) : EReal) * w (ix2 k e)) + b (ix2 0 e) := by
  pointwise [k0_pay123, Consts.f32_zero]

/-- The logarithm of the logistic function, as the program computes it. -/
def gate (x : EReal) : EReal :=
  min x 0 - Ideal.log1p (Ideal.exp (0 - FloatOps.absf (F := Ideal) (φ := .f32) x))

theorem gate_apply (f : FVec Ideal S256x128 .f32) (r : Fin 256) (e : Fin 16) :
    (k0_pay2 f (FloatOps.ofBits .f32 0x00000000#32) (ix3 0 r e) : EReal) = gate (f (ix2 r (⟨e.val, by omega⟩ : Fin 128))) := by
  unfold gate
  pointwise [k0_pay2, Consts.f32_zero]

end Cert.Kernel5Ideal.Hand

end
-- ==== Proof.KvOut.lean ====
module

public import proofs.«01_k».proof.Proof.KvPays
public import Idealize.ShloMosaic.Lib.Pipeline.ValueKit

@[expose] public section

set_option maxRecDepth 16384
set_option maxHeartbeats 400000

/-! The keys, values and gates: what each case leaves in each window, entry by entry. -/

noncomputable section

namespace Cert.Kernel5Ideal.Hand

open Cert.Kernel5Ideal.Gen
open Idealize.ShloMosaic Idealize.ShloMosaic.TcCoe Idealize.ShloMosaic.Tactic

variable (m : (ℓ : Loc nD τ sig) → Buf (Elt Ideal) ℓ) (c : Dev nD)

/-- The head of a column. -/
def headOf (e : Fin 2048) : Fin 16 := ⟨e.val / 128, by omega⟩

/-- A column's place in its head. -/
def colOf (e : Fin 2048) : Fin 128 := ⟨e.val % 128, by omega⟩

/-- A row of a block against the columns of key head `h`, normed. -/
def keyAt (a : Vec Ideal S256x2048 .bf16) (w : Vec Ideal S2048x4224 .bf16) (g : Vec Ideal S1x128 .f32) (r : Fin 256) (h : Fin 16) (e : Fin 128) : EReal :=
  Rms.rms Rms.count128 (fun d : Fin 128 => ∑ k : Fin 2048, (a (ix2 r k) : EReal) * w (ix2 k (⟨128 * h.val + d.val, by omega⟩ : Fin 4224)))
    (fun d => g (ix2 0 d)) e

/-- A row of a block against a column of value head `h`. -/
def valueAt (a : Vec Ideal S256x2048 .bf16) (w : Vec Ideal S2048x4224 .bf16) (r : Fin 256) (h : Fin 16) (e : Fin 128) : EReal :=
  ∑ k : Fin 2048, (a (ix2 r k) : EReal) * w (ix2 k (⟨2048 + (128 * h.val + e.val), by omega⟩ : Fin 4224))

/-- A row of a block against the gate column of head `h`, with its bias, through the logarithm of the logistic function. -/
def gateAt (a : Vec Ideal S256x2048 .bf16) (w : Vec Ideal S2048x4224 .bf16) (b : Vec Ideal S1x128 .f32) (r : Fin 256) (h : Fin 16) : EReal :=
  gate ((∑ k : Fin 2048, (a (ix2 r k) : EReal) * w (ix2 k (⟨4096 + h.val, by omega⟩ : Fin 4224))) + b (ix2 0 (⟨h.val, by omega⟩ : Fin 128)))

theorem key_chunk (O o q : ℕ) (hq : O + o = 128 * q) (ho : o + 128 ≤ 512) (A : FVec Ideal S256x512 .f32) (a : Vec Ideal S256x2048 .bf16) (w : Vec Ideal S2048x4224 .bf16) (g : Vec Ideal S1x128 .f32)
    (hw : ∀ d, ![0, O] d + ![2048, 512] d ≤ S2048x4224.size d)
    (hA : ∀ (r : Fin 256) (e : Fin 512), (A (ix2 r e) : EReal) = ∑ k : Fin 2048, (a (ix2 r k) : EReal) * View.ld w (Rect.unit ![0, O] ![2048, 512] hw) (ix2 k e))
    (r : Fin 256) (e : Fin 128) (r' : Fin 256) (h' : Fin 16) (e' : Fin 128) (hr : r'.val = r.val) (hh : h'.val = q) (he : e'.val = e.val) :
    key A g o ho r e = keyAt a w g r' h' e' := by
  obtain rfl : r' = r := Fin.ext hr
  obtain rfl : e' = e := Fin.ext he
  unfold key keyAt
  refine Rms.rms_congr _ (fun d => ?_) (fun d => rfl) _
  refine (hA _ _).trans (Finset.sum_congr rfl fun k _ => congrArg₂ (· * ·) rfl (congrArg w ?_))
  funext b
  apply Fin.ext
  have hd := d.isLt
  fin_cases b
  · simp [ix2, Rect.idx_unit_val]
  · simp [ix2, Rect.idx_unit_val]
    omega

theorem plain_chunk (O o q : ℕ) (hq : O + o = 2048 + 128 * q) (ho : o + 128 ≤ 512) (A : FVec Ideal S256x512 .f32) (a : Vec Ideal S256x2048 .bf16) (w : Vec Ideal S2048x4224 .bf16)
    (hw : ∀ d, ![0, O] d + ![2048, 512] d ≤ S2048x4224.size d)
    (hA : ∀ (r : Fin 256) (e : Fin 512), (A (ix2 r e) : EReal) = ∑ k : Fin 2048, (a (ix2 r k) : EReal) * View.ld w (Rect.unit ![0, O] ![2048, 512] hw) (ix2 k e))
    (r : Fin 256) (e : Fin 128) (r' : Fin 256) (h' : Fin 16) (e' : Fin 128) (hr : r'.val = r.val) (hh : h'.val = q) (he : e'.val = e.val) :
    plain A o ho r e = valueAt a w r' h' e' := by
  obtain rfl : r' = r := Fin.ext hr
  obtain rfl : e' = e := Fin.ext he
  unfold plain valueAt
  refine (hA _ _).trans (Finset.sum_congr rfl fun k _ => congrArg₂ (· * ·) rfl (congrArg w ?_))
  funext b
  apply Fin.ext
  have hd := e'.isLt
  fin_cases b
  · simp [ix2, Rect.idx_unit_val]
  · simp [ix2, Rect.idx_unit_val]
    omega

theorem gate_chunk (f : FVec Ideal S256x128 .f32) (a : Vec Ideal S256x2048 .bf16) (w : Vec Ideal S2048x4224 .bf16) (b : Vec Ideal S1x128 .f32)
    (hw : ∀ d, ![0, 4096] d + ![2048, 128] d ≤ S2048x4224.size d)
    (hf : ∀ (r : Fin 256) (e : Fin 128), (f (ix2 r e) : EReal) = (∑ k : Fin 2048, (a (ix2 r k) : EReal) * View.ld w (Rect.unit ![0, 4096] ![2048, 128] hw) (ix2 k e)) + b (ix2 0 e))
    (r : Fin 256) (e : Fin 16) (r' : Fin 256) (h' : Fin 16) (hr : r'.val = r.val) (hh : h'.val = e.val) :
    gate (f (ix2 r (⟨e.val, by omega⟩ : Fin 128))) = gateAt a w b r' h' := by
  obtain rfl : r' = r := Fin.ext hr
  obtain rfl : h' = e := Fin.ext hh
  unfold gateAt
  refine congrArg gate ((hf _ _).trans (congrArg (· + b (ix2 0 (⟨h'.val, by omega⟩ : Fin 128))) (Finset.sum_congr rfl fun k _ => congrArg₂ (· * ·) rfl (congrArg w ?_))))
  funext d
  apply Fin.ext
  fin_cases d
  · simp [ix2, Rect.idx_unit_val]
  · simp [ix2, Rect.idx_unit_val]

theorem atA5_apply (s : PtA) (y : S256x2048.Idx) : (atA5 m c s y : EReal) = keyAt (k0_pay1 (iblk m c 0 s.1) (iblk m c 1 s.1)) (iblk m c 2 s.1) (iblk m c 3 s.1) (y 0) (headOf (y 1)) (colOf (y 1)) := by
  unfold atA5
  frame_out
  generalize k0_pay1 (iblk m c 0 s.1) (iblk m c 1 s.1) = a
  generalize iblk m c 2 s.1 = w
  generalize iblk m c 3 s.1 = g
  canon_tiles j h
  all_goals
    obtain ⟨r, e, rfl⟩ : ∃ (r : Fin 256) (e : Fin 128), j = ix2 r e := ⟨j 0, j 1, eq_ix2 j⟩
    replace h0 : (y 0).val = r.val := h0
  · exact (key2_15 _ g r e).trans (key_chunk 1536 384 15 (by omega) (by omega) _ a w g _ (dot_apply a _) r e (y 0) _ _ h0 (by show (y 1).val / 128 = 15; replace h1 : (y 1).val = 1920 + e.val := h1.trans (by simp [ix2]); omega) (by show (y 1).val % 128 = e.val; replace h1 : (y 1).val = 1920 + e.val := h1.trans (by simp [ix2]); omega))
  · exact (key2_14 _ g r e).trans (key_chunk 1536 256 14 (by omega) (by omega) _ a w g _ (dot_apply a _) r e (y 0) _ _ h0 (by show (y 1).val / 128 = 14; replace h1 : (y 1).val = 1792 + e.val := h1.trans (by simp [ix2]); omega) (by show (y 1).val % 128 = e.val; replace h1 : (y 1).val = 1792 + e.val := h1.trans (by simp [ix2]); omega))
  · exact (key2_13 a _ g r e).trans (key_chunk 1536 128 13 (by omega) (by omega) _ a w g _ (dot_apply a _) r e (y 0) _ _ h0 (by show (y 1).val / 128 = 13; replace h1 : (y 1).val = 1664 + e.val := h1.trans (by simp [ix2]); omega) (by show (y 1).val % 128 = e.val; replace h1 : (y 1).val = 1664 + e.val := h1.trans (by simp [ix2]); omega))
  · exact (key2_12 a _ g r e).trans (key_chunk 1536 0 12 (by omega) (by omega) _ a w g _ (dot_apply a _) r e (y 0) _ _ h0 (by show (y 1).val / 128 = 12; replace h1 : (y 1).val = 1536 + e.val := h1.trans (by simp [ix2]); omega) (by show (y 1).val % 128 = e.val; replace h1 : (y 1).val = 1536 + e.val := h1.trans (by simp [ix2]); omega))
  · exact (key2_11 _ g r e).trans (key_chunk 1024 384 11 (by omega) (by omega) _ a w g _ (dot_apply a _) r e (y 0) _ _ h0 (by show (y 1).val / 128 = 11; replace h1 : (y 1).val = 1408 + e.val := h1.trans (by simp [ix2]); omega) (by show (y 1).val % 128 = e.val; replace h1 : (y 1).val = 1408 + e.val := h1.trans (by simp [ix2]); omega))
  · exact (key2_10 _ g r e).trans (key_chunk 1024 256 10 (by omega) (by omega) _ a w g _ (dot_apply a _) r e (y 0) _ _ h0 (by show (y 1).val / 128 = 10; replace h1 : (y 1).val = 1280 + e.val := h1.trans (by simp [ix2]); omega) (by show (y 1).val % 128 = e.val; replace h1 : (y 1).val = 1280 + e.val := h1.trans (by simp [ix2]); omega))
  · exact (key2_9 _ g r e).trans (key_chunk 1024 128 9 (by omega) (by omega) _ a w g _ (dot_apply a _) r e (y 0) _ _ h0 (by show (y 1).val / 128 = 9; replace h1 : (y 1).val = 1152 + e.val := h1.trans (by simp [ix2]); omega) (by show (y 1).val % 128 = e.val; replace h1 : (y 1).val = 1152 + e.val := h1.trans (by simp [ix2]); omega))
  · exact (key2_8 a _ g r e).trans (key_chunk 1024 0 8 (by omega) (by omega) _ a w g _ (dot_apply a _) r e (y 0) _ _ h0 (by show (y 1).val / 128 = 8; replace h1 : (y 1).val = 1024 + e.val := h1.trans (by simp [ix2]); omega) (by show (y 1).val % 128 = e.val; replace h1 : (y 1).val = 1024 + e.val := h1.trans (by simp [ix2]); omega))
  · exact (key2_7 _ g r e).trans (key_chunk 512 384 7 (by omega) (by omega) _ a w g _ (dot_apply a _) r e (y 0) _ _ h0 (by show (y 1).val / 128 = 7; replace h1 : (y 1).val = 896 + e.val := h1.trans (by simp [ix2]); omega) (by show (y 1).val % 128 = e.val; replace h1 : (y 1).val = 896 + e.val := h1.trans (by simp [ix2]); omega))
  · exact (key2_6 _ g r e).trans (key_chunk 512 256 6 (by omega) (by omega) _ a w g _ (dot_apply a _) r e (y 0) _ _ h0 (by show (y 1).val / 128 = 6; replace h1 : (y 1).val = 768 + e.val := h1.trans (by simp [ix2]); omega) (by show (y 1).val % 128 = e.val; replace h1 : (y 1).val = 768 + e.val := h1.trans (by simp [ix2]); omega))
  · exact (key2_5 _ g r e).trans (key_chunk 512 128 5 (by omega) (by omega) _ a w g _ (dot_apply a _) r e (y 0) _ _ h0 (by show (y 1).val / 128 = 5; replace h1 : (y 1).val = 640 + e.val := h1.trans (by simp [ix2]); omega) (by show (y 1).val % 128 = e.val; replace h1 : (y 1).val = 640 + e.val := h1.trans (by simp [ix2]); omega))
  · exact (key2_4 a _ g r e).trans (key_chunk 512 0 4 (by omega) (by omega) _ a w g _ (dot_apply a _) r e (y 0) _ _ h0 (by show (y 1).val / 128 = 4; replace h1 : (y 1).val = 512 + e.val := h1.trans (by simp [ix2]); omega) (by show (y 1).val % 128 = e.val; replace h1 : (y 1).val = 512 + e.val := h1.trans (by simp [ix2]); omega))
  · exact (key2_3 _ g r e).trans (key_chunk 0 384 3 (by omega) (by omega) _ a w g _ (dot_apply a _) r e (y 0) _ _ h0 (by show (y 1).val / 128 = 3; replace h1 : (y 1).val = 384 + e.val := h1.trans (by simp [ix2]); omega) (by show (y 1).val % 128 = e.val; replace h1 : (y 1).val = 384 + e.val := h1.trans (by simp [ix2]); omega))
  · exact (key2_2 _ g r e).trans (key_chunk 0 256 2 (by omega) (by omega) _ a w g _ (dot_apply a _) r e (y 0) _ _ h0 (by show (y 1).val / 128 = 2; replace h1 : (y 1).val = 256 + e.val := h1.trans (by simp [ix2]); omega) (by show (y 1).val % 128 = e.val; replace h1 : (y 1).val = 256 + e.val := h1.trans (by simp [ix2]); omega))
  · exact (key2_1 a _ g r e).trans (key_chunk 0 128 1 (by omega) (by omega) _ a w g _ (dot_apply a _) r e (y 0) _ _ h0 (by show (y 1).val / 128 = 1; replace h1 : (y 1).val = 128 + e.val := h1.trans (by simp [ix2]); omega) (by show (y 1).val % 128 = e.val; replace h1 : (y 1).val = 128 + e.val := h1.trans (by simp [ix2]); omega))
  · exact (key2_0 a _ g r e).trans (key_chunk 0 0 0 (by omega) (by omega) _ a w g _ (dot_apply a _) r e (y 0) _ _ h0 (by show (y 1).val / 128 = 0; replace h1 : (y 1).val = 0 + e.val := h1.trans (by simp [ix2]); omega) (by show (y 1).val % 128 = e.val; replace h1 : (y 1).val = 0 + e.val := h1.trans (by simp [ix2]); omega))

theorem atA6_apply (s : PtA) (y : S256x2048.Idx) : (atA6 m c s y : EReal) = valueAt (k0_pay1 (iblk m c 0 s.1) (iblk m c 1 s.1)) (iblk m c 2 s.1) (y 0) (headOf (y 1)) (colOf (y 1)) := by
  unfold atA6
  frame_out
  generalize k0_pay1 (iblk m c 0 s.1) (iblk m c 1 s.1) = a
  generalize iblk m c 2 s.1 = w
  canon_tiles j h
  all_goals
    obtain ⟨r, e, rfl⟩ : ∃ (r : Fin 256) (e : Fin 128), j = ix2 r e := ⟨j 0, j 1, eq_ix2 j⟩
    replace h0 : (y 0).val = r.val := h0
  · exact (plain2_15 _ r e).trans (plain_chunk 3584 384 15 (by omega) (by omega) _ a w _ (dot_apply a _) r e (y 0) _ _ h0 (by show (y 1).val / 128 = 15; replace h1 : (y 1).val = 1920 + e.val := h1.trans (by simp [ix2]); omega) (by show (y 1).val % 128 = e.val; replace h1 : (y 1).val = 1920 + e.val := h1.trans (by simp [ix2]); omega))
  · exact (plain2_14 _ r e).trans (plain_chunk 3584 256 14 (by omega) (by omega) _ a w _ (dot_apply a _) r e (y 0) _ _ h0 (by show (y 1).val / 128 = 14; replace h1 : (y 1).val = 1792 + e.val := h1.trans (by simp [ix2]); omega) (by show (y 1).val % 128 = e.val; replace h1 : (y 1).val = 1792 + e.val := h1.trans (by simp [ix2]); omega))
  · exact (plain2_13 _ r e).trans (plain_chunk 3584 128 13 (by omega) (by omega) _ a w _ (dot_apply a _) r e (y 0) _ _ h0 (by show (y 1).val / 128 = 13; replace h1 : (y 1).val = 1664 + e.val := h1.trans (by simp [ix2]); omega) (by show (y 1).val % 128 = e.val; replace h1 : (y 1).val = 1664 + e.val := h1.trans (by simp [ix2]); omega))
  · exact (plain2_12 a _ r e).trans (plain_chunk 3584 0 12 (by omega) (by omega) _ a w _ (dot_apply a _) r e (y 0) _ _ h0 (by show (y 1).val / 128 = 12; replace h1 : (y 1).val = 1536 + e.val := h1.trans (by simp [ix2]); omega) (by show (y 1).val % 128 = e.val; replace h1 : (y 1).val = 1536 + e.val := h1.trans (by simp [ix2]); omega))
  · exact (plain2_11 _ r e).trans (plain_chunk 3072 384 11 (by omega) (by omega) _ a w _ (dot_apply a _) r e (y 0) _ _ h0 (by show (y 1).val / 128 = 11; replace h1 : (y 1).val = 1408 + e.val := h1.trans (by simp [ix2]); omega) (by show (y 1).val % 128 = e.val; replace h1 : (y 1).val = 1408 + e.val := h1.trans (by simp [ix2]); omega))
  · exact (plain2_10 _ r e).trans (plain_chunk 3072 256 10 (by omega) (by omega) _ a w _ (dot_apply a _) r e (y 0) _ _ h0 (by show (y 1).val / 128 = 10; replace h1 : (y 1).val = 1280 + e.val := h1.trans (by simp [ix2]); omega) (by show (y 1).val % 128 = e.val; replace h1 : (y 1).val = 1280 + e.val := h1.trans (by simp [ix2]); omega))
  · exact (plain2_9 a _ r e).trans (plain_chunk 3072 128 9 (by omega) (by omega) _ a w _ (dot_apply a _) r e (y 0) _ _ h0 (by show (y 1).val / 128 = 9; replace h1 : (y 1).val = 1152 + e.val := h1.trans (by simp [ix2]); omega) (by show (y 1).val % 128 = e.val; replace h1 : (y 1).val = 1152 + e.val := h1.trans (by simp [ix2]); omega))
  · exact (plain2_8 a _ r e).trans (plain_chunk 3072 0 8 (by omega) (by omega) _ a w _ (dot_apply a _) r e (y 0) _ _ h0 (by show (y 1).val / 128 = 8; replace h1 : (y 1).val = 1024 + e.val := h1.trans (by simp [ix2]); omega) (by show (y 1).val % 128 = e.val; replace h1 : (y 1).val = 1024 + e.val := h1.trans (by simp [ix2]); omega))
  · exact (plain2_7 _ r e).trans (plain_chunk 2560 384 7 (by omega) (by omega) _ a w _ (dot_apply a _) r e (y 0) _ _ h0 (by show (y 1).val / 128 = 7; replace h1 : (y 1).val = 896 + e.val := h1.trans (by simp [ix2]); omega) (by show (y 1).val % 128 = e.val; replace h1 : (y 1).val = 896 + e.val := h1.trans (by simp [ix2]); omega))
  · exact (plain2_6 _ r e).trans (plain_chunk 2560 256 6 (by omega) (by omega) _ a w _ (dot_apply a _) r e (y 0) _ _ h0 (by show (y 1).val / 128 = 6; replace h1 : (y 1).val = 768 + e.val := h1.trans (by simp [ix2]); omega) (by show (y 1).val % 128 = e.val; replace h1 : (y 1).val = 768 + e.val := h1.trans (by simp [ix2]); omega))
  · exact (plain2_5 a _ r e).trans (plain_chunk 2560 128 5 (by omega) (by omega) _ a w _ (dot_apply a _) r e (y 0) _ _ h0 (by show (y 1).val / 128 = 5; replace h1 : (y 1).val = 640 + e.val := h1.trans (by simp [ix2]); omega) (by show (y 1).val % 128 = e.val; replace h1 : (y 1).val = 640 + e.val := h1.trans (by simp [ix2]); omega))
  · exact (plain2_4 a _ r e).trans (plain_chunk 2560 0 4 (by omega) (by omega) _ a w _ (dot_apply a _) r e (y 0) _ _ h0 (by show (y 1).val / 128 = 4; replace h1 : (y 1).val = 512 + e.val := h1.trans (by simp [ix2]); omega) (by show (y 1).val % 128 = e.val; replace h1 : (y 1).val = 512 + e.val := h1.trans (by simp [ix2]); omega))
  · exact (plain2_3 _ r e).trans (plain_chunk 2048 384 3 (by omega) (by omega) _ a w _ (dot_apply a _) r e (y 0) _ _ h0 (by show (y 1).val / 128 = 3; replace h1 : (y 1).val = 384 + e.val := h1.trans (by simp [ix2]); omega) (by show (y 1).val % 128 = e.val; replace h1 : (y 1).val = 384 + e.val := h1.trans (by simp [ix2]); omega))
  · exact (plain2_2 _ r e).trans (plain_chunk 2048 256 2 (by omega) (by omega) _ a w _ (dot_apply a _) r e (y 0) _ _ h0 (by show (y 1).val / 128 = 2; replace h1 : (y 1).val = 256 + e.val := h1.trans (by simp [ix2]); omega) (by show (y 1).val % 128 = e.val; replace h1 : (y 1).val = 256 + e.val := h1.trans (by simp [ix2]); omega))
  · exact (plain2_1 a _ r e).trans (plain_chunk 2048 128 1 (by omega) (by omega) _ a w _ (dot_apply a _) r e (y 0) _ _ h0 (by show (y 1).val / 128 = 1; replace h1 : (y 1).val = 128 + e.val := h1.trans (by simp [ix2]); omega) (by show (y 1).val % 128 = e.val; replace h1 : (y 1).val = 128 + e.val := h1.trans (by simp [ix2]); omega))
  · exact (plain2_0 a _ r e).trans (plain_chunk 2048 0 0 (by omega) (by omega) _ a w _ (dot_apply a _) r e (y 0) _ _ h0 (by show (y 1).val / 128 = 0; replace h1 : (y 1).val = 0 + e.val := h1.trans (by simp [ix2]); omega) (by show (y 1).val % 128 = e.val; replace h1 : (y 1).val = 0 + e.val := h1.trans (by simp [ix2]); omega))

theorem atA7_apply (s : PtA) (y : S1x256x16x128.Idx) : (atA7 m c s y : EReal) = keyAt (k0_pay1 (iblk m c 0 s.1) (iblk m c 1 s.1)) (iblk m c 2 s.1) (iblk m c 3 s.1) (y 1) (y 2) (y 3) := by
  unfold atA7
  frame_out
  generalize k0_pay1 (iblk m c 0 s.1) (iblk m c 1 s.1) = a
  generalize iblk m c 2 s.1 = w
  generalize iblk m c 3 s.1 = g
  canon_tiles j h
  all_goals
    obtain ⟨z, r, q, e, rfl⟩ : ∃ (z : Fin 1) (r : Fin 256) (q : Fin 1) (e : Fin 128), j = ix4 z r q e := ⟨j 0, j 1, j 2, j 3, eq_ix4 j⟩
    obtain rfl : z = 0 := Subsingleton.elim _ _
    obtain rfl : q = 0 := Subsingleton.elim _ _
  · exact (key4_15 _ g r e).trans (key_chunk 1536 384 15 (by omega) (by omega) _ a w g _ (dot_apply a _) r e (y 1) (y 2) (y 3) (h1.trans (by simp [ix4])) (h2.trans (by simp [ix4])) (h3.trans (by simp [ix4])))
  · exact (key4_14 _ g r e).trans (key_chunk 1536 256 14 (by omega) (by omega) _ a w g _ (dot_apply a _) r e (y 1) (y 2) (y 3) (h1.trans (by simp [ix4])) (h2.trans (by simp [ix4])) (h3.trans (by simp [ix4])))
  · exact (key4_13 a _ g r e).trans (key_chunk 1536 128 13 (by omega) (by omega) _ a w g _ (dot_apply a _) r e (y 1) (y 2) (y 3) (h1.trans (by simp [ix4])) (h2.trans (by simp [ix4])) (h3.trans (by simp [ix4])))
  · exact (key4_12 a _ g r e).trans (key_chunk 1536 0 12 (by omega) (by omega) _ a w g _ (dot_apply a _) r e (y 1) (y 2) (y 3) (h1.trans (by simp [ix4])) (h2.trans (by simp [ix4])) (h3.trans (by simp [ix4])))
  · exact (key4_11 _ g r e).trans (key_chunk 1024 384 11 (by omega) (by omega) _ a w g _ (dot_apply a _) r e (y 1) (y 2) (y 3) (h1.trans (by simp [ix4])) (h2.trans (by simp [ix4])) (h3.trans (by simp [ix4])))
  · exact (key4_10 _ g r e).trans (key_chunk 1024 256 10 (by omega) (by omega) _ a w g _ (dot_apply a _) r e (y 1) (y 2) (y 3) (h1.trans (by simp [ix4])) (h2.trans (by simp [ix4])) (h3.trans (by simp [ix4])))
  · exact (key4_9 _ g r e).trans (key_chunk 1024 128 9 (by omega) (by omega) _ a w g _ (dot_apply a _) r e (y 1) (y 2) (y 3) (h1.trans (by simp [ix4])) (h2.trans (by simp [ix4])) (h3.trans (by simp [ix4])))
  · exact (key4_8 a _ g r e).trans (key_chunk 1024 0 8 (by omega) (by omega) _ a w g _ (dot_apply a _) r e (y 1) (y 2) (y 3) (h1.trans (by simp [ix4])) (h2.trans (by simp [ix4])) (h3.trans (by simp [ix4])))
  · exact (key4_7 _ g r e).trans (key_chunk 512 384 7 (by omega) (by omega) _ a w g _ (dot_apply a _) r e (y 1) (y 2) (y 3) (h1.trans (by simp [ix4])) (h2.trans (by simp [ix4])) (h3.trans (by simp [ix4])))
  · exact (key4_6 _ g r e).trans (key_chunk 512 256 6 (by omega) (by omega) _ a w g _ (dot_apply a _) r e (y 1) (y 2) (y 3) (h1.trans (by simp [ix4])) (h2.trans (by simp [ix4])) (h3.trans (by simp [ix4])))
  · exact (key4_5 _ g r e).trans (key_chunk 512 128 5 (by omega) (by omega) _ a w g _ (dot_apply a _) r e (y 1) (y 2) (y 3) (h1.trans (by simp [ix4])) (h2.trans (by simp [ix4])) (h3.trans (by simp [ix4])))
  · exact (key4_4 a _ g r e).trans (key_chunk 512 0 4 (by omega) (by omega) _ a w g _ (dot_apply a _) r e (y 1) (y 2) (y 3) (h1.trans (by simp [ix4])) (h2.trans (by simp [ix4])) (h3.trans (by simp [ix4])))
  · exact (key4_3 _ g r e).trans (key_chunk 0 384 3 (by omega) (by omega) _ a w g _ (dot_apply a _) r e (y 1) (y 2) (y 3) (h1.trans (by simp [ix4])) (h2.trans (by simp [ix4])) (h3.trans (by simp [ix4])))
  · exact (key4_2 _ g r e).trans (key_chunk 0 256 2 (by omega) (by omega) _ a w g _ (dot_apply a _) r e (y 1) (y 2) (y 3) (h1.trans (by simp [ix4])) (h2.trans (by simp [ix4])) (h3.trans (by simp [ix4])))
  · exact (key4_1 a _ g r e).trans (key_chunk 0 128 1 (by omega) (by omega) _ a w g _ (dot_apply a _) r e (y 1) (y 2) (y 3) (h1.trans (by simp [ix4])) (h2.trans (by simp [ix4])) (h3.trans (by simp [ix4])))
  · exact (key4_0 a _ g r e).trans (key_chunk 0 0 0 (by omega) (by omega) _ a w g _ (dot_apply a _) r e (y 1) (y 2) (y 3) (h1.trans (by simp [ix4])) (h2.trans (by simp [ix4])) (h3.trans (by simp [ix4])))

theorem atA8_apply (s : PtA) (y : S1x256x16x128.Idx) : (atA8 m c s y : EReal) = valueAt (k0_pay1 (iblk m c 0 s.1) (iblk m c 1 s.1)) (iblk m c 2 s.1) (y 1) (y 2) (y 3) := by
  unfold atA8
  frame_out
  generalize k0_pay1 (iblk m c 0 s.1) (iblk m c 1 s.1) = a
  generalize iblk m c 2 s.1 = w
  canon_tiles j h
  all_goals
    obtain ⟨z, r, q, e, rfl⟩ : ∃ (z : Fin 1) (r : Fin 256) (q : Fin 1) (e : Fin 128), j = ix4 z r q e := ⟨j 0, j 1, j 2, j 3, eq_ix4 j⟩
    obtain rfl : z = 0 := Subsingleton.elim _ _
    obtain rfl : q = 0 := Subsingleton.elim _ _
  · exact (plain4_15 _ r e).trans (plain_chunk 3584 384 15 (by omega) (by omega) _ a w _ (dot_apply a _) r e (y 1) (y 2) (y 3) (h1.trans (by simp [ix4])) (h2.trans (by simp [ix4])) (h3.trans (by simp [ix4])))
  · exact (plain4_14 _ r e).trans (plain_chunk 3584 256 14 (by omega) (by omega) _ a w _ (dot_apply a _) r e (y 1) (y 2) (y 3) (h1.trans (by simp [ix4])) (h2.trans (by simp [ix4])) (h3.trans (by simp [ix4])))
  · exact (plain4_13 _ r e).trans (plain_chunk 3584 128 13 (by omega) (by omega) _ a w _ (dot_apply a _) r e (y 1) (y 2) (y 3) (h1.trans (by simp [ix4])) (h2.trans (by simp [ix4])) (h3.trans (by simp [ix4])))
  · exact (plain4_12 a _ r e).trans (plain_chunk 3584 0 12 (by omega) (by omega) _ a w _ (dot_apply a _) r e (y 1) (y 2) (y 3) (h1.trans (by simp [ix4])) (h2.trans (by simp [ix4])) (h3.trans (by simp [ix4])))
  · exact (plain4_11 _ r e).trans (plain_chunk 3072 384 11 (by omega) (by omega) _ a w _ (dot_apply a _) r e (y 1) (y 2) (y 3) (h1.trans (by simp [ix4])) (h2.trans (by simp [ix4])) (h3.trans (by simp [ix4])))
  · exact (plain4_10 _ r e).trans (plain_chunk 3072 256 10 (by omega) (by omega) _ a w _ (dot_apply a _) r e (y 1) (y 2) (y 3) (h1.trans (by simp [ix4])) (h2.trans (by simp [ix4])) (h3.trans (by simp [ix4])))
  · exact (plain4_9 a _ r e).trans (plain_chunk 3072 128 9 (by omega) (by omega) _ a w _ (dot_apply a _) r e (y 1) (y 2) (y 3) (h1.trans (by simp [ix4])) (h2.trans (by simp [ix4])) (h3.trans (by simp [ix4])))
  · exact (plain4_8 a _ r e).trans (plain_chunk 3072 0 8 (by omega) (by omega) _ a w _ (dot_apply a _) r e (y 1) (y 2) (y 3) (h1.trans (by simp [ix4])) (h2.trans (by simp [ix4])) (h3.trans (by simp [ix4])))
  · exact (plain4_7 _ r e).trans (plain_chunk 2560 384 7 (by omega) (by omega) _ a w _ (dot_apply a _) r e (y 1) (y 2) (y 3) (h1.trans (by simp [ix4])) (h2.trans (by simp [ix4])) (h3.trans (by simp [ix4])))
  · exact (plain4_6 _ r e).trans (plain_chunk 2560 256 6 (by omega) (by omega) _ a w _ (dot_apply a _) r e (y 1) (y 2) (y 3) (h1.trans (by simp [ix4])) (h2.trans (by simp [ix4])) (h3.trans (by simp [ix4])))
  · exact (plain4_5 a _ r e).trans (plain_chunk 2560 128 5 (by omega) (by omega) _ a w _ (dot_apply a _) r e (y 1) (y 2) (y 3) (h1.trans (by simp [ix4])) (h2.trans (by simp [ix4])) (h3.trans (by simp [ix4])))
  · exact (plain4_4 a _ r e).trans (plain_chunk 2560 0 4 (by omega) (by omega) _ a w _ (dot_apply a _) r e (y 1) (y 2) (y 3) (h1.trans (by simp [ix4])) (h2.trans (by simp [ix4])) (h3.trans (by simp [ix4])))
  · exact (plain4_3 _ r e).trans (plain_chunk 2048 384 3 (by omega) (by omega) _ a w _ (dot_apply a _) r e (y 1) (y 2) (y 3) (h1.trans (by simp [ix4])) (h2.trans (by simp [ix4])) (h3.trans (by simp [ix4])))
  · exact (plain4_2 _ r e).trans (plain_chunk 2048 256 2 (by omega) (by omega) _ a w _ (dot_apply a _) r e (y 1) (y 2) (y 3) (h1.trans (by simp [ix4])) (h2.trans (by simp [ix4])) (h3.trans (by simp [ix4])))
  · exact (plain4_1 a _ r e).trans (plain_chunk 2048 128 1 (by omega) (by omega) _ a w _ (dot_apply a _) r e (y 1) (y 2) (y 3) (h1.trans (by simp [ix4])) (h2.trans (by simp [ix4])) (h3.trans (by simp [ix4])))
  · exact (plain4_0 a _ r e).trans (plain_chunk 2048 0 0 (by omega) (by omega) _ a w _ (dot_apply a _) r e (y 1) (y 2) (y 3) (h1.trans (by simp [ix4])) (h2.trans (by simp [ix4])) (h3.trans (by simp [ix4])))

theorem atA9_apply (s : PtA) (y : S1x256x16.Idx) : (atA9 m c s y : EReal) = gateAt (k0_pay1 (iblk m c 0 s.1) (iblk m c 1 s.1)) (iblk m c 2 s.1) (iblk m c 4 s.1) (y 1) (y 2) := by
  unfold atA9
  frame_out
  generalize k0_pay1 (iblk m c 0 s.1) (iblk m c 1 s.1) = a
  generalize iblk m c 2 s.1 = w
  generalize iblk m c 4 s.1 = b
  canon_tiles j h
  obtain ⟨z, r, e, rfl⟩ : ∃ (z : Fin 1) (r : Fin 256) (e : Fin 16), j = ix3 z r e := ⟨j 0, j 1, j 2, eq_ix3 j⟩
  obtain rfl : z = 0 := Subsingleton.elim _ _
  exact (gate_apply _ r e).trans (gate_chunk _ a w b _ (gateDot_apply a _ b) r e (y 1) (y 2) (h1.trans (by simp [ix3])) (h2.trans (by simp [ix3])))

theorem atB5_apply (s : PtB) (y : S256x2048.Idx) : (atB5 m c s y : EReal) = keyAt (k0_pay1 (iblk m c 0 s.1) (iblk m c 1 s.1)) (iblk m c 2 s.1) (iblk m c 3 s.1) (y 0) (headOf (y 1)) (colOf (y 1)) := by
  unfold atB5
  frame_out
  generalize k0_pay1 (iblk m c 0 s.1) (iblk m c 1 s.1) = a
  generalize iblk m c 2 s.1 = w
  generalize iblk m c 3 s.1 = g
  canon_tiles j h
  all_goals
    obtain ⟨r, e, rfl⟩ : ∃ (r : Fin 256) (e : Fin 128), j = ix2 r e := ⟨j 0, j 1, eq_ix2 j⟩
    replace h0 : (y 0).val = r.val := h0
  · exact (key2_15 _ g r e).trans (key_chunk 1536 384 15 (by omega) (by omega) _ a w g _ (dot_apply a _) r e (y 0) _ _ h0 (by show (y 1).val / 128 = 15; replace h1 : (y 1).val = 1920 + e.val := h1.trans (by simp [ix2]); omega) (by show (y 1).val % 128 = e.val; replace h1 : (y 1).val = 1920 + e.val := h1.trans (by simp [ix2]); omega))
  · exact (key2_14 _ g r e).trans (key_chunk 1536 256 14 (by omega) (by omega) _ a w g _ (dot_apply a _) r e (y 0) _ _ h0 (by show (y 1).val / 128 = 14; replace h1 : (y 1).val = 1792 + e.val := h1.trans (by simp [ix2]); omega) (by show (y 1).val % 128 = e.val; replace h1 : (y 1).val = 1792 + e.val := h1.trans (by simp [ix2]); omega))
  · exact (key2_13 a _ g r e).trans (key_chunk 1536 128 13 (by omega) (by omega) _ a w g _ (dot_apply a _) r e (y 0) _ _ h0 (by show (y 1).val / 128 = 13; replace h1 : (y 1).val = 1664 + e.val := h1.trans (by simp [ix2]); omega) (by show (y 1).val % 128 = e.val; replace h1 : (y 1).val = 1664 + e.val := h1.trans (by simp [ix2]); omega))
  · exact (key2_12 a _ g r e).trans (key_chunk 1536 0 12 (by omega) (by omega) _ a w g _ (dot_apply a _) r e (y 0) _ _ h0 (by show (y 1).val / 128 = 12; replace h1 : (y 1).val = 1536 + e.val := h1.trans (by simp [ix2]); omega) (by show (y 1).val % 128 = e.val; replace h1 : (y 1).val = 1536 + e.val := h1.trans (by simp [ix2]); omega))
  · exact (key2_11 _ g r e).trans (key_chunk 1024 384 11 (by omega) (by omega) _ a w g _ (dot_apply a _) r e (y 0) _ _ h0 (by show (y 1).val / 128 = 11; replace h1 : (y 1).val = 1408 + e.val := h1.trans (by simp [ix2]); omega) (by show (y 1).val % 128 = e.val; replace h1 : (y 1).val = 1408 + e.val := h1.trans (by simp [ix2]); omega))
  · exact (key2_10 _ g r e).trans (key_chunk 1024 256 10 (by omega) (by omega) _ a w g _ (dot_apply a _) r e (y 0) _ _ h0 (by show (y 1).val / 128 = 10; replace h1 : (y 1).val = 1280 + e.val := h1.trans (by simp [ix2]); omega) (by show (y 1).val % 128 = e.val; replace h1 : (y 1).val = 1280 + e.val := h1.trans (by simp [ix2]); omega))
  · exact (key2_9 _ g r e).trans (key_chunk 1024 128 9 (by omega) (by omega) _ a w g _ (dot_apply a _) r e (y 0) _ _ h0 (by show (y 1).val / 128 = 9; replace h1 : (y 1).val = 1152 + e.val := h1.trans (by simp [ix2]); omega) (by show (y 1).val % 128 = e.val; replace h1 : (y 1).val = 1152 + e.val := h1.trans (by simp [ix2]); omega))
  · exact (key2_8 a _ g r e).trans (key_chunk 1024 0 8 (by omega) (by omega) _ a w g _ (dot_apply a _) r e (y 0) _ _ h0 (by show (y 1).val / 128 = 8; replace h1 : (y 1).val = 1024 + e.val := h1.trans (by simp [ix2]); omega) (by show (y 1).val % 128 = e.val; replace h1 : (y 1).val = 1024 + e.val := h1.trans (by simp [ix2]); omega))
  · exact (key2_7 _ g r e).trans (key_chunk 512 384 7 (by omega) (by omega) _ a w g _ (dot_apply a _) r e (y 0) _ _ h0 (by show (y 1).val / 128 = 7; replace h1 : (y 1).val = 896 + e.val := h1.trans (by simp [ix2]); omega) (by show (y 1).val % 128 = e.val; replace h1 : (y 1).val = 896 + e.val := h1.trans (by simp [ix2]); omega))
  · exact (key2_6 _ g r e).trans (key_chunk 512 256 6 (by omega) (by omega) _ a w g _ (dot_apply a _) r e (y 0) _ _ h0 (by show (y 1).val / 128 = 6; replace h1 : (y 1).val = 768 + e.val := h1.trans (by simp [ix2]); omega) (by show (y 1).val % 128 = e.val; replace h1 : (y 1).val = 768 + e.val := h1.trans (by simp [ix2]); omega))
  · exact (key2_5 _ g r e).trans (key_chunk 512 128 5 (by omega) (by omega) _ a w g _ (dot_apply a _) r e (y 0) _ _ h0 (by show (y 1).val / 128 = 5; replace h1 : (y 1).val = 640 + e.val := h1.trans (by simp [ix2]); omega) (by show (y 1).val % 128 = e.val; replace h1 : (y 1).val = 640 + e.val := h1.trans (by simp [ix2]); omega))
  · exact (key2_4 a _ g r e).trans (key_chunk 512 0 4 (by omega) (by omega) _ a w g _ (dot_apply a _) r e (y 0) _ _ h0 (by show (y 1).val / 128 = 4; replace h1 : (y 1).val = 512 + e.val := h1.trans (by simp [ix2]); omega) (by show (y 1).val % 128 = e.val; replace h1 : (y 1).val = 512 + e.val := h1.trans (by simp [ix2]); omega))
  · exact (key2_3 _ g r e).trans (key_chunk 0 384 3 (by omega) (by omega) _ a w g _ (dot_apply a _) r e (y 0) _ _ h0 (by show (y 1).val / 128 = 3; replace h1 : (y 1).val = 384 + e.val := h1.trans (by simp [ix2]); omega) (by show (y 1).val % 128 = e.val; replace h1 : (y 1).val = 384 + e.val := h1.trans (by simp [ix2]); omega))
  · exact (key2_2 _ g r e).trans (key_chunk 0 256 2 (by omega) (by omega) _ a w g _ (dot_apply a _) r e (y 0) _ _ h0 (by show (y 1).val / 128 = 2; replace h1 : (y 1).val = 256 + e.val := h1.trans (by simp [ix2]); omega) (by show (y 1).val % 128 = e.val; replace h1 : (y 1).val = 256 + e.val := h1.trans (by simp [ix2]); omega))
  · exact (key2_1 a _ g r e).trans (key_chunk 0 128 1 (by omega) (by omega) _ a w g _ (dot_apply a _) r e (y 0) _ _ h0 (by show (y 1).val / 128 = 1; replace h1 : (y 1).val = 128 + e.val := h1.trans (by simp [ix2]); omega) (by show (y 1).val % 128 = e.val; replace h1 : (y 1).val = 128 + e.val := h1.trans (by simp [ix2]); omega))
  · exact (key2_0 a _ g r e).trans (key_chunk 0 0 0 (by omega) (by omega) _ a w g _ (dot_apply a _) r e (y 0) _ _ h0 (by show (y 1).val / 128 = 0; replace h1 : (y 1).val = 0 + e.val := h1.trans (by simp [ix2]); omega) (by show (y 1).val % 128 = e.val; replace h1 : (y 1).val = 0 + e.val := h1.trans (by simp [ix2]); omega))

theorem atB6_apply (s : PtB) (y : S256x2048.Idx) : (atB6 m c s y : EReal) = valueAt (k0_pay1 (iblk m c 0 s.1) (iblk m c 1 s.1)) (iblk m c 2 s.1) (y 0) (headOf (y 1)) (colOf (y 1)) := by
  unfold atB6
  frame_out
  generalize k0_pay1 (iblk m c 0 s.1) (iblk m c 1 s.1) = a
  generalize iblk m c 2 s.1 = w
  canon_tiles j h
  all_goals
    obtain ⟨r, e, rfl⟩ : ∃ (r : Fin 256) (e : Fin 128), j = ix2 r e := ⟨j 0, j 1, eq_ix2 j⟩
    replace h0 : (y 0).val = r.val := h0
  · exact (plain2_15 _ r e).trans (plain_chunk 3584 384 15 (by omega) (by omega) _ a w _ (dot_apply a _) r e (y 0) _ _ h0 (by show (y 1).val / 128 = 15; replace h1 : (y 1).val = 1920 + e.val := h1.trans (by simp [ix2]); omega) (by show (y 1).val % 128 = e.val; replace h1 : (y 1).val = 1920 + e.val := h1.trans (by simp [ix2]); omega))
  · exact (plain2_14 _ r e).trans (plain_chunk 3584 256 14 (by omega) (by omega) _ a w _ (dot_apply a _) r e (y 0) _ _ h0 (by show (y 1).val / 128 = 14; replace h1 : (y 1).val = 1792 + e.val := h1.trans (by simp [ix2]); omega) (by show (y 1).val % 128 = e.val; replace h1 : (y 1).val = 1792 + e.val := h1.trans (by simp [ix2]); omega))
  · exact (plain2_13 _ r e).trans (plain_chunk 3584 128 13 (by omega) (by omega) _ a w _ (dot_apply a _) r e (y 0) _ _ h0 (by show (y 1).val / 128 = 13; replace h1 : (y 1).val = 1664 + e.val := h1.trans (by simp [ix2]); omega) (by show (y 1).val % 128 = e.val; replace h1 : (y 1).val = 1664 + e.val := h1.trans (by simp [ix2]); omega))
  · exact (plain2_12 a _ r e).trans (plain_chunk 3584 0 12 (by omega) (by omega) _ a w _ (dot_apply a _) r e (y 0) _ _ h0 (by show (y 1).val / 128 = 12; replace h1 : (y 1).val = 1536 + e.val := h1.trans (by simp [ix2]); omega) (by show (y 1).val % 128 = e.val; replace h1 : (y 1).val = 1536 + e.val := h1.trans (by simp [ix2]); omega))
  · exact (plain2_11 _ r e).trans (plain_chunk 3072 384 11 (by omega) (by omega) _ a w _ (dot_apply a _) r e (y 0) _ _ h0 (by show (y 1).val / 128 = 11; replace h1 : (y 1).val = 1408 + e.val := h1.trans (by simp [ix2]); omega) (by show (y 1).val % 128 = e.val; replace h1 : (y 1).val = 1408 + e.val := h1.trans (by simp [ix2]); omega))
  · exact (plain2_10 _ r e).trans (plain_chunk 3072 256 10 (by omega) (by omega) _ a w _ (dot_apply a _) r e (y 0) _ _ h0 (by show (y 1).val / 128 = 10; replace h1 : (y 1).val = 1280 + e.val := h1.trans (by simp [ix2]); omega) (by show (y 1).val % 128 = e.val; replace h1 : (y 1).val = 1280 + e.val := h1.trans (by simp [ix2]); omega))
  · exact (plain2_9 a _ r e).trans (plain_chunk 3072 128 9 (by omega) (by omega) _ a w _ (dot_apply a _) r e (y 0) _ _ h0 (by show (y 1).val / 128 = 9; replace h1 : (y 1).val = 1152 + e.val := h1.trans (by simp [ix2]); omega) (by show (y 1).val % 128 = e.val; replace h1 : (y 1).val = 1152 + e.val := h1.trans (by simp [ix2]); omega))
  · exact (plain2_8 a _ r e).trans (plain_chunk 3072 0 8 (by omega) (by omega) _ a w _ (dot_apply a _) r e (y 0) _ _ h0 (by show (y 1).val / 128 = 8; replace h1 : (y 1).val = 1024 + e.val := h1.trans (by simp [ix2]); omega) (by show (y 1).val % 128 = e.val; replace h1 : (y 1).val = 1024 + e.val := h1.trans (by simp [ix2]); omega))
  · exact (plain2_7 _ r e).trans (plain_chunk 2560 384 7 (by omega) (by omega) _ a w _ (dot_apply a _) r e (y 0) _ _ h0 (by show (y 1).val / 128 = 7; replace h1 : (y 1).val = 896 + e.val := h1.trans (by simp [ix2]); omega) (by show (y 1).val % 128 = e.val; replace h1 : (y 1).val = 896 + e.val := h1.trans (by simp [ix2]); omega))
  · exact (plain2_6 _ r e).trans (plain_chunk 2560 256 6 (by omega) (by omega) _ a w _ (dot_apply a _) r e (y 0) _ _ h0 (by show (y 1).val / 128 = 6; replace h1 : (y 1).val = 768 + e.val := h1.trans (by simp [ix2]); omega) (by show (y 1).val % 128 = e.val; replace h1 : (y 1).val = 768 + e.val := h1.trans (by simp [ix2]); omega))
  · exact (plain2_5 a _ r e).trans (plain_chunk 2560 128 5 (by omega) (by omega) _ a w _ (dot_apply a _) r e (y 0) _ _ h0 (by show (y 1).val / 128 = 5; replace h1 : (y 1).val = 640 + e.val := h1.trans (by simp [ix2]); omega) (by show (y 1).val % 128 = e.val; replace h1 : (y 1).val = 640 + e.val := h1.trans (by simp [ix2]); omega))
  · exact (plain2_4 a _ r e).trans (plain_chunk 2560 0 4 (by omega) (by omega) _ a w _ (dot_apply a _) r e (y 0) _ _ h0 (by show (y 1).val / 128 = 4; replace h1 : (y 1).val = 512 + e.val := h1.trans (by simp [ix2]); omega) (by show (y 1).val % 128 = e.val; replace h1 : (y 1).val = 512 + e.val := h1.trans (by simp [ix2]); omega))
  · exact (plain2_3 _ r e).trans (plain_chunk 2048 384 3 (by omega) (by omega) _ a w _ (dot_apply a _) r e (y 0) _ _ h0 (by show (y 1).val / 128 = 3; replace h1 : (y 1).val = 384 + e.val := h1.trans (by simp [ix2]); omega) (by show (y 1).val % 128 = e.val; replace h1 : (y 1).val = 384 + e.val := h1.trans (by simp [ix2]); omega))
  · exact (plain2_2 _ r e).trans (plain_chunk 2048 256 2 (by omega) (by omega) _ a w _ (dot_apply a _) r e (y 0) _ _ h0 (by show (y 1).val / 128 = 2; replace h1 : (y 1).val = 256 + e.val := h1.trans (by simp [ix2]); omega) (by show (y 1).val % 128 = e.val; replace h1 : (y 1).val = 256 + e.val := h1.trans (by simp [ix2]); omega))
  · exact (plain2_1 a _ r e).trans (plain_chunk 2048 128 1 (by omega) (by omega) _ a w _ (dot_apply a _) r e (y 0) _ _ h0 (by show (y 1).val / 128 = 1; replace h1 : (y 1).val = 128 + e.val := h1.trans (by simp [ix2]); omega) (by show (y 1).val % 128 = e.val; replace h1 : (y 1).val = 128 + e.val := h1.trans (by simp [ix2]); omega))
  · exact (plain2_0 a _ r e).trans (plain_chunk 2048 0 0 (by omega) (by omega) _ a w _ (dot_apply a _) r e (y 0) _ _ h0 (by show (y 1).val / 128 = 0; replace h1 : (y 1).val = 0 + e.val := h1.trans (by simp [ix2]); omega) (by show (y 1).val % 128 = e.val; replace h1 : (y 1).val = 0 + e.val := h1.trans (by simp [ix2]); omega))

theorem atB10_apply (s : PtB) (y : S1x256x16x128.Idx) : (atB10 m c s y : EReal) = keyAt (k0_pay1 (iblk m c 0 s.1) (iblk m c 1 s.1)) (iblk m c 2 s.1) (iblk m c 3 s.1) (y 1) (y 2) (y 3) := by
  unfold atB10
  frame_out
  generalize k0_pay1 (iblk m c 0 s.1) (iblk m c 1 s.1) = a
  generalize iblk m c 2 s.1 = w
  generalize iblk m c 3 s.1 = g
  canon_tiles j h
  all_goals
    obtain ⟨z, r, q, e, rfl⟩ : ∃ (z : Fin 1) (r : Fin 256) (q : Fin 1) (e : Fin 128), j = ix4 z r q e := ⟨j 0, j 1, j 2, j 3, eq_ix4 j⟩
    obtain rfl : z = 0 := Subsingleton.elim _ _
    obtain rfl : q = 0 := Subsingleton.elim _ _
  · exact (key4_15 _ g r e).trans (key_chunk 1536 384 15 (by omega) (by omega) _ a w g _ (dot_apply a _) r e (y 1) (y 2) (y 3) (h1.trans (by simp [ix4])) (h2.trans (by simp [ix4])) (h3.trans (by simp [ix4])))
  · exact (key4_14 _ g r e).trans (key_chunk 1536 256 14 (by omega) (by omega) _ a w g _ (dot_apply a _) r e (y 1) (y 2) (y 3) (h1.trans (by simp [ix4])) (h2.trans (by simp [ix4])) (h3.trans (by simp [ix4])))
  · exact (key4_13 a _ g r e).trans (key_chunk 1536 128 13 (by omega) (by omega) _ a w g _ (dot_apply a _) r e (y 1) (y 2) (y 3) (h1.trans (by simp [ix4])) (h2.trans (by simp [ix4])) (h3.trans (by simp [ix4])))
  · exact (key4_12 a _ g r e).trans (key_chunk 1536 0 12 (by omega) (by omega) _ a w g _ (dot_apply a _) r e (y 1) (y 2) (y 3) (h1.trans (by simp [ix4])) (h2.trans (by simp [ix4])) (h3.trans (by simp [ix4])))
  · exact (key4_11 _ g r e).trans (key_chunk 1024 384 11 (by omega) (by omega) _ a w g _ (dot_apply a _) r e (y 1) (y 2) (y 3) (h1.trans (by simp [ix4])) (h2.trans (by simp [ix4])) (h3.trans (by simp [ix4])))
  · exact (key4_10 _ g r e).trans (key_chunk 1024 256 10 (by omega) (by omega) _ a w g _ (dot_apply a _) r e (y 1) (y 2) (y 3) (h1.trans (by simp [ix4])) (h2.trans (by simp [ix4])) (h3.trans (by simp [ix4])))
  · exact (key4_9 _ g r e).trans (key_chunk 1024 128 9 (by omega) (by omega) _ a w g _ (dot_apply a _) r e (y 1) (y 2) (y 3) (h1.trans (by simp [ix4])) (h2.trans (by simp [ix4])) (h3.trans (by simp [ix4])))
  · exact (key4_8 a _ g r e).trans (key_chunk 1024 0 8 (by omega) (by omega) _ a w g _ (dot_apply a _) r e (y 1) (y 2) (y 3) (h1.trans (by simp [ix4])) (h2.trans (by simp [ix4])) (h3.trans (by simp [ix4])))
  · exact (key4_7 _ g r e).trans (key_chunk 512 384 7 (by omega) (by omega) _ a w g _ (dot_apply a _) r e (y 1) (y 2) (y 3) (h1.trans (by simp [ix4])) (h2.trans (by simp [ix4])) (h3.trans (by simp [ix4])))
  · exact (key4_6 _ g r e).trans (key_chunk 512 256 6 (by omega) (by omega) _ a w g _ (dot_apply a _) r e (y 1) (y 2) (y 3) (h1.trans (by simp [ix4])) (h2.trans (by simp [ix4])) (h3.trans (by simp [ix4])))
  · exact (key4_5 _ g r e).trans (key_chunk 512 128 5 (by omega) (by omega) _ a w g _ (dot_apply a _) r e (y 1) (y 2) (y 3) (h1.trans (by simp [ix4])) (h2.trans (by simp [ix4])) (h3.trans (by simp [ix4])))
  · exact (key4_4 a _ g r e).trans (key_chunk 512 0 4 (by omega) (by omega) _ a w g _ (dot_apply a _) r e (y 1) (y 2) (y 3) (h1.trans (by simp [ix4])) (h2.trans (by simp [ix4])) (h3.trans (by simp [ix4])))
  · exact (key4_3 _ g r e).trans (key_chunk 0 384 3 (by omega) (by omega) _ a w g _ (dot_apply a _) r e (y 1) (y 2) (y 3) (h1.trans (by simp [ix4])) (h2.trans (by simp [ix4])) (h3.trans (by simp [ix4])))
  · exact (key4_2 _ g r e).trans (key_chunk 0 256 2 (by omega) (by omega) _ a w g _ (dot_apply a _) r e (y 1) (y 2) (y 3) (h1.trans (by simp [ix4])) (h2.trans (by simp [ix4])) (h3.trans (by simp [ix4])))
  · exact (key4_1 a _ g r e).trans (key_chunk 0 128 1 (by omega) (by omega) _ a w g _ (dot_apply a _) r e (y 1) (y 2) (y 3) (h1.trans (by simp [ix4])) (h2.trans (by simp [ix4])) (h3.trans (by simp [ix4])))
  · exact (key4_0 a _ g r e).trans (key_chunk 0 0 0 (by omega) (by omega) _ a w g _ (dot_apply a _) r e (y 1) (y 2) (y 3) (h1.trans (by simp [ix4])) (h2.trans (by simp [ix4])) (h3.trans (by simp [ix4])))

theorem atB11_apply (s : PtB) (y : S1x256x16x128.Idx) : (atB11 m c s y : EReal) = valueAt (k0_pay1 (iblk m c 0 s.1) (iblk m c 1 s.1)) (iblk m c 2 s.1) (y 1) (y 2) (y 3) := by
  unfold atB11
  frame_out
  generalize k0_pay1 (iblk m c 0 s.1) (iblk m c 1 s.1) = a
  generalize iblk m c 2 s.1 = w
  canon_tiles j h
  all_goals
    obtain ⟨z, r, q, e, rfl⟩ : ∃ (z : Fin 1) (r : Fin 256) (q : Fin 1) (e : Fin 128), j = ix4 z r q e := ⟨j 0, j 1, j 2, j 3, eq_ix4 j⟩
    obtain rfl : z = 0 := Subsingleton.elim _ _
    obtain rfl : q = 0 := Subsingleton.elim _ _
  · exact (plain4_15 _ r e).trans (plain_chunk 3584 384 15 (by omega) (by omega) _ a w _ (dot_apply a _) r e (y 1) (y 2) (y 3) (h1.trans (by simp [ix4])) (h2.trans (by simp [ix4])) (h3.trans (by simp [ix4])))
  · exact (plain4_14 _ r e).trans (plain_chunk 3584 256 14 (by omega) (by omega) _ a w _ (dot_apply a _) r e (y 1) (y 2) (y 3) (h1.trans (by simp [ix4])) (h2.trans (by simp [ix4])) (h3.trans (by simp [ix4])))
  · exact (plain4_13 _ r e).trans (plain_chunk 3584 128 13 (by omega) (by omega) _ a w _ (dot_apply a _) r e (y 1) (y 2) (y 3) (h1.trans (by simp [ix4])) (h2.trans (by simp [ix4])) (h3.trans (by simp [ix4])))
  · exact (plain4_12 a _ r e).trans (plain_chunk 3584 0 12 (by omega) (by omega) _ a w _ (dot_apply a _) r e (y 1) (y 2) (y 3) (h1.trans (by simp [ix4])) (h2.trans (by simp [ix4])) (h3.trans (by simp [ix4])))
  · exact (plain4_11 _ r e).trans (plain_chunk 3072 384 11 (by omega) (by omega) _ a w _ (dot_apply a _) r e (y 1) (y 2) (y 3) (h1.trans (by simp [ix4])) (h2.trans (by simp [ix4])) (h3.trans (by simp [ix4])))
  · exact (plain4_10 _ r e).trans (plain_chunk 3072 256 10 (by omega) (by omega) _ a w _ (dot_apply a _) r e (y 1) (y 2) (y 3) (h1.trans (by simp [ix4])) (h2.trans (by simp [ix4])) (h3.trans (by simp [ix4])))
  · exact (plain4_9 a _ r e).trans (plain_chunk 3072 128 9 (by omega) (by omega) _ a w _ (dot_apply a _) r e (y 1) (y 2) (y 3) (h1.trans (by simp [ix4])) (h2.trans (by simp [ix4])) (h3.trans (by simp [ix4])))
  · exact (plain4_8 a _ r e).trans (plain_chunk 3072 0 8 (by omega) (by omega) _ a w _ (dot_apply a _) r e (y 1) (y 2) (y 3) (h1.trans (by simp [ix4])) (h2.trans (by simp [ix4])) (h3.trans (by simp [ix4])))
  · exact (plain4_7 _ r e).trans (plain_chunk 2560 384 7 (by omega) (by omega) _ a w _ (dot_apply a _) r e (y 1) (y 2) (y 3) (h1.trans (by simp [ix4])) (h2.trans (by simp [ix4])) (h3.trans (by simp [ix4])))
  · exact (plain4_6 _ r e).trans (plain_chunk 2560 256 6 (by omega) (by omega) _ a w _ (dot_apply a _) r e (y 1) (y 2) (y 3) (h1.trans (by simp [ix4])) (h2.trans (by simp [ix4])) (h3.trans (by simp [ix4])))
  · exact (plain4_5 a _ r e).trans (plain_chunk 2560 128 5 (by omega) (by omega) _ a w _ (dot_apply a _) r e (y 1) (y 2) (y 3) (h1.trans (by simp [ix4])) (h2.trans (by simp [ix4])) (h3.trans (by simp [ix4])))
  · exact (plain4_4 a _ r e).trans (plain_chunk 2560 0 4 (by omega) (by omega) _ a w _ (dot_apply a _) r e (y 1) (y 2) (y 3) (h1.trans (by simp [ix4])) (h2.trans (by simp [ix4])) (h3.trans (by simp [ix4])))
  · exact (plain4_3 _ r e).trans (plain_chunk 2048 384 3 (by omega) (by omega) _ a w _ (dot_apply a _) r e (y 1) (y 2) (y 3) (h1.trans (by simp [ix4])) (h2.trans (by simp [ix4])) (h3.trans (by simp [ix4])))
  · exact (plain4_2 _ r e).trans (plain_chunk 2048 256 2 (by omega) (by omega) _ a w _ (dot_apply a _) r e (y 1) (y 2) (y 3) (h1.trans (by simp [ix4])) (h2.trans (by simp [ix4])) (h3.trans (by simp [ix4])))
  · exact (plain4_1 a _ r e).trans (plain_chunk 2048 128 1 (by omega) (by omega) _ a w _ (dot_apply a _) r e (y 1) (y 2) (y 3) (h1.trans (by simp [ix4])) (h2.trans (by simp [ix4])) (h3.trans (by simp [ix4])))
  · exact (plain4_0 a _ r e).trans (plain_chunk 2048 0 0 (by omega) (by omega) _ a w _ (dot_apply a _) r e (y 1) (y 2) (y 3) (h1.trans (by simp [ix4])) (h2.trans (by simp [ix4])) (h3.trans (by simp [ix4])))

theorem atB12_apply (s : PtB) (y : S1x256x16.Idx) : (atB12 m c s y : EReal) = gateAt (k0_pay1 (iblk m c 0 s.1) (iblk m c 1 s.1)) (iblk m c 2 s.1) (iblk m c 4 s.1) (y 1) (y 2) := by
  unfold atB12
  frame_out
  generalize k0_pay1 (iblk m c 0 s.1) (iblk m c 1 s.1) = a
  generalize iblk m c 2 s.1 = w
  generalize iblk m c 4 s.1 = b
  canon_tiles j h
  obtain ⟨z, r, e, rfl⟩ : ∃ (z : Fin 1) (r : Fin 256) (e : Fin 16), j = ix3 z r e := ⟨j 0, j 1, j 2, eq_ix3 j⟩
  obtain rfl : z = 0 := Subsingleton.elim _ _
  exact (gate_apply _ r e).trans (gate_chunk _ a w b _ (gateDot_apply a _ b) r e (y 1) (y 2) (h1.trans (by simp [ix3])) (h2.trans (by simp [ix3])))

end Cert.Kernel5Ideal.Hand

end
-- ==== Proof.KvFinal.lean ====
module

public import proofs.«01_k».proof.Proof.KvOut
public import Idealize.ShloMosaic.Lib.Pipeline.ValueKit
public import Idealize.ShloMosaic.Lib.KernelVsHost

@[expose] public section

set_option maxRecDepth 16384
set_option maxHeartbeats 400000

/-! The keys, values and gates: each result array of the program, entry by entry. -/

noncomputable section

namespace Cert.Kernel5Ideal.Hand

open Cert.Kernel5Ideal.Gen
open Idealize.ShloMosaic Idealize.ShloMosaic.TcCoe Idealize.ShloMosaic.Tactic

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0]
    ∧ win0_7.index t = ![1, min t.val 127, 0, 0] ∧ win0_8.index t = ![1, min t.val 127, 0, 0] ∧ win0_9.index t = ![1, min t.val 127, 0]
    ∧ win0_10.index t = ![1, max t.val 128 - 128, 0, 0] ∧ win0_11.index t = ![1, max t.val 128 - 128, 0, 0] ∧ win0_12.index t = ![1, max t.val 128 - 128, 0] ∧ t.val < 130 := (by decide +kernel : ∀ t : Fin grid0.N, _)

theorem lt130 (t : Fin cfg0.N) : t.val < 130 := (idx t).2.2.2.2.2.2.2.2.2.2.2.2.2

theorem x_entry (r : Fin 33280) (e : Fin 2048) : (V m c main_v5 (ix2 r e) : EReal)
    = Rows.joined (m ((c.tc : Thread nD τ).loc main_arg0)) (m ((c.tc : Thread nD τ).loc main_arg1)) r e := by
  simp only [V, hostOps0, hostOps0_1, hostOps0_2, hostOps0_3, hostOps0_4, List.flatten_cons, List.flatten_nil, List.append_nil, List.cons_append, List.nil_append]
  entry_read
  refine Rows.concatenate_apply _ _ _ _ _ (fun r k => ?_) (fun r k => ?_) r e
  · pointwise
  · pointwise

theorem g_entry (k : Fin 2048) : (V m c main_v6 (ix2 0 k) : EReal) = m ((c.tc : Thread nD τ).loc main_arg2) (ix1 k) := by
  simp only [V, hostOps0, hostOps0_1, hostOps0_2, hostOps0_3, hostOps0_4, List.flatten_cons, List.flatten_nil, List.append_nil, List.cons_append, List.nil_append]
  entry_read
  pointwise

theorem w_entry (k : Fin 2048) (e : ℕ) (he : e < 4112) : (V m c main_v2 (ix2 k (⟨e, by omega⟩ : Fin 4224)) : EReal)
    = m ((c.tc : Thread nD τ).loc main_arg3) (ix2 k (⟨2048 + e, by omega⟩ : Fin 6160)) := by
  simp only [V, hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  refine (pad_apply_of_inside ![0, 0] ![0, 112] ![0, 0] _ _ pads_S2048x4112_S2048x4224_000_01120 h_S_ (ix2 k (⟨e, by omega⟩ : Fin 4224)) (ix2 k (⟨e, he⟩ : Fin 4112)) (fun a => by fin_cases a <;> simp)).trans ?_
  pointwise

theorem h_entry (d : Fin 128) : (V m c main_v7 (ix2 0 d) : EReal) = m ((c.tc : Thread nD τ).loc main_arg4) (ix1 d) := by
  simp only [V, hostOps0, hostOps0_1, hostOps0_2, hostOps0_3, hostOps0_4, List.flatten_cons, List.flatten_nil, List.append_nil, List.cons_append, List.nil_append]
  entry_read
  pointwise

theorem b_entry (d : Fin 16) : (V m c main_v9 (ix2 0 (⟨d.val, by omega⟩ : Fin 128)) : EReal) = m ((c.tc : Thread nD τ).loc main_arg5) (ix1 d) := by
  simp only [V, hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  have hs : ∀ f : S128.Idx → EReal, shapeCast S1x128 f shapeCasts_S128_S1x128 (ix2 0 (⟨d.val, by omega⟩ : Fin 128)) = f (ix1 (⟨d.val, by omega⟩ : Fin 128)) := by
    intro f
    pointwise
  refine (hs _).trans ?_
  refine (pad_apply_of_inside ![0] ![112] ![0] _ _ pads_S16_S128_01120 h_S_ (ix1 (⟨d.val, by omega⟩ : Fin 128)) (ix1 d) (fun a => by fin_cases a; simp)).trans ?_
  try rfl

theorem block0 (t : Fin cfg0.N) (r : Fin 256) (k : Fin 2048) : (iblk m c 0 t (ix2 r k) : EReal)
    = V m c main_v5 (ix2 (⟨256 * t.val + r.val, by have := lt130 t; omega⟩ : Fin 33280) k) := by
  blk_ext [iblk, idx t]

theorem block1 (t : Fin cfg0.N) (k : Fin 2048) : (iblk m c 1 t (ix2 0 k) : EReal) = V m c main_v6 (ix2 0 k) := by
  blk_ext [iblk, idx t]

theorem block2 (t : Fin cfg0.N) (k : Fin 2048) (e : Fin 4224) : (iblk m c 2 t (ix2 k e) : EReal) = V m c main_v2 (ix2 k e) := by
  blk_ext [iblk, idx t]

theorem block3 (t : Fin cfg0.N) (d : Fin 128) : (iblk m c 3 t (ix2 0 d) : EReal) = V m c main_v7 (ix2 0 d) := by
  blk_ext [iblk, idx t]

theorem block4 (t : Fin cfg0.N) (d : Fin 128) : (iblk m c 4 t (ix2 0 d) : EReal) = V m c main_v9 (ix2 0 d) := by
  blk_ext [iblk, idx t]

/-- The normed row `f` against a column of the weights. -/
def column (g : S2048.Idx → EReal) (w : S2048x6160.Idx → EReal) (f : Fin 2048 → EReal) (e : Fin 6160) : EReal :=
  ∑ k : Fin 2048, Rms.rms Rms.count2048 f (fun k => g (ix1 k)) k * w (ix2 k e)

/-- A key: the normed row `f` against the columns of a key head, normed. -/
def keyRow (g : S2048.Idx → EReal) (w : S2048x6160.Idx → EReal) (h : S128.Idx → EReal) (f : Fin 2048 → EReal) (q : Fin 16) (e : Fin 128) : EReal :=
  Rms.rms Rms.count128 (fun d : Fin 128 => column g w f (⟨2048 + (128 * q.val + d.val), by omega⟩ : Fin 6160)) (fun d => h (ix1 d)) e

/-- A value: the normed row `f` against a column of a value head. -/
def valueRow (g : S2048.Idx → EReal) (w : S2048x6160.Idx → EReal) (f : Fin 2048 → EReal) (q : Fin 16) (e : Fin 128) : EReal :=
  column g w f (⟨2048 + (2048 + (128 * q.val + e.val)), by omega⟩ : Fin 6160)

/-- A gate: the normed row `f` against a head's gate column, with its bias, through the logarithm of the logistic function. -/
def gateRow (g : S2048.Idx → EReal) (w : S2048x6160.Idx → EReal) (b : S16.Idx → EReal) (f : Fin 2048 → EReal) (q : Fin 16) : EReal :=
  gate (column g w f (⟨2048 + (4096 + q.val), by omega⟩ : Fin 6160) + b (ix1 q))

/-- A row of the prompt. -/
def promptRow (x : S8x4096x2048.Idx → EReal) (r : Fin 32768) (k : Fin 2048) : EReal :=
  x (ix3 (⟨r.val / 4096, by omega⟩ : Fin 8) (⟨r.val % 4096, by omega⟩ : Fin 4096) k)

/-- A row of the sample. -/
def sampleRow (x : S32x16x2048.Idx → EReal) (r : Fin 512) (k : Fin 2048) : EReal :=
  x (ix3 (⟨r.val / 16, by omega⟩ : Fin 32) (⟨r.val % 16, by omega⟩ : Fin 16) k)

theorem dot_entry (t : Fin cfg0.N) (r : Fin 256) (e : ℕ) (he : e < 4112) :
    (∑ k : Fin 2048, (k0_pay1 (iblk m c 0 t) (iblk m c 1 t) (ix2 r k) : EReal) * iblk m c 2 t (ix2 k (⟨e, by omega⟩ : Fin 4224)))
      = column (m ((c.tc : Thread nD τ).loc main_arg2)) (m ((c.tc : Thread nD τ).loc main_arg3))
          (Rows.joined (m ((c.tc : Thread nD τ).loc main_arg0)) (m ((c.tc : Thread nD τ).loc main_arg1)) (⟨256 * t.val + r.val, by have := lt130 t; omega⟩ : Fin 33280))
          (⟨2048 + e, by omega⟩ : Fin 6160) := by
  refine Finset.sum_congr rfl fun k _ => congrArg₂ (· * ·) ?_ ((block2 m c t k _).trans (w_entry m c k e he))
  refine (rows_apply _ _ r k).trans (Rms.rms_congr _ (fun k => ?_) (fun k => ?_) k)
  · exact (block0 m c t r k).trans (x_entry m c _ _)
  · exact (block1 m c t k).trans (g_entry m c k)

theorem key_entry (t : Fin cfg0.N) (r : Fin 256) (q : Fin 16) (e : Fin 128) :
    keyAt (k0_pay1 (iblk m c 0 t) (iblk m c 1 t)) (iblk m c 2 t) (iblk m c 3 t) r q e
      = keyRow (m ((c.tc : Thread nD τ).loc main_arg2)) (m ((c.tc : Thread nD τ).loc main_arg3)) (m ((c.tc : Thread nD τ).loc main_arg4))
          (Rows.joined (m ((c.tc : Thread nD τ).loc main_arg0)) (m ((c.tc : Thread nD τ).loc main_arg1)) (⟨256 * t.val + r.val, by have := lt130 t; omega⟩ : Fin 33280)) q e :=
  Rms.rms_congr _ (fun d => dot_entry m c t r (128 * q.val + d.val) (by omega)) (fun d => (block3 m c t d).trans (h_entry m c d)) e

theorem value_entry (t : Fin cfg0.N) (r : Fin 256) (q : Fin 16) (e : Fin 128) :
    valueAt (k0_pay1 (iblk m c 0 t) (iblk m c 1 t)) (iblk m c 2 t) r q e
      = valueRow (m ((c.tc : Thread nD τ).loc main_arg2)) (m ((c.tc : Thread nD τ).loc main_arg3))
          (Rows.joined (m ((c.tc : Thread nD τ).loc main_arg0)) (m ((c.tc : Thread nD τ).loc main_arg1)) (⟨256 * t.val + r.val, by have := lt130 t; omega⟩ : Fin 33280)) q e :=
  dot_entry m c t r (2048 + (128 * q.val + e.val)) (by omega)

theorem gate_entry (t : Fin cfg0.N) (r : Fin 256) (q : Fin 16) :
    gateAt (k0_pay1 (iblk m c 0 t) (iblk m c 1 t)) (iblk m c 2 t) (iblk m c 4 t) r q
      = gateRow (m ((c.tc : Thread nD τ).loc main_arg2)) (m ((c.tc : Thread nD τ).loc main_arg3)) (m ((c.tc : Thread nD τ).loc main_arg5))
          (Rows.joined (m ((c.tc : Thread nD τ).loc main_arg0)) (m ((c.tc : Thread nD τ).loc main_arg1)) (⟨256 * t.val + r.val, by have := lt130 t; omega⟩ : Fin 33280)) q :=
  congrArg gate (congrArg₂ (· + ·) (dot_entry m c t r (4096 + q.val) (by omega)) ((block4 m c t _).trans (b_entry m c q)))

theorem prompt_row (x0 : S8x4096x2048.Idx → EReal) (x1 : S32x16x2048.Idx → EReal) (R : Fin 33280) (r : Fin 32768) (h : R.val = r.val) : Rows.joined x0 x1 R = promptRow x0 r :=
  funext fun k => Rows.joined_prompt x0 x1 R k _ _ (by show R.val = 4096 * (r.val / 4096) + r.val % 4096; omega)

theorem sample_row (x0 : S8x4096x2048.Idx → EReal) (x1 : S32x16x2048.Idx → EReal) (R : Fin 33280) (r : Fin 512) (h : R.val = 32768 + r.val) : Rows.joined x0 x1 R = sampleRow x1 r :=
  funext fun k => Rows.joined_sample x0 x1 R k _ _ (by show R.val = 32768 + 16 * (r.val / 16) + r.val % 16; omega)

/-! ## The results -/

/-- The keys of the joined rows, one row for each position. -/
def keysResult (x0 : S8x4096x2048.Idx → EReal) (x1 : S32x16x2048.Idx → EReal) (g : S2048.Idx → EReal) (w : S2048x6160.Idx → EReal) (h : S128.Idx → EReal) (y : S33280x2048.Idx) : EReal :=
  keyRow g w h (Rows.joined x0 x1 (y 0)) (headOf (y 1)) (colOf (y 1))

/-- The values of the joined rows, one row for each position. -/
def valuesResult (x0 : S8x4096x2048.Idx → EReal) (x1 : S32x16x2048.Idx → EReal) (g : S2048.Idx → EReal) (w : S2048x6160.Idx → EReal) (y : S33280x2048.Idx) : EReal :=
  valueRow g w (Rows.joined x0 x1 (y 0)) (headOf (y 1)) (colOf (y 1))

/-- The prompt's keys in the second layer, the first layer's as they were. -/
def promptKeys (x : S8x4096x2048.Idx → EReal) (g : S2048.Idx → EReal) (w : S2048x6160.Idx → EReal) (h : S128.Idx → EReal) (p : S2x32768x16x128.Idx → EReal) (y : S2x32768x16x128.Idx) : EReal :=
  if (y 0).val = 1 then keyRow g w h (promptRow x (y 1)) (y 2) (y 3) else p y

/-- The prompt's values in the second layer, the first layer's as they were. -/
def promptValues (x : S8x4096x2048.Idx → EReal) (g : S2048.Idx → EReal) (w : S2048x6160.Idx → EReal) (p : S2x32768x16x128.Idx → EReal) (y : S2x32768x16x128.Idx) : EReal :=
  if (y 0).val = 1 then valueRow g w (promptRow x (y 1)) (y 2) (y 3) else p y

/-- The prompt's gates in the second layer, the first layer's as they were. -/
def promptGates (x : S8x4096x2048.Idx → EReal) (g : S2048.Idx → EReal) (w : S2048x6160.Idx → EReal) (b : S16.Idx → EReal) (p : S2x32768x16.Idx → EReal) (y : S2x32768x16.Idx) : EReal :=
  if (y 0).val = 1 then gateRow g w b (promptRow x (y 1)) (y 2) else p y

/-- The sample's keys in the second layer, the first layer's as they were. -/
def sampleKeys (x : S32x16x2048.Idx → EReal) (g : S2048.Idx → EReal) (w : S2048x6160.Idx → EReal) (h : S128.Idx → EReal) (p : S2x512x16x128.Idx → EReal) (y : S2x512x16x128.Idx) : EReal :=
  if (y 0).val = 1 then keyRow g w h (sampleRow x (y 1)) (y 2) (y 3) else p y

/-- The sample's values in the second layer, the first layer's as they were. -/
def sampleValues (x : S32x16x2048.Idx → EReal) (g : S2048.Idx → EReal) (w : S2048x6160.Idx → EReal) (p : S2x512x16x128.Idx → EReal) (y : S2x512x16x128.Idx) : EReal :=
  if (y 0).val = 1 then valueRow g w (sampleRow x (y 1)) (y 2) (y 3) else p y

/-- The sample's gates in the second layer, the first layer's as they were. -/
def sampleGates (x : S32x16x2048.Idx → EReal) (g : S2048.Idx → EReal) (w : S2048x6160.Idx → EReal) (b : S16.Idx → EReal) (p : S2x512x16.Idx → EReal) (y : S2x512x16.Idx) : EReal :=
  if (y 0).val = 1 then gateRow g w b (sampleRow x (y 1)) (y 2) else p y

theorem final5 : (dats m 0 c).arrAt 5 cfg0.N = keysResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  rw [after5]
  blk_simp
  have e0 : ((win0_5.blk t).view.emb y 0 : ℕ) = 256 * t.val + (y 0).val := by blk_simp [idx t]; omega
  have e1 : ((win0_5.blk t).view.emb y 1 : ℕ) = (y 1).val := by blk_simp [idx t]
  generalize (win0_5.blk t).view.emb y = z at e0 e1 ⊢
  have hz : z 0 = (⟨256 * t.val + (y 0).val, e0 ▸ (z 0).isLt⟩ : Fin 33280) := Fin.ext e0
  have he : (y 1 : Fin 2048) = z 1 := Fin.ext e1.symm
  unfold keysResult
  rw [hz, ← he]
  by_cases h : t.val < 128
  · rw [o5_A m c t h]
    exact (atA5_apply m c _ y).trans (key_entry m c t (y 0) _ _)
  · rw [o5_B m c t (Nat.le_of_not_lt h)]
    exact (atB5_apply m c _ y).trans (key_entry m c t (y 0) _ _)

theorem final6 : (dats m 0 c).arrAt 6 cfg0.N = valuesResult (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  rw [after6]
  blk_simp
  have e0 : ((win0_6.blk t).view.emb y 0 : ℕ) = 256 * t.val + (y 0).val := by blk_simp [idx t]; omega
  have e1 : ((win0_6.blk t).view.emb y 1 : ℕ) = (y 1).val := by blk_simp [idx t]
  generalize (win0_6.blk t).view.emb y = z at e0 e1 ⊢
  have hz : z 0 = (⟨256 * t.val + (y 0).val, e0 ▸ (z 0).isLt⟩ : Fin 33280) := Fin.ext e0
  have he : (y 1 : Fin 2048) = z 1 := Fin.ext e1.symm
  unfold valuesResult
  rw [hz, ← he]
  by_cases h : t.val < 128
  · rw [o6_A m c t h]
    exact (atA6_apply m c _ y).trans (value_entry m c t (y 0) _ _)
  · rw [o6_B m c t (Nat.le_of_not_lt h)]
    exact (atB6_apply m c _ y).trans (value_entry m c t (y 0) _ _)

theorem entry7 : V m c main_v10_2 = m ((c.tc : Thread nD τ).loc main_arg6) := by
  simp only [V, hostOps0, hostOps0_1, hostOps0_2, hostOps0_3, hostOps0_4, List.flatten_cons, List.flatten_nil, List.append_nil, List.cons_append, List.nil_append]
  entry_read
  rfl

theorem final7 : (dats m 0 c).arrAt 7 cfg0.N = promptKeys (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) := by
  refine (dats m 0 c).arrAt_eq_of_coversWhere_of_agree 7 _ (fun β => β (0 : Fin _) = 1) (by decide +kernel) (fun t hf y => ?_) (fun j hj => ?_)
  · rw [after7]
    blk_simp
    have e0 : ((win0_7.blk t).view.emb y 0 : ℕ) = 1 := by blk_simp [idx t]
    have e1 : ((win0_7.blk t).view.emb y 1 : ℕ) = 256 * (min t.val 127) + (y 1).val := by blk_simp [idx t]; omega
    have e2 : ((win0_7.blk t).view.emb y 2 : ℕ) = (y 2).val := by blk_simp [idx t]
    have e3 : ((win0_7.blk t).view.emb y 3 : ℕ) = (y 3).val := by blk_simp [idx t]
    generalize (win0_7.blk t).view.emb y = z at e0 e1 e2 e3 ⊢
    have h2 : (y 2 : Fin 16) = z 2 := Fin.ext e2.symm
    have h3 : (y 3 : Fin 128) = z 3 := Fin.ext e3.symm
    unfold promptKeys o7
    rw [if_pos e0, ← h2, ← h3]
    refine (atA7_apply m c _ y).trans ((key_entry m c (lastA t).1 (y 1) _ _).trans ?_)
    rw [prompt_row _ _ _ (z 1) (e1.symm)]
  · have hj0 : ¬(((cfg0.win 7).arr.view.emb j 0 : ℕ) = 1) := by
      blk_simp [Pipeline.Window.cell_apply] at hj ⊢
      omega
    unfold promptKeys
    rw [if_neg hj0]
    exact congrFun (entry7 m c) _

theorem entry8 : V m c main_v10_3 = m ((c.tc : Thread nD τ).loc main_arg7) := by
  simp only [V, hostOps0, hostOps0_1, hostOps0_2, hostOps0_3, hostOps0_4, List.flatten_cons, List.flatten_nil, List.append_nil, List.cons_append, List.nil_append]
  entry_read
  rfl

theorem final8 : (dats m 0 c).arrAt 8 cfg0.N = promptValues (m ((c.tc : Thread nD τ).loc main_arg0)) (m ((c.tc : Thread nD τ).loc main_arg2)) (m ((c.tc : Thread nD τ).loc main_arg3)) (m ((c.tc : Thread nD τ).loc main_arg7)) := by
  refine (dats m 0 c).arrAt_eq_of_coversWhere_of_agree 8 _ (fun β => β (0 : Fin _) = 1) (by decide +kernel) (fun t hf y => ?_) (fun j hj => ?_)
  · rw [after8]
    blk_simp
    have e0 : ((win0_8.blk t).view.emb y 0 : ℕ) = 1 := by blk_simp [idx t]
    have e1 : ((win0_8.blk t).view.emb y 1 : ℕ) = 256 * (min t.val 127) + (y 1).val := by blk_simp [idx t]; omega
    have e2 : ((win0_8.blk t).view.emb y 2 : ℕ) = (y 2).val := by blk_simp [idx t]
    have e3 : ((win0_8.blk t).view.emb y 3 : ℕ) = (y 3).val := by blk_simp [idx t]
    generalize (win0_8.blk t).view.emb y = z at e0 e1 e2 e3 ⊢
    have h2 : (y 2 : Fin 16) = z 2 := Fin.ext e2.symm
    have h3 : (y 3 : Fin 128) = z 3 := Fin.ext e3.symm
    unfold promptValues o8
    rw [if_pos e0, ← h2, ← h3]
    refine (atA8_apply m c _ y).trans ((value_entry m c (lastA t).1 (y 1) _ _).trans ?_)
    rw [prompt_row _ _ _ (z 1) (e1.symm)]
  · have hj0 : ¬(((cfg0.win 8).arr.view.emb j 0 : ℕ) = 1) := by
      blk_simp [Pipeline.Window.cell_apply] at hj ⊢
      omega
    unfold promptValues
    rw [if_neg hj0]
    exact congrFun (entry8 m c) _

theorem entry9 : V m c main_v10_4 = m ((c.tc : Thread nD τ).loc main_arg8) := by
  simp only [V, hostOps0, hostOps0_1, hostOps0_2, hostOps0_3, hostOps0_4, List.flatten_cons, List.flatten_nil, List.append_nil, List.cons_append, List.nil_append]
  entry_read
  rfl

theorem final9 : (dats m 0 c).arrAt 9 cfg0.N = promptGates (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg8)) := by
  refine (dats m 0 c).arrAt_eq_of_coversWhere_of_agree 9 _ (fun β => β (0 : Fin _) = 1) (by decide +kernel) (fun t hf y => ?_) (fun j hj => ?_)
  · rw [after9]
    blk_simp
    have e0 : ((win0_9.blk t).view.emb y 0 : ℕ) = 1 := by blk_simp [idx t]
    have e1 : ((win0_9.blk t).view.emb y 1 : ℕ) = 256 * (min t.val 127) + (y 1).val := by blk_simp [idx t]; omega
    have e2 : ((win0_9.blk t).view.emb y 2 : ℕ) = (y 2).val := by blk_simp [idx t]
    generalize (win0_9.blk t).view.emb y = z at e0 e1 e2 ⊢
    have h2 : (y 2 : Fin 16) = z 2 := Fin.ext e2.symm
    unfold promptGates o9
    rw [if_pos e0, ← h2]
    refine (atA9_apply m c _ y).trans ((gate_entry m c (lastA t).1 (y 1) _).trans ?_)
    rw [prompt_row _ _ _ (z 1) (e1.symm)]
  · have hj0 : ¬(((cfg0.win 9).arr.view.emb j 0 : ℕ) = 1) := by
      blk_simp [Pipeline.Window.cell_apply] at hj ⊢
      omega
    unfold promptGates
    rw [if_neg hj0]
    exact congrFun (entry9 m c) _

theorem entry10 : V m c main_v10_5 = m ((c.tc : Thread nD τ).loc main_arg9) := by
  simp only [V, hostOps0, hostOps0_1, hostOps0_2, hostOps0_3, hostOps0_4, List.flatten_cons, List.flatten_nil, List.append_nil, List.cons_append, List.nil_append]
  entry_read
  rfl

theorem final10 : (dats m 0 c).arrAt 10 cfg0.N = sampleKeys (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) := by
  refine (dats m 0 c).arrAt_eq_of_coversWhere_of_agree 10 _ (fun β => β (0 : Fin _) = 1) (by decide +kernel) (fun t hf y => ?_) (fun j hj => ?_)
  · rw [after10]
    blk_simp
    have e0 : ((win0_10.blk t).view.emb y 0 : ℕ) = 1 := by blk_simp [idx t]
    have e1 : ((win0_10.blk t).view.emb y 1 : ℕ) = 256 * (max t.val 128 - 128) + (y 1).val := by blk_simp [idx t]; omega
    have e2 : ((win0_10.blk t).view.emb y 2 : ℕ) = (y 2).val := by blk_simp [idx t]
    have e3 : ((win0_10.blk t).view.emb y 3 : ℕ) = (y 3).val := by blk_simp [idx t]
    generalize (win0_10.blk t).view.emb y = z at e0 e1 e2 e3 ⊢
    have h2 : (y 2 : Fin 16) = z 2 := Fin.ext e2.symm
    have h3 : (y 3 : Fin 128) = z 3 := Fin.ext e3.symm
    unfold sampleKeys o10
    rw [if_pos e0, ← h2, ← h3]
    refine (atB10_apply m c _ y).trans ((key_entry m c (firstB t).1 (y 1) _ _).trans ?_)
    rw [sample_row _ _ _ (z 1) (by rw [e1]; show 256 * max t.val 128 + (y 1).val = _; omega)]
  · have hj0 : ¬(((cfg0.win 10).arr.view.emb j 0 : ℕ) = 1) := by
      blk_simp [Pipeline.Window.cell_apply] at hj ⊢
      omega
    unfold sampleKeys
    rw [if_neg hj0]
    exact congrFun (entry10 m c) _

theorem entry11 : V m c main_v10_6 = m ((c.tc : Thread nD τ).loc main_arg10) := by
  simp only [V, hostOps0, hostOps0_1, hostOps0_2, hostOps0_3, hostOps0_4, List.flatten_cons, List.flatten_nil, List.append_nil, List.cons_append, List.nil_append]
  entry_read
  rfl

theorem final11 : (dats m 0 c).arrAt 11 cfg0.N = sampleValues (m ((c.tc : Thread nD τ).loc main_arg1)) (m ((c.tc : Thread nD τ).loc main_arg2)) (m ((c.tc : Thread nD τ).loc main_arg3)) (m ((c.tc : Thread nD τ).loc main_arg10)) := by
  refine (dats m 0 c).arrAt_eq_of_coversWhere_of_agree 11 _ (fun β => β (0 : Fin _) = 1) (by decide +kernel) (fun t hf y => ?_) (fun j hj => ?_)
  · rw [after11]
    blk_simp
    have e0 : ((win0_11.blk t).view.emb y 0 : ℕ) = 1 := by blk_simp [idx t]
    have e1 : ((win0_11.blk t).view.emb y 1 : ℕ) = 256 * (max t.val 128 - 128) + (y 1).val := by blk_simp [idx t]; omega
    have e2 : ((win0_11.blk t).view.emb y 2 : ℕ) = (y 2).val := by blk_simp [idx t]
    have e3 : ((win0_11.blk t).view.emb y 3 : ℕ) = (y 3).val := by blk_simp [idx t]
    generalize (win0_11.blk t).view.emb y = z at e0 e1 e2 e3 ⊢
    have h2 : (y 2 : Fin 16) = z 2 := Fin.ext e2.symm
    have h3 : (y 3 : Fin 128) = z 3 := Fin.ext e3.symm
    unfold sampleValues o11
    rw [if_pos e0, ← h2, ← h3]
    refine (atB11_apply m c _ y).trans ((value_entry m c (firstB t).1 (y 1) _ _).trans ?_)
    rw [sample_row _ _ _ (z 1) (by rw [e1]; show 256 * max t.val 128 + (y 1).val = _; omega)]
  · have hj0 : ¬(((cfg0.win 11).arr.view.emb j 0 : ℕ) = 1) := by
      blk_simp [Pipeline.Window.cell_apply] at hj ⊢
      omega
    unfold sampleValues
    rw [if_neg hj0]
    exact congrFun (entry11 m c) _

theorem entry12 : V m c main_v10_7 = m ((c.tc : Thread nD τ).loc main_arg11) := by
  simp only [V, hostOps0, hostOps0_1, hostOps0_2, hostOps0_3, hostOps0_4, List.flatten_cons, List.flatten_nil, List.append_nil, List.cons_append, List.nil_append]
  entry_read
  rfl

theorem final12 : (dats m 0 c).arrAt 12 cfg0.N = sampleGates (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg11)) := by
  refine (dats m 0 c).arrAt_eq_of_coversWhere_of_agree 12 _ (fun β => β (0 : Fin _) = 1) (by decide +kernel) (fun t hf y => ?_) (fun j hj => ?_)
  · rw [after12]
    blk_simp
    have e0 : ((win0_12.blk t).view.emb y 0 : ℕ) = 1 := by blk_simp [idx t]
    have e1 : ((win0_12.blk t).view.emb y 1 : ℕ) = 256 * (max t.val 128 - 128) + (y 1).val := by blk_simp [idx t]; omega
    have e2 : ((win0_12.blk t).view.emb y 2 : ℕ) = (y 2).val := by blk_simp [idx t]
    generalize (win0_12.blk t).view.emb y = z at e0 e1 e2 ⊢
    have h2 : (y 2 : Fin 16) = z 2 := Fin.ext e2.symm
    unfold sampleGates o12
    rw [if_pos e0, ← h2]
    refine (atB12_apply m c _ y).trans ((gate_entry m c (firstB t).1 (y 1) _).trans ?_)
    rw [sample_row _ _ _ (z 1) (by rw [e1]; show 256 * max t.val 128 + (y 1).val = _; omega)]
  · have hj0 : ¬(((cfg0.win 12).arr.view.emb j 0 : ℕ) = 1) := by
      blk_simp [Pipeline.Window.cell_apply] at hj ⊢
      omega
    unfold sampleGates
    rw [if_neg hj0]
    exact congrFun (entry12 m c) _

end Cert.Kernel5Ideal.Hand

end
-- ==== Proof.KvValue.lean ====
module

public import proofs.«01_k».proof.Proof.KvFinal
public import proofs.«01_k».proof.Proof.Gen.Reference5Ideal.Run
public import Idealize.ShloMosaic.Lib.Claim

@[expose] public section

set_option maxRecDepth 16384
set_option maxHeartbeats 400000

/-! The keys, values and gates: the plain formula, entry by entry. -/

noncomputable section

namespace Cert.Reference5Ideal.Hand

open Cert.Reference5Ideal.Gen
open Idealize.ShloMosaic Idealize.ShloMosaic.TcCoe Idealize.ShloMosaic.Tactic
open Cert.Kernel5Ideal.Hand (column keyRow valueRow gateRow headOf colOf promptRow sampleRow)

/-- Two arrays, one of each layer, joined: the layers' entries. -/
theorem layers4 {n : ℕ} (A B : (⟨4, ![1, n, 16, 128]⟩ : Shape).Idx → EReal)
    (h : Shape.Concatenates [⟨4, ![1, n, 16, 128]⟩, ⟨4, ![1, n, 16, 128]⟩] ⟨4, ![2, n, 16, 128]⟩ 0) (l : Fin 2) (r : Fin n) (q : Fin 16) (e : Fin 128) :
    concatenate (⟨4, ![2, n, 16, 128]⟩ : Shape) 0 [⟨⟨4, ![1, n, 16, 128]⟩, A⟩, ⟨⟨4, ![1, n, 16, 128]⟩, B⟩] h (ix4 l r q e) = if l.val = 1 then B (ix4 0 r q e) else A (ix4 0 r q e) := by
  have hl := l.isLt
  by_cases h1 : l.val = 1
  · rw [if_pos h1]
    refine concatenate_pair_apply_right 0 A B h (ix4 l r q e) rfl rfl (ix4 0 r q e) (fun d hd => ?_) ?_
    · fin_cases d
      · exact absurd rfl hd
      · rfl
      · rfl
      · rfl
    · exact h1.symm
  · rw [if_neg h1]
    refine concatenate_pair_apply_left 0 A B h (ix4 l r q e) rfl (ix4 0 r q e) fun d => ?_
    fin_cases d
    · show 0 = l.val
      omega
    · rfl
    · rfl
    · rfl

/-- Two arrays, one of each layer, joined: the layers' entries. -/
theorem layers3 {n : ℕ} (A B : (⟨3, ![1, n, 16]⟩ : Shape).Idx → EReal)
    (h : Shape.Concatenates [⟨3, ![1, n, 16]⟩, ⟨3, ![1, n, 16]⟩] ⟨3, ![2, n, 16]⟩ 0) (l : Fin 2) (r : Fin n) (q : Fin 16) :
    concatenate (⟨3, ![2, n, 16]⟩ : Shape) 0 [⟨⟨3, ![1, n, 16]⟩, A⟩, ⟨⟨3, ![1, n, 16]⟩, B⟩] h (ix3 l r q) = if l.val = 1 then B (ix3 0 r q) else A (ix3 0 r q) := by
  have hl := l.isLt
  by_cases h1 : l.val = 1
  · rw [if_pos h1]
    refine concatenate_pair_apply_right 0 A B h (ix3 l r q) rfl rfl (ix3 0 r q) (fun d hd => ?_) ?_
    · fin_cases d
      · exact absurd rfl hd
      · rfl
      · rfl
    · exact h1.symm
  · rw [if_neg h1]
    refine concatenate_pair_apply_left 0 A B h (ix3 l r q) rfl (ix3 0 r q) fun d => ?_
    fin_cases d
    · show 0 = l.val
      omega
    · rfl
    · rfl

theorem absf_neg (z : EReal) : FloatOps.absf (F := Ideal) (φ := .f32) (-z) = FloatOps.absf (F := Ideal) (φ := .f32) z := by
  show max (-z) (- -z) = max z (-z)
  rw [neg_neg, max_comm]

theorem log_ne_bot (r : ℝ) (h : 0 < r) : Ideal.log (r : EReal) ≠ ⊥ := by
  show (if r ≤ 0 then (⊥ : EReal) else ((Real.log r : ℝ) : EReal)) ≠ ⊥
  rw [if_neg (not_le.mpr h)]
  exact EReal.coe_ne_bot _

theorem log1p_exp_ne_bot (z : EReal) : Ideal.log1p (Ideal.exp z) ≠ ⊥ := by
  induction z with
  | bot =>
    show Ideal.log (1 + 0) ≠ ⊥
    rw [add_zero]
    exact log_ne_bot 1 one_pos
  | top =>
    show Ideal.log (1 + ⊤) ≠ ⊥
    rw [show (1 : EReal) + ⊤ = ⊤ from EReal.coe_add_top 1]
    show (⊤ : EReal) ≠ ⊥
    exact bot_ne_top.symm
  | coe r =>
    show Ideal.log (1 + ((Real.exp r : ℝ) : EReal)) ≠ ⊥
    rw [show (1 : EReal) + ((Real.exp r : ℝ) : EReal) = ((1 + Real.exp r : ℝ) : EReal) from (EReal.coe_add 1 _).symm]
    have := Real.exp_pos r
    exact log_ne_bot _ (by positivity)

theorem gate_eq (z : EReal) : (-if -z ≠ -z then -z else max (-z) 0 + Ideal.log1p (Ideal.exp (-FloatOps.absf (F := Ideal) (φ := .f32) (-z)))) = Kernel5Ideal.Hand.gate z := by
  rw [if_neg (fun h => h rfl), absf_neg]
  unfold Kernel5Ideal.Hand.gate
  rw [zero_sub, EReal.neg_add (Or.inl (ne_of_gt (lt_of_lt_of_le EReal.bot_lt_zero (le_max_right _ _)))) (Or.inr (log1p_exp_ne_bot _))]
  refine congrArg (· - _) ?_
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The prompt's rows, normed, against every column of the weights. -/
def promptU (x : FVec Ideal S8x4096x2048 .f32) (g : FVec Ideal S2048 .f32) (w : FVec Ideal S2048x6160 .f32) : FVec Ideal S8x4096x6160 .f32 :=
  (Host.dotGeneral dot_S8x4096x2048_S2048x6160_S8x4096x6160_2_0_01_1_n_n none (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w)

theorem promptU_apply (x : FVec Ideal S8x4096x2048 .f32) (g : FVec Ideal S2048 .f32) (w : FVec Ideal S2048x6160 .f32) (p : Fin 8) (q : Fin 4096) (e : Fin 6160) :
    (promptU x g w (ix3 p q e) : EReal) = column g w (fun k => (x (ix3 p q k) : EReal)) e := by
  unfold column Rms.rms
  pointwise [promptU, Consts.f32_zero]
  rfl

/-- The prompt's columns that carry keys. -/
def promptKeyCols (U : FVec Ideal S8x4096x6160 .f32) : FVec Ideal S8x4096x2048 .f32 :=
  (extractStridedSlice S8x4096x2048 ![0, 0, 2048] U slices_S8x4096x6160_S8x4096x2048_0_0_2048)

theorem promptKeyCols_apply (U : FVec Ideal S8x4096x6160 .f32) (p : Fin 8) (q : Fin 4096) (e : Fin 2048) :
    (promptKeyCols U (ix3 p q e) : EReal) = U (ix3 p q (⟨2048 + e.val, by omega⟩ : Fin 6160)) := by
  pointwise [promptKeyCols]

/-- The prompt's columns that carry values. -/
def promptValueCols (U : FVec Ideal S8x4096x6160 .f32) : FVec Ideal S8x4096x2048 .f32 :=
  (extractStridedSlice S8x4096x2048 ![0, 0, 4096] U slices_S8x4096x6160_S8x4096x2048_0_0_4096)

theorem promptValueCols_apply (U : FVec Ideal S8x4096x6160 .f32) (p : Fin 8) (q : Fin 4096) (e : Fin 2048) :
    (promptValueCols U (ix3 p q e) : EReal) = U (ix3 p q (⟨4096 + e.val, by omega⟩ : Fin 6160)) := by
  pointwise [promptValueCols]

/-- The prompt's heads. -/
def promptHeads (D : FVec Ideal S8x4096x2048 .f32) : FVec Ideal S8x4096x16x128 .f32 :=
  (shapeCast S8x4096x16x128 D shapeCasts_S8x4096x2048_S8x4096x16x128)

theorem promptHeads_apply (D : FVec Ideal S8x4096x2048 .f32) (p : Fin 8) (q : Fin 4096) (l : Fin 16) (e : Fin 128) :
    (promptHeads D (ix4 p q l e) : EReal) = D (ix3 p q (⟨128 * l.val + e.val, by omega⟩ : Fin 2048)) := by
  simp only [Nat.mul_comm 128 l.val]
  pointwise [promptHeads]

/-- The prompt's heads, normed. -/
def promptNormed (E : FVec Ideal S8x4096x16x128 .f32) (h : FVec Ideal S128 .f32) : FVec Ideal S8x4096x16x128 .f32 :=
  (mulf (mulf E (broadcastInDim S8x4096x16x128 ![0, 1, 2, 3] bcast_S8x4096x16x1_S8x4096x16x128_0_1_2_3 (Host.rsqrt (addf (Host.divf (broadcastInDim S8x4096x16x1 ![0, 1, 2] bcast_S8x4096x16_S8x4096x16x1_0_1_2 (Host.reduceAdd (mulf E E) (constant S_ .f32 0x00000000#32) reducesTo_S8x4096x16x128_S8x4096x16_d3 h_S_)) (broadcastInDim S8x4096x16x1 ![] bcast_S_S8x4096x16x1 (constant S_ .f32 0x43000000#32))) (broadcastInDim S8x4096x16x1 ![] bcast_S_S8x4096x16x1 (constant S_ .f32 0x358637BD#32)))))) (broadcastInDim S8x4096x16x128 ![0, 1, 2, 3] bcast_S1x1x1x128_S8x4096x16x128_0_1_2_3 (broadcastInDim S1x1x1x128 ![3] bcast_S128_S1x1x1x128_3 h)))

theorem promptNormed_apply (E : FVec Ideal S8x4096x16x128 .f32) (h : FVec Ideal S128 .f32) (p : Fin 8) (q : Fin 4096) (l : Fin 16) (e : Fin 128) :
    (promptNormed E h (ix4 p q l e) : EReal) = Rms.rms Rms.count128 (fun d : Fin 128 => (E (ix4 p q l d) : EReal)) (fun d => h (ix1 d)) e := by
  unfold Rms.rms
  pointwise [promptNormed, Consts.f32_zero]
  rfl

/-- The prompt's columns that carry gates, with the bias. -/
def promptLin (U : FVec Ideal S8x4096x6160 .f32) (b : FVec Ideal S16 .f32) : FVec Ideal S8x4096x16 .f32 :=
  (addf (extractStridedSlice S8x4096x16 ![0, 0, 6144] U slices_S8x4096x6160_S8x4096x16_0_0_6144) (broadcastInDim S8x4096x16 ![0, 1, 2] bcast_S1x1x16_S8x4096x16_0_1_2 (broadcastInDim S1x1x16 ![2] bcast_S16_S1x1x16_2 b)))

theorem promptLin_apply (U : FVec Ideal S8x4096x6160 .f32) (b : FVec Ideal S16 .f32) (p : Fin 8) (q : Fin 4096) (l : Fin 16) :
    (promptLin U b (ix3 p q l) : EReal) = U (ix3 p q (⟨6144 + l.val, by omega⟩ : Fin 6160)) + b (ix1 l) := by
  pointwise [promptLin]

/-- The prompt's gates. -/
def promptGate (L : FVec Ideal S8x4096x16 .f32) : FVec Ideal S8x4096x16 .f32 :=
  (Host.negf (select (cmpf .une (subf (Host.negf L) (broadcastInDim S8x4096x16 ![] bcast_S_S8x4096x16 (constant S_ .f32 0x00000000#32))) (subf (Host.negf L) (broadcastInDim S8x4096x16 ![] bcast_S_S8x4096x16 (constant S_ .f32 0x00000000#32)))) (addf (Host.negf L) (broadcastInDim S8x4096x16 ![] bcast_S_S8x4096x16 (constant S_ .f32 0x00000000#32))) (addf (maximumf (Host.negf L) (broadcastInDim S8x4096x16 ![] bcast_S_S8x4096x16 (constant S_ .f32 0x00000000#32))) (Host.log1p (Host.exp (Host.negf (Host.absf (subf (Host.negf L) (broadcastInDim S8x4096x16 ![] bcast_S_S8x4096x16 (constant S_ .f32 0x00000000#32))))))))))

theorem promptGate_apply (L : FVec Ideal S8x4096x16 .f32) (y : S8x4096x16.Idx) : (promptGate L y : EReal) = Kernel5Ideal.Hand.gate (L y) := by
  pointwise [promptGate, Consts.f32_zero]
  exact gate_eq _

/-- The prompt's heads, one row for each position. -/
theorem promptFlat_apply (E : FVec Ideal S8x4096x16x128 .f32) (r : Fin 32768) (e : Fin 2048) :
    (shapeCast S32768x2048 E shapeCasts_S8x4096x16x128_S32768x2048 (ix2 r e) : EReal) = E (ix4 (⟨r.val / 4096, by omega⟩ : Fin 8) (⟨r.val % 4096, by omega⟩ : Fin 4096) (headOf e) (colOf e)) := by
  unfold headOf colOf
  pointwise

/-- The prompt's heads as a layer. -/
theorem promptLayer_apply (E : FVec Ideal S8x4096x16x128 .f32) (r : Fin 32768) (l : Fin 16) (e : Fin 128) :
    (shapeCast S1x32768x16x128 E shapeCasts_S8x4096x16x128_S1x32768x16x128 (ix4 0 r l e) : EReal) = E (ix4 (⟨r.val / 4096, by omega⟩ : Fin 8) (⟨r.val % 4096, by omega⟩ : Fin 4096) l e) := by
  pointwise

/-- The prompt's gates as a layer. -/
theorem promptGateLayer_apply (E : FVec Ideal S8x4096x16 .f32) (r : Fin 32768) (l : Fin 16) :
    (shapeCast S1x32768x16 E shapeCasts_S8x4096x16_S1x32768x16 (ix3 0 r l) : EReal) = E (ix3 (⟨r.val / 4096, by omega⟩ : Fin 8) (⟨r.val % 4096, by omega⟩ : Fin 4096) l) := by
  pointwise

/-- The sample's rows, normed, against every column of the weights. -/
def sampleU (x : FVec Ideal S32x16x2048 .f32) (g : FVec Ideal S2048 .f32) (w : FVec Ideal S2048x6160 .f32) : FVec Ideal S32x16x6160 .f32 :=
  (Host.dotGeneral dot_S32x16x2048_S2048x6160_S32x16x6160_2_0_01_1_n_n none (mulf (mulf x (broadcastInDim S32x16x2048 ![0, 1, 2] bcast_S32x16x1_S32x16x2048_0_1_2 (Host.rsqrt (addf (Host.divf (broadcastInDim S32x16x1 ![0, 1] bcast_S32x16_S32x16x1_0_1 (Host.reduceAdd (mulf x x) (constant S_ .f32 0x00000000#32) reducesTo_S32x16x2048_S32x16_d2 h_S_)) (broadcastInDim S32x16x1 ![] bcast_S_S32x16x1 (constant S_ .f32 0x45000000#32))) (broadcastInDim S32x16x1 ![] bcast_S_S32x16x1 (constant S_ .f32 0x358637BD#32)))))) (broadcastInDim S32x16x2048 ![0, 1, 2] bcast_S1x1x2048_S32x16x2048_0_1_2 (broadcastInDim S1x1x2048 ![2] bcast_S2048_S1x1x2048_2 g))) w)

theorem sampleU_apply (x : FVec Ideal S32x16x2048 .f32) (g : FVec Ideal S2048 .f32) (w : FVec Ideal S2048x6160 .f32) (p : Fin 32) (q : Fin 16) (e : Fin 6160) :
    (sampleU x g w (ix3 p q e) : EReal) = column g w (fun k => (x (ix3 p q k) : EReal)) e := by
  unfold column Rms.rms
  pointwise [sampleU, Consts.f32_zero]
  rfl

/-- The sample's columns that carry keys. -/
def sampleKeyCols (U : FVec Ideal S32x16x6160 .f32) : FVec Ideal S32x16x2048 .f32 :=
  (extractStridedSlice S32x16x2048 ![0, 0, 2048] U slices_S32x16x6160_S32x16x2048_0_0_2048)

theorem sampleKeyCols_apply (U : FVec Ideal S32x16x6160 .f32) (p : Fin 32) (q : Fin 16) (e : Fin 2048) :
    (sampleKeyCols U (ix3 p q e) : EReal) = U (ix3 p q (⟨2048 + e.val, by omega⟩ : Fin 6160)) := by
  pointwise [sampleKeyCols]

/-- The sample's columns that carry values. -/
def sampleValueCols (U : FVec Ideal S32x16x6160 .f32) : FVec Ideal S32x16x2048 .f32 :=
  (extractStridedSlice S32x16x2048 ![0, 0, 4096] U slices_S32x16x6160_S32x16x2048_0_0_4096)

theorem sampleValueCols_apply (U : FVec Ideal S32x16x6160 .f32) (p : Fin 32) (q : Fin 16) (e : Fin 2048) :
    (sampleValueCols U (ix3 p q e) : EReal) = U (ix3 p q (⟨4096 + e.val, by omega⟩ : Fin 6160)) := by
  pointwise [sampleValueCols]

/-- The sample's heads. -/
def sampleHeads (D : FVec Ideal S32x16x2048 .f32) : FVec Ideal S32x16x16x128 .f32 :=
  (shapeCast S32x16x16x128 D shapeCasts_S32x16x2048_S32x16x16x128)

theorem sampleHeads_apply (D : FVec Ideal S32x16x2048 .f32) (p : Fin 32) (q : Fin 16) (l : Fin 16) (e : Fin 128) :
    (sampleHeads D (ix4 p q l e) : EReal) = D (ix3 p q (⟨128 * l.val + e.val, by omega⟩ : Fin 2048)) := by
  simp only [Nat.mul_comm 128 l.val]
  pointwise [sampleHeads]

/-- The sample's heads, normed. -/
def sampleNormed (E : FVec Ideal S32x16x16x128 .f32) (h : FVec Ideal S128 .f32) : FVec Ideal S32x16x16x128 .f32 :=
  (mulf (mulf E (broadcastInDim S32x16x16x128 ![0, 1, 2, 3] bcast_S32x16x16x1_S32x16x16x128_0_1_2_3 (Host.rsqrt (addf (Host.divf (broadcastInDim S32x16x16x1 ![0, 1, 2] bcast_S32x16x16_S32x16x16x1_0_1_2 (Host.reduceAdd (mulf E E) (constant S_ .f32 0x00000000#32) reducesTo_S32x16x16x128_S32x16x16_d3 h_S_)) (broadcastInDim S32x16x16x1 ![] bcast_S_S32x16x16x1 (constant S_ .f32 0x43000000#32))) (broadcastInDim S32x16x16x1 ![] bcast_S_S32x16x16x1 (constant S_ .f32 0x358637BD#32)))))) (broadcastInDim S32x16x16x128 ![0, 1, 2, 3] bcast_S1x1x1x128_S32x16x16x128_0_1_2_3 (broadcastInDim S1x1x1x128 ![3] bcast_S128_S1x1x1x128_3 h)))

theorem sampleNormed_apply (E : FVec Ideal S32x16x16x128 .f32) (h : FVec Ideal S128 .f32) (p : Fin 32) (q : Fin 16) (l : Fin 16) (e : Fin 128) :
    (sampleNormed E h (ix4 p q l e) : EReal) = Rms.rms Rms.count128 (fun d : Fin 128 => (E (ix4 p q l d) : EReal)) (fun d => h (ix1 d)) e := by
  unfold Rms.rms
  pointwise [sampleNormed, Consts.f32_zero]
  rfl

/-- The sample's columns that carry gates, with the bias. -/
def sampleLin (U : FVec Ideal S32x16x6160 .f32) (b : FVec Ideal S16 .f32) : FVec Ideal S32x16x16 .f32 :=
  (addf (extractStridedSlice S32x16x16 ![0, 0, 6144] U slices_S32x16x6160_S32x16x16_0_0_6144) (broadcastInDim S32x16x16 ![0, 1, 2] bcast_S1x1x16_S32x16x16_0_1_2 (broadcastInDim S1x1x16 ![2] bcast_S16_S1x1x16_2 b)))

theorem sampleLin_apply (U : FVec Ideal S32x16x6160 .f32) (b : FVec Ideal S16 .f32) (p : Fin 32) (q : Fin 16) (l : Fin 16) :
    (sampleLin U b (ix3 p q l) : EReal) = U (ix3 p q (⟨6144 + l.val, by omega⟩ : Fin 6160)) + b (ix1 l) := by
  pointwise [sampleLin]

/-- The sample's gates. -/
def sampleGate (L : FVec Ideal S32x16x16 .f32) : FVec Ideal S32x16x16 .f32 :=
  (Host.negf (select (cmpf .une (subf (Host.negf L) (broadcastInDim S32x16x16 ![] bcast_S_S32x16x16 (constant S_ .f32 0x00000000#32))) (subf (Host.negf L) (broadcastInDim S32x16x16 ![] bcast_S_S32x16x16 (constant S_ .f32 0x00000000#32)))) (addf (Host.negf L) (broadcastInDim S32x16x16 ![] bcast_S_S32x16x16 (constant S_ .f32 0x00000000#32))) (addf (maximumf (Host.negf L) (broadcastInDim S32x16x16 ![] bcast_S_S32x16x16 (constant S_ .f32 0x00000000#32))) (Host.log1p (Host.exp (Host.negf (Host.absf (subf (Host.negf L) (broadcastInDim S32x16x16 ![] bcast_S_S32x16x16 (constant S_ .f32 0x00000000#32))))))))))

theorem sampleGate_apply (L : FVec Ideal S32x16x16 .f32) (y : S32x16x16.Idx) : (sampleGate L y : EReal) = Kernel5Ideal.Hand.gate (L y) := by
  pointwise [sampleGate, Consts.f32_zero]
  exact gate_eq _

/-- The sample's heads, one row for each position. -/
theorem sampleFlat_apply (E : FVec Ideal S32x16x16x128 .f32) (r : Fin 512) (e : Fin 2048) :
    (shapeCast S512x2048 E shapeCasts_S32x16x16x128_S512x2048 (ix2 r e) : EReal) = E (ix4 (⟨r.val / 16, by omega⟩ : Fin 32) (⟨r.val % 16, by omega⟩ : Fin 16) (headOf e) (colOf e)) := by
  unfold headOf colOf
  pointwise

/-- The sample's heads as a layer. -/
theorem sampleLayer_apply (E : FVec Ideal S32x16x16x128 .f32) (r : Fin 512) (l : Fin 16) (e : Fin 128) :
    (shapeCast S1x512x16x128 E shapeCasts_S32x16x16x128_S1x512x16x128 (ix4 0 r l e) : EReal) = E (ix4 (⟨r.val / 16, by omega⟩ : Fin 32) (⟨r.val % 16, by omega⟩ : Fin 16) l e) := by
  pointwise

/-- The sample's gates as a layer. -/
theorem sampleGateLayer_apply (E : FVec Ideal S32x16x16 .f32) (r : Fin 512) (l : Fin 16) :
    (shapeCast S1x512x16 E shapeCasts_S32x16x16_S1x512x16 (ix3 0 r l) : EReal) = E (ix3 (⟨r.val / 16, by omega⟩ : Fin 32) (⟨r.val % 16, by omega⟩ : Fin 16) l) := by
  pointwise

/-- The prompt's keys. -/
def promptK (x : FVec Ideal S8x4096x2048 .f32) (g : FVec Ideal S2048 .f32) (w : FVec Ideal S2048x6160 .f32) (h : FVec Ideal S128 .f32) : FVec Ideal S8x4096x16x128 .f32 :=
  promptNormed (promptHeads (promptKeyCols (promptU x g w))) h

theorem promptK_apply (x : FVec Ideal S8x4096x2048 .f32) (g : FVec Ideal S2048 .f32) (w : FVec Ideal S2048x6160 .f32) (h : FVec Ideal S128 .f32) (p : Fin 8) (q : Fin 4096) (l : Fin 16) (e : Fin 128) :
    (promptK x g w h (ix4 p q l e) : EReal) = keyRow g w h (fun k => (x (ix3 p q k) : EReal)) l e :=
  (promptNormed_apply _ h p q l e).trans (Rms.rms_congr _
    (fun d => (promptHeads_apply _ p q l d).trans ((promptKeyCols_apply _ p q _).trans (promptU_apply x g w p q _))) (fun d => rfl) e)

/-- The prompt's values. -/
def promptV (x : FVec Ideal S8x4096x2048 .f32) (g : FVec Ideal S2048 .f32) (w : FVec Ideal S2048x6160 .f32) : FVec Ideal S8x4096x16x128 .f32 :=
  promptHeads (promptValueCols (promptU x g w))

theorem promptV_apply (x : FVec Ideal S8x4096x2048 .f32) (g : FVec Ideal S2048 .f32) (w : FVec Ideal S2048x6160 .f32) (p : Fin 8) (q : Fin 4096) (l : Fin 16) (e : Fin 128) :
    (promptV x g w (ix4 p q l e) : EReal) = valueRow g w (fun k => (x (ix3 p q k) : EReal)) l e :=
  (promptHeads_apply _ p q l e).trans ((promptValueCols_apply _ p q _).trans ((promptU_apply x g w p q _).trans
    (congrArg (column g w _) (Fin.ext (show 4096 + (128 * l.val + e.val) = 2048 + (2048 + (128 * l.val + e.val)) by omega)))))

/-- The prompt's gates. -/
def promptG (x : FVec Ideal S8x4096x2048 .f32) (g : FVec Ideal S2048 .f32) (w : FVec Ideal S2048x6160 .f32) (b : FVec Ideal S16 .f32) : FVec Ideal S8x4096x16 .f32 :=
  promptGate (promptLin (promptU x g w) b)

theorem promptG_apply (x : FVec Ideal S8x4096x2048 .f32) (g : FVec Ideal S2048 .f32) (w : FVec Ideal S2048x6160 .f32) (b : FVec Ideal S16 .f32) (p : Fin 8) (q : Fin 4096) (l : Fin 16) :
    (promptG x g w b (ix3 p q l) : EReal) = gateRow g w b (fun k => (x (ix3 p q k) : EReal)) l :=
  (promptGate_apply _ _).trans (congrArg Kernel5Ideal.Hand.gate ((promptLin_apply _ b p q l).trans (congrArg (· + b (ix1 l)) ((promptU_apply x g w p q _).trans
    (congrArg (column g w _) (Fin.ext (show 6144 + l.val = 2048 + (4096 + l.val) by omega)))))))

theorem promptKeys_eq (x : FVec Ideal S8x4096x2048 .f32) (g : FVec Ideal S2048 .f32) (w : FVec Ideal S2048x6160 .f32) (h : FVec Ideal S128 .f32) (p : FVec Ideal S2x32768x16x128 .f32) :
    concatenate S2x32768x16x128 0 [⟨S1x32768x16x128, (extractStridedSlice S1x32768x16x128 ![0, 0, 0, 0] p slices_S2x32768x16x128_S1x32768x16x128_0_0_0_0)⟩, ⟨S1x32768x16x128, (shapeCast S1x32768x16x128 (promptK x g w h) shapeCasts_S8x4096x16x128_S1x32768x16x128)⟩] concatenates_S1x32768x16x128_S1x32768x16x128_S2x32768x16x128_d0
      = Kernel5Ideal.Hand.promptKeys x g w h p := by
  funext y
  obtain ⟨l, r, q, e, rfl⟩ : ∃ (l : Fin 2) (r : Fin 32768) (q : Fin 16) (e : Fin 128), y = ix4 l r q e := ⟨y 0, y 1, y 2, y 3, eq_ix4 y⟩
  refine (layers4 _ _ _ l r q e).trans ?_
  by_cases h1 : l.val = 1
  · exact (if_pos h1).trans (((promptLayer_apply _ r q e).trans (promptK_apply x g w h _ _ q e)).trans (if_pos h1).symm)
  · refine (if_neg h1).trans (Eq.trans ?_ (if_neg h1).symm)
    have hl : l = 0 := Fin.ext (by have := l.isLt; show l.val = 0; omega)
    subst hl
    pointwise

theorem promptValues_eq (x : FVec Ideal S8x4096x2048 .f32) (g : FVec Ideal S2048 .f32) (w : FVec Ideal S2048x6160 .f32)  (p : FVec Ideal S2x32768x16x128 .f32) :
    concatenate S2x32768x16x128 0 [⟨S1x32768x16x128, (extractStridedSlice S1x32768x16x128 ![0, 0, 0, 0] p slices_S2x32768x16x128_S1x32768x16x128_0_0_0_0)⟩, ⟨S1x32768x16x128, (shapeCast S1x32768x16x128 (promptV x g w) shapeCasts_S8x4096x16x128_S1x32768x16x128)⟩] concatenates_S1x32768x16x128_S1x32768x16x128_S2x32768x16x128_d0
      = Kernel5Ideal.Hand.promptValues x g w  p := by
  funext y
  obtain ⟨l, r, q, e, rfl⟩ : ∃ (l : Fin 2) (r : Fin 32768) (q : Fin 16) (e : Fin 128), y = ix4 l r q e := ⟨y 0, y 1, y 2, y 3, eq_ix4 y⟩
  refine (layers4 _ _ _ l r q e).trans ?_
  by_cases h1 : l.val = 1
  · exact (if_pos h1).trans (((promptLayer_apply _ r q e).trans (promptV_apply x g w _ _ q e)).trans (if_pos h1).symm)
  · refine (if_neg h1).trans (Eq.trans ?_ (if_neg h1).symm)
    have hl : l = 0 := Fin.ext (by have := l.isLt; show l.val = 0; omega)
    subst hl
    pointwise

theorem promptGates_eq (x : FVec Ideal S8x4096x2048 .f32) (g : FVec Ideal S2048 .f32) (w : FVec Ideal S2048x6160 .f32) (b : FVec Ideal S16 .f32) (p : FVec Ideal S2x32768x16 .f32) :
    concatenate S2x32768x16 0 [⟨S1x32768x16, (extractStridedSlice S1x32768x16 ![0, 0, 0] p slices_S2x32768x16_S1x32768x16_0_0_0)⟩, ⟨S1x32768x16, (shapeCast S1x32768x16 (promptG x g w b) shapeCasts_S8x4096x16_S1x32768x16)⟩] concatenates_S1x32768x16_S1x32768x16_S2x32768x16_d0
      = Kernel5Ideal.Hand.promptGates x g w b p := by
  funext y
  obtain ⟨l, r, q, rfl⟩ : ∃ (l : Fin 2) (r : Fin 32768) (q : Fin 16), y = ix3 l r q := ⟨y 0, y 1, y 2, eq_ix3 y⟩
  refine (layers3 _ _ _ l r q).trans ?_
  by_cases h1 : l.val = 1
  · exact (if_pos h1).trans (((promptGateLayer_apply _ r q).trans (promptG_apply x g w b _ _ q)).trans (if_pos h1).symm)
  · refine (if_neg h1).trans (Eq.trans ?_ (if_neg h1).symm)
    have hl : l = 0 := Fin.ext (by have := l.isLt; show l.val = 0; omega)
    subst hl
    pointwise

/-- The sample's keys. -/
def sampleK (x : FVec Ideal S32x16x2048 .f32) (g : FVec Ideal S2048 .f32) (w : FVec Ideal S2048x6160 .f32) (h : FVec Ideal S128 .f32) : FVec Ideal S32x16x16x128 .f32 :=
  sampleNormed (sampleHeads (sampleKeyCols (sampleU x g w))) h

theorem sampleK_apply (x : FVec Ideal S32x16x2048 .f32) (g : FVec Ideal S2048 .f32) (w : FVec Ideal S2048x6160 .f32) (h : FVec Ideal S128 .f32) (p : Fin 32) (q : Fin 16) (l : Fin 16) (e : Fin 128) :
    (sampleK x g w h (ix4 p q l e) : EReal) = keyRow g w h (fun k => (x (ix3 p q k) : EReal)) l e :=
  (sampleNormed_apply _ h p q l e).trans (Rms.rms_congr _
    (fun d => (sampleHeads_apply _ p q l d).trans ((sampleKeyCols_apply _ p q _).trans (sampleU_apply x g w p q _))) (fun d => rfl) e)

/-- The sample's values. -/
def sampleV (x : FVec Ideal S32x16x2048 .f32) (g : FVec Ideal S2048 .f32) (w : FVec Ideal S2048x6160 .f32) : FVec Ideal S32x16x16x128 .f32 :=
  sampleHeads (sampleValueCols (sampleU x g w))

theorem sampleV_apply (x : FVec Ideal S32x16x2048 .f32) (g : FVec Ideal S2048 .f32) (w : FVec Ideal S2048x6160 .f32) (p : Fin 32) (q : Fin 16) (l : Fin 16) (e : Fin 128) :
    (sampleV x g w (ix4 p q l e) : EReal) = valueRow g w (fun k => (x (ix3 p q k) : EReal)) l e :=
  (sampleHeads_apply _ p q l e).trans ((sampleValueCols_apply _ p q _).trans ((sampleU_apply x g w p q _).trans
    (congrArg (column g w _) (Fin.ext (show 4096 + (128 * l.val + e.val) = 2048 + (2048 + (128 * l.val + e.val)) by omega)))))

/-- The sample's gates. -/
def sampleG (x : FVec Ideal S32x16x2048 .f32) (g : FVec Ideal S2048 .f32) (w : FVec Ideal S2048x6160 .f32) (b : FVec Ideal S16 .f32) : FVec Ideal S32x16x16 .f32 :=
  sampleGate (sampleLin (sampleU x g w) b)

theorem sampleG_apply (x : FVec Ideal S32x16x2048 .f32) (g : FVec Ideal S2048 .f32) (w : FVec Ideal S2048x6160 .f32) (b : FVec Ideal S16 .f32) (p : Fin 32) (q : Fin 16) (l : Fin 16) :
    (sampleG x g w b (ix3 p q l) : EReal) = gateRow g w b (fun k => (x (ix3 p q k) : EReal)) l :=
  (sampleGate_apply _ _).trans (congrArg Kernel5Ideal.Hand.gate ((sampleLin_apply _ b p q l).trans (congrArg (· + b (ix1 l)) ((sampleU_apply x g w p q _).trans
    (congrArg (column g w _) (Fin.ext (show 6144 + l.val = 2048 + (4096 + l.val) by omega)))))))

theorem sampleKeys_eq (x : FVec Ideal S32x16x2048 .f32) (g : FVec Ideal S2048 .f32) (w : FVec Ideal S2048x6160 .f32) (h : FVec Ideal S128 .f32) (p : FVec Ideal S2x512x16x128 .f32) :
    concatenate S2x512x16x128 0 [⟨S1x512x16x128, (extractStridedSlice S1x512x16x128 ![0, 0, 0, 0] p slices_S2x512x16x128_S1x512x16x128_0_0_0_0)⟩, ⟨S1x512x16x128, (shapeCast S1x512x16x128 (sampleK x g w h) shapeCasts_S32x16x16x128_S1x512x16x128)⟩] concatenates_S1x512x16x128_S1x512x16x128_S2x512x16x128_d0
      = Kernel5Ideal.Hand.sampleKeys x g w h p := by
  funext y
  obtain ⟨l, r, q, e, rfl⟩ : ∃ (l : Fin 2) (r : Fin 512) (q : Fin 16) (e : Fin 128), y = ix4 l r q e := ⟨y 0, y 1, y 2, y 3, eq_ix4 y⟩
  refine (layers4 _ _ _ l r q e).trans ?_
  by_cases h1 : l.val = 1
  · exact (if_pos h1).trans (((sampleLayer_apply _ r q e).trans (sampleK_apply x g w h _ _ q e)).trans (if_pos h1).symm)
  · refine (if_neg h1).trans (Eq.trans ?_ (if_neg h1).symm)
    have hl : l = 0 := Fin.ext (by have := l.isLt; show l.val = 0; omega)
    subst hl
    pointwise

theorem sampleValues_eq (x : FVec Ideal S32x16x2048 .f32) (g : FVec Ideal S2048 .f32) (w : FVec Ideal S2048x6160 .f32)  (p : FVec Ideal S2x512x16x128 .f32) :
    concatenate S2x512x16x128 0 [⟨S1x512x16x128, (extractStridedSlice S1x512x16x128 ![0, 0, 0, 0] p slices_S2x512x16x128_S1x512x16x128_0_0_0_0)⟩, ⟨S1x512x16x128, (shapeCast S1x512x16x128 (sampleV x g w) shapeCasts_S32x16x16x128_S1x512x16x128)⟩] concatenates_S1x512x16x128_S1x512x16x128_S2x512x16x128_d0
      = Kernel5Ideal.Hand.sampleValues x g w  p := by
  funext y
  obtain ⟨l, r, q, e, rfl⟩ : ∃ (l : Fin 2) (r : Fin 512) (q : Fin 16) (e : Fin 128), y = ix4 l r q e := ⟨y 0, y 1, y 2, y 3, eq_ix4 y⟩
  refine (layers4 _ _ _ l r q e).trans ?_
  by_cases h1 : l.val = 1
  · exact (if_pos h1).trans (((sampleLayer_apply _ r q e).trans (sampleV_apply x g w _ _ q e)).trans (if_pos h1).symm)
  · refine (if_neg h1).trans (Eq.trans ?_ (if_neg h1).symm)
    have hl : l = 0 := Fin.ext (by have := l.isLt; show l.val = 0; omega)
    subst hl
    pointwise

theorem sampleGates_eq (x : FVec Ideal S32x16x2048 .f32) (g : FVec Ideal S2048 .f32) (w : FVec Ideal S2048x6160 .f32) (b : FVec Ideal S16 .f32) (p : FVec Ideal S2x512x16 .f32) :
    concatenate S2x512x16 0 [⟨S1x512x16, (extractStridedSlice S1x512x16 ![0, 0, 0] p slices_S2x512x16_S1x512x16_0_0_0)⟩, ⟨S1x512x16, (shapeCast S1x512x16 (sampleG x g w b) shapeCasts_S32x16x16_S1x512x16)⟩] concatenates_S1x512x16_S1x512x16_S2x512x16_d0
      = Kernel5Ideal.Hand.sampleGates x g w b p := by
  funext y
  obtain ⟨l, r, q, rfl⟩ : ∃ (l : Fin 2) (r : Fin 512) (q : Fin 16), y = ix3 l r q := ⟨y 0, y 1, y 2, eq_ix3 y⟩
  refine (layers3 _ _ _ l r q).trans ?_
  by_cases h1 : l.val = 1
  · exact (if_pos h1).trans (((sampleGateLayer_apply _ r q).trans (sampleG_apply x g w b _ _ q)).trans (if_pos h1).symm)
  · refine (if_neg h1).trans (Eq.trans ?_ (if_neg h1).symm)
    have hl : l = 0 := Fin.ext (by have := l.isLt; show l.val = 0; omega)
    subst hl
    pointwise

theorem keysResult_eq (x0 : FVec Ideal S8x4096x2048 .f32) (x1 : FVec Ideal S32x16x2048 .f32) (g : FVec Ideal S2048 .f32) (w : FVec Ideal S2048x6160 .f32) (h : FVec Ideal S128 .f32) :
    truncf .bf16 (concatenate S33280x2048 0 [⟨S32768x2048, (shapeCast S32768x2048 (promptK x0 g w h) shapeCasts_S8x4096x16x128_S32768x2048)⟩, ⟨S512x2048, (shapeCast S512x2048 (sampleK x1 g w h) shapeCasts_S32x16x16x128_S512x2048)⟩] concatenates_S32768x2048_S512x2048_S33280x2048_d0) bitsLt_bf16_f32
      = Kernel5Ideal.Hand.keysResult x0 x1 g w h := by
  funext y
  obtain ⟨r, e, rfl⟩ : ∃ (r : Fin 33280) (e : Fin 2048), y = ix2 r e := ⟨y 0, y 1, eq_ix2 y⟩
  refine (Rows.concatenate_apply _ _ concatenates_S32768x2048_S512x2048_S33280x2048_d0
    (fun y : S8x4096x2048.Idx => keyRow g w h (fun k => (x0 (ix3 (y 0) (y 1) k) : EReal)) (headOf (y 2)) (colOf (y 2)))
    (fun y : S32x16x2048.Idx => keyRow g w h (fun k => (x1 (ix3 (y 0) (y 1) k) : EReal)) (headOf (y 2)) (colOf (y 2)))
    (fun r e => (promptFlat_apply _ r e).trans (promptK_apply x0 g w h _ _ _ _))
    (fun r e => (sampleFlat_apply _ r e).trans (sampleK_apply x1 g w h _ _ _ _)) r e).trans ?_
  exact Rows.joined_rows x0 x1 r e (fun f e => keyRow g w h f (headOf e) (colOf e))

theorem valuesResult_eq (x0 : FVec Ideal S8x4096x2048 .f32) (x1 : FVec Ideal S32x16x2048 .f32) (g : FVec Ideal S2048 .f32) (w : FVec Ideal S2048x6160 .f32)  :
    truncf .bf16 (concatenate S33280x2048 0 [⟨S32768x2048, (shapeCast S32768x2048 (promptV x0 g w) shapeCasts_S8x4096x16x128_S32768x2048)⟩, ⟨S512x2048, (shapeCast S512x2048 (sampleV x1 g w) shapeCasts_S32x16x16x128_S512x2048)⟩] concatenates_S32768x2048_S512x2048_S33280x2048_d0) bitsLt_bf16_f32
      = Kernel5Ideal.Hand.valuesResult x0 x1 g w := by
  funext y
  obtain ⟨r, e, rfl⟩ : ∃ (r : Fin 33280) (e : Fin 2048), y = ix2 r e := ⟨y 0, y 1, eq_ix2 y⟩
  refine (Rows.concatenate_apply _ _ concatenates_S32768x2048_S512x2048_S33280x2048_d0
    (fun y : S8x4096x2048.Idx => valueRow g w (fun k => (x0 (ix3 (y 0) (y 1) k) : EReal)) (headOf (y 2)) (colOf (y 2)))
    (fun y : S32x16x2048.Idx => valueRow g w (fun k => (x1 (ix3 (y 0) (y 1) k) : EReal)) (headOf (y 2)) (colOf (y 2)))
    (fun r e => (promptFlat_apply _ r e).trans (promptV_apply x0 g w _ _ _ _))
    (fun r e => (sampleFlat_apply _ r e).trans (sampleV_apply x1 g w _ _ _ _)) r e).trans ?_
  exact Rows.joined_rows x0 x1 r e (fun f e => valueRow g w f (headOf e) (colOf e))

end Cert.Reference5Ideal.Hand

end
-- ==== Proof.KvClaim.lean ====
module

public import proofs.«01_k».proof.Proof.KvValue
public import proofs.«01_k».proof.Proof.Gen.Kernel5
public import proofs.«01_k».proof.Proof.Gen.Kernel5Ideal
public import proofs.«01_k».proof.Proof.Gen.Reference5Ideal
public import proofs.«01_k».proof.Defs
public import Idealize.ShloMosaic.Lib.Claim

@[expose] public section

set_option maxRecDepth 16384
set_option maxHeartbeats 1600000

/-! The keys, values and gates: the runs, the frames and the claim. -/

noncomputable section

namespace Cert.Kernel5Ideal.Hand

open Cert.Kernel5Ideal.Gen
open Idealize.ShloMosaic Idealize.ShloMosaic.TcCoe Idealize.SL.Sem

variable {F : FTy → Type} [FloatOps F]

section
variable (m : (ℓ : Loc nD τ sig) → Buf (Elt F) ℓ) (ρ : Dev nD → PrngReg)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

theorem same0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)

theorem same1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

theorem same2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

theorem same3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

theorem same4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

theorem same5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

theorem same6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

theorem same7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

theorem same8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

theorem same9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

theorem same10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

theorem same11 (r : PUnit × MemSt nD τ sig (Elt F)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)

end

/-- Every run ends with each result at its own array and the arguments as they were. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10_0) = keysResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10_1) = valuesResult (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v10_2) = promptKeys (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v10_3) = promptValues (m ((c.tc : Thread nD τ).loc main_arg0)) (m ((c.tc : Thread nD τ).loc main_arg2)) (m ((c.tc : Thread nD τ).loc main_arg3)) (m ((c.tc : Thread nD τ).loc main_arg7))
      ∧ r.2.mem ((c.tc : Thread nD τ).loc main_v10_4) = promptGates (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg8))
      ∧ r.2.mem ((c.tc : Thread nD τ).loc main_v10_5) = sampleKeys (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9))
      ∧ r.2.mem ((c.tc : Thread nD τ).loc main_v10_6) = sampleValues (m ((c.tc : Thread nD τ).loc main_arg1)) (m ((c.tc : Thread nD τ).loc main_arg2)) (m ((c.tc : Thread nD τ).loc main_arg3)) (m ((c.tc : Thread nD τ).loc main_arg10))
      ∧ r.2.mem ((c.tc : Thread nD τ).loc main_v10_7) = sampleGates (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 5).trans (final5 m c), ((h c).1 6).trans (final6 m c), ((h c).1 7).trans (final7 m c), ((h c).1 8).trans (final8 m c), ((h c).1 9).trans (final9 m c), ((h c).1 10).trans (final10 m c), ((h c).1 11).trans (final11 m c), ((h c).1 12).trans (final12 m c),
      same0 m r h c, same1 m r h c, same2 m r h c, same3 m r h c, same4 m r h c, same5 m r h c, same6 m r h c, same7 m r h c, same8 m r h c, same9 m r h c, same10 m r h c, same11 m r h c⟩)
    (run_main m ρ)

end Cert.Kernel5Ideal.Hand

namespace Cert.Proof

open Idealize.ShloMosaic Idealize.ShloMosaic.TcCoe Idealize.SL.Sem

/-- The two programs have the same text: the same kernel. -/
theorem defs0_eq : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel5.defs (F := Bits) = Cert.Kernel5Ideal.defs (F := Bits) :=
  congrArg (Pipeline.defs (Cert.Kernel5Ideal.pcfgs (F := Bits))) defs0_eq

theorem frame5 : Cert.quiescent_Kernel5 := fun m ρ _ => by
  have h := Cert.Kernel5Ideal.Hand.frame (F := Bits) m ρ
  rw [← defs_eq] at h
  exact h

theorem frame5i : Cert.quiescent_Kernel5Ideal := fun m ρ _ => Cert.Kernel5Ideal.Hand.frame (F := Ideal) m ρ

theorem algebraic5 : Cert.algebraic_Kernel5Ideal_Reference5Ideal := fun m g m' g' _ hagree =>
  ⟨fun c => Kernel5Ideal.Hand.keysResult (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => Kernel5Ideal.Hand.valuesResult (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Kernel5Ideal.Hand.promptKeys (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg6)),
    fun c => Kernel5Ideal.Hand.promptValues (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg7)),
    fun c => Kernel5Ideal.Hand.promptGates (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg8)),
    fun c => Kernel5Ideal.Hand.sampleKeys (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg9)),
    fun c => Kernel5Ideal.Hand.sampleValues (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg10)),
    fun c => Kernel5Ideal.Hand.sampleGates (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg11)),
    Kernel5Ideal.Hand.run_blocks m g,
    (θ_run Cert.Reference5Ideal.defs _ _).mono
      (fun r h c => by
        obtain ⟨h0, h1, h2, h3, h4, h5, h6, h7, hk⟩ := h c
        refine ⟨?_, ?_, ?_, ?_, ?_, ?_, ?_, ?_, hk⟩
        · refine h0.trans ((Reference5Ideal.Hand.keysResult_eq _ _ _ _ _).trans ?_)
          rw [(hagree c).1, (hagree c).2.1, (hagree c).2.2.1, (hagree c).2.2.2.1, (hagree c).2.2.2.2.1]
        · refine h1.trans ((Reference5Ideal.Hand.valuesResult_eq _ _ _ _).trans ?_)
          rw [(hagree c).1, (hagree c).2.1, (hagree c).2.2.1, (hagree c).2.2.2.1]
        · refine h2.trans ((Reference5Ideal.Hand.promptKeys_eq _ _ _ _ _).trans ?_)
          rw [(hagree c).1, (hagree c).2.2.1, (hagree c).2.2.2.1, (hagree c).2.2.2.2.1, (hagree c).2.2.2.2.2.2.1]
        · refine h3.trans ((Reference5Ideal.Hand.promptValues_eq _ _ _ _).trans ?_)
          rw [(hagree c).1, (hagree c).2.2.1, (hagree c).2.2.2.1, (hagree c).2.2.2.2.2.2.2.1]
        · refine h4.trans ((Reference5Ideal.Hand.promptGates_eq _ _ _ _ _).trans ?_)
          rw [(hagree c).1, (hagree c).2.2.1, (hagree c).2.2.2.1, (hagree c).2.2.2.2.2.1, (hagree c).2.2.2.2.2.2.2.2.1]
        · refine h5.trans ((Reference5Ideal.Hand.sampleKeys_eq _ _ _ _ _).trans ?_)
          rw [(hagree c).2.1, (hagree c).2.2.1, (hagree c).2.2.2.1, (hagree c).2.2.2.2.1, (hagree c).2.2.2.2.2.2.2.2.2.1]
        · refine h6.trans ((Reference5Ideal.Hand.sampleValues_eq _ _ _ _).trans ?_)
          rw [(hagree c).2.1, (hagree c).2.2.1, (hagree c).2.2.2.1, (hagree c).2.2.2.2.2.2.2.2.2.2.1]
        · refine h7.trans ((Reference5Ideal.Hand.sampleGates_eq _ _ _ _ _).trans ?_)
          rw [(hagree c).2.1, (hagree c).2.2.1, (hagree c).2.2.2.1, (hagree c).2.2.2.2.2.1, (hagree c).2.2.2.2.2.2.2.2.2.2.2])
      (Cert.Reference5Ideal.Value.run m' g')⟩

end Cert.Proof

end
-- ==== Proof.Histories.lean ====
module

public import Idealize.ShloMosaic.Lib.Pipeline.ValueKit

@[expose] public section

set_option maxRecDepth 16384
set_option maxHeartbeats 400000

/-! Reading back rows of a scratch array after rows of it have been stored: inside the last stored
rows the entry is the one stored there, above them it is the one stored before. -/

noncomputable section

namespace Cert.Histories

open Idealize.ShloMosaic

variable {Val : EltTy → Type} [∀ e, Nonempty (Val e)] {sig : RefSig} {κ : Kind} {sp : Space} {e : EltTy}
variable {N n q k o : ℕ}

theorem read_last (v : View sig κ sp ⟨2, ![N, 1024]⟩ e) (i1 : ∀ a, (![k, 0] : Fin 2 → ℕ) a + (![n, 1024] : Fin 2 → ℕ) a ≤ (⟨2, ![N, 1024]⟩ : Shape).size a)
    (w : (⟨2, ![n, 1024]⟩ : Shape).Idx → Val e) (L : List (View.Piece Val ⟨2, ![N, 1024]⟩ e))
    (i2 : ∀ a, (![o, 0] : Fin 2 → ℕ) a + (![q, 1024] : Fin 2 → ℕ) a ≤ (⟨2, ![N, 1024]⟩ : Shape).size a)
    (r : Fin q) (j : Fin 1024) (s : Fin n) (h : o + r.val = k + s.val) :
    v.readCov (⟨Rect.unit (s := ⟨2, ![N, 1024]⟩) ![k, 0] ![n, 1024] i1, w⟩ :: L) (Rect.unit (s := ⟨2, ![N, 1024]⟩) ![o, 0] ![q, 1024] i2).toLoadRect (ix2 r j) = w (ix2 s j) := by
  rw [View.readCov_eq_canon']
  have he : (Rect.unit (s := ⟨2, ![N, 1024]⟩) ![o, 0] ![q, 1024] i2).toLoadRect.idx (ix2 r j)
      = (Rect.unit (s := ⟨2, ![N, 1024]⟩) ![k, 0] ![n, 1024] i1).emb (ix2 s j) := by
    funext a
    apply Fin.ext
    fin_cases a
    · show o + 1 * r.val = k + 1 * s.val
      omega
    · rfl
  show View.canon _ _ = _
  rw [he]
  exact View.canon_cons_emb _ _ _ _

theorem read_earlier (v : View sig κ sp ⟨2, ![N, 1024]⟩ e) (i1 : ∀ a, (![k, 0] : Fin 2 → ℕ) a + (![n, 1024] : Fin 2 → ℕ) a ≤ (⟨2, ![N, 1024]⟩ : Shape).size a)
    (w : (⟨2, ![n, 1024]⟩ : Shape).Idx → Val e) (L : List (View.Piece Val ⟨2, ![N, 1024]⟩ e))
    (i2 : ∀ a, (![o, 0] : Fin 2 → ℕ) a + (![q, 1024] : Fin 2 → ℕ) a ≤ (⟨2, ![N, 1024]⟩ : Shape).size a)
    (r : Fin q) (j : Fin 1024) (h : o + r.val < k) :
    v.readCov (⟨Rect.unit (s := ⟨2, ![N, 1024]⟩) ![k, 0] ![n, 1024] i1, w⟩ :: L) (Rect.unit (s := ⟨2, ![N, 1024]⟩) ![o, 0] ![q, 1024] i2).toLoadRect (ix2 r j)
      = v.readCov L (Rect.unit (s := ⟨2, ![N, 1024]⟩) ![o, 0] ![q, 1024] i2).toLoadRect (ix2 r j) := by
  rw [View.readCov_eq_canon', View.readCov_eq_canon']
  refine View.canon_cons_of_not_mem _ _ fun hm => ?_
  have h0 : k ≤ o + 1 * r.val := (((Rect.mem_set_unit (inb := i1)).mp hm) 0).1
  omega

end Cert.Histories
end
-- ==== Proof.Histories6.lean ====
module

public import proofs.«01_k».proof.Proof.Gen.Kernel6Ideal.Value
public import proofs.«01_k».proof.Proof.Consts
public import proofs.«01_k».proof.Proof.Rows
public import proofs.«01_k».proof.Proof.Histories
public import Idealize.ShloMosaic.Lib.Pipeline.ValueKit
public import Idealize.ShloMosaic.Lib.KernelVsHost

@[expose] public section

set_option maxRecDepth 16384
set_option maxHeartbeats 400000

/-! The sample's histories after the mixer: what the kernel leaves in them, entry by entry. -/

noncomputable section

namespace Cert.Kernel6Ideal.Hand

open Cert.Kernel6Ideal.Gen
open Idealize.ShloMosaic Idealize.ShloMosaic.TcCoe Idealize.ShloMosaic.Tactic

/-- The pooling history: the last fifteen rows of the sample's pooling input. -/
def pooling (u : S32x16x3072.Idx → EReal) (y : S32x15x1024.Idx) : EReal :=
  u (ix3 (y 0 : Fin 32) (⟨1 + (y 1).val, by have := (y 1).isLt; change (y 1).val < 15 at this; omega⟩ : Fin 16)
    (⟨(y 2).val, by have := (y 2).isLt; change (y 2).val < 1024 at this; omega⟩ : Fin 3072))

/-- The gated input of the convolution. -/
def gated (u : S32x16x3072.Idx → EReal) (p : Fin 32) (s : Fin 16) (j : Fin 1024) : EReal :=
  u (ix3 p s (⟨1024 + j.val, by omega⟩ : Fin 3072)) * Ideal.logistic (u (ix3 p s (⟨2048 + j.val, by omega⟩ : Fin 3072)))

/-- The convolution's history: the last thirty rows of the old history followed by the gated rows. -/
def convolution (u : S32x16x3072.Idx → EReal) (h : S32x30x1024.Idx → EReal) (y : S32x30x1024.Idx) : EReal :=
  if hy : (y 1).val < 14 then h (ix3 (y 0 : Fin 32) (⟨16 + (y 1).val, by omega⟩ : Fin 30) (y 2 : Fin 1024))
  else gated u (y 0) (⟨(y 1).val - 14, by have := (y 1).isLt; change (y 1).val < 30 at this; omega⟩ : Fin 16) (y 2)

variable (m : (ℓ : Loc nD τ sig) → Buf (Elt Ideal) ℓ) (c : Dev nD)

theorem idx : ∀ t : Fin cfg0.N, win0_0.index t = ![2048 + t.val, 0] ∧ win0_1.index t = ![t.val, 0, 0]
    ∧ win0_2.index t = ![t.val, 0, 0] ∧ win0_10.index t = ![t.val, 0, 0] ∧ win0_11.index t = ![t.val, 0, 0]
    ∧ t.val < 32 := (by decide +kernel : ∀ t : Fin grid0.N, _)

theorem lt (t : Fin cfg0.N) : t.val < 32 := (idx t).2.2.2.2.2

theorem rows_entry (r : Fin 33280) (k : Fin 3072) : (V m c main_v3 (ix2 r k) : EReal)
    = Rows.joined (m ((c.tc : Thread nD τ).loc main_arg0)) (m ((c.tc : Thread nD τ).loc main_arg1)) r k := by
  simp only [V, hostOps0, hostOps0_1, hostOps0_2, hostOps0_3, hostOps0_4, List.flatten_cons, List.flatten_nil, List.append_nil, List.cons_append, List.nil_append]
  entry_read
  refine Rows.concatenate_apply (n := 3072) _ _ concatenates_S32768x3072_S512x3072_S33280x3072_d0 _ _ (fun r k => ?_) (fun r k => ?_) r k
  · pointwise
  · pointwise

theorem history_entry (p : Fin 32) (r : Fin 30) (j : Fin 1024) :
    (V m c main_v5 (ix3 p (⟨2 + r.val, by omega⟩ : Fin 32) j) : EReal) = m ((c.tc : Thread nD τ).loc main_arg3) (ix3 p r j) := by
  simp only [V, hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  exact pad_apply_of_inside _ _ _ _ _ pads_S32x30x1024_S32x32x1024_000_200_000 h_S_ _ (ix3 p r j) (fun a => by fin_cases a <;> simp)

theorem rows_block (t : Fin cfg0.N) (s : Fin 16) (k : Fin 3072) :
    (iblk m c 0 t (ix2 s k) : EReal) = m ((c.tc : Thread nD τ).loc main_arg1) (ix3 (⟨t.val, lt t⟩ : Fin 32) s k) := by
  have ht := lt t
  refine Eq.trans (b := (V m c main_v3 (ix2 (⟨32768 + 16 * t.val + s.val, by omega⟩ : Fin 33280) k) : EReal)) ?_ ?_
  · blk_ext [iblk, idx t]
  · exact (rows_entry m c _ k).trans (Rows.joined_sample _ _ _ _ _ _ rfl)

theorem history_block (t : Fin cfg0.N) (r : Fin 30) (j : Fin 1024) :
    (iblk m c 2 t (ix3 (0 : Fin 1) (⟨2 + r.val, by omega⟩ : Fin 32) j) : EReal)
      = m ((c.tc : Thread nD τ).loc main_arg3) (ix3 (⟨t.val, lt t⟩ : Fin 32) r j) := by
  refine Eq.trans (b := (V m c main_v5 (ix3 (⟨t.val, lt t⟩ : Fin 32) (⟨2 + r.val, by omega⟩ : Fin 32) j) : EReal)) ?_ ?_
  · blk_ext [iblk, idx t]
  · exact history_entry m c _ r j

theorem add_lead2 (x : FVec Ideal S15x1024 .f32) (r : Fin 15) (j : Fin 1024) : (k0_pay2 (F := Ideal) x (ix3 (0 : Fin 1) r j) : EReal) = x (ix2 r j) := by
  pointwise [k0_pay2]

theorem add_lead3 (x : FVec Ideal S30x1024 .f32) (r : Fin 30) (j : Fin 1024) : (k0_pay3 (F := Ideal) x (ix3 (0 : Fin 1) r j) : EReal) = x (ix2 r j) := by
  pointwise [k0_pay3]

theorem drop_lead5 (x : FVec Ideal S1x32x1024 .f32) (r : Fin 32) (j : Fin 1024) : (k0_pay5 (F := Ideal) x (ix2 r j) : EReal) = x (ix3 (0 : Fin 1) r j) := by
  pointwise [k0_pay5]

theorem widen8 (x : FVec Ideal S16x1024 .bf16) (r : Fin 16) (j : Fin 1024) : (k0_pay8 (F := Ideal) x (ix2 r j) : EReal) = x (ix2 r j) := by
  pointwise [k0_pay8]

theorem gate9 (x g : FVec Ideal S16x1024 .bf16) (r : Fin 16) (j : Fin 1024) :
    (k0_pay9 (F := Ideal) x g (ix2 r j) : EReal) = x (ix2 r j) * Ideal.logistic (g (ix2 r j)) := by
  pointwise [k0_pay9]

theorem columns (x : S16x3072.Idx → Elt Ideal .bf16) (o : ℕ) (ho : o + 1024 ≤ 3072) (i : ∀ a, (![0, o] : Fin 2 → ℕ) a + (![16, 1024] : Fin 2 → ℕ) a ≤ S16x3072.size a)
    (s : Fin 16) (j : Fin 1024) :
    (View.ld (Val := Elt Ideal) (e' := .bf16) x (Rect.unit (s := S16x3072) ![0, o] ![16, 1024] i) (ix2 s j) : EReal) = x (ix2 s (⟨o + j.val, by omega⟩ : Fin 3072)) := by
  show (x _ : EReal) = x _
  congr 1
  funext a
  apply Fin.ext
  fin_cases a
  · show 0 + 1 * s.val = s.val
    omega
  · show o + 1 * j.val = o + j.val
    omega

theorem out10 (t : Fin cfg0.N) (r : Fin 15) (j : Fin 1024) :
    ((outsAt0 (F := Ideal) m c t).2.1 (ix3 (0 : Fin 1) r j) : EReal)
      = m ((c.tc : Thread nD τ).loc main_arg1) (ix3 (⟨t.val, lt t⟩ : Fin 32) (⟨1 + r.val, by omega⟩ : Fin 16) (⟨j.val, by omega⟩ : Fin 3072)) := by
  unfold outsAt0
  dsimp only
  frame_out
  rw [← rows_block m c t]
  refine (add_lead2 _ r j).trans ?_
  refine (Histories.read_last _ _ _ _ _ r j (⟨1 + r.val, by omega⟩ : Fin 16) (by show 17 + r.val = 16 + (1 + r.val); omega)).trans ?_
  refine (widen8 _ _ j).trans ((columns _ 0 (by omega) _ _ j).trans ?_)
  exact congrArg (fun k => (iblk m c 0 t (ix2 (⟨1 + r.val, by omega⟩ : Fin 16) k) : EReal)) (Fin.ext (Nat.zero_add _))

theorem out11 (t : Fin cfg0.N) (r : Fin 30) (j : Fin 1024) :
    ((outsAt0 (F := Ideal) m c t).2.2 (ix3 (0 : Fin 1) r j) : EReal)
      = convolution (m ((c.tc : Thread nD τ).loc main_arg1)) (m ((c.tc : Thread nD τ).loc main_arg3)) (ix3 (⟨t.val, lt t⟩ : Fin 32) r j) := by
  unfold outsAt0
  dsimp only
  frame_out
  refine (add_lead3 _ r j).trans ?_
  unfold convolution
  by_cases h : r.val < 14
  · refine (Histories.read_earlier _ _ _ _ _ r j (by show 18 + r.val < 32; omega)).trans ?_
    refine (Histories.read_last _ _ _ _ _ r j (⟨18 + r.val, by omega⟩ : Fin 32) (by show 18 + r.val = 0 + (18 + r.val); omega)).trans ?_
    refine (drop_lead5 _ _ j).trans ?_
    refine Eq.trans ?_ (dif_pos h).symm
    refine Eq.trans ?_ (history_block m c t _ j)
    exact congrArg (fun k => (iblk m c 2 t (ix3 (0 : Fin 1) k j) : EReal)) (Fin.ext (by show 18 + r.val = 2 + (16 + r.val); omega))
  · refine (Histories.read_last _ _ _ _ _ r j (⟨r.val - 14, by omega⟩ : Fin 16) (by show 18 + r.val = 32 + (r.val - 14); omega)).trans ?_
    refine (gate9 _ _ _ j).trans ?_
    refine Eq.trans ?_ (dif_neg h).symm
    unfold gated
    exact congrArg₂ (fun a b : EReal => a * Ideal.logistic b) ((columns _ 1024 (by omega) _ _ j).trans (rows_block m c t _ _))
      ((columns _ 2048 (by omega) _ _ j).trans (rows_block m c t _ _))

theorem final10 : (dats m 0 c).arrAt 10 cfg0.N = pooling (m ((c.tc : Thread nD τ).loc main_arg1)) := by
  refine (dats m 0 c).arrAt_eq_of_covers 10 _ (by decide +kernel) fun t hf y => ?_
  rw [after0_10]
  blk_simp
  have e0 : ((win0_10.blk t).view.emb y 0 : ℕ) = t.val := by blk_simp [idx t]
  have e1 : ((win0_10.blk t).view.emb y 1 : ℕ) = (y 1).val := by blk_simp [idx t]
  have e2 : ((win0_10.blk t).view.emb y 2 : ℕ) = (y 2).val := by blk_simp [idx t]
  generalize (win0_10.blk t).view.emb y = z at e0 e1 e2 ⊢
  obtain ⟨u, r, j, rfl⟩ : ∃ (u : Fin 1) (r : Fin 15) (j : Fin 1024), y = ix3 u r j := ⟨y 0, y 1, y 2, eq_ix3 y⟩
  obtain rfl : u = 0 := Subsingleton.elim _ _
  refine (out10 m c t r j).trans ?_
  have hz : z = ix3 (⟨t.val, lt t⟩ : Fin 32) r j := by
    funext a
    apply Fin.ext
    fin_cases a
    · exact e0
    · exact e1
    · exact e2
  rw [hz]
  rfl

theorem final11 : (dats m 0 c).arrAt 11 cfg0.N = convolution (m ((c.tc : Thread nD τ).loc main_arg1)) (m ((c.tc : Thread nD τ).loc main_arg3)) := by
  refine (dats m 0 c).arrAt_eq_of_covers 11 _ (by decide +kernel) fun t hf y => ?_
  rw [after0_11]
  blk_simp
  have e0 : ((win0_11.blk t).view.emb y 0 : ℕ) = t.val := by blk_simp [idx t]
  have e1 : ((win0_11.blk t).view.emb y 1 : ℕ) = (y 1).val := by blk_simp [idx t]
  have e2 : ((win0_11.blk t).view.emb y 2 : ℕ) = (y 2).val := by blk_simp [idx t]
  generalize (win0_11.blk t).view.emb y = z at e0 e1 e2 ⊢
  obtain ⟨u, r, j, rfl⟩ : ∃ (u : Fin 1) (r : Fin 30) (j : Fin 1024), y = ix3 u r j := ⟨y 0, y 1, y 2, eq_ix3 y⟩
  obtain rfl : u = 0 := Subsingleton.elim _ _
  refine (out11 m c t r j).trans ?_
  have hz : z = ix3 (⟨t.val, lt t⟩ : Fin 32) r j := by
    funext a
    apply Fin.ext
    fin_cases a
    · exact e0
    · exact e1
    · exact e2
  rw [hz]

end Cert.Kernel6Ideal.Hand
end
-- ==== Proof.Histories7.lean ====
module

public import proofs.«01_k».proof.Proof.Gen.Kernel7Ideal.Value
public import proofs.«01_k».proof.Proof.Consts
public import proofs.«01_k».proof.Proof.Rows
public import proofs.«01_k».proof.Proof.Histories
public import Idealize.ShloMosaic.Lib.Pipeline.ValueKit
public import Idealize.ShloMosaic.Lib.KernelVsHost

@[expose] public section

set_option maxRecDepth 16384
set_option maxHeartbeats 400000

/-! The prompt's histories after the mixer: what the kernel leaves in them, entry by entry. -/

noncomputable section

namespace Cert.Kernel7Ideal.Hand

open Cert.Kernel7Ideal.Gen
open Idealize.ShloMosaic Idealize.ShloMosaic.TcCoe Idealize.ShloMosaic.Tactic

/-- The pooling history: the last fifteen rows of each prompt's pooling input. -/
def pooling (u : S8x4096x3072.Idx → EReal) (y : S8x15x1024.Idx) : EReal :=
  u (ix3 (y 0 : Fin 8) (⟨4081 + (y 1).val, by have := (y 1).isLt; change (y 1).val < 15 at this; omega⟩ : Fin 4096)
    (⟨(y 2).val, by have := (y 2).isLt; change (y 2).val < 1024 at this; omega⟩ : Fin 3072))

/-- The gated input of the convolution. -/
def gated (u : S8x4096x3072.Idx → EReal) (p : Fin 8) (s : Fin 4096) (j : Fin 1024) : EReal :=
  u (ix3 p s (⟨1024 + j.val, by omega⟩ : Fin 3072)) * Ideal.logistic (u (ix3 p s (⟨2048 + j.val, by omega⟩ : Fin 3072)))

/-- The convolution's history: the last thirty gated rows of each prompt. -/
def convolution (u : S8x4096x3072.Idx → EReal) (y : S8x30x1024.Idx) : EReal :=
  gated u (y 0) (⟨4066 + (y 1).val, by have := (y 1).isLt; change (y 1).val < 30 at this; omega⟩ : Fin 4096) (y 2)

variable (m : (ℓ : Loc nD τ sig) → Buf (Elt Ideal) ℓ) (c : Dev nD)

theorem idx : ∀ t : Fin cfg0.N, win0_0.index t = ![t.val, 0]
    ∧ win0_10.index t = ![t.val / 16, 0, 0] ∧ win0_11.index t = ![t.val / 16, 0, 0]
    ∧ t.val < 128 := (by decide +kernel : ∀ t : Fin grid0.N, _)

theorem lt (t : Fin cfg0.N) : t.val / 16 < 8 := by
  have := (idx t).2.2.2
  omega

theorem rows_entry (r : Fin 33280) (k : Fin 3072) : (V m c main_v3 (ix2 r k) : EReal)
    = Rows.joined (m ((c.tc : Thread nD τ).loc main_arg0)) (m ((c.tc : Thread nD τ).loc main_arg1)) r k := by
  simp only [V, hostOps0, hostOps0_1, hostOps0_2, hostOps0_3, hostOps0_4, List.flatten_cons, List.flatten_nil, List.append_nil, List.cons_append, List.nil_append]
  entry_read
  refine Rows.concatenate_apply (n := 3072) _ _ concatenates_S32768x3072_S512x3072_S33280x3072_d0 _ _ (fun r k => ?_) (fun r k => ?_) r k
  · pointwise
  · pointwise

/-- A row of the last tile of a prompt. -/
theorem rows_block (t : Fin cfg0.N) (h : t.val % 16 = 15) (s : Fin 256) (k : Fin 3072) :
    (iblk m c 0 t (ix2 s k) : EReal) = m ((c.tc : Thread nD τ).loc main_arg0) (ix3 (⟨t.val / 16, lt t⟩ : Fin 8) (⟨3840 + s.val, by omega⟩ : Fin 4096) k) := by
  have ht := (idx t).2.2.2
  refine Eq.trans (b := (V m c main_v3 (ix2 (⟨256 * t.val + s.val, by omega⟩ : Fin 33280) k) : EReal)) ?_ ?_
  · blk_ext [iblk, idx t]
  · exact (rows_entry m c _ k).trans (Rows.joined_prompt _ _ _ _ _ _ (by show 256 * t.val + s.val = 4096 * (t.val / 16) + (3840 + s.val); omega))

theorem add_lead2 (x : FVec Ideal S15x1024 .f32) (r : Fin 15) (j : Fin 1024) : (k0_pay2 (F := Ideal) x (ix3 (0 : Fin 1) r j) : EReal) = x (ix2 r j) := by
  pointwise [k0_pay2]

theorem add_lead3 (x : FVec Ideal S30x1024 .f32) (r : Fin 30) (j : Fin 1024) : (k0_pay3 (F := Ideal) x (ix3 (0 : Fin 1) r j) : EReal) = x (ix2 r j) := by
  pointwise [k0_pay3]

theorem widen8 (x : FVec Ideal S256x1024 .bf16) (r : Fin 256) (j : Fin 1024) : (k0_pay8 (F := Ideal) x (ix2 r j) : EReal) = x (ix2 r j) := by
  pointwise [k0_pay8]

theorem gate9 (x g : FVec Ideal S256x1024 .bf16) (r : Fin 256) (j : Fin 1024) :
    (k0_pay9 (F := Ideal) x g (ix2 r j) : EReal) = x (ix2 r j) * Ideal.logistic (g (ix2 r j)) := by
  pointwise [k0_pay9]

theorem columns (x : S256x3072.Idx → Elt Ideal .bf16) (o : ℕ) (ho : o + 1024 ≤ 3072) (i : ∀ a, (![0, o] : Fin 2 → ℕ) a + (![256, 1024] : Fin 2 → ℕ) a ≤ S256x3072.size a)
    (s : Fin 256) (j : Fin 1024) :
    (View.ld (Val := Elt Ideal) (e' := .bf16) x (Rect.unit (s := S256x3072) ![0, o] ![256, 1024] i) (ix2 s j) : EReal) = x (ix2 s (⟨o + j.val, by omega⟩ : Fin 3072)) := by
  show (x _ : EReal) = x _
  congr 1
  funext a
  apply Fin.ext
  fin_cases a
  · show 0 + 1 * s.val = s.val
    omega
  · show o + 1 * j.val = o + j.val
    omega

theorem out10 (t : Fin cfg0.N) (h : t.val % 16 = 15) (r : Fin 15) (j : Fin 1024) :
    ((outsAt0 (F := Ideal) m c t.val t.isLt).2.1 (ix3 (0 : Fin 1) r j) : EReal)
      = m ((c.tc : Thread nD τ).loc main_arg0) (ix3 (⟨t.val / 16, lt t⟩ : Fin 8) (⟨4081 + r.val, by omega⟩ : Fin 4096) (⟨j.val, by omega⟩ : Fin 3072)) := by
  rw [outsAt0_C m c t (by omega) (by omega) h]
  dsimp only
  generalize outsAt0 m c (t.val - 1) _ = o
  frame_out
  refine (add_lead2 _ r j).trans ?_
  refine (Histories.read_last _ _ _ _ _ r j (⟨241 + r.val, by omega⟩ : Fin 256) (by show 257 + r.val = 16 + (241 + r.val); omega)).trans ?_
  refine (widen8 _ _ j).trans ((columns _ 0 (by omega) _ _ j).trans ((rows_block m c t h _ _).trans ?_))
  exact congrArg₂ (fun s k => (m ((c.tc : Thread nD τ).loc main_arg0) (ix3 (⟨t.val / 16, lt t⟩ : Fin 8) s k) : EReal))
    (Fin.ext (by show 3840 + (241 + r.val) = 4081 + r.val; omega)) (Fin.ext (Nat.zero_add _))

theorem out11 (t : Fin cfg0.N) (h : t.val % 16 = 15) (r : Fin 30) (j : Fin 1024) :
    ((outsAt0 (F := Ideal) m c t.val t.isLt).2.2.1 (ix3 (0 : Fin 1) r j) : EReal)
      = convolution (m ((c.tc : Thread nD τ).loc main_arg0)) (ix3 (⟨t.val / 16, lt t⟩ : Fin 8) r j) := by
  rw [outsAt0_C m c t (by omega) (by omega) h]
  dsimp only
  generalize outsAt0 m c (t.val - 1) _ = o
  frame_out
  refine (add_lead3 _ r j).trans ?_
  refine (Histories.read_last _ _ _ _ _ r j (⟨226 + r.val, by omega⟩ : Fin 256) (by show 258 + r.val = 32 + (226 + r.val); omega)).trans ?_
  refine (gate9 _ _ _ j).trans ?_
  have hs : (⟨3840 + (226 + r.val), by omega⟩ : Fin 4096) = ⟨4066 + r.val, by omega⟩ := Fin.ext (by show 3840 + (226 + r.val) = 4066 + r.val; omega)
  refine (congrArg₂ (fun a b : EReal => a * Ideal.logistic b) ((columns _ 1024 (by omega) _ _ j).trans (rows_block m c t h _ _))
    ((columns _ 2048 (by omega) _ _ j).trans (rows_block m c t h _ _))).trans ?_
  exact congrArg (fun s => gated (m ((c.tc : Thread nD τ).loc main_arg0)) (⟨t.val / 16, lt t⟩ : Fin 8) s j) hs

/-- A result is written back after the last tile of a prompt. -/
theorem last10 : ∀ t : Fin cfg0.N, win0_10.flush t = true → t.val % 16 = 15 := (by decide +kernel : ∀ t : Fin grid0.N, _)
theorem last11 : ∀ t : Fin cfg0.N, win0_11.flush t = true → t.val % 16 = 15 := (by decide +kernel : ∀ t : Fin grid0.N, _)

theorem final10 : (dats m 0 c).arrAt 10 cfg0.N = pooling (m ((c.tc : Thread nD τ).loc main_arg0)) := by
  refine (dats m 0 c).arrAt_eq_of_covers 10 _ (by decide +kernel) fun t hf y => ?_
  rw [after0_10]
  blk_simp
  have e0 : ((win0_10.blk t).view.emb y 0 : ℕ) = t.val / 16 := by blk_simp [idx t]
  have e1 : ((win0_10.blk t).view.emb y 1 : ℕ) = (y 1).val := by blk_simp [idx t]
  have e2 : ((win0_10.blk t).view.emb y 2 : ℕ) = (y 2).val := by blk_simp [idx t]
  generalize (win0_10.blk t).view.emb y = z at e0 e1 e2 ⊢
  obtain ⟨u, r, j, rfl⟩ : ∃ (u : Fin 1) (r : Fin 15) (j : Fin 1024), y = ix3 u r j := ⟨y 0, y 1, y 2, eq_ix3 y⟩
  obtain rfl : u = 0 := Subsingleton.elim _ _
  refine (out10 m c t (last10 t hf) r j).trans ?_
  have hz : z = ix3 (⟨t.val / 16, lt t⟩ : Fin 8) r j := by
    funext a
    apply Fin.ext
    fin_cases a
    · exact e0
    · exact e1
    · exact e2
  rw [hz]
  rfl

theorem final11 : (dats m 0 c).arrAt 11 cfg0.N = convolution (m ((c.tc : Thread nD τ).loc main_arg0)) := by
  refine (dats m 0 c).arrAt_eq_of_covers 11 _ (by decide +kernel) fun t hf y => ?_
  rw [after0_11]
  blk_simp
  have e0 : ((win0_11.blk t).view.emb y 0 : ℕ) = t.val / 16 := by blk_simp [idx t]
  have e1 : ((win0_11.blk t).view.emb y 1 : ℕ) = (y 1).val := by blk_simp [idx t]
  have e2 : ((win0_11.blk t).view.emb y 2 : ℕ) = (y 2).val := by blk_simp [idx t]
  generalize (win0_11.blk t).view.emb y = z at e0 e1 e2 ⊢
  obtain ⟨u, r, j, rfl⟩ : ∃ (u : Fin 1) (r : Fin 30) (j : Fin 1024), y = ix3 u r j := ⟨y 0, y 1, y 2, eq_ix3 y⟩
  obtain rfl : u = 0 := Subsingleton.elim _ _
  refine (out11 m c t (last11 t hf) r j).trans ?_
  have hz : z = ix3 (⟨t.val / 16, lt t⟩ : Fin 8) r j := by
    funext a
    apply Fin.ext
    fin_cases a
    · exact e0
    · exact e1
    · exact e2
  rw [hz]

end Cert.Kernel7Ideal.Hand
end
-- ==== Proof.HistoryClaims.lean ====
module

public import proofs.«01_k».proof.Proof.Histories6
public import proofs.«01_k».proof.Proof.Histories7
public import proofs.«01_k».proof.Proof.Gen.Reference6Ideal.Run
public import proofs.«01_k».proof.Proof.Gen.Reference7Ideal.Run
public import proofs.«01_k».proof.Defs
public import Idealize.ShloMosaic.Lib.Claim

@[expose] public section

set_option maxRecDepth 16384
set_option maxHeartbeats 400000

/-! The mixer's histories: their plain formulas, entry by entry, and the claims. -/

noncomputable section

namespace Cert.Reference6Ideal.Hand

open Cert.Reference6Ideal.Gen
open Idealize.ShloMosaic Idealize.ShloMosaic.TcCoe Idealize.ShloMosaic.Tactic

theorem input_apply (u : FVec Ideal S32x16x3072 .f32) (p : Fin 32) (s : Fin 16) (j : Fin 1024) :
    (extractStridedSlice S32x16x1024 ![0, 0, 0] u slices_S32x16x3072_S32x16x1024_0_0_0 (ix3 p s j) : EReal) = u (ix3 p s (⟨j.val, by omega⟩ : Fin 3072)) := by
  pointwise

theorem gated_apply (u : FVec Ideal S32x16x3072 .f32) (p : Fin 32) (s : Fin 16) (j : Fin 1024) :
    (mulf (extractStridedSlice S32x16x1024 ![0, 0, 1024] u slices_S32x16x3072_S32x16x1024_0_0_1024) (Host.divf (broadcastInDim S32x16x1024 ![] bcast_S_S32x16x1024 (constant S_ .f32 0x3F800000#32)) (addf (broadcastInDim S32x16x1024 ![] bcast_S_S32x16x1024 (constant S_ .f32 0x3F800000#32)) (Host.exp (Host.negf (extractStridedSlice S32x16x1024 ![0, 0, 2048] u slices_S32x16x3072_S32x16x1024_0_0_2048))))) (ix3 p s j) : EReal) = Kernel6Ideal.Hand.gated u p s j := by
  pointwise
  rfl

theorem pooling_eq (u : FVec Ideal S32x16x3072 .f32) (q : FVec Ideal S32x15x1024 .f32) :
    extractStridedSlice S32x15x1024 ![0, 16, 0] (concatenate S32x31x1024 1 [⟨S32x15x1024, q⟩, ⟨S32x16x1024, (extractStridedSlice S32x16x1024 ![0, 0, 0] u slices_S32x16x3072_S32x16x1024_0_0_0)⟩] concatenates_S32x15x1024_S32x16x1024_S32x31x1024_d1) slices_S32x31x1024_S32x15x1024_0_16_0 = Kernel6Ideal.Hand.pooling u := by
  funext y
  obtain ⟨p, r, j, rfl⟩ : ∃ (p : Fin 32) (r : Fin 15) (j : Fin 1024), y = ix3 p r j := ⟨y 0, y 1, y 2, eq_ix3 y⟩
  refine Eq.trans (concatenate_pair_apply_right (t := S32x31x1024) (s₁ := S32x15x1024) (s₂ := S32x16x1024) 1 _ _ _ _ rfl rfl (ix3 p (⟨1 + r.val, by omega⟩ : Fin 16) j) (fun d hd => ?_) ?_) (input_apply u p _ j)
  · fin_cases d
    · show p.val = 0 + p.val
      omega
    · exact absurd rfl hd
    · show j.val = 0 + j.val
      omega
  · show 1 + r.val + 15 = 16 + r.val
    omega

theorem convolution_eq (u : FVec Ideal S32x16x3072 .f32) (h : FVec Ideal S32x30x1024 .f32) :
    extractStridedSlice S32x30x1024 ![0, 16, 0] (concatenate S32x46x1024 1 [⟨S32x30x1024, h⟩, ⟨S32x16x1024, (mulf (extractStridedSlice S32x16x1024 ![0, 0, 1024] u slices_S32x16x3072_S32x16x1024_0_0_1024) (Host.divf (broadcastInDim S32x16x1024 ![] bcast_S_S32x16x1024 (constant S_ .f32 0x3F800000#32)) (addf (broadcastInDim S32x16x1024 ![] bcast_S_S32x16x1024 (constant S_ .f32 0x3F800000#32)) (Host.exp (Host.negf (extractStridedSlice S32x16x1024 ![0, 0, 2048] u slices_S32x16x3072_S32x16x1024_0_0_2048))))))⟩] concatenates_S32x30x1024_S32x16x1024_S32x46x1024_d1) slices_S32x46x1024_S32x30x1024_0_16_0 = Kernel6Ideal.Hand.convolution u h := by
  funext y
  obtain ⟨p, r, j, rfl⟩ : ∃ (p : Fin 32) (r : Fin 30) (j : Fin 1024), y = ix3 p r j := ⟨y 0, y 1, y 2, eq_ix3 y⟩
  unfold Kernel6Ideal.Hand.convolution
  by_cases hr : r.val < 14
  · refine Eq.trans ?_ (dif_pos hr).symm
    refine concatenate_pair_apply_left (t := S32x46x1024) (s₁ := S32x30x1024) (s₂ := S32x16x1024) 1 _ _ _ _ rfl (ix3 p (⟨16 + r.val, by omega⟩ : Fin 30) j) fun d => ?_
    fin_cases d
    · show p.val = 0 + p.val
      omega
    · rfl
    · show j.val = 0 + j.val
      omega
  · refine Eq.trans ?_ (dif_neg hr).symm
    refine Eq.trans (concatenate_pair_apply_right (t := S32x46x1024) (s₁ := S32x30x1024) (s₂ := S32x16x1024) 1 _ _ _ _ rfl rfl (ix3 p (⟨r.val - 14, by omega⟩ : Fin 16) j) (fun d hd => ?_) ?_) (gated_apply u p _ j)
    · fin_cases d
      · show p.val = 0 + p.val
        omega
      · exact absurd rfl hd
      · show j.val = 0 + j.val
        omega
    · show r.val - 14 + 30 = 16 + r.val
      omega

end Cert.Reference6Ideal.Hand

namespace Cert.Reference7Ideal.Hand

open Cert.Reference7Ideal.Gen
open Idealize.ShloMosaic Idealize.ShloMosaic.TcCoe Idealize.ShloMosaic.Tactic

theorem input_apply (u : FVec Ideal S8x4096x3072 .f32) (p : Fin 8) (s : Fin 4096) (j : Fin 1024) :
    (extractStridedSlice S8x4096x1024 ![0, 0, 0] u slices_S8x4096x3072_S8x4096x1024_0_0_0 (ix3 p s j) : EReal) = u (ix3 p s (⟨j.val, by omega⟩ : Fin 3072)) := by
  pointwise

theorem gated_apply (u : FVec Ideal S8x4096x3072 .f32) (p : Fin 8) (s : Fin 4096) (j : Fin 1024) :
    (mulf (extractStridedSlice S8x4096x1024 ![0, 0, 1024] u slices_S8x4096x3072_S8x4096x1024_0_0_1024) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 2048] u slices_S8x4096x3072_S8x4096x1024_0_0_2048))))) (ix3 p s j) : EReal) = Kernel7Ideal.Hand.gated u p s j := by
  pointwise
  rfl

theorem pooling_eq (u : FVec Ideal S8x4096x3072 .f32) :
    extractStridedSlice S8x15x1024 ![0, 4096, 0] (concatenate S8x4111x1024 1 [⟨S8x15x1024, (broadcastInDim S8x15x1024 ![] bcast_S_S8x15x1024 (constant S_ .f32 0x00000000#32))⟩, ⟨S8x4096x1024, (extractStridedSlice S8x4096x1024 ![0, 0, 0] u slices_S8x4096x3072_S8x4096x1024_0_0_0)⟩] concatenates_S8x15x1024_S8x4096x1024_S8x4111x1024_d1) slices_S8x4111x1024_S8x15x1024_0_4096_0 = Kernel7Ideal.Hand.pooling u := by
  funext y
  obtain ⟨p, r, j, rfl⟩ : ∃ (p : Fin 8) (r : Fin 15) (j : Fin 1024), y = ix3 p r j := ⟨y 0, y 1, y 2, eq_ix3 y⟩
  refine Eq.trans (concatenate_pair_apply_right (t := S8x4111x1024) (s₁ := S8x15x1024) (s₂ := S8x4096x1024) 1 _ _ _ _ rfl rfl (ix3 p (⟨4081 + r.val, by omega⟩ : Fin 4096) j) (fun d hd => ?_) ?_) (input_apply u p _ j)
  · fin_cases d
    · show p.val = 0 + p.val
      omega
    · exact absurd rfl hd
    · show j.val = 0 + j.val
      omega
  · show 4081 + r.val + 15 = 4096 + r.val
    omega

theorem convolution_eq (u : FVec Ideal S8x4096x3072 .f32) :
    extractStridedSlice S8x30x1024 ![0, 4096, 0] (concatenate S8x4126x1024 1 [⟨S8x30x1024, (broadcastInDim S8x30x1024 ![] bcast_S_S8x30x1024 (constant S_ .f32 0x00000000#32))⟩, ⟨S8x4096x1024, (mulf (extractStridedSlice S8x4096x1024 ![0, 0, 1024] u slices_S8x4096x3072_S8x4096x1024_0_0_1024) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 2048] u slices_S8x4096x3072_S8x4096x1024_0_0_2048))))))⟩] concatenates_S8x30x1024_S8x4096x1024_S8x4126x1024_d1) slices_S8x4126x1024_S8x30x1024_0_4096_0 = Kernel7Ideal.Hand.convolution u := by
  funext y
  obtain ⟨p, r, j, rfl⟩ : ∃ (p : Fin 8) (r : Fin 30) (j : Fin 1024), y = ix3 p r j := ⟨y 0, y 1, y 2, eq_ix3 y⟩
  refine Eq.trans (concatenate_pair_apply_right (t := S8x4126x1024) (s₁ := S8x30x1024) (s₂ := S8x4096x1024) 1 _ _ _ _ rfl rfl (ix3 p (⟨4066 + r.val, by omega⟩ : Fin 4096) j) (fun d hd => ?_) ?_) (gated_apply u p _ j)
  · fin_cases d
    · show p.val = 0 + p.val
      omega
    · exact absurd rfl hd
    · show j.val = 0 + j.val
      omega
  · show 4066 + r.val + 30 = 4096 + r.val
    omega

end Cert.Reference7Ideal.Hand

namespace Cert.Proof

open Idealize.ShloMosaic Idealize.ShloMosaic.TcCoe

theorem algebraic6 : Cert.algebraic_Kernel6Ideal_Reference6Ideal := fun m g m' g' _ hagree =>
  ⟨fun c => Kernel6Ideal.Hand.pooling (m ((c.tc : Thread Cert.Kernel6Ideal.nD Cert.Kernel6Ideal.τ).loc Cert.Kernel6Ideal.main_arg1)),
    fun c => Kernel6Ideal.Hand.convolution (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg3)),
    (θ_run Cert.Kernel6Ideal.defs _ _).mono
      (fun r h c => ⟨(h c).2.1.trans (Kernel6Ideal.Hand.final10 m c), (h c).2.2.1.trans (Kernel6Ideal.Hand.final11 m c), (h c).2.2.2⟩)
      (Kernel6Ideal.Value.run_blocks m g),
    (θ_run Cert.Reference6Ideal.defs _ _).mono
      (fun r h c => ⟨(h c).1.trans ((Reference6Ideal.Hand.pooling_eq _ _).trans (by rw [(hagree c).2.1])),
        (h c).2.1.trans ((Reference6Ideal.Hand.convolution_eq _ _).trans (by rw [(hagree c).2.1, (hagree c).2.2.2.1])), (h c).2.2⟩)
      (Cert.Reference6Ideal.Value.run m' g')⟩

theorem algebraic7 : Cert.algebraic_Kernel7Ideal_Reference7Ideal := fun m g m' g' _ hagree =>
  ⟨fun c => Kernel7Ideal.Hand.pooling (m ((c.tc : Thread Cert.Kernel7Ideal.nD Cert.Kernel7Ideal.τ).loc Cert.Kernel7Ideal.main_arg0)),
    fun c => Kernel7Ideal.Hand.convolution (m ((c.tc : Thread Cert.Kernel7Ideal.nD Cert.Kernel7Ideal.τ).loc Cert.Kernel7Ideal.main_arg0)),
    (θ_run Cert.Kernel7Ideal.defs _ _).mono
      (fun r h c => ⟨(h c).2.1.trans (Kernel7Ideal.Hand.final10 m c), (h c).2.2.1.trans (Kernel7Ideal.Hand.final11 m c), (h c).2.2.2⟩)
      (Kernel7Ideal.Value.run_blocks m g),
    (θ_run Cert.Reference7Ideal.defs _ _).mono
      (fun r h c => ⟨(h c).1.trans ((Reference7Ideal.Hand.pooling_eq _).trans (by rw [(hagree c).1])),
        (h c).2.1.trans ((Reference7Ideal.Hand.convolution_eq _).trans (by rw [(hagree c).1])), (h c).2.2⟩)
      (Cert.Reference7Ideal.Value.run m' g')⟩

end Cert.Proof

end
-- ==== Proof.lean ====
module

public import proofs.«01_k».proof.Defs
public import proofs.«01_k».proof.Proof.KFrame
public import proofs.«01_k».proof.Proof.IFrame
public import proofs.«01_k».proof.Proof.Value
public import proofs.«01_k».proof.Proof.OutProjValue
public import proofs.«01_k».proof.Proof.CpInValue
public import proofs.«01_k».proof.Proof.QProjValue
public import proofs.«01_k».proof.Proof.KvClaim
public import proofs.«01_k».proof.Proof.HistoryClaims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Quiescent

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run m ρ)

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

theorem frame_r5 : Cert.quiescent_Reference5Ideal := fun m ρ _ =>
  (θ_run Cert.Reference5Ideal.defs _ _).mono (fun r h => ⟨fun c => (h c).2.2.2.2.2.2.2.2, Idealize.ShloMosaic.sem_eq_zero_of_no_sems (by decide) r.2⟩)
    (Cert.Reference5Ideal.Value.run m ρ)

theorem frame_r6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run m ρ)

theorem frame_r7 : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts,
    fun m ρ _ => Cert.Kernel.Hand.frame m ρ, fun m ρ _ => Cert.KernelIdeal.Hand.frame m ρ, fun m ρ _ => Cert.KernelIdeal.Hand.frame m ρ,
    frame_ri, fun m ρ _ => frame_ri m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    frame5, frame5i, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    preserves, algebraic, trivial, algebraic2, trivial, algebraic3, trivial, algebraic4, trivial, algebraic5,
    trivial, algebraic6, trivial, algebraic7⟩

end Cert.Proof

end
